-- ==== Defs.lean ====
def Pre_Act (m : (ℓ : Loc Cert.Act.nD Cert.Act.τ Cert.Act.sig) → Buf (Elt Bits) ℓ) : Prop :=
  True

def Pre_ActIdeal [hPre_act_finite : Cert.Pre_act_finite.Facts] (m : (ℓ : Loc Cert.ActIdeal.nD Cert.ActIdeal.τ Cert.ActIdeal.sig) → Buf (Elt Ideal) ℓ) : Prop :=
  ∀ c : Dev Cert.ActIdeal.nD,
    (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2))).1 = (fun _ => 1#1)
    ∧ (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2))).2.1 = (fun _ => 1#1)
    ∧ (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2))).2.2 = (fun _ => 1#1)

def Pre_ActIdeal_none (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_ActRefIdeal_act_finite [hPre_act_finite : Cert.Pre_act_finite.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2))).1 = (fun _ => 1#1)
    ∧ (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2))).2.1 = (fun _ => 1#1)
    ∧ (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2))).2.2 = (fun _ => 1#1)

def Pre_Norm (m : (ℓ : Loc Cert.Norm.nD Cert.Norm.τ Cert.Norm.sig) → Buf (Elt Bits) ℓ) : Prop :=
  True

def Pre_NormIdeal [hPre_norm_finite : Cert.Pre_norm_finite.Facts] (m : (ℓ : Loc Cert.NormIdeal.nD Cert.NormIdeal.τ Cert.NormIdeal.sig) → Buf (Elt Ideal) ℓ) : Prop :=
  ∀ c : Dev Cert.NormIdeal.nD,
    (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4))).1 = (fun _ => 1#1)
    ∧ (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4))).2.1 = (fun _ => 1#1)
    ∧ (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4))).2.2.1 = (fun _ => 1#1)
    ∧ (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4))).2.2.2 = (fun _ => 1#1)

def Pre_NormIdeal_none (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormRefIdeal_norm_finite [hPre_norm_finite : Cert.Pre_norm_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4))).1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4))).2.1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4))).2.2.1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4))).2.2.2 = (fun _ => 1#1)

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutRefIdeal (m : (ℓ : Loc Cert.WoutRefIdeal.nD Cert.WoutRefIdeal.τ Cert.WoutRefIdeal.sig) → Buf (Elt Ideal) ℓ) : Prop :=
  True

def Pre_Fin (m : (ℓ : Loc Cert.Fin.nD Cert.Fin.τ Cert.Fin.sig) → Buf (Elt Bits) ℓ) : Prop :=
  True

def Pre_FinIdeal (m : (ℓ : Loc Cert.FinIdeal.nD Cert.FinIdeal.τ Cert.FinIdeal.sig) → Buf (Elt Ideal) ℓ) : Prop :=
  True

def Pre_FinRefIdeal (m : (ℓ : Loc Cert.FinRefIdeal.nD Cert.FinRefIdeal.τ Cert.FinRefIdeal.sig) → Buf (Elt Ideal) ℓ) : Prop :=
  True

def Pre_Fout (m : (ℓ : Loc Cert.Fout.nD Cert.Fout.τ Cert.Fout.sig) → Buf (Elt Bits) ℓ) : Prop :=
  True

def Pre_FoutIdeal (m : (ℓ : Loc Cert.FoutIdeal.nD Cert.FoutIdeal.τ Cert.FoutIdeal.sig) → Buf (Elt Ideal) ℓ) : Prop :=
  True

def Pre_FoutRefIdeal (m : (ℓ : Loc Cert.FoutRefIdeal.nD Cert.FoutRefIdeal.τ Cert.FoutRefIdeal.sig) → Buf (Elt Ideal) ℓ) : Prop :=
  True

def Pre_Sgin (m : (ℓ : Loc Cert.Sgin.nD Cert.Sgin.τ Cert.Sgin.sig) → Buf (Elt Bits) ℓ) : Prop :=
  True

def Pre_SginIdeal (m : (ℓ : Loc Cert.SginIdeal.nD Cert.SginIdeal.τ Cert.SginIdeal.sig) → Buf (Elt Ideal) ℓ) : Prop :=
  True

def Pre_SginRefIdeal (m : (ℓ : Loc Cert.SginRefIdeal.nD Cert.SginRefIdeal.τ Cert.SginRefIdeal.sig) → Buf (Elt Ideal) ℓ) : Prop :=
  True

def Pre_Sgout (m : (ℓ : Loc Cert.Sgout.nD Cert.Sgout.τ Cert.Sgout.sig) → Buf (Elt Bits) ℓ) : Prop :=
  True

def Pre_SgoutIdeal (m : (ℓ : Loc Cert.SgoutIdeal.nD Cert.SgoutIdeal.τ Cert.SgoutIdeal.sig) → Buf (Elt Ideal) ℓ) : Prop :=
  True

def Pre_SgoutRefIdeal (m : (ℓ : Loc Cert.SgoutRefIdeal.nD Cert.SgoutRefIdeal.τ Cert.SgoutRefIdeal.sig) → Buf (Elt Ideal) ℓ) : Prop :=
  True

def Pre_Atin (m : (ℓ : Loc Cert.Atin.nD Cert.Atin.τ Cert.Atin.sig) → Buf (Elt Bits) ℓ) : Prop :=
  True

def Pre_AtinIdeal (m : (ℓ : Loc Cert.AtinIdeal.nD Cert.AtinIdeal.τ Cert.AtinIdeal.sig) → Buf (Elt Ideal) ℓ) : Prop :=
  True

def Pre_AtinRefIdeal (m : (ℓ : Loc Cert.AtinRefIdeal.nD Cert.AtinRefIdeal.τ Cert.AtinRefIdeal.sig) → Buf (Elt Ideal) ℓ) : Prop :=
  True

def Pre_Atout (m : (ℓ : Loc Cert.Atout.nD Cert.Atout.τ Cert.Atout.sig) → Buf (Elt Bits) ℓ) : Prop :=
  True

def Pre_AtoutIdeal (m : (ℓ : Loc Cert.AtoutIdeal.nD Cert.AtoutIdeal.τ Cert.AtoutIdeal.sig) → Buf (Elt Ideal) ℓ) : Prop :=
  True

def Pre_AtoutRefIdeal (m : (ℓ : Loc Cert.AtoutRefIdeal.nD Cert.AtoutRefIdeal.τ Cert.AtoutRefIdeal.sig) → Buf (Elt Ideal) ℓ) : Prop :=
  True

def Pre_Sgd (m : (ℓ : Loc Cert.Sgd.nD Cert.Sgd.τ Cert.Sgd.sig) → Buf (Elt Bits) ℓ) : Prop :=
  True

def Pre_SgdIdeal (m : (ℓ : Loc Cert.SgdIdeal.nD Cert.SgdIdeal.τ Cert.SgdIdeal.sig) → Buf (Elt Ideal) ℓ) : Prop :=
  True

def Pre_SgdRefIdeal (m : (ℓ : Loc Cert.SgdRefIdeal.nD Cert.SgdRefIdeal.τ Cert.SgdRefIdeal.sig) → Buf (Elt Ideal) ℓ) : Prop :=
  True

def Pre_Atb (m : (ℓ : Loc Cert.Atb.nD Cert.Atb.τ Cert.Atb.sig) → Buf (Elt Bits) ℓ) : Prop :=
  True

def Pre_AtbIdeal [hPre_atb_finite : Cert.Pre_atb_finite.Facts] (m : (ℓ : Loc Cert.AtbIdeal.nD Cert.AtbIdeal.τ Cert.AtbIdeal.sig) → Buf (Elt Ideal) ℓ) : Prop :=
  ∀ c : Dev Cert.AtbIdeal.nD,
    (Cert.Pre_atb_finite.fn (F := Ideal) (m ((c.tc : Thread Cert.AtbIdeal.nD Cert.AtbIdeal.τ).loc Cert.AtbIdeal.main_arg0)) (m ((c.tc : Thread Cert.AtbIdeal.nD Cert.AtbIdeal.τ).loc Cert.AtbIdeal.main_arg1)) (m ((c.tc : Thread Cert.AtbIdeal.nD Cert.AtbIdeal.τ).loc Cert.AtbIdeal.main_arg2))).1 = (fun _ => 1#1)
    ∧ (Cert.Pre_atb_finite.fn (F := Ideal) (m ((c.tc : Thread Cert.AtbIdeal.nD Cert.AtbIdeal.τ).loc Cert.AtbIdeal.main_arg0)) (m ((c.tc : Thread Cert.AtbIdeal.nD Cert.AtbIdeal.τ).loc Cert.AtbIdeal.main_arg1)) (m ((c.tc : Thread Cert.AtbIdeal.nD Cert.AtbIdeal.τ).loc Cert.AtbIdeal.main_arg2))).2.1 = (fun _ => 1#1)
    ∧ (Cert.Pre_atb_finite.fn (F := Ideal) (m ((c.tc : Thread Cert.AtbIdeal.nD Cert.AtbIdeal.τ).loc Cert.AtbIdeal.main_arg0)) (m ((c.tc : Thread Cert.AtbIdeal.nD Cert.AtbIdeal.τ).loc Cert.AtbIdeal.main_arg1)) (m ((c.tc : Thread Cert.AtbIdeal.nD Cert.AtbIdeal.τ).loc Cert.AtbIdeal.main_arg2))).2.2 = (fun _ => 1#1)

def Pre_AtbIdeal_none (m : (ℓ : Loc Cert.AtbIdeal.nD Cert.AtbIdeal.τ Cert.AtbIdeal.sig) → Buf (Elt Ideal) ℓ) : Prop :=
  True

def Pre_AtbRefIdeal (m : (ℓ : Loc Cert.AtbRefIdeal.nD Cert.AtbRefIdeal.τ Cert.AtbRefIdeal.sig) → Buf (Elt Ideal) ℓ) : Prop :=
  True

def Pre_AtbRefIdeal_atb_finite [hPre_atb_finite : Cert.Pre_atb_finite.Facts] (m : (ℓ : Loc Cert.AtbRefIdeal.nD Cert.AtbRefIdeal.τ Cert.AtbRefIdeal.sig) → Buf (Elt Ideal) ℓ) : Prop :=
  ∀ c : Dev Cert.AtbRefIdeal.nD,
    (Cert.Pre_atb_finite.fn (F := Ideal) (m ((c.tc : Thread Cert.AtbRefIdeal.nD Cert.AtbRefIdeal.τ).loc Cert.AtbRefIdeal.main_arg0)) (m ((c.tc : Thread Cert.AtbRefIdeal.nD Cert.AtbRefIdeal.τ).loc Cert.AtbRefIdeal.main_arg1)) (m ((c.tc : Thread Cert.AtbRefIdeal.nD Cert.AtbRefIdeal.τ).loc Cert.AtbRefIdeal.main_arg2))).1 = (fun _ => 1#1)
    ∧ (Cert.Pre_atb_finite.fn (F := Ideal) (m ((c.tc : Thread Cert.AtbRefIdeal.nD Cert.AtbRefIdeal.τ).loc Cert.AtbRefIdeal.main_arg0)) (m ((c.tc : Thread Cert.AtbRefIdeal.nD Cert.AtbRefIdeal.τ).loc Cert.AtbRefIdeal.main_arg1)) (m ((c.tc : Thread Cert.AtbRefIdeal.nD Cert.AtbRefIdeal.τ).loc Cert.AtbRefIdeal.main_arg2))).2.1 = (fun _ => 1#1)
    ∧ (Cert.Pre_atb_finite.fn (F := Ideal) (m ((c.tc : Thread Cert.AtbRefIdeal.nD Cert.AtbRefIdeal.τ).loc Cert.AtbRefIdeal.main_arg0)) (m ((c.tc : Thread Cert.AtbRefIdeal.nD Cert.AtbRefIdeal.τ).loc Cert.AtbRefIdeal.main_arg1)) (m ((c.tc : Thread Cert.AtbRefIdeal.nD Cert.AtbRefIdeal.τ).loc Cert.AtbRefIdeal.main_arg2))).2.2 = (fun _ => 1#1)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2))
      ∧ r.2.sem = fun _ => 0)

def quiescent_ActIdeal [hActIdeal : Cert.ActIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActIdeal_pre_none [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal_none m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_ActRefIdeal_pre_act_finite [hActRefIdeal : Cert.ActRefIdeal.Facts] [hPre_act_finite : Cert.Pre_act_finite.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_act_finite m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormIdeal_pre_none [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal_none m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_NormRefIdeal_pre_norm_finite [hNormRefIdeal : Cert.NormRefIdeal.Facts] [hPre_norm_finite : Cert.Pre_norm_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_norm_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1))
      ∧ r.2.sem = fun _ => 0)

def quiescent_Fin [hFin : Cert.Fin.Facts] : Prop :=
  ∀ (m : (ℓ : Loc Cert.Fin.nD Cert.Fin.τ Cert.Fin.sig) → Buf (Elt Bits) ℓ) (g : Dev Cert.Fin.nD → PrngReg), Pre_Fin m →
    θ_run (Cert.Fin.defs (F := Bits)) (onTc (τ := Cert.Fin.τ) (Cert.Fin.main (F := Bits))) ⟨m, fun _ => 0, g⟩ (fun r => (∀ c : Dev Cert.Fin.nD,
      r.2.mem ((c.tc : Thread Cert.Fin.nD Cert.Fin.τ).loc Cert.Fin.main_arg0) = m ((c.tc : Thread Cert.Fin.nD Cert.Fin.τ).loc Cert.Fin.main_arg0)
      ∧ r.2.mem ((c.tc : Thread Cert.Fin.nD Cert.Fin.τ).loc Cert.Fin.main_arg1) = m ((c.tc : Thread Cert.Fin.nD Cert.Fin.τ).loc Cert.Fin.main_arg1)
      ∧ r.2.mem ((c.tc : Thread Cert.Fin.nD Cert.Fin.τ).loc Cert.Fin.main_arg2) = m ((c.tc : Thread Cert.Fin.nD Cert.Fin.τ).loc Cert.Fin.main_arg2))
      ∧ r.2.sem = fun _ => 0)

def quiescent_FinIdeal [hFinIdeal : Cert.FinIdeal.Facts] : Prop :=
  ∀ (m : (ℓ : Loc Cert.FinIdeal.nD Cert.FinIdeal.τ Cert.FinIdeal.sig) → Buf (Elt Ideal) ℓ) (g : Dev Cert.FinIdeal.nD → PrngReg), Pre_FinIdeal m →
    θ_run (Cert.FinIdeal.defs (F := Ideal)) (onTc (τ := Cert.FinIdeal.τ) (Cert.FinIdeal.main (F := Ideal))) ⟨m, fun _ => 0, g⟩ (fun r => (∀ c : Dev Cert.FinIdeal.nD,
      r.2.mem ((c.tc : Thread Cert.FinIdeal.nD Cert.FinIdeal.τ).loc Cert.FinIdeal.main_arg0) = m ((c.tc : Thread Cert.FinIdeal.nD Cert.FinIdeal.τ).loc Cert.FinIdeal.main_arg0)
      ∧ r.2.mem ((c.tc : Thread Cert.FinIdeal.nD Cert.FinIdeal.τ).loc Cert.FinIdeal.main_arg1) = m ((c.tc : Thread Cert.FinIdeal.nD Cert.FinIdeal.τ).loc Cert.FinIdeal.main_arg1)
      ∧ r.2.mem ((c.tc : Thread Cert.FinIdeal.nD Cert.FinIdeal.τ).loc Cert.FinIdeal.main_arg2) = m ((c.tc : Thread Cert.FinIdeal.nD Cert.FinIdeal.τ).loc Cert.FinIdeal.main_arg2))
      ∧ r.2.sem = fun _ => 0)

def quiescent_FinRefIdeal [hFinRefIdeal : Cert.FinRefIdeal.Facts] : Prop :=
  ∀ (m : (ℓ : Loc Cert.FinRefIdeal.nD Cert.FinRefIdeal.τ Cert.FinRefIdeal.sig) → Buf (Elt Ideal) ℓ) (g : Dev Cert.FinRefIdeal.nD → PrngReg), Pre_FinRefIdeal m →
    θ_run (Cert.FinRefIdeal.defs (F := Ideal)) (onTc (τ := Cert.FinRefIdeal.τ) (Cert.FinRefIdeal.main (F := Ideal))) ⟨m, fun _ => 0, g⟩ (fun r => (∀ c : Dev Cert.FinRefIdeal.nD,
      r.2.mem ((c.tc : Thread Cert.FinRefIdeal.nD Cert.FinRefIdeal.τ).loc Cert.FinRefIdeal.main_arg0) = m ((c.tc : Thread Cert.FinRefIdeal.nD Cert.FinRefIdeal.τ).loc Cert.FinRefIdeal.main_arg0)
      ∧ r.2.mem ((c.tc : Thread Cert.FinRefIdeal.nD Cert.FinRefIdeal.τ).loc Cert.FinRefIdeal.main_arg1) = m ((c.tc : Thread Cert.FinRefIdeal.nD Cert.FinRefIdeal.τ).loc Cert.FinRefIdeal.main_arg1)
      ∧ r.2.mem ((c.tc : Thread Cert.FinRefIdeal.nD Cert.FinRefIdeal.τ).loc Cert.FinRefIdeal.main_arg2) = m ((c.tc : Thread Cert.FinRefIdeal.nD Cert.FinRefIdeal.τ).loc Cert.FinRefIdeal.main_arg2))
      ∧ r.2.sem = fun _ => 0)

def quiescent_Fout [hFout : Cert.Fout.Facts] : Prop :=
  ∀ (m : (ℓ : Loc Cert.Fout.nD Cert.Fout.τ Cert.Fout.sig) → Buf (Elt Bits) ℓ) (g : Dev Cert.Fout.nD → PrngReg), Pre_Fout m →
    θ_run (Cert.Fout.defs (F := Bits)) (onTc (τ := Cert.Fout.τ) (Cert.Fout.main (F := Bits))) ⟨m, fun _ => 0, g⟩ (fun r => (∀ c : Dev Cert.Fout.nD,
      r.2.mem ((c.tc : Thread Cert.Fout.nD Cert.Fout.τ).loc Cert.Fout.main_arg0) = m ((c.tc : Thread Cert.Fout.nD Cert.Fout.τ).loc Cert.Fout.main_arg0)
      ∧ r.2.mem ((c.tc : Thread Cert.Fout.nD Cert.Fout.τ).loc Cert.Fout.main_arg1) = m ((c.tc : Thread Cert.Fout.nD Cert.Fout.τ).loc Cert.Fout.main_arg1)
      ∧ r.2.mem ((c.tc : Thread Cert.Fout.nD Cert.Fout.τ).loc Cert.Fout.main_arg2) = m ((c.tc : Thread Cert.Fout.nD Cert.Fout.τ).loc Cert.Fout.main_arg2))
      ∧ r.2.sem = fun _ => 0)

def quiescent_FoutIdeal [hFoutIdeal : Cert.FoutIdeal.Facts] : Prop :=
  ∀ (m : (ℓ : Loc Cert.FoutIdeal.nD Cert.FoutIdeal.τ Cert.FoutIdeal.sig) → Buf (Elt Ideal) ℓ) (g : Dev Cert.FoutIdeal.nD → PrngReg), Pre_FoutIdeal m →
    θ_run (Cert.FoutIdeal.defs (F := Ideal)) (onTc (τ := Cert.FoutIdeal.τ) (Cert.FoutIdeal.main (F := Ideal))) ⟨m, fun _ => 0, g⟩ (fun r => (∀ c : Dev Cert.FoutIdeal.nD,
      r.2.mem ((c.tc : Thread Cert.FoutIdeal.nD Cert.FoutIdeal.τ).loc Cert.FoutIdeal.main_arg0) = m ((c.tc : Thread Cert.FoutIdeal.nD Cert.FoutIdeal.τ).loc Cert.FoutIdeal.main_arg0)
      ∧ r.2.mem ((c.tc : Thread Cert.FoutIdeal.nD Cert.FoutIdeal.τ).loc Cert.FoutIdeal.main_arg1) = m ((c.tc : Thread Cert.FoutIdeal.nD Cert.FoutIdeal.τ).loc Cert.FoutIdeal.main_arg1)
      ∧ r.2.mem ((c.tc : Thread Cert.FoutIdeal.nD Cert.FoutIdeal.τ).loc Cert.FoutIdeal.main_arg2) = m ((c.tc : Thread Cert.FoutIdeal.nD Cert.FoutIdeal.τ).loc Cert.FoutIdeal.main_arg2))
      ∧ r.2.sem = fun _ => 0)

def quiescent_FoutRefIdeal [hFoutRefIdeal : Cert.FoutRefIdeal.Facts] : Prop :=
  ∀ (m : (ℓ : Loc Cert.FoutRefIdeal.nD Cert.FoutRefIdeal.τ Cert.FoutRefIdeal.sig) → Buf (Elt Ideal) ℓ) (g : Dev Cert.FoutRefIdeal.nD → PrngReg), Pre_FoutRefIdeal m →
    θ_run (Cert.FoutRefIdeal.defs (F := Ideal)) (onTc (τ := Cert.FoutRefIdeal.τ) (Cert.FoutRefIdeal.main (F := Ideal))) ⟨m, fun _ => 0, g⟩ (fun r => (∀ c : Dev Cert.FoutRefIdeal.nD,
      r.2.mem ((c.tc : Thread Cert.FoutRefIdeal.nD Cert.FoutRefIdeal.τ).loc Cert.FoutRefIdeal.main_arg0) = m ((c.tc : Thread Cert.FoutRefIdeal.nD Cert.FoutRefIdeal.τ).loc Cert.FoutRefIdeal.main_arg0)
      ∧ r.2.mem ((c.tc : Thread Cert.FoutRefIdeal.nD Cert.FoutRefIdeal.τ).loc Cert.FoutRefIdeal.main_arg1) = m ((c.tc : Thread Cert.FoutRefIdeal.nD Cert.FoutRefIdeal.τ).loc Cert.FoutRefIdeal.main_arg1)
      ∧ r.2.mem ((c.tc : Thread Cert.FoutRefIdeal.nD Cert.FoutRefIdeal.τ).loc Cert.FoutRefIdeal.main_arg2) = m ((c.tc : Thread Cert.FoutRefIdeal.nD Cert.FoutRefIdeal.τ).loc Cert.FoutRefIdeal.main_arg2))
      ∧ r.2.sem = fun _ => 0)

def quiescent_Sgin [hSgin : Cert.Sgin.Facts] : Prop :=
  ∀ (m : (ℓ : Loc Cert.Sgin.nD Cert.Sgin.τ Cert.Sgin.sig) → Buf (Elt Bits) ℓ) (g : Dev Cert.Sgin.nD → PrngReg), Pre_Sgin m →
    θ_run (Cert.Sgin.defs (F := Bits)) (onTc (τ := Cert.Sgin.τ) (Cert.Sgin.main (F := Bits))) ⟨m, fun _ => 0, g⟩ (fun r => (∀ c : Dev Cert.Sgin.nD,
      r.2.mem ((c.tc : Thread Cert.Sgin.nD Cert.Sgin.τ).loc Cert.Sgin.main_arg0) = m ((c.tc : Thread Cert.Sgin.nD Cert.Sgin.τ).loc Cert.Sgin.main_arg0)
      ∧ r.2.mem ((c.tc : Thread Cert.Sgin.nD Cert.Sgin.τ).loc Cert.Sgin.main_arg1) = m ((c.tc : Thread Cert.Sgin.nD Cert.Sgin.τ).loc Cert.Sgin.main_arg1))
      ∧ r.2.sem = fun _ => 0)

def quiescent_SginIdeal [hSginIdeal : Cert.SginIdeal.Facts] : Prop :=
  ∀ (m : (ℓ : Loc Cert.SginIdeal.nD Cert.SginIdeal.τ Cert.SginIdeal.sig) → Buf (Elt Ideal) ℓ) (g : Dev Cert.SginIdeal.nD → PrngReg), Pre_SginIdeal m →
    θ_run (Cert.SginIdeal.defs (F := Ideal)) (onTc (τ := Cert.SginIdeal.τ) (Cert.SginIdeal.main (F := Ideal))) ⟨m, fun _ => 0, g⟩ (fun r => (∀ c : Dev Cert.SginIdeal.nD,
      r.2.mem ((c.tc : Thread Cert.SginIdeal.nD Cert.SginIdeal.τ).loc Cert.SginIdeal.main_arg0) = m ((c.tc : Thread Cert.SginIdeal.nD Cert.SginIdeal.τ).loc Cert.SginIdeal.main_arg0)
      ∧ r.2.mem ((c.tc : Thread Cert.SginIdeal.nD Cert.SginIdeal.τ).loc Cert.SginIdeal.main_arg1) = m ((c.tc : Thread Cert.SginIdeal.nD Cert.SginIdeal.τ).loc Cert.SginIdeal.main_arg1))
      ∧ r.2.sem = fun _ => 0)

def quiescent_SginRefIdeal [hSginRefIdeal : Cert.SginRefIdeal.Facts] : Prop :=
  ∀ (m : (ℓ : Loc Cert.SginRefIdeal.nD Cert.SginRefIdeal.τ Cert.SginRefIdeal.sig) → Buf (Elt Ideal) ℓ) (g : Dev Cert.SginRefIdeal.nD → PrngReg), Pre_SginRefIdeal m →
    θ_run (Cert.SginRefIdeal.defs (F := Ideal)) (onTc (τ := Cert.SginRefIdeal.τ) (Cert.SginRefIdeal.main (F := Ideal))) ⟨m, fun _ => 0, g⟩ (fun r => (∀ c : Dev Cert.SginRefIdeal.nD,
      r.2.mem ((c.tc : Thread Cert.SginRefIdeal.nD Cert.SginRefIdeal.τ).loc Cert.SginRefIdeal.main_arg0) = m ((c.tc : Thread Cert.SginRefIdeal.nD Cert.SginRefIdeal.τ).loc Cert.SginRefIdeal.main_arg0)
      ∧ r.2.mem ((c.tc : Thread Cert.SginRefIdeal.nD Cert.SginRefIdeal.τ).loc Cert.SginRefIdeal.main_arg1) = m ((c.tc : Thread Cert.SginRefIdeal.nD Cert.SginRefIdeal.τ).loc Cert.SginRefIdeal.main_arg1))
      ∧ r.2.sem = fun _ => 0)

def quiescent_Sgout [hSgout : Cert.Sgout.Facts] : Prop :=
  ∀ (m : (ℓ : Loc Cert.Sgout.nD Cert.Sgout.τ Cert.Sgout.sig) → Buf (Elt Bits) ℓ) (g : Dev Cert.Sgout.nD → PrngReg), Pre_Sgout m →
    θ_run (Cert.Sgout.defs (F := Bits)) (onTc (τ := Cert.Sgout.τ) (Cert.Sgout.main (F := Bits))) ⟨m, fun _ => 0, g⟩ (fun r => (∀ c : Dev Cert.Sgout.nD,
      r.2.mem ((c.tc : Thread Cert.Sgout.nD Cert.Sgout.τ).loc Cert.Sgout.main_arg0) = m ((c.tc : Thread Cert.Sgout.nD Cert.Sgout.τ).loc Cert.Sgout.main_arg0)
      ∧ r.2.mem ((c.tc : Thread Cert.Sgout.nD Cert.Sgout.τ).loc Cert.Sgout.main_arg1) = m ((c.tc : Thread Cert.Sgout.nD Cert.Sgout.τ).loc Cert.Sgout.main_arg1))
      ∧ r.2.sem = fun _ => 0)

def quiescent_SgoutIdeal [hSgoutIdeal : Cert.SgoutIdeal.Facts] : Prop :=
  ∀ (m : (ℓ : Loc Cert.SgoutIdeal.nD Cert.SgoutIdeal.τ Cert.SgoutIdeal.sig) → Buf (Elt Ideal) ℓ) (g : Dev Cert.SgoutIdeal.nD → PrngReg), Pre_SgoutIdeal m →
    θ_run (Cert.SgoutIdeal.defs (F := Ideal)) (onTc (τ := Cert.SgoutIdeal.τ) (Cert.SgoutIdeal.main (F := Ideal))) ⟨m, fun _ => 0, g⟩ (fun r => (∀ c : Dev Cert.SgoutIdeal.nD,
      r.2.mem ((c.tc : Thread Cert.SgoutIdeal.nD Cert.SgoutIdeal.τ).loc Cert.SgoutIdeal.main_arg0) = m ((c.tc : Thread Cert.SgoutIdeal.nD Cert.SgoutIdeal.τ).loc Cert.SgoutIdeal.main_arg0)
      ∧ r.2.mem ((c.tc : Thread Cert.SgoutIdeal.nD Cert.SgoutIdeal.τ).loc Cert.SgoutIdeal.main_arg1) = m ((c.tc : Thread Cert.SgoutIdeal.nD Cert.SgoutIdeal.τ).loc Cert.SgoutIdeal.main_arg1))
      ∧ r.2.sem = fun _ => 0)

def quiescent_SgoutRefIdeal [hSgoutRefIdeal : Cert.SgoutRefIdeal.Facts] : Prop :=
  ∀ (m : (ℓ : Loc Cert.SgoutRefIdeal.nD Cert.SgoutRefIdeal.τ Cert.SgoutRefIdeal.sig) → Buf (Elt Ideal) ℓ) (g : Dev Cert.SgoutRefIdeal.nD → PrngReg), Pre_SgoutRefIdeal m →
    θ_run (Cert.SgoutRefIdeal.defs (F := Ideal)) (onTc (τ := Cert.SgoutRefIdeal.τ) (Cert.SgoutRefIdeal.main (F := Ideal))) ⟨m, fun _ => 0, g⟩ (fun r => (∀ c : Dev Cert.SgoutRefIdeal.nD,
      r.2.mem ((c.tc : Thread Cert.SgoutRefIdeal.nD Cert.SgoutRefIdeal.τ).loc Cert.SgoutRefIdeal.main_arg0) = m ((c.tc : Thread Cert.SgoutRefIdeal.nD Cert.SgoutRefIdeal.τ).loc Cert.SgoutRefIdeal.main_arg0)
      ∧ r.2.mem ((c.tc : Thread Cert.SgoutRefIdeal.nD Cert.SgoutRefIdeal.τ).loc Cert.SgoutRefIdeal.main_arg1) = m ((c.tc : Thread Cert.SgoutRefIdeal.nD Cert.SgoutRefIdeal.τ).loc Cert.SgoutRefIdeal.main_arg1))
      ∧ r.2.sem = fun _ => 0)

def quiescent_Atin [hAtin : Cert.Atin.Facts] : Prop :=
  ∀ (m : (ℓ : Loc Cert.Atin.nD Cert.Atin.τ Cert.Atin.sig) → Buf (Elt Bits) ℓ) (g : Dev Cert.Atin.nD → PrngReg), Pre_Atin m →
    θ_run (Cert.Atin.defs (F := Bits)) (onTc (τ := Cert.Atin.τ) (Cert.Atin.main (F := Bits))) ⟨m, fun _ => 0, g⟩ (fun r => (∀ c : Dev Cert.Atin.nD,
      r.2.mem ((c.tc : Thread Cert.Atin.nD Cert.Atin.τ).loc Cert.Atin.main_arg0) = m ((c.tc : Thread Cert.Atin.nD Cert.Atin.τ).loc Cert.Atin.main_arg0)
      ∧ r.2.mem ((c.tc : Thread Cert.Atin.nD Cert.Atin.τ).loc Cert.Atin.main_arg1) = m ((c.tc : Thread Cert.Atin.nD Cert.Atin.τ).loc Cert.Atin.main_arg1))
      ∧ r.2.sem = fun _ => 0)

def quiescent_AtinIdeal [hAtinIdeal : Cert.AtinIdeal.Facts] : Prop :=
  ∀ (m : (ℓ : Loc Cert.AtinIdeal.nD Cert.AtinIdeal.τ Cert.AtinIdeal.sig) → Buf (Elt Ideal) ℓ) (g : Dev Cert.AtinIdeal.nD → PrngReg), Pre_AtinIdeal m →
    θ_run (Cert.AtinIdeal.defs (F := Ideal)) (onTc (τ := Cert.AtinIdeal.τ) (Cert.AtinIdeal.main (F := Ideal))) ⟨m, fun _ => 0, g⟩ (fun r => (∀ c : Dev Cert.AtinIdeal.nD,
      r.2.mem ((c.tc : Thread Cert.AtinIdeal.nD Cert.AtinIdeal.τ).loc Cert.AtinIdeal.main_arg0) = m ((c.tc : Thread Cert.AtinIdeal.nD Cert.AtinIdeal.τ).loc Cert.AtinIdeal.main_arg0)
      ∧ r.2.mem ((c.tc : Thread Cert.AtinIdeal.nD Cert.AtinIdeal.τ).loc Cert.AtinIdeal.main_arg1) = m ((c.tc : Thread Cert.AtinIdeal.nD Cert.AtinIdeal.τ).loc Cert.AtinIdeal.main_arg1))
      ∧ r.2.sem = fun _ => 0)

def quiescent_AtinRefIdeal [hAtinRefIdeal : Cert.AtinRefIdeal.Facts] : Prop :=
  ∀ (m : (ℓ : Loc Cert.AtinRefIdeal.nD Cert.AtinRefIdeal.τ Cert.AtinRefIdeal.sig) → Buf (Elt Ideal) ℓ) (g : Dev Cert.AtinRefIdeal.nD → PrngReg), Pre_AtinRefIdeal m →
    θ_run (Cert.AtinRefIdeal.defs (F := Ideal)) (onTc (τ := Cert.AtinRefIdeal.τ) (Cert.AtinRefIdeal.main (F := Ideal))) ⟨m, fun _ => 0, g⟩ (fun r => (∀ c : Dev Cert.AtinRefIdeal.nD,
      r.2.mem ((c.tc : Thread Cert.AtinRefIdeal.nD Cert.AtinRefIdeal.τ).loc Cert.AtinRefIdeal.main_arg0) = m ((c.tc : Thread Cert.AtinRefIdeal.nD Cert.AtinRefIdeal.τ).loc Cert.AtinRefIdeal.main_arg0)
      ∧ r.2.mem ((c.tc : Thread Cert.AtinRefIdeal.nD Cert.AtinRefIdeal.τ).loc Cert.AtinRefIdeal.main_arg1) = m ((c.tc : Thread Cert.AtinRefIdeal.nD Cert.AtinRefIdeal.τ).loc Cert.AtinRefIdeal.main_arg1))
      ∧ r.2.sem = fun _ => 0)

def quiescent_Atout [hAtout : Cert.Atout.Facts] : Prop :=
  ∀ (m : (ℓ : Loc Cert.Atout.nD Cert.Atout.τ Cert.Atout.sig) → Buf (Elt Bits) ℓ) (g : Dev Cert.Atout.nD → PrngReg), Pre_Atout m →
    θ_run (Cert.Atout.defs (F := Bits)) (onTc (τ := Cert.Atout.τ) (Cert.Atout.main (F := Bits))) ⟨m, fun _ => 0, g⟩ (fun r => (∀ c : Dev Cert.Atout.nD,
      r.2.mem ((c.tc : Thread Cert.Atout.nD Cert.Atout.τ).loc Cert.Atout.main_arg0) = m ((c.tc : Thread Cert.Atout.nD Cert.Atout.τ).loc Cert.Atout.main_arg0)
      ∧ r.2.mem ((c.tc : Thread Cert.Atout.nD Cert.Atout.τ).loc Cert.Atout.main_arg1) = m ((c.tc : Thread Cert.Atout.nD Cert.Atout.τ).loc Cert.Atout.main_arg1))
      ∧ r.2.sem = fun _ => 0)

def quiescent_AtoutIdeal [hAtoutIdeal : Cert.AtoutIdeal.Facts] : Prop :=
  ∀ (m : (ℓ : Loc Cert.AtoutIdeal.nD Cert.AtoutIdeal.τ Cert.AtoutIdeal.sig) → Buf (Elt Ideal) ℓ) (g : Dev Cert.AtoutIdeal.nD → PrngReg), Pre_AtoutIdeal m →
    θ_run (Cert.AtoutIdeal.defs (F := Ideal)) (onTc (τ := Cert.AtoutIdeal.τ) (Cert.AtoutIdeal.main (F := Ideal))) ⟨m, fun _ => 0, g⟩ (fun r => (∀ c : Dev Cert.AtoutIdeal.nD,
      r.2.mem ((c.tc : Thread Cert.AtoutIdeal.nD Cert.AtoutIdeal.τ).loc Cert.AtoutIdeal.main_arg0) = m ((c.tc : Thread Cert.AtoutIdeal.nD Cert.AtoutIdeal.τ).loc Cert.AtoutIdeal.main_arg0)
      ∧ r.2.mem ((c.tc : Thread Cert.AtoutIdeal.nD Cert.AtoutIdeal.τ).loc Cert.AtoutIdeal.main_arg1) = m ((c.tc : Thread Cert.AtoutIdeal.nD Cert.AtoutIdeal.τ).loc Cert.AtoutIdeal.main_arg1))
      ∧ r.2.sem = fun _ => 0)

def quiescent_AtoutRefIdeal [hAtoutRefIdeal : Cert.AtoutRefIdeal.Facts] : Prop :=
  ∀ (m : (ℓ : Loc Cert.AtoutRefIdeal.nD Cert.AtoutRefIdeal.τ Cert.AtoutRefIdeal.sig) → Buf (Elt Ideal) ℓ) (g : Dev Cert.AtoutRefIdeal.nD → PrngReg), Pre_AtoutRefIdeal m →
    θ_run (Cert.AtoutRefIdeal.defs (F := Ideal)) (onTc (τ := Cert.AtoutRefIdeal.τ) (Cert.AtoutRefIdeal.main (F := Ideal))) ⟨m, fun _ => 0, g⟩ (fun r => (∀ c : Dev Cert.AtoutRefIdeal.nD,
      r.2.mem ((c.tc : Thread Cert.AtoutRefIdeal.nD Cert.AtoutRefIdeal.τ).loc Cert.AtoutRefIdeal.main_arg0) = m ((c.tc : Thread Cert.AtoutRefIdeal.nD Cert.AtoutRefIdeal.τ).loc Cert.AtoutRefIdeal.main_arg0)
      ∧ r.2.mem ((c.tc : Thread Cert.AtoutRefIdeal.nD Cert.AtoutRefIdeal.τ).loc Cert.AtoutRefIdeal.main_arg1) = m ((c.tc : Thread Cert.AtoutRefIdeal.nD Cert.AtoutRefIdeal.τ).loc Cert.AtoutRefIdeal.main_arg1))
      ∧ r.2.sem = fun _ => 0)

def quiescent_Sgd [hSgd : Cert.Sgd.Facts] : Prop :=
  ∀ (m : (ℓ : Loc Cert.Sgd.nD Cert.Sgd.τ Cert.Sgd.sig) → Buf (Elt Bits) ℓ) (g : Dev Cert.Sgd.nD → PrngReg), Pre_Sgd m →
    θ_run (Cert.Sgd.defs (F := Bits)) (onTc (τ := Cert.Sgd.τ) (Cert.Sgd.main (F := Bits))) ⟨m, fun _ => 0, g⟩ (fun r => (∀ c : Dev Cert.Sgd.nD,
      r.2.mem ((c.tc : Thread Cert.Sgd.nD Cert.Sgd.τ).loc Cert.Sgd.main_arg0) = m ((c.tc : Thread Cert.Sgd.nD Cert.Sgd.τ).loc Cert.Sgd.main_arg0)
      ∧ r.2.mem ((c.tc : Thread Cert.Sgd.nD Cert.Sgd.τ).loc Cert.Sgd.main_arg1) = m ((c.tc : Thread Cert.Sgd.nD Cert.Sgd.τ).loc Cert.Sgd.main_arg1))
      ∧ r.2.sem = fun _ => 0)

def quiescent_SgdIdeal [hSgdIdeal : Cert.SgdIdeal.Facts] : Prop :=
  ∀ (m : (ℓ : Loc Cert.SgdIdeal.nD Cert.SgdIdeal.τ Cert.SgdIdeal.sig) → Buf (Elt Ideal) ℓ) (g : Dev Cert.SgdIdeal.nD → PrngReg), Pre_SgdIdeal m →
    θ_run (Cert.SgdIdeal.defs (F := Ideal)) (onTc (τ := Cert.SgdIdeal.τ) (Cert.SgdIdeal.main (F := Ideal))) ⟨m, fun _ => 0, g⟩ (fun r => (∀ c : Dev Cert.SgdIdeal.nD,
      r.2.mem ((c.tc : Thread Cert.SgdIdeal.nD Cert.SgdIdeal.τ).loc Cert.SgdIdeal.main_arg0) = m ((c.tc : Thread Cert.SgdIdeal.nD Cert.SgdIdeal.τ).loc Cert.SgdIdeal.main_arg0)
      ∧ r.2.mem ((c.tc : Thread Cert.SgdIdeal.nD Cert.SgdIdeal.τ).loc Cert.SgdIdeal.main_arg1) = m ((c.tc : Thread Cert.SgdIdeal.nD Cert.SgdIdeal.τ).loc Cert.SgdIdeal.main_arg1))
      ∧ r.2.sem = fun _ => 0)

def quiescent_SgdRefIdeal [hSgdRefIdeal : Cert.SgdRefIdeal.Facts] : Prop :=
  ∀ (m : (ℓ : Loc Cert.SgdRefIdeal.nD Cert.SgdRefIdeal.τ Cert.SgdRefIdeal.sig) → Buf (Elt Ideal) ℓ) (g : Dev Cert.SgdRefIdeal.nD → PrngReg), Pre_SgdRefIdeal m →
    θ_run (Cert.SgdRefIdeal.defs (F := Ideal)) (onTc (τ := Cert.SgdRefIdeal.τ) (Cert.SgdRefIdeal.main (F := Ideal))) ⟨m, fun _ => 0, g⟩ (fun r => (∀ c : Dev Cert.SgdRefIdeal.nD,
      r.2.mem ((c.tc : Thread Cert.SgdRefIdeal.nD Cert.SgdRefIdeal.τ).loc Cert.SgdRefIdeal.main_arg0) = m ((c.tc : Thread Cert.SgdRefIdeal.nD Cert.SgdRefIdeal.τ).loc Cert.SgdRefIdeal.main_arg0)
      ∧ r.2.mem ((c.tc : Thread Cert.SgdRefIdeal.nD Cert.SgdRefIdeal.τ).loc Cert.SgdRefIdeal.main_arg1) = m ((c.tc : Thread Cert.SgdRefIdeal.nD Cert.SgdRefIdeal.τ).loc Cert.SgdRefIdeal.main_arg1))
      ∧ r.2.sem = fun _ => 0)

def quiescent_Atb [hAtb : Cert.Atb.Facts] : Prop :=
  ∀ (m : (ℓ : Loc Cert.Atb.nD Cert.Atb.τ Cert.Atb.sig) → Buf (Elt Bits) ℓ) (g : Dev Cert.Atb.nD → PrngReg), Pre_Atb m →
    θ_run (Cert.Atb.defs (F := Bits)) (onTc (τ := Cert.Atb.τ) (Cert.Atb.main (F := Bits))) ⟨m, fun _ => 0, g⟩ (fun r => (∀ c : Dev Cert.Atb.nD,
      r.2.mem ((c.tc : Thread Cert.Atb.nD Cert.Atb.τ).loc Cert.Atb.main_arg0) = m ((c.tc : Thread Cert.Atb.nD Cert.Atb.τ).loc Cert.Atb.main_arg0)
      ∧ r.2.mem ((c.tc : Thread Cert.Atb.nD Cert.Atb.τ).loc Cert.Atb.main_arg1) = m ((c.tc : Thread Cert.Atb.nD Cert.Atb.τ).loc Cert.Atb.main_arg1)
      ∧ r.2.mem ((c.tc : Thread Cert.Atb.nD Cert.Atb.τ).loc Cert.Atb.main_arg2) = m ((c.tc : Thread Cert.Atb.nD Cert.Atb.τ).loc Cert.Atb.main_arg2))
      ∧ r.2.sem = fun _ => 0)

def quiescent_AtbIdeal [hAtbIdeal : Cert.AtbIdeal.Facts] [hPre_atb_finite : Cert.Pre_atb_finite.Facts] : Prop :=
  ∀ (m : (ℓ : Loc Cert.AtbIdeal.nD Cert.AtbIdeal.τ Cert.AtbIdeal.sig) → Buf (Elt Ideal) ℓ) (g : Dev Cert.AtbIdeal.nD → PrngReg), Pre_AtbIdeal m →
    θ_run (Cert.AtbIdeal.defs (F := Ideal)) (onTc (τ := Cert.AtbIdeal.τ) (Cert.AtbIdeal.main (F := Ideal))) ⟨m, fun _ => 0, g⟩ (fun r => (∀ c : Dev Cert.AtbIdeal.nD,
      r.2.mem ((c.tc : Thread Cert.AtbIdeal.nD Cert.AtbIdeal.τ).loc Cert.AtbIdeal.main_arg0) = m ((c.tc : Thread Cert.AtbIdeal.nD Cert.AtbIdeal.τ).loc Cert.AtbIdeal.main_arg0)
      ∧ r.2.mem ((c.tc : Thread Cert.AtbIdeal.nD Cert.AtbIdeal.τ).loc Cert.AtbIdeal.main_arg1) = m ((c.tc : Thread Cert.AtbIdeal.nD Cert.AtbIdeal.τ).loc Cert.AtbIdeal.main_arg1)
      ∧ r.2.mem ((c.tc : Thread Cert.AtbIdeal.nD Cert.AtbIdeal.τ).loc Cert.AtbIdeal.main_arg2) = m ((c.tc : Thread Cert.AtbIdeal.nD Cert.AtbIdeal.τ).loc Cert.AtbIdeal.main_arg2))
      ∧ r.2.sem = fun _ => 0)

def quiescent_AtbIdeal_pre_none [hAtbIdeal : Cert.AtbIdeal.Facts] : Prop :=
  ∀ (m : (ℓ : Loc Cert.AtbIdeal.nD Cert.AtbIdeal.τ Cert.AtbIdeal.sig) → Buf (Elt Ideal) ℓ) (g : Dev Cert.AtbIdeal.nD → PrngReg), Pre_AtbIdeal_none m →
    θ_run (Cert.AtbIdeal.defs (F := Ideal)) (onTc (τ := Cert.AtbIdeal.τ) (Cert.AtbIdeal.main (F := Ideal))) ⟨m, fun _ => 0, g⟩ (fun r => (∀ c : Dev Cert.AtbIdeal.nD,
      r.2.mem ((c.tc : Thread Cert.AtbIdeal.nD Cert.AtbIdeal.τ).loc Cert.AtbIdeal.main_arg0) = m ((c.tc : Thread Cert.AtbIdeal.nD Cert.AtbIdeal.τ).loc Cert.AtbIdeal.main_arg0)
      ∧ r.2.mem ((c.tc : Thread Cert.AtbIdeal.nD Cert.AtbIdeal.τ).loc Cert.AtbIdeal.main_arg1) = m ((c.tc : Thread Cert.AtbIdeal.nD Cert.AtbIdeal.τ).loc Cert.AtbIdeal.main_arg1)
      ∧ r.2.mem ((c.tc : Thread Cert.AtbIdeal.nD Cert.AtbIdeal.τ).loc Cert.AtbIdeal.main_arg2) = m ((c.tc : Thread Cert.AtbIdeal.nD Cert.AtbIdeal.τ).loc Cert.AtbIdeal.main_arg2))
      ∧ r.2.sem = fun _ => 0)

def quiescent_AtbRefIdeal [hAtbRefIdeal : Cert.AtbRefIdeal.Facts] : Prop :=
  ∀ (m : (ℓ : Loc Cert.AtbRefIdeal.nD Cert.AtbRefIdeal.τ Cert.AtbRefIdeal.sig) → Buf (Elt Ideal) ℓ) (g : Dev Cert.AtbRefIdeal.nD → PrngReg), Pre_AtbRefIdeal m →
    θ_run (Cert.AtbRefIdeal.defs (F := Ideal)) (onTc (τ := Cert.AtbRefIdeal.τ) (Cert.AtbRefIdeal.main (F := Ideal))) ⟨m, fun _ => 0, g⟩ (fun r => (∀ c : Dev Cert.AtbRefIdeal.nD,
      r.2.mem ((c.tc : Thread Cert.AtbRefIdeal.nD Cert.AtbRefIdeal.τ).loc Cert.AtbRefIdeal.main_arg0) = m ((c.tc : Thread Cert.AtbRefIdeal.nD Cert.AtbRefIdeal.τ).loc Cert.AtbRefIdeal.main_arg0)
      ∧ r.2.mem ((c.tc : Thread Cert.AtbRefIdeal.nD Cert.AtbRefIdeal.τ).loc Cert.AtbRefIdeal.main_arg1) = m ((c.tc : Thread Cert.AtbRefIdeal.nD Cert.AtbRefIdeal.τ).loc Cert.AtbRefIdeal.main_arg1)
      ∧ r.2.mem ((c.tc : Thread Cert.AtbRefIdeal.nD Cert.AtbRefIdeal.τ).loc Cert.AtbRefIdeal.main_arg2) = m ((c.tc : Thread Cert.AtbRefIdeal.nD Cert.AtbRefIdeal.τ).loc Cert.AtbRefIdeal.main_arg2))
      ∧ r.2.sem = fun _ => 0)

def quiescent_AtbRefIdeal_pre_atb_finite [hAtbRefIdeal : Cert.AtbRefIdeal.Facts] [hPre_atb_finite : Cert.Pre_atb_finite.Facts] : Prop :=
  ∀ (m : (ℓ : Loc Cert.AtbRefIdeal.nD Cert.AtbRefIdeal.τ Cert.AtbRefIdeal.sig) → Buf (Elt Ideal) ℓ) (g : Dev Cert.AtbRefIdeal.nD → PrngReg), Pre_AtbRefIdeal_atb_finite m →
    θ_run (Cert.AtbRefIdeal.defs (F := Ideal)) (onTc (τ := Cert.AtbRefIdeal.τ) (Cert.AtbRefIdeal.main (F := Ideal))) ⟨m, fun _ => 0, g⟩ (fun r => (∀ c : Dev Cert.AtbRefIdeal.nD,
      r.2.mem ((c.tc : Thread Cert.AtbRefIdeal.nD Cert.AtbRefIdeal.τ).loc Cert.AtbRefIdeal.main_arg0) = m ((c.tc : Thread Cert.AtbRefIdeal.nD Cert.AtbRefIdeal.τ).loc Cert.AtbRefIdeal.main_arg0)
      ∧ r.2.mem ((c.tc : Thread Cert.AtbRefIdeal.nD Cert.AtbRefIdeal.τ).loc Cert.AtbRefIdeal.main_arg1) = m ((c.tc : Thread Cert.AtbRefIdeal.nD Cert.AtbRefIdeal.τ).loc Cert.AtbRefIdeal.main_arg1)
      ∧ r.2.mem ((c.tc : Thread Cert.AtbRefIdeal.nD Cert.AtbRefIdeal.τ).loc Cert.AtbRefIdeal.main_arg2) = m ((c.tc : Thread Cert.AtbRefIdeal.nD Cert.AtbRefIdeal.τ).loc Cert.AtbRefIdeal.main_arg2))
      ∧ r.2.sem = fun _ => 0)

def preserves_Act_ActIdeal : Prop :=
  True

def algebraic_ActIdeal_ActRefIdeal [hActIdeal : Cert.ActIdeal.Facts] [hActRefIdeal : Cert.ActRefIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)) →
    ∃ (v0 : (c : Dev Cert.ActIdeal.nD) → Buf (Elt Ideal) ((c.tc : Thread Cert.ActIdeal.nD Cert.ActIdeal.τ).loc Cert.ActIdeal.main_v4)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v4) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v12) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2))

def preserves_Norm_NormIdeal : Prop :=
  True

def algebraic_NormIdeal_NormRefIdeal [hNormIdeal : Cert.NormIdeal.Facts] [hNormRefIdeal : Cert.NormRefIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v7_0)) (v1 : (c : Dev Cert.NormIdeal.nD) → Buf (Elt Ideal) ((c.tc : Thread Cert.NormIdeal.nD Cert.NormIdeal.τ).loc Cert.NormIdeal.main_v7_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v7_0) = v0 c
          ∧ r.2.mem ((c.tc : Thread Cert.NormIdeal.nD Cert.NormIdeal.τ).loc Cert.NormIdeal.main_v7_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v40) = v0 c
          ∧ r.2.mem ((c.tc : Thread Cert.NormRefIdeal.nD Cert.NormRefIdeal.τ).loc Cert.NormRefIdeal.main_v41) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)) →
    ∃ (v0 : (c : Dev Cert.WinIdeal.nD) → Buf (Elt Ideal) ((c.tc : Thread Cert.WinIdeal.nD Cert.WinIdeal.τ).loc Cert.WinIdeal.main_v4)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v4) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v5) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1))

def preserves_Wout_WoutIdeal : Prop :=
  True

def algebraic_WoutIdeal_WoutRefIdeal [hWoutIdeal : Cert.WoutIdeal.Facts] [hWoutRefIdeal : Cert.WoutRefIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutIdeal m →
    (∀ c : Dev Cert.WoutIdeal.nD,
      m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0)
      ∧ m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1)) →
    ∃ (v0 : (c : Dev Cert.WoutIdeal.nD) → Buf (Elt Ideal) ((c.tc : Thread Cert.WoutIdeal.nD Cert.WoutIdeal.τ).loc Cert.WoutIdeal.main_v1)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v1) = v0 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v3) = v0 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1))

def preserves_Fin_FinIdeal : Prop :=
  True

def algebraic_FinIdeal_FinRefIdeal [hFinIdeal : Cert.FinIdeal.Facts] [hFinRefIdeal : Cert.FinRefIdeal.Facts] : Prop :=
  ∀ (m : (ℓ : Loc Cert.FinIdeal.nD Cert.FinIdeal.τ Cert.FinIdeal.sig) → Buf (Elt Ideal) ℓ) (g : Dev Cert.FinIdeal.nD → PrngReg)
    (m' : (ℓ : Loc Cert.FinRefIdeal.nD Cert.FinRefIdeal.τ Cert.FinRefIdeal.sig) → Buf (Elt Ideal) ℓ) (g' : Dev Cert.FinRefIdeal.nD → PrngReg), Pre_FinIdeal m →
    (∀ c : Dev Cert.FinIdeal.nD,
      m' ((c.tc : Thread Cert.FinRefIdeal.nD Cert.FinRefIdeal.τ).loc Cert.FinRefIdeal.main_arg0) = m ((c.tc : Thread Cert.FinIdeal.nD Cert.FinIdeal.τ).loc Cert.FinIdeal.main_arg0)
      ∧ m' ((c.tc : Thread Cert.FinRefIdeal.nD Cert.FinRefIdeal.τ).loc Cert.FinRefIdeal.main_arg1) = m ((c.tc : Thread Cert.FinIdeal.nD Cert.FinIdeal.τ).loc Cert.FinIdeal.main_arg1)
      ∧ m' ((c.tc : Thread Cert.FinRefIdeal.nD Cert.FinRefIdeal.τ).loc Cert.FinRefIdeal.main_arg2) = m ((c.tc : Thread Cert.FinIdeal.nD Cert.FinIdeal.τ).loc Cert.FinIdeal.main_arg2)) →
    ∃ (v0 : (c : Dev Cert.FinIdeal.nD) → Buf (Elt Ideal) ((c.tc : Thread Cert.FinIdeal.nD Cert.FinIdeal.τ).loc Cert.FinIdeal.main_v4_0)) (v1 : (c : Dev Cert.FinIdeal.nD) → Buf (Elt Ideal) ((c.tc : Thread Cert.FinIdeal.nD Cert.FinIdeal.τ).loc Cert.FinIdeal.main_v4_1)) (v2 : (c : Dev Cert.FinIdeal.nD) → Buf (Elt Ideal) ((c.tc : Thread Cert.FinIdeal.nD Cert.FinIdeal.τ).loc Cert.FinIdeal.main_v4_2)),
      θ_run (Cert.FinIdeal.defs (F := Ideal)) (onTc (τ := Cert.FinIdeal.τ) (Cert.FinIdeal.main (F := Ideal))) ⟨m, fun _ => 0, g⟩ (fun r => ∀ c : Dev Cert.FinIdeal.nD,
          r.2.mem ((c.tc : Thread Cert.FinIdeal.nD Cert.FinIdeal.τ).loc Cert.FinIdeal.main_v4_0) = v0 c
          ∧ r.2.mem ((c.tc : Thread Cert.FinIdeal.nD Cert.FinIdeal.τ).loc Cert.FinIdeal.main_v4_1) = v1 c
          ∧ r.2.mem ((c.tc : Thread Cert.FinIdeal.nD Cert.FinIdeal.τ).loc Cert.FinIdeal.main_v4_2) = v2 c
          ∧ r.2.mem ((c.tc : Thread Cert.FinIdeal.nD Cert.FinIdeal.τ).loc Cert.FinIdeal.main_arg0) = m ((c.tc : Thread Cert.FinIdeal.nD Cert.FinIdeal.τ).loc Cert.FinIdeal.main_arg0)
          ∧ r.2.mem ((c.tc : Thread Cert.FinIdeal.nD Cert.FinIdeal.τ).loc Cert.FinIdeal.main_arg1) = m ((c.tc : Thread Cert.FinIdeal.nD Cert.FinIdeal.τ).loc Cert.FinIdeal.main_arg1)
          ∧ r.2.mem ((c.tc : Thread Cert.FinIdeal.nD Cert.FinIdeal.τ).loc Cert.FinIdeal.main_arg2) = m ((c.tc : Thread Cert.FinIdeal.nD Cert.FinIdeal.τ).loc Cert.FinIdeal.main_arg2))
      ∧ θ_run (Cert.FinRefIdeal.defs (F := Ideal)) (onTc (τ := Cert.FinRefIdeal.τ) (Cert.FinRefIdeal.main (F := Ideal))) ⟨m', fun _ => 0, g'⟩ (fun r => ∀ c : Dev Cert.FinRefIdeal.nD,
          r.2.mem ((c.tc : Thread Cert.FinRefIdeal.nD Cert.FinRefIdeal.τ).loc Cert.FinRefIdeal.main_v20) = v0 c
          ∧ r.2.mem ((c.tc : Thread Cert.FinRefIdeal.nD Cert.FinRefIdeal.τ).loc Cert.FinRefIdeal.main_v23) = v1 c
          ∧ r.2.mem ((c.tc : Thread Cert.FinRefIdeal.nD Cert.FinRefIdeal.τ).loc Cert.FinRefIdeal.main_v24) = v2 c
          ∧ r.2.mem ((c.tc : Thread Cert.FinRefIdeal.nD Cert.FinRefIdeal.τ).loc Cert.FinRefIdeal.main_arg0) = m' ((c.tc : Thread Cert.FinRefIdeal.nD Cert.FinRefIdeal.τ).loc Cert.FinRefIdeal.main_arg0)
          ∧ r.2.mem ((c.tc : Thread Cert.FinRefIdeal.nD Cert.FinRefIdeal.τ).loc Cert.FinRefIdeal.main_arg1) = m' ((c.tc : Thread Cert.FinRefIdeal.nD Cert.FinRefIdeal.τ).loc Cert.FinRefIdeal.main_arg1)
          ∧ r.2.mem ((c.tc : Thread Cert.FinRefIdeal.nD Cert.FinRefIdeal.τ).loc Cert.FinRefIdeal.main_arg2) = m' ((c.tc : Thread Cert.FinRefIdeal.nD Cert.FinRefIdeal.τ).loc Cert.FinRefIdeal.main_arg2))

def preserves_Fout_FoutIdeal : Prop :=
  True

def algebraic_FoutIdeal_FoutRefIdeal [hFoutIdeal : Cert.FoutIdeal.Facts] [hFoutRefIdeal : Cert.FoutRefIdeal.Facts] : Prop :=
  ∀ (m : (ℓ : Loc Cert.FoutIdeal.nD Cert.FoutIdeal.τ Cert.FoutIdeal.sig) → Buf (Elt Ideal) ℓ) (g : Dev Cert.FoutIdeal.nD → PrngReg)
    (m' : (ℓ : Loc Cert.FoutRefIdeal.nD Cert.FoutRefIdeal.τ Cert.FoutRefIdeal.sig) → Buf (Elt Ideal) ℓ) (g' : Dev Cert.FoutRefIdeal.nD → PrngReg), Pre_FoutIdeal m →
    (∀ c : Dev Cert.FoutIdeal.nD,
      m' ((c.tc : Thread Cert.FoutRefIdeal.nD Cert.FoutRefIdeal.τ).loc Cert.FoutRefIdeal.main_arg0) = m ((c.tc : Thread Cert.FoutIdeal.nD Cert.FoutIdeal.τ).loc Cert.FoutIdeal.main_arg0)
      ∧ m' ((c.tc : Thread Cert.FoutRefIdeal.nD Cert.FoutRefIdeal.τ).loc Cert.FoutRefIdeal.main_arg1) = m ((c.tc : Thread Cert.FoutIdeal.nD Cert.FoutIdeal.τ).loc Cert.FoutIdeal.main_arg1)
      ∧ m' ((c.tc : Thread Cert.FoutRefIdeal.nD Cert.FoutRefIdeal.τ).loc Cert.FoutRefIdeal.main_arg2) = m ((c.tc : Thread Cert.FoutIdeal.nD Cert.FoutIdeal.τ).loc Cert.FoutIdeal.main_arg2)) →
    ∃ (v0 : (c : Dev Cert.FoutIdeal.nD) → Buf (Elt Ideal) ((c.tc : Thread Cert.FoutIdeal.nD Cert.FoutIdeal.τ).loc Cert.FoutIdeal.main_v2)),
      θ_run (Cert.FoutIdeal.defs (F := Ideal)) (onTc (τ := Cert.FoutIdeal.τ) (Cert.FoutIdeal.main (F := Ideal))) ⟨m, fun _ => 0, g⟩ (fun r => ∀ c : Dev Cert.FoutIdeal.nD,
          r.2.mem ((c.tc : Thread Cert.FoutIdeal.nD Cert.FoutIdeal.τ).loc Cert.FoutIdeal.main_v2) = v0 c
          ∧ r.2.mem ((c.tc : Thread Cert.FoutIdeal.nD Cert.FoutIdeal.τ).loc Cert.FoutIdeal.main_arg0) = m ((c.tc : Thread Cert.FoutIdeal.nD Cert.FoutIdeal.τ).loc Cert.FoutIdeal.main_arg0)
          ∧ r.2.mem ((c.tc : Thread Cert.FoutIdeal.nD Cert.FoutIdeal.τ).loc Cert.FoutIdeal.main_arg1) = m ((c.tc : Thread Cert.FoutIdeal.nD Cert.FoutIdeal.τ).loc Cert.FoutIdeal.main_arg1)
          ∧ r.2.mem ((c.tc : Thread Cert.FoutIdeal.nD Cert.FoutIdeal.τ).loc Cert.FoutIdeal.main_arg2) = m ((c.tc : Thread Cert.FoutIdeal.nD Cert.FoutIdeal.τ).loc Cert.FoutIdeal.main_arg2))
      ∧ θ_run (Cert.FoutRefIdeal.defs (F := Ideal)) (onTc (τ := Cert.FoutRefIdeal.τ) (Cert.FoutRefIdeal.main (F := Ideal))) ⟨m', fun _ => 0, g'⟩ (fun r => ∀ c : Dev Cert.FoutRefIdeal.nD,
          r.2.mem ((c.tc : Thread Cert.FoutRefIdeal.nD Cert.FoutRefIdeal.τ).loc Cert.FoutRefIdeal.main_v1) = v0 c
          ∧ r.2.mem ((c.tc : Thread Cert.FoutRefIdeal.nD Cert.FoutRefIdeal.τ).loc Cert.FoutRefIdeal.main_arg0) = m' ((c.tc : Thread Cert.FoutRefIdeal.nD Cert.FoutRefIdeal.τ).loc Cert.FoutRefIdeal.main_arg0)
          ∧ r.2.mem ((c.tc : Thread Cert.FoutRefIdeal.nD Cert.FoutRefIdeal.τ).loc Cert.FoutRefIdeal.main_arg1) = m' ((c.tc : Thread Cert.FoutRefIdeal.nD Cert.FoutRefIdeal.τ).loc Cert.FoutRefIdeal.main_arg1)
          ∧ r.2.mem ((c.tc : Thread Cert.FoutRefIdeal.nD Cert.FoutRefIdeal.τ).loc Cert.FoutRefIdeal.main_arg2) = m' ((c.tc : Thread Cert.FoutRefIdeal.nD Cert.FoutRefIdeal.τ).loc Cert.FoutRefIdeal.main_arg2))

def preserves_Sgin_SginIdeal : Prop :=
  True

def algebraic_SginIdeal_SginRefIdeal [hSginIdeal : Cert.SginIdeal.Facts] [hSginRefIdeal : Cert.SginRefIdeal.Facts] : Prop :=
  ∀ (m : (ℓ : Loc Cert.SginIdeal.nD Cert.SginIdeal.τ Cert.SginIdeal.sig) → Buf (Elt Ideal) ℓ) (g : Dev Cert.SginIdeal.nD → PrngReg)
    (m' : (ℓ : Loc Cert.SginRefIdeal.nD Cert.SginRefIdeal.τ Cert.SginRefIdeal.sig) → Buf (Elt Ideal) ℓ) (g' : Dev Cert.SginRefIdeal.nD → PrngReg), Pre_SginIdeal m →
    (∀ c : Dev Cert.SginIdeal.nD,
      m' ((c.tc : Thread Cert.SginRefIdeal.nD Cert.SginRefIdeal.τ).loc Cert.SginRefIdeal.main_arg0) = m ((c.tc : Thread Cert.SginIdeal.nD Cert.SginIdeal.τ).loc Cert.SginIdeal.main_arg0)
      ∧ m' ((c.tc : Thread Cert.SginRefIdeal.nD Cert.SginRefIdeal.τ).loc Cert.SginRefIdeal.main_arg1) = m ((c.tc : Thread Cert.SginIdeal.nD Cert.SginIdeal.τ).loc Cert.SginIdeal.main_arg1)) →
    ∃ (v0 : (c : Dev Cert.SginIdeal.nD) → Buf (Elt Ideal) ((c.tc : Thread Cert.SginIdeal.nD Cert.SginIdeal.τ).loc Cert.SginIdeal.main_v2)),
      θ_run (Cert.SginIdeal.defs (F := Ideal)) (onTc (τ := Cert.SginIdeal.τ) (Cert.SginIdeal.main (F := Ideal))) ⟨m, fun _ => 0, g⟩ (fun r => ∀ c : Dev Cert.SginIdeal.nD,
          r.2.mem ((c.tc : Thread Cert.SginIdeal.nD Cert.SginIdeal.τ).loc Cert.SginIdeal.main_v2) = v0 c
          ∧ r.2.mem ((c.tc : Thread Cert.SginIdeal.nD Cert.SginIdeal.τ).loc Cert.SginIdeal.main_arg0) = m ((c.tc : Thread Cert.SginIdeal.nD Cert.SginIdeal.τ).loc Cert.SginIdeal.main_arg0)
          ∧ r.2.mem ((c.tc : Thread Cert.SginIdeal.nD Cert.SginIdeal.τ).loc Cert.SginIdeal.main_arg1) = m ((c.tc : Thread Cert.SginIdeal.nD Cert.SginIdeal.τ).loc Cert.SginIdeal.main_arg1))
      ∧ θ_run (Cert.SginRefIdeal.defs (F := Ideal)) (onTc (τ := Cert.SginRefIdeal.τ) (Cert.SginRefIdeal.main (F := Ideal))) ⟨m', fun _ => 0, g'⟩ (fun r => ∀ c : Dev Cert.SginRefIdeal.nD,
          r.2.mem ((c.tc : Thread Cert.SginRefIdeal.nD Cert.SginRefIdeal.τ).loc Cert.SginRefIdeal.main_v3) = v0 c
          ∧ r.2.mem ((c.tc : Thread Cert.SginRefIdeal.nD Cert.SginRefIdeal.τ).loc Cert.SginRefIdeal.main_arg0) = m' ((c.tc : Thread Cert.SginRefIdeal.nD Cert.SginRefIdeal.τ).loc Cert.SginRefIdeal.main_arg0)
          ∧ r.2.mem ((c.tc : Thread Cert.SginRefIdeal.nD Cert.SginRefIdeal.τ).loc Cert.SginRefIdeal.main_arg1) = m' ((c.tc : Thread Cert.SginRefIdeal.nD Cert.SginRefIdeal.τ).loc Cert.SginRefIdeal.main_arg1))

def preserves_Sgout_SgoutIdeal : Prop :=
  True

def algebraic_SgoutIdeal_SgoutRefIdeal [hSgoutIdeal : Cert.SgoutIdeal.Facts] [hSgoutRefIdeal : Cert.SgoutRefIdeal.Facts] : Prop :=
  ∀ (m : (ℓ : Loc Cert.SgoutIdeal.nD Cert.SgoutIdeal.τ Cert.SgoutIdeal.sig) → Buf (Elt Ideal) ℓ) (g : Dev Cert.SgoutIdeal.nD → PrngReg)
    (m' : (ℓ : Loc Cert.SgoutRefIdeal.nD Cert.SgoutRefIdeal.τ Cert.SgoutRefIdeal.sig) → Buf (Elt Ideal) ℓ) (g' : Dev Cert.SgoutRefIdeal.nD → PrngReg), Pre_SgoutIdeal m →
    (∀ c : Dev Cert.SgoutIdeal.nD,
      m' ((c.tc : Thread Cert.SgoutRefIdeal.nD Cert.SgoutRefIdeal.τ).loc Cert.SgoutRefIdeal.main_arg0) = m ((c.tc : Thread Cert.SgoutIdeal.nD Cert.SgoutIdeal.τ).loc Cert.SgoutIdeal.main_arg0)
      ∧ m' ((c.tc : Thread Cert.SgoutRefIdeal.nD Cert.SgoutRefIdeal.τ).loc Cert.SgoutRefIdeal.main_arg1) = m ((c.tc : Thread Cert.SgoutIdeal.nD Cert.SgoutIdeal.τ).loc Cert.SgoutIdeal.main_arg1)) →
    ∃ (v0 : (c : Dev Cert.SgoutIdeal.nD) → Buf (Elt Ideal) ((c.tc : Thread Cert.SgoutIdeal.nD Cert.SgoutIdeal.τ).loc Cert.SgoutIdeal.main_v1)),
      θ_run (Cert.SgoutIdeal.defs (F := Ideal)) (onTc (τ := Cert.SgoutIdeal.τ) (Cert.SgoutIdeal.main (F := Ideal))) ⟨m, fun _ => 0, g⟩ (fun r => ∀ c : Dev Cert.SgoutIdeal.nD,
          r.2.mem ((c.tc : Thread Cert.SgoutIdeal.nD Cert.SgoutIdeal.τ).loc Cert.SgoutIdeal.main_v1) = v0 c
          ∧ r.2.mem ((c.tc : Thread Cert.SgoutIdeal.nD Cert.SgoutIdeal.τ).loc Cert.SgoutIdeal.main_arg0) = m ((c.tc : Thread Cert.SgoutIdeal.nD Cert.SgoutIdeal.τ).loc Cert.SgoutIdeal.main_arg0)
          ∧ r.2.mem ((c.tc : Thread Cert.SgoutIdeal.nD Cert.SgoutIdeal.τ).loc Cert.SgoutIdeal.main_arg1) = m ((c.tc : Thread Cert.SgoutIdeal.nD Cert.SgoutIdeal.τ).loc Cert.SgoutIdeal.main_arg1))
      ∧ θ_run (Cert.SgoutRefIdeal.defs (F := Ideal)) (onTc (τ := Cert.SgoutRefIdeal.τ) (Cert.SgoutRefIdeal.main (F := Ideal))) ⟨m', fun _ => 0, g'⟩ (fun r => ∀ c : Dev Cert.SgoutRefIdeal.nD,
          r.2.mem ((c.tc : Thread Cert.SgoutRefIdeal.nD Cert.SgoutRefIdeal.τ).loc Cert.SgoutRefIdeal.main_v3) = v0 c
          ∧ r.2.mem ((c.tc : Thread Cert.SgoutRefIdeal.nD Cert.SgoutRefIdeal.τ).loc Cert.SgoutRefIdeal.main_arg0) = m' ((c.tc : Thread Cert.SgoutRefIdeal.nD Cert.SgoutRefIdeal.τ).loc Cert.SgoutRefIdeal.main_arg0)
          ∧ r.2.mem ((c.tc : Thread Cert.SgoutRefIdeal.nD Cert.SgoutRefIdeal.τ).loc Cert.SgoutRefIdeal.main_arg1) = m' ((c.tc : Thread Cert.SgoutRefIdeal.nD Cert.SgoutRefIdeal.τ).loc Cert.SgoutRefIdeal.main_arg1))

def preserves_Atin_AtinIdeal : Prop :=
  True

def algebraic_AtinIdeal_AtinRefIdeal [hAtinIdeal : Cert.AtinIdeal.Facts] [hAtinRefIdeal : Cert.AtinRefIdeal.Facts] : Prop :=
  ∀ (m : (ℓ : Loc Cert.AtinIdeal.nD Cert.AtinIdeal.τ Cert.AtinIdeal.sig) → Buf (Elt Ideal) ℓ) (g : Dev Cert.AtinIdeal.nD → PrngReg)
    (m' : (ℓ : Loc Cert.AtinRefIdeal.nD Cert.AtinRefIdeal.τ Cert.AtinRefIdeal.sig) → Buf (Elt Ideal) ℓ) (g' : Dev Cert.AtinRefIdeal.nD → PrngReg), Pre_AtinIdeal m →
    (∀ c : Dev Cert.AtinIdeal.nD,
      m' ((c.tc : Thread Cert.AtinRefIdeal.nD Cert.AtinRefIdeal.τ).loc Cert.AtinRefIdeal.main_arg0) = m ((c.tc : Thread Cert.AtinIdeal.nD Cert.AtinIdeal.τ).loc Cert.AtinIdeal.main_arg0)
      ∧ m' ((c.tc : Thread Cert.AtinRefIdeal.nD Cert.AtinRefIdeal.τ).loc Cert.AtinRefIdeal.main_arg1) = m ((c.tc : Thread Cert.AtinIdeal.nD Cert.AtinIdeal.τ).loc Cert.AtinIdeal.main_arg1)) →
    ∃ (v0 : (c : Dev Cert.AtinIdeal.nD) → Buf (Elt Ideal) ((c.tc : Thread Cert.AtinIdeal.nD Cert.AtinIdeal.τ).loc Cert.AtinIdeal.main_v2)),
      θ_run (Cert.AtinIdeal.defs (F := Ideal)) (onTc (τ := Cert.AtinIdeal.τ) (Cert.AtinIdeal.main (F := Ideal))) ⟨m, fun _ => 0, g⟩ (fun r => ∀ c : Dev Cert.AtinIdeal.nD,
          r.2.mem ((c.tc : Thread Cert.AtinIdeal.nD Cert.AtinIdeal.τ).loc Cert.AtinIdeal.main_v2) = v0 c
          ∧ r.2.mem ((c.tc : Thread Cert.AtinIdeal.nD Cert.AtinIdeal.τ).loc Cert.AtinIdeal.main_arg0) = m ((c.tc : Thread Cert.AtinIdeal.nD Cert.AtinIdeal.τ).loc Cert.AtinIdeal.main_arg0)
          ∧ r.2.mem ((c.tc : Thread Cert.AtinIdeal.nD Cert.AtinIdeal.τ).loc Cert.AtinIdeal.main_arg1) = m ((c.tc : Thread Cert.AtinIdeal.nD Cert.AtinIdeal.τ).loc Cert.AtinIdeal.main_arg1))
      ∧ θ_run (Cert.AtinRefIdeal.defs (F := Ideal)) (onTc (τ := Cert.AtinRefIdeal.τ) (Cert.AtinRefIdeal.main (F := Ideal))) ⟨m', fun _ => 0, g'⟩ (fun r => ∀ c : Dev Cert.AtinRefIdeal.nD,
          r.2.mem ((c.tc : Thread Cert.AtinRefIdeal.nD Cert.AtinRefIdeal.τ).loc Cert.AtinRefIdeal.main_v3) = v0 c
          ∧ r.2.mem ((c.tc : Thread Cert.AtinRefIdeal.nD Cert.AtinRefIdeal.τ).loc Cert.AtinRefIdeal.main_arg0) = m' ((c.tc : Thread Cert.AtinRefIdeal.nD Cert.AtinRefIdeal.τ).loc Cert.AtinRefIdeal.main_arg0)
          ∧ r.2.mem ((c.tc : Thread Cert.AtinRefIdeal.nD Cert.AtinRefIdeal.τ).loc Cert.AtinRefIdeal.main_arg1) = m' ((c.tc : Thread Cert.AtinRefIdeal.nD Cert.AtinRefIdeal.τ).loc Cert.AtinRefIdeal.main_arg1))

def preserves_Atout_AtoutIdeal : Prop :=
  True

def algebraic_AtoutIdeal_AtoutRefIdeal [hAtoutIdeal : Cert.AtoutIdeal.Facts] [hAtoutRefIdeal : Cert.AtoutRefIdeal.Facts] : Prop :=
  ∀ (m : (ℓ : Loc Cert.AtoutIdeal.nD Cert.AtoutIdeal.τ Cert.AtoutIdeal.sig) → Buf (Elt Ideal) ℓ) (g : Dev Cert.AtoutIdeal.nD → PrngReg)
    (m' : (ℓ : Loc Cert.AtoutRefIdeal.nD Cert.AtoutRefIdeal.τ Cert.AtoutRefIdeal.sig) → Buf (Elt Ideal) ℓ) (g' : Dev Cert.AtoutRefIdeal.nD → PrngReg), Pre_AtoutIdeal m →
    (∀ c : Dev Cert.AtoutIdeal.nD,
      m' ((c.tc : Thread Cert.AtoutRefIdeal.nD Cert.AtoutRefIdeal.τ).loc Cert.AtoutRefIdeal.main_arg0) = m ((c.tc : Thread Cert.AtoutIdeal.nD Cert.AtoutIdeal.τ).loc Cert.AtoutIdeal.main_arg0)
      ∧ m' ((c.tc : Thread Cert.AtoutRefIdeal.nD Cert.AtoutRefIdeal.τ).loc Cert.AtoutRefIdeal.main_arg1) = m ((c.tc : Thread Cert.AtoutIdeal.nD Cert.AtoutIdeal.τ).loc Cert.AtoutIdeal.main_arg1)) →
    ∃ (v0 : (c : Dev Cert.AtoutIdeal.nD) → Buf (Elt Ideal) ((c.tc : Thread Cert.AtoutIdeal.nD Cert.AtoutIdeal.τ).loc Cert.AtoutIdeal.main_v1)),
      θ_run (Cert.AtoutIdeal.defs (F := Ideal)) (onTc (τ := Cert.AtoutIdeal.τ) (Cert.AtoutIdeal.main (F := Ideal))) ⟨m, fun _ => 0, g⟩ (fun r => ∀ c : Dev Cert.AtoutIdeal.nD,
          r.2.mem ((c.tc : Thread Cert.AtoutIdeal.nD Cert.AtoutIdeal.τ).loc Cert.AtoutIdeal.main_v1) = v0 c
          ∧ r.2.mem ((c.tc : Thread Cert.AtoutIdeal.nD Cert.AtoutIdeal.τ).loc Cert.AtoutIdeal.main_arg0) = m ((c.tc : Thread Cert.AtoutIdeal.nD Cert.AtoutIdeal.τ).loc Cert.AtoutIdeal.main_arg0)
          ∧ r.2.mem ((c.tc : Thread Cert.AtoutIdeal.nD Cert.AtoutIdeal.τ).loc Cert.AtoutIdeal.main_arg1) = m ((c.tc : Thread Cert.AtoutIdeal.nD Cert.AtoutIdeal.τ).loc Cert.AtoutIdeal.main_arg1))
      ∧ θ_run (Cert.AtoutRefIdeal.defs (F := Ideal)) (onTc (τ := Cert.AtoutRefIdeal.τ) (Cert.AtoutRefIdeal.main (F := Ideal))) ⟨m', fun _ => 0, g'⟩ (fun r => ∀ c : Dev Cert.AtoutRefIdeal.nD,
          r.2.mem ((c.tc : Thread Cert.AtoutRefIdeal.nD Cert.AtoutRefIdeal.τ).loc Cert.AtoutRefIdeal.main_v3) = v0 c
          ∧ r.2.mem ((c.tc : Thread Cert.AtoutRefIdeal.nD Cert.AtoutRefIdeal.τ).loc Cert.AtoutRefIdeal.main_arg0) = m' ((c.tc : Thread Cert.AtoutRefIdeal.nD Cert.AtoutRefIdeal.τ).loc Cert.AtoutRefIdeal.main_arg0)
          ∧ r.2.mem ((c.tc : Thread Cert.AtoutRefIdeal.nD Cert.AtoutRefIdeal.τ).loc Cert.AtoutRefIdeal.main_arg1) = m' ((c.tc : Thread Cert.AtoutRefIdeal.nD Cert.AtoutRefIdeal.τ).loc Cert.AtoutRefIdeal.main_arg1))

def preserves_Sgd_SgdIdeal : Prop :=
  True

def algebraic_SgdIdeal_SgdRefIdeal [hSgdIdeal : Cert.SgdIdeal.Facts] [hSgdRefIdeal : Cert.SgdRefIdeal.Facts] : Prop :=
  ∀ (m : (ℓ : Loc Cert.SgdIdeal.nD Cert.SgdIdeal.τ Cert.SgdIdeal.sig) → Buf (Elt Ideal) ℓ) (g : Dev Cert.SgdIdeal.nD → PrngReg)
    (m' : (ℓ : Loc Cert.SgdRefIdeal.nD Cert.SgdRefIdeal.τ Cert.SgdRefIdeal.sig) → Buf (Elt Ideal) ℓ) (g' : Dev Cert.SgdRefIdeal.nD → PrngReg), Pre_SgdIdeal m →
    (∀ c : Dev Cert.SgdIdeal.nD,
      m' ((c.tc : Thread Cert.SgdRefIdeal.nD Cert.SgdRefIdeal.τ).loc Cert.SgdRefIdeal.main_arg0) = m ((c.tc : Thread Cert.SgdIdeal.nD Cert.SgdIdeal.τ).loc Cert.SgdIdeal.main_arg0)
      ∧ m' ((c.tc : Thread Cert.SgdRefIdeal.nD Cert.SgdRefIdeal.τ).loc Cert.SgdRefIdeal.main_arg1) = m ((c.tc : Thread Cert.SgdIdeal.nD Cert.SgdIdeal.τ).loc Cert.SgdIdeal.main_arg1)) →
    ∃ (v0 : (c : Dev Cert.SgdIdeal.nD) → Buf (Elt Ideal) ((c.tc : Thread Cert.SgdIdeal.nD Cert.SgdIdeal.τ).loc Cert.SgdIdeal.main_v1)),
      θ_run (Cert.SgdIdeal.defs (F := Ideal)) (onTc (τ := Cert.SgdIdeal.τ) (Cert.SgdIdeal.main (F := Ideal))) ⟨m, fun _ => 0, g⟩ (fun r => ∀ c : Dev Cert.SgdIdeal.nD,
          r.2.mem ((c.tc : Thread Cert.SgdIdeal.nD Cert.SgdIdeal.τ).loc Cert.SgdIdeal.main_v1) = v0 c
          ∧ r.2.mem ((c.tc : Thread Cert.SgdIdeal.nD Cert.SgdIdeal.τ).loc Cert.SgdIdeal.main_arg0) = m ((c.tc : Thread Cert.SgdIdeal.nD Cert.SgdIdeal.τ).loc Cert.SgdIdeal.main_arg0)
          ∧ r.2.mem ((c.tc : Thread Cert.SgdIdeal.nD Cert.SgdIdeal.τ).loc Cert.SgdIdeal.main_arg1) = m ((c.tc : Thread Cert.SgdIdeal.nD Cert.SgdIdeal.τ).loc Cert.SgdIdeal.main_arg1))
      ∧ θ_run (Cert.SgdRefIdeal.defs (F := Ideal)) (onTc (τ := Cert.SgdRefIdeal.τ) (Cert.SgdRefIdeal.main (F := Ideal))) ⟨m', fun _ => 0, g'⟩ (fun r => ∀ c : Dev Cert.SgdRefIdeal.nD,
          r.2.mem ((c.tc : Thread Cert.SgdRefIdeal.nD Cert.SgdRefIdeal.τ).loc Cert.SgdRefIdeal.main_v2) = v0 c
          ∧ r.2.mem ((c.tc : Thread Cert.SgdRefIdeal.nD Cert.SgdRefIdeal.τ).loc Cert.SgdRefIdeal.main_arg0) = m' ((c.tc : Thread Cert.SgdRefIdeal.nD Cert.SgdRefIdeal.τ).loc Cert.SgdRefIdeal.main_arg0)
          ∧ r.2.mem ((c.tc : Thread Cert.SgdRefIdeal.nD Cert.SgdRefIdeal.τ).loc Cert.SgdRefIdeal.main_arg1) = m' ((c.tc : Thread Cert.SgdRefIdeal.nD Cert.SgdRefIdeal.τ).loc Cert.SgdRefIdeal.main_arg1))

def preserves_Atb_AtbIdeal : Prop :=
  IdealRules.named_const.Statement Cert.AtbIdeal.κ "log2e" .f32 0x3FB8AA3B#32 (((Real.log 2)⁻¹ : ℝ) : EReal)
  ∧ IdealRules.named_const.Statement Cert.AtbIdeal.κ "scaled_log2e" .f32 0x3E38AA3B#32 (((8 * (Real.log 2))⁻¹ : ℝ) : EReal)

def algebraic_AtbIdeal_AtbRefIdeal [hAtbIdeal : Cert.AtbIdeal.Facts] [hAtbRefIdeal : Cert.AtbRefIdeal.Facts] [hPre_atb_finite : Cert.Pre_atb_finite.Facts] : Prop :=
  ∀ (m : (ℓ : Loc Cert.AtbIdeal.nD Cert.AtbIdeal.τ Cert.AtbIdeal.sig) → Buf (Elt Ideal) ℓ) (g : Dev Cert.AtbIdeal.nD → PrngReg)
    (m' : (ℓ : Loc Cert.AtbRefIdeal.nD Cert.AtbRefIdeal.τ Cert.AtbRefIdeal.sig) → Buf (Elt Ideal) ℓ) (g' : Dev Cert.AtbRefIdeal.nD → PrngReg), Pre_AtbIdeal m →
    (∀ c : Dev Cert.AtbIdeal.nD,
      m' ((c.tc : Thread Cert.AtbRefIdeal.nD Cert.AtbRefIdeal.τ).loc Cert.AtbRefIdeal.main_arg0) = m ((c.tc : Thread Cert.AtbIdeal.nD Cert.AtbIdeal.τ).loc Cert.AtbIdeal.main_arg0)
      ∧ m' ((c.tc : Thread Cert.AtbRefIdeal.nD Cert.AtbRefIdeal.τ).loc Cert.AtbRefIdeal.main_arg1) = m ((c.tc : Thread Cert.AtbIdeal.nD Cert.AtbIdeal.τ).loc Cert.AtbIdeal.main_arg1)
      ∧ m' ((c.tc : Thread Cert.AtbRefIdeal.nD Cert.AtbRefIdeal.τ).loc Cert.AtbRefIdeal.main_arg2) = m ((c.tc : Thread Cert.AtbIdeal.nD Cert.AtbIdeal.τ).loc Cert.AtbIdeal.main_arg2)) →
    ∃ (v0 : (c : Dev Cert.AtbIdeal.nD) → Buf (Elt Ideal) ((c.tc : Thread Cert.AtbIdeal.nD Cert.AtbIdeal.τ).loc Cert.AtbIdeal.main_v62_1)) (v1 : (c : Dev Cert.AtbIdeal.nD) → Buf (Elt Ideal) ((c.tc : Thread Cert.AtbIdeal.nD Cert.AtbIdeal.τ).loc Cert.AtbIdeal.main_v62_2)),
      θ_run (Cert.AtbIdeal.defs (F := Ideal)) (onTc (τ := Cert.AtbIdeal.τ) (Cert.AtbIdeal.main (F := Ideal))) ⟨m, fun _ => 0, g⟩ (fun r => ∀ c : Dev Cert.AtbIdeal.nD,
          r.2.mem ((c.tc : Thread Cert.AtbIdeal.nD Cert.AtbIdeal.τ).loc Cert.AtbIdeal.main_v62_1) = v0 c
          ∧ r.2.mem ((c.tc : Thread Cert.AtbIdeal.nD Cert.AtbIdeal.τ).loc Cert.AtbIdeal.main_v62_2) = v1 c
          ∧ r.2.mem ((c.tc : Thread Cert.AtbIdeal.nD Cert.AtbIdeal.τ).loc Cert.AtbIdeal.main_arg0) = m ((c.tc : Thread Cert.AtbIdeal.nD Cert.AtbIdeal.τ).loc Cert.AtbIdeal.main_arg0)
          ∧ r.2.mem ((c.tc : Thread Cert.AtbIdeal.nD Cert.AtbIdeal.τ).loc Cert.AtbIdeal.main_arg1) = m ((c.tc : Thread Cert.AtbIdeal.nD Cert.AtbIdeal.τ).loc Cert.AtbIdeal.main_arg1)
          ∧ r.2.mem ((c.tc : Thread Cert.AtbIdeal.nD Cert.AtbIdeal.τ).loc Cert.AtbIdeal.main_arg2) = m ((c.tc : Thread Cert.AtbIdeal.nD Cert.AtbIdeal.τ).loc Cert.AtbIdeal.main_arg2))
      ∧ θ_run (Cert.AtbRefIdeal.defs (F := Ideal)) (onTc (τ := Cert.AtbRefIdeal.τ) (Cert.AtbRefIdeal.main (F := Ideal))) ⟨m', fun _ => 0, g'⟩ (fun r => ∀ c : Dev Cert.AtbRefIdeal.nD,
          r.2.mem ((c.tc : Thread Cert.AtbRefIdeal.nD Cert.AtbRefIdeal.τ).loc Cert.AtbRefIdeal.main_v92) = v0 c
          ∧ r.2.mem ((c.tc : Thread Cert.AtbRefIdeal.nD Cert.AtbRefIdeal.τ).loc Cert.AtbRefIdeal.main_v93) = v1 c
          ∧ r.2.mem ((c.tc : Thread Cert.AtbRefIdeal.nD Cert.AtbRefIdeal.τ).loc Cert.AtbRefIdeal.main_arg0) = m' ((c.tc : Thread Cert.AtbRefIdeal.nD Cert.AtbRefIdeal.τ).loc Cert.AtbRefIdeal.main_arg0)
          ∧ r.2.mem ((c.tc : Thread Cert.AtbRefIdeal.nD Cert.AtbRefIdeal.τ).loc Cert.AtbRefIdeal.main_arg1) = m' ((c.tc : Thread Cert.AtbRefIdeal.nD Cert.AtbRefIdeal.τ).loc Cert.AtbRefIdeal.main_arg1)
          ∧ r.2.mem ((c.tc : Thread Cert.AtbRefIdeal.nD Cert.AtbRefIdeal.τ).loc Cert.AtbRefIdeal.main_arg2) = m' ((c.tc : Thread Cert.AtbRefIdeal.nD Cert.AtbRefIdeal.τ).loc Cert.AtbRefIdeal.main_arg2))

def Claim : Prop :=
  ∃ (hAct : Cert.Act.Facts) (hActIdeal : Cert.ActIdeal.Facts) (hActRefIdeal : Cert.ActRefIdeal.Facts) (hNorm : Cert.Norm.Facts) (hNormIdeal : Cert.NormIdeal.Facts) (hNormRefIdeal : Cert.NormRefIdeal.Facts) (hWin : Cert.Win.Facts) (hWinIdeal : Cert.WinIdeal.Facts) (hWinRefIdeal : Cert.WinRefIdeal.Facts) (hWout : Cert.Wout.Facts) (hWoutIdeal : Cert.WoutIdeal.Facts) (hWoutRefIdeal : Cert.WoutRefIdeal.Facts) (hFin : Cert.Fin.Facts) (hFinIdeal : Cert.FinIdeal.Facts) (hFinRefIdeal : Cert.FinRefIdeal.Facts) (hFout : Cert.Fout.Facts) (hFoutIdeal : Cert.FoutIdeal.Facts) (hFoutRefIdeal : Cert.FoutRefIdeal.Facts) (hSgin : Cert.Sgin.Facts) (hSginIdeal : Cert.SginIdeal.Facts) (hSginRefIdeal : Cert.SginRefIdeal.Facts) (hSgout : Cert.Sgout.Facts) (hSgoutIdeal : Cert.SgoutIdeal.Facts) (hSgoutRefIdeal : Cert.SgoutRefIdeal.Facts) (hAtin : Cert.Atin.Facts) (hAtinIdeal : Cert.AtinIdeal.Facts) (hAtinRefIdeal : Cert.AtinRefIdeal.Facts) (hAtout : Cert.Atout.Facts) (hAtoutIdeal : Cert.AtoutIdeal.Facts) (hAtoutRefIdeal : Cert.AtoutRefIdeal.Facts) (hSgd : Cert.Sgd.Facts) (hSgdIdeal : Cert.SgdIdeal.Facts) (hSgdRefIdeal : Cert.SgdRefIdeal.Facts) (hAtb : Cert.Atb.Facts) (hAtbIdeal : Cert.AtbIdeal.Facts) (hAtbRefIdeal : Cert.AtbRefIdeal.Facts) (hPre_act_finite : Cert.Pre_act_finite.Facts) (hPre_norm_finite : Cert.Pre_norm_finite.Facts) (hPre_atb_finite : Cert.Pre_atb_finite.Facts),
    quiescent_Act (hAct := hAct)
    ∧ quiescent_ActIdeal (hActIdeal := hActIdeal) (hPre_act_finite := hPre_act_finite)
    ∧ quiescent_ActIdeal_pre_none (hActIdeal := hActIdeal)
    ∧ quiescent_ActRefIdeal (hActRefIdeal := hActRefIdeal)
    ∧ quiescent_ActRefIdeal_pre_act_finite (hActRefIdeal := hActRefIdeal) (hPre_act_finite := hPre_act_finite)
    ∧ quiescent_Norm (hNorm := hNorm)
    ∧ quiescent_NormIdeal (hNormIdeal := hNormIdeal) (hPre_norm_finite := hPre_norm_finite)
    ∧ quiescent_NormIdeal_pre_none (hNormIdeal := hNormIdeal)
    ∧ quiescent_NormRefIdeal (hNormRefIdeal := hNormRefIdeal)
    ∧ quiescent_NormRefIdeal_pre_norm_finite (hNormRefIdeal := hNormRefIdeal) (hPre_norm_finite := hPre_norm_finite)
    ∧ quiescent_Win (hWin := hWin)
    ∧ quiescent_WinIdeal (hWinIdeal := hWinIdeal)
    ∧ quiescent_WinRefIdeal (hWinRefIdeal := hWinRefIdeal)
    ∧ quiescent_Wout (hWout := hWout)
    ∧ quiescent_WoutIdeal (hWoutIdeal := hWoutIdeal)
    ∧ quiescent_WoutRefIdeal (hWoutRefIdeal := hWoutRefIdeal)
    ∧ quiescent_Fin (hFin := hFin)
    ∧ quiescent_FinIdeal (hFinIdeal := hFinIdeal)
    ∧ quiescent_FinRefIdeal (hFinRefIdeal := hFinRefIdeal)
    ∧ quiescent_Fout (hFout := hFout)
    ∧ quiescent_FoutIdeal (hFoutIdeal := hFoutIdeal)
    ∧ quiescent_FoutRefIdeal (hFoutRefIdeal := hFoutRefIdeal)
    ∧ quiescent_Sgin (hSgin := hSgin)
    ∧ quiescent_SginIdeal (hSginIdeal := hSginIdeal)
    ∧ quiescent_SginRefIdeal (hSginRefIdeal := hSginRefIdeal)
    ∧ quiescent_Sgout (hSgout := hSgout)
    ∧ quiescent_SgoutIdeal (hSgoutIdeal := hSgoutIdeal)
    ∧ quiescent_SgoutRefIdeal (hSgoutRefIdeal := hSgoutRefIdeal)
    ∧ quiescent_Atin (hAtin := hAtin)
    ∧ quiescent_AtinIdeal (hAtinIdeal := hAtinIdeal)
    ∧ quiescent_AtinRefIdeal (hAtinRefIdeal := hAtinRefIdeal)
    ∧ quiescent_Atout (hAtout := hAtout)
    ∧ quiescent_AtoutIdeal (hAtoutIdeal := hAtoutIdeal)
    ∧ quiescent_AtoutRefIdeal (hAtoutRefIdeal := hAtoutRefIdeal)
    ∧ quiescent_Sgd (hSgd := hSgd)
    ∧ quiescent_SgdIdeal (hSgdIdeal := hSgdIdeal)
    ∧ quiescent_SgdRefIdeal (hSgdRefIdeal := hSgdRefIdeal)
    ∧ quiescent_Atb (hAtb := hAtb)
    ∧ quiescent_AtbIdeal (hAtbIdeal := hAtbIdeal) (hPre_atb_finite := hPre_atb_finite)
    ∧ quiescent_AtbIdeal_pre_none (hAtbIdeal := hAtbIdeal)
    ∧ quiescent_AtbRefIdeal (hAtbRefIdeal := hAtbRefIdeal)
    ∧ quiescent_AtbRefIdeal_pre_atb_finite (hAtbRefIdeal := hAtbRefIdeal) (hPre_atb_finite := hPre_atb_finite)
    ∧ preserves_Act_ActIdeal
    ∧ algebraic_ActIdeal_ActRefIdeal (hActIdeal := hActIdeal) (hActRefIdeal := hActRefIdeal) (hPre_act_finite := hPre_act_finite)
    ∧ preserves_Norm_NormIdeal
    ∧ algebraic_NormIdeal_NormRefIdeal (hNormIdeal := hNormIdeal) (hNormRefIdeal := hNormRefIdeal) (hPre_norm_finite := hPre_norm_finite)
    ∧ preserves_Win_WinIdeal
    ∧ algebraic_WinIdeal_WinRefIdeal (hWinIdeal := hWinIdeal) (hWinRefIdeal := hWinRefIdeal)
    ∧ preserves_Wout_WoutIdeal
    ∧ algebraic_WoutIdeal_WoutRefIdeal (hWoutIdeal := hWoutIdeal) (hWoutRefIdeal := hWoutRefIdeal)
    ∧ preserves_Fin_FinIdeal
    ∧ algebraic_FinIdeal_FinRefIdeal (hFinIdeal := hFinIdeal) (hFinRefIdeal := hFinRefIdeal)
    ∧ preserves_Fout_FoutIdeal
    ∧ algebraic_FoutIdeal_FoutRefIdeal (hFoutIdeal := hFoutIdeal) (hFoutRefIdeal := hFoutRefIdeal)
    ∧ preserves_Sgin_SginIdeal
    ∧ algebraic_SginIdeal_SginRefIdeal (hSginIdeal := hSginIdeal) (hSginRefIdeal := hSginRefIdeal)
    ∧ preserves_Sgout_SgoutIdeal
    ∧ algebraic_SgoutIdeal_SgoutRefIdeal (hSgoutIdeal := hSgoutIdeal) (hSgoutRefIdeal := hSgoutRefIdeal)
    ∧ preserves_Atin_AtinIdeal
    ∧ algebraic_AtinIdeal_AtinRefIdeal (hAtinIdeal := hAtinIdeal) (hAtinRefIdeal := hAtinRefIdeal)
    ∧ preserves_Atout_AtoutIdeal
    ∧ algebraic_AtoutIdeal_AtoutRefIdeal (hAtoutIdeal := hAtoutIdeal) (hAtoutRefIdeal := hAtoutRefIdeal)
    ∧ preserves_Sgd_SgdIdeal
    ∧ algebraic_SgdIdeal_SgdRefIdeal (hSgdIdeal := hSgdIdeal) (hSgdRefIdeal := hSgdRefIdeal)
    ∧ preserves_Atb_AtbIdeal
    ∧ algebraic_AtbIdeal_AtbRefIdeal (hAtbIdeal := hAtbIdeal) (hAtbRefIdeal := hAtbRefIdeal) (hPre_atb_finite := hPre_atb_finite)
-- ==== Pre_act_finite.lean ====
abbrev S16384x1024 : Shape := ⟨2, ![16384, 1024]⟩
abbrev S2816x1024 : Shape := ⟨2, ![2816, 1024]⟩
abbrev S16384x5632 : Shape := ⟨2, ![16384, 5632]⟩
abbrev S_ : Shape := ⟨0, ![]⟩

class Facts : Prop where
  bcast_S_S16384x1024 : S_.BroadcastsInDim S16384x1024 (![] : Fin 0 → Fin S16384x1024.rank)
  bcast_S_S2816x1024 : S_.BroadcastsInDim S2816x1024 (![] : Fin 0 → Fin S2816x1024.rank)
  bcast_S_S16384x5632 : S_.BroadcastsInDim S16384x5632 (![] : Fin 0 → Fin S16384x5632.rank)

variable [Facts]

def fn {F : FTy → Type} [FloatOps F] (main_arg0 : FVec F S16384x1024 .f32) (main_arg1 : FVec F S2816x1024 .f32) (main_arg2 : FVec F S16384x5632 .f32) : IVec S16384x1024 1 × IVec S2816x1024 1 × IVec S16384x5632 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S16384x5632 .f32 := Host.absf main_arg2
  let main_cst_1 : FVec F S_ .f32 := constant S_ .f32 0x7F800000#32
  let main_v7 : FVec F S16384x5632 .f32 := broadcastInDim S16384x5632 ![] bcast_S_S16384x5632 main_cst_1
  let main_v8 : IVec S16384x5632 1 := cmpf .olt main_v6 main_v7
  (main_v2, main_v5, main_v8)
-- ==== Pre_atb_finite.lean ====
abbrev S16384x3072 : Shape := ⟨2, ![16384, 3072]⟩
abbrev S16x16384 : Shape := ⟨2, ![16, 16384]⟩
abbrev S16384x1024 : Shape := ⟨2, ![16384, 1024]⟩
abbrev S_ : Shape := ⟨0, ![]⟩

class Facts : Prop where
  bcast_S_S16384x3072 : S_.BroadcastsInDim S16384x3072 (![] : Fin 0 → Fin S16384x3072.rank)
  bcast_S_S16x16384 : S_.BroadcastsInDim S16x16384 (![] : Fin 0 → Fin S16x16384.rank)
  bcast_S_S16384x1024 : S_.BroadcastsInDim S16384x1024 (![] : Fin 0 → Fin S16384x1024.rank)

variable [Facts]

def fn {F : FTy → Type} [FloatOps F] (main_arg0 : FVec F S16384x3072 .f32) (main_arg1 : FVec F S16x16384 .f32) (main_arg2 : FVec F S16384x1024 .f32) : IVec S16384x3072 1 × IVec S16x16384 1 × IVec S16384x1024 1 :=
  let main_v0 : FVec F S16384x3072 .f32 := Host.absf main_arg0
  let main_cst : FVec F S_ .f32 := constant S_ .f32 0x7F800000#32
  let main_v1 : FVec F S16384x3072 .f32 := broadcastInDim S16384x3072 ![] bcast_S_S16384x3072 main_cst
  let main_v2 : IVec S16384x3072 1 := cmpf .olt main_v0 main_v1
  let main_v3 : FVec F S16x16384 .f32 := Host.absf main_arg1
  let main_cst_0 : FVec F S_ .f32 := constant S_ .f32 0x7F800000#32
  let main_v4 : FVec F S16x16384 .f32 := broadcastInDim S16x16384 ![] bcast_S_S16x16384 main_cst_0
  let main_v5 : IVec S16x16384 1 := cmpf .olt main_v3 main_v4
  let main_v6 : FVec F S16384x1024 .f32 := Host.absf main_arg2
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  (main_v2, main_v5, main_v8)
-- ==== Pre_norm_finite.lean ====
abbrev S16384x5632 : Shape := ⟨2, ![16384, 5632]⟩
abbrev S4x1024x5632 : Shape := ⟨3, ![4, 1024, 5632]⟩
abbrev S16384x1024 : Shape := ⟨2, ![16384, 1024]⟩
abbrev S1024 : Shape := ⟨1, ![1024]⟩
abbrev S_ : Shape := ⟨0, ![]⟩

class Facts : Prop where
  bcast_S_S16384x5632 : S_.BroadcastsInDim S16384x5632 (![] : Fin 0 → Fin S16384x5632.rank)
  bcast_S_S4x1024x5632 : S_.BroadcastsInDim S4x1024x5632 (![] : Fin 0 → Fin S4x1024x5632.rank)
  bcast_S_S16384x1024 : S_.BroadcastsInDim S16384x1024 (![] : Fin 0 → Fin S16384x1024.rank)
  bcast_S_S1024 : S_.BroadcastsInDim S1024 (![] : Fin 0 → Fin S1024.rank)

variable [Facts]

def fn {F : FTy → Type} [FloatOps F] (main_arg0 : FVec F S16384x5632 .f32) (main_arg1 : FVec F S4x1024x5632 .f32) (main_arg2 : FVec F S16384x1024 .f32) (main_arg3 : FVec F S1024 .f32) (main_arg4 : FVec F S16384x1024 .f32) : IVec S16384x5632 1 × IVec S4x1024x5632 1 × IVec S16384x1024 1 × IVec S1024 1 :=
  let main_v0 : FVec F S16384x5632 .f32 := Host.absf main_arg0
  let main_cst : FVec F S_ .f32 := constant S_ .f32 0x7F800000#32
  let main_v1 : FVec F S16384x5632 .f32 := broadcastInDim S16384x5632 ![] bcast_S_S16384x5632 main_cst
  let main_v2 : IVec S16384x5632 1 := cmpf .olt main_v0 main_v1
  let main_v3 : FVec F S4x1024x5632 .f32 := Host.absf main_arg1
  let main_cst_0 : FVec F S_ .f32 := constant S_ .f32 0x7F800000#32
  let main_v4 : FVec F S4x1024x5632 .f32 := broadcastInDim S4x1024x5632 ![] bcast_S_S4x1024x5632 main_cst_0
  let main_v5 : IVec S4x1024x5632 1 := cmpf .olt main_v3 main_v4
  let main_v6 : FVec F S16384x1024 .f32 := Host.absf main_arg2
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== Act.lean ====
abbrev S16384x1024 : Shape := ⟨2, ![16384, 1024]⟩
abbrev S2816x1024 : Shape := ⟨2, ![2816, 1024]⟩
abbrev S16384x5632 : Shape := ⟨2, ![16384, 5632]⟩
abbrev S16384x2x2x1408 : Shape := ⟨4, ![16384, 2, 2, 1408]⟩
abbrev S2x2x16384x1408 : Shape := ⟨4, ![2, 2, 16384, 1408]⟩
abbrev S256x1024 : Shape := ⟨2, ![256, 1024]⟩
abbrev S1408x1024 : Shape := ⟨2, ![1408, 1024]⟩
abbrev S2x1x256x1408 : Shape := ⟨4, ![2, 1, 256, 1408]⟩
abbrev S384x1024 : Shape := ⟨2, ![384, 1024]⟩
abbrev S256x384 : Shape := ⟨2, ![256, 384]⟩
abbrev S1x1x256x384 : Shape := ⟨4, ![1, 1, 256, 384]⟩
abbrev S256x256 : Shape := ⟨2, ![256, 256]⟩
abbrev S1x1x256x256 : Shape := ⟨4, ![1, 1, 256, 256]⟩

abbrev nBuf : Space → Nat
  | .hbm => 8
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S2816x1024, .f32⟩
  | .hbm, ⟨2, _⟩ => ⟨S16384x5632, .f32⟩
  | .hbm, ⟨3, _⟩ => ⟨S16384x5632, .bf16⟩
  | .hbm, ⟨4, _⟩ => ⟨S16384x2x2x1408, .bf16⟩
  | .hbm, ⟨5, _⟩ => ⟨S2x2x16384x1408, .bf16⟩
  | .hbm, ⟨6, _⟩ => ⟨S2816x1024, .bf16⟩
  | .hbm, ⟨7, _⟩ => ⟨S2x2x16384x1408, .bf16⟩
  | .local _ .vmem, ⟨0, _⟩ => ⟨S256x1024, .f32⟩
  | .local _ .vmem, ⟨1, _⟩ => ⟨S256x1024, .f32⟩
  | .local _ .vmem, ⟨2, _⟩ => ⟨S1408x1024, .bf16⟩
  | .local _ .vmem, ⟨3, _⟩ => ⟨S1408x1024, .bf16⟩
  | .local _ .vmem, ⟨4, _⟩ => ⟨S2x1x256x1408, .bf16⟩
  | .local _ .vmem, ⟨5, _⟩ => ⟨S2x1x256x1408, .bf16⟩
  | .local _ .vmem, ⟨6, _⟩ => ⟨S2x1x256x1408, .bf16⟩
  | .local _ .vmem, ⟨7, _⟩ => ⟨S2x1x256x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ActRefIdeal.lean ====
abbrev S16384x1024 : Shape := ⟨2, ![16384, 1024]⟩
abbrev S2816x1024 : Shape := ⟨2, ![2816, 1024]⟩
abbrev S16384x5632 : Shape := ⟨2, ![16384, 5632]⟩
abbrev S16384x2816 : Shape := ⟨2, ![16384, 2816]⟩
abbrev S_ : Shape := ⟨0, ![]⟩
abbrev S16384x2x2x1408 : Shape := ⟨4, ![16384, 2, 2, 1408]⟩
abbrev S2x2x16384x1408 : Shape := ⟨4, ![2, 2, 16384, 1408]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2816x1024, .f32⟩
  | .hbm, ⟨2, _⟩ => ⟨S16384x5632, .f32⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S16384x2816, .f32⟩
  | .hbm, ⟨7, _⟩ => ⟨S_, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x1024, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x5632, .f32⟩
  | .hbm, ⟨28, _⟩ => ⟨S16384x2x2x1408, .f32⟩
  | .hbm, ⟨29, _⟩ => ⟨S2x2x16384x1408, .f32⟩
  | .hbm, ⟨30, _⟩ => ⟨S2x2x16384x1408, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩

abbrev nD : Nat := 1
abbrev τ : Topo := Topo.v7x

variable {F : FTy → Type} [FloatOps F]
-- ==== Norm.lean ====
abbrev S16384x5632 : Shape := ⟨2, ![16384, 5632]⟩
abbrev S4x1024x5632 : Shape := ⟨3, ![4, 1024, 5632]⟩
abbrev S16384x1024 : Shape := ⟨2, ![16384, 1024]⟩
abbrev S1024 : Shape := ⟨1, ![1024]⟩
abbrev S16384x4x1408 : Shape := ⟨3, ![16384, 4, 1408]⟩
abbrev S4x16384x1408 : Shape := ⟨3, ![4, 16384, 1408]⟩
abbrev S4x1024x4x1408 : Shape := ⟨4, ![4, 1024, 4, 1408]⟩
abbrev S4x4x1024x1408 : Shape := ⟨4, ![4, 4, 1024, 1408]⟩
abbrev S1x1024 : Shape := ⟨2, ![1, 1024]⟩
abbrev S8x1024 : Shape := ⟨2, ![8, 1024]⟩
abbrev S4x256x1408 : Shape := ⟨3, ![4, 256, 1408]⟩
abbrev S4x1x1024x1408 : Shape := ⟨4, ![4, 1, 1024, 1408]⟩
abbrev S256x1024 : Shape := ⟨2, ![256, 1024]⟩
abbrev S1x256x1408 : Shape := ⟨3, ![1, 256, 1408]⟩
abbrev S256x1408 : Shape := ⟨2, ![256, 1408]⟩
abbrev S1x1x1024x1408 : Shape := ⟨4, ![1, 1, 1024, 1408]⟩
abbrev S1024x1408 : Shape := ⟨2, ![1024, 1408]⟩
abbrev S256 : Shape := ⟨1, ![256]⟩
abbrev S256x1 : Shape := ⟨2, ![256, 1]⟩

abbrev nBuf : Space → Nat
  | .hbm => 14
  | .vmem => 11
  | .smem => 0
  | _ => 0

abbrev bufTy : (tb : Table) → Fin (tcTables nBuf tb) → BufTy
  | .hbm, ⟨0, _⟩ => ⟨S16384x5632, .f32⟩
  | .hbm, ⟨1, _⟩ => ⟨S4x1024x5632, .f32⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S16384x5632, .bf16⟩
  | .hbm, ⟨6, _⟩ => ⟨S16384x4x1408, .bf16⟩
  | .hbm, ⟨7, _⟩ => ⟨S4x16384x1408, .bf16⟩
  | .hbm, ⟨8, _⟩ => ⟨S4x1024x5632, .bf16⟩
  | .hbm, ⟨9, _⟩ => ⟨S4x1024x4x1408, .bf16⟩
  | .hbm, ⟨10, _⟩ => ⟨S4x4x1024x1408, .bf16⟩
  | .hbm, ⟨11, _⟩ => ⟨S1x1024, .f32⟩
  | .hbm, ⟨12, _⟩ => ⟨S16384x1024, .f32⟩
  | .hbm, ⟨13, _⟩ => ⟨S8x1024, .f32⟩
  | .local _ .vmem, ⟨0, _⟩ => ⟨S4x256x1408, .bf16⟩
  | .local _ .vmem, ⟨1, _⟩ => ⟨S4x256x1408, .bf16⟩
  | .local _ .vmem, ⟨2, _⟩ => ⟨S4x1x1024x1408, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, c3_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRefIdeal.lean ====
abbrev S16384x5632 : Shape := ⟨2, ![16384, 5632]⟩
abbrev S4x1024x5632 : Shape := ⟨3, ![4, 1024, 5632]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x5632 : Shape := ⟨3, ![1, 1024, 5632]⟩
abbrev S1024x5632 : Shape := ⟨2, ![1024, 5632]⟩
abbrev S8x1024 : Shape := ⟨2, ![8, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S4x1024x5632, .f32⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S1x1024x5632, .f32⟩
  | .hbm, ⟨26, _⟩ => ⟨S1024x5632, .f32⟩
  | .hbm, ⟨27, _⟩ => ⟨S16384x5632, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S8x1024, .f32⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Win.lean ====
abbrev S16384x1024 : Shape := ⟨2, ![16384, 1024]⟩
abbrev S16384x5632 : Shape := ⟨2, ![16384, 5632]⟩
abbrev S16384x4x1408 : Shape := ⟨3, ![16384, 4, 1408]⟩
abbrev S4x16384x1408 : Shape := ⟨3, ![4, 16384, 1408]⟩
abbrev S4x1024x1408 : Shape := ⟨3, ![4, 1024, 1408]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 7
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x5632, .f32⟩
  | .hbm, ⟨2, _⟩ => ⟨S16384x5632, .bf16⟩
  | .hbm, ⟨3, _⟩ => ⟨S16384x4x1408, .bf16⟩
  | .hbm, ⟨4, _⟩ => ⟨S4x16384x1408, .bf16⟩
  | .hbm, ⟨5, _⟩ => ⟨S16384x1024, .bf16⟩
  | .hbm, ⟨6, _⟩ => ⟨S4x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .f32⟩
  | .local _ .vmem, ⟨5, _⟩ => ⟨S1x1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WinRefIdeal.lean ====
abbrev S16384x1024 : Shape := ⟨2, ![16384, 1024]⟩
abbrev S16384x5632 : Shape := ⟨2, ![16384, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x5632, .f32⟩
  | .hbm, ⟨2, _⟩ => ⟨S_, .f32⟩
  | .hbm, ⟨3, _⟩ => ⟨S1024x5632, .f32⟩
  | .hbm, ⟨4, _⟩ => ⟨S16384x5632, .f32⟩
  | .hbm, ⟨5, _⟩ => ⟨S5632x1024, .f32⟩
  | .hbm, ⟨6, _⟩ => ⟨S1024x5632, .f32⟩
  | .hbm, ⟨7, _⟩ => ⟨S1024x4x1408, .f32⟩
  | .hbm, ⟨8, _⟩ => ⟨S4x1024x1408, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Wout.lean ====
abbrev S16384x2816 : Shape := ⟨2, ![16384, 2816]⟩
abbrev S16384x1024 : Shape := ⟨2, ![16384, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S16384x2816, .bf16⟩
  | .hbm, ⟨3, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WoutRefIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S_, .f32⟩
  | .hbm, ⟨3, _⟩ => ⟨S2816x1024, .f32⟩
  | .hbm, ⟨4, _⟩ => ⟨S16384x1024, .f32⟩
  | .hbm, ⟨5, _⟩ => ⟨S1024x2816, .f32⟩
  | .hbm, ⟨6, _⟩ => ⟨S2816x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Fin.lean ====
abbrev S16384x1024 : Shape := ⟨2, ![16384, 1024]⟩
abbrev S1024 : Shape := ⟨1, ![1024]⟩
abbrev S4x1024x5632 : Shape := ⟨3, ![4, 1024, 5632]⟩
abbrev S4x1024x2x2x1408 : Shape := ⟨5, ![4, 1024, 2, 2, 1408]⟩
abbrev S2x2x4x1024x1408 : Shape := ⟨5, ![2, 2, 4, 1024, 1408]⟩
abbrev S1x1024 : Shape := ⟨2, ![1, 1024]⟩
abbrev S2x2x16384x1408 : Shape := ⟨4, ![2, 2, 16384, 1408]⟩
abbrev S16384x2816 : Shape := ⟨2, ![16384, 2816]⟩
abbrev S256x1024 : Shape := ⟨2, ![256, 1024]⟩
abbrev S2x2x1x1024x1408 : Shape := ⟨5, ![2, 2, 1, 1024, 1408]⟩
abbrev S2x2x256x1408 : Shape := ⟨4, ![2, 2, 256, 1408]⟩
abbrev S256x2816 : Shape := ⟨2, ![256, 2816]⟩
abbrev S256 : Shape := ⟨1, ![256]⟩
abbrev S256x1 : Shape := ⟨2, ![256, 1]⟩
abbrev S1x1x1x1024x1408 : Shape := ⟨5, ![1, 1, 1, 1024, 1408]⟩
abbrev S1024x1408 : Shape := ⟨2, ![1024, 1408]⟩
abbrev S256x1408 : Shape := ⟨2, ![256, 1408]⟩
abbrev S1x1x256x1408 : Shape := ⟨4, ![1, 1, 256, 1408]⟩

abbrev nBuf : Space → Nat
  | .hbm => 10
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1024x5632, .f32⟩
  | .hbm, ⟨3, _⟩ => ⟨S4x1024x5632, .bf16⟩
  | .hbm, ⟨4, _⟩ => ⟨S4x1024x2x2x1408, .bf16⟩
  | .hbm, ⟨5, _⟩ => ⟨S2x2x4x1024x1408, .bf16⟩
  | .hbm, ⟨6, _⟩ => ⟨S1x1024, .f32⟩
  | .hbm, ⟨7, _⟩ => ⟨S16384x1024, .bf16⟩
  | .hbm, ⟨8, _⟩ => ⟨S2x2x16384x1408, .bf16⟩
  | .hbm, ⟨9, _⟩ => ⟨S16384x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2x2x1x1024x1408, .bf16⟩
  | .local _ .vmem, ⟨4, _⟩ => ⟨S256x1024, .bf16⟩
  | .local _ .vmem, ⟨5, _⟩ => ⟨S256x1024, .bf16⟩
  | .local _ .vmem, ⟨6, _⟩ => ⟨S2x2x256x1408, .bf16⟩
  | .local _ .vmem, ⟨7, _⟩ => ⟨S2x2x256x1408, .bf16⟩
  | .local _ .vmem, ⟨8, _⟩ => ⟨S256x2816, .bf16⟩
  | .local _ .vmem, ⟨9, _⟩ => ⟨S256x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let c0_i32 : BitVec 32 := 0#32
  let c0_i32_0 : BitVec 32 := 0#32
  let c3_i32 : BitVec 32 := 3#32
  let c0_i32_1 : BitVec 32 := 0#32
  let c0_i32_2 : BitVec 32 := 0#32
  let c0_i32_3 : BitVec 32 := 0#32
  ![c0_i32.toNat, c0_i32_0.toNat, c3_i32.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x2x1x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x2x256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FinRefIdeal.lean ====
abbrev S16384x1024 : Shape := ⟨2, ![16384, 1024]⟩
abbrev S1024 : Shape := ⟨1, ![1024]⟩
abbrev S4x1024x5632 : Shape := ⟨3, ![4, 1024, 5632]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x5632 : Shape := ⟨3, ![1, 1024, 5632]⟩
abbrev S1024x5632 : Shape := ⟨2, ![1024, 5632]⟩
abbrev S16384x5632 : Shape := ⟨2, ![16384, 5632]⟩
abbrev S16384x2816 : Shape := ⟨2, ![16384, 2816]⟩
abbrev S16384x2x2x1408 : Shape := ⟨4, ![16384, 2, 2, 1408]⟩
abbrev S2x2x16384x1408 : Shape := ⟨4, ![2, 2, 16384, 1408]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1024x5632, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1x1024x5632, .f32⟩
  | .hbm, ⟨20, _⟩ => ⟨S1024x5632, .f32⟩
  | .hbm, ⟨21, _⟩ => ⟨S16384x5632, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .bf16⟩
  | .hbm, ⟨35, _⟩ => ⟨S16384x2x2x1408, .f32⟩
  | .hbm, ⟨36, _⟩ => ⟨S2x2x16384x1408, .f32⟩
  | .hbm, ⟨37, _⟩ => ⟨S2x2x16384x1408, .bf16⟩
  | .hbm, ⟨38, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Fout.lean ====
abbrev S16384x2816 : Shape := ⟨2, ![16384, 2816]⟩
abbrev S2816x1024 : Shape := ⟨2, ![2816, 1024]⟩
abbrev S16384x1024 : Shape := ⟨2, ![16384, 1024]⟩
abbrev S512x2816 : Shape := ⟨2, ![512, 2816]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S16384x2816, .bf16⟩
  | .hbm, ⟨4, _⟩ => ⟨S2816x1024, .bf16⟩
  | .hbm, ⟨5, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FoutRefIdeal.lean ====
abbrev S16384x2816 : Shape := ⟨2, ![16384, 2816]⟩
abbrev S2816x1024 : Shape := ⟨2, ![2816, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S16384x1024, .f32⟩
  | .hbm, ⟨4, _⟩ => ⟨S16384x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Sgin.lean ====
abbrev S16384x1024 : Shape := ⟨2, ![16384, 1024]⟩
abbrev S16384x4096 : Shape := ⟨2, ![16384, 4096]⟩
abbrev S1024x4096 : Shape := ⟨2, ![1024, 4096]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x4096, .f32⟩
  | .hbm, ⟨2, _⟩ => ⟨S16384x1024, .bf16⟩
  | .hbm, ⟨3, _⟩ => ⟨S16384x4096, .bf16⟩
  | .hbm, ⟨4, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SginIdeal.lean ====
abbrev S16384x1024 : Shape := ⟨2, ![16384, 1024]⟩
abbrev S16384x4096 : Shape := ⟨2, ![16384, 4096]⟩
abbrev S1024x4096 : Shape := ⟨2, ![1024, 4096]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x4096, .f32⟩
  | .hbm, ⟨2, _⟩ => ⟨S16384x1024, .bf16⟩
  | .hbm, ⟨3, _⟩ => ⟨S16384x4096, .bf16⟩
  | .hbm, ⟨4, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SginRefIdeal.lean ====
abbrev S16384x1024 : Shape := ⟨2, ![16384, 1024]⟩
abbrev S16384x4096 : Shape := ⟨2, ![16384, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x4096, .f32⟩
  | .hbm, ⟨2, _⟩ => ⟨S_, .f32⟩
  | .hbm, ⟨3, _⟩ => ⟨S1024x4096, .f32⟩
  | .hbm, ⟨4, _⟩ => ⟨S16384x4096, .f32⟩
  | .hbm, ⟨5, _⟩ => ⟨S4096x1024, .f32⟩
  | .hbm, ⟨6, _⟩ => ⟨S1024x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Sgout.lean ====
abbrev S16384x2048 : Shape := ⟨2, ![16384, 2048]⟩
abbrev S16384x1024 : Shape := ⟨2, ![16384, 1024]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x2048, .bf16⟩
  | .hbm, ⟨3, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SgoutIdeal.lean ====
abbrev S16384x2048 : Shape := ⟨2, ![16384, 2048]⟩
abbrev S16384x1024 : Shape := ⟨2, ![16384, 1024]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x2048, .bf16⟩
  | .hbm, ⟨3, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SgoutRefIdeal.lean ====
abbrev S16384x2048 : Shape := ⟨2, ![16384, 2048]⟩
abbrev S16384x1024 : Shape := ⟨2, ![16384, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S_, .f32⟩
  | .hbm, ⟨3, _⟩ => ⟨S2048x1024, .f32⟩
  | .hbm, ⟨4, _⟩ => ⟨S16384x1024, .f32⟩
  | .hbm, ⟨5, _⟩ => ⟨S1024x2048, .f32⟩
  | .hbm, ⟨6, _⟩ => ⟨S2048x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Atin.lean ====
abbrev S16384x1024 : Shape := ⟨2, ![16384, 1024]⟩
abbrev S16384x3200 : Shape := ⟨2, ![16384, 3200]⟩
abbrev S1024x3200 : Shape := ⟨2, ![1024, 3200]⟩
abbrev S1024x1024 : Shape := ⟨2, ![1024, 1024]⟩
abbrev S1024x640 : Shape := ⟨2, ![1024, 640]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x3200, .f32⟩
  | .hbm, ⟨2, _⟩ => ⟨S16384x1024, .bf16⟩
  | .hbm, ⟨3, _⟩ => ⟨S16384x3200, .bf16⟩
  | .hbm, ⟨4, _⟩ => ⟨S1024x3200, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .f32⟩
  | .local _ .vmem, ⟨5, _⟩ => ⟨S1024x640, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AtinRefIdeal.lean ====
abbrev S16384x1024 : Shape := ⟨2, ![16384, 1024]⟩
abbrev S16384x3200 : Shape := ⟨2, ![16384, 3200]⟩
abbrev S_ : Shape := ⟨0, ![]⟩
abbrev S1024x3200 : Shape := ⟨2, ![1024, 3200]⟩
abbrev S3200x1024 : Shape := ⟨2, ![3200, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x3200, .f32⟩
  | .hbm, ⟨2, _⟩ => ⟨S_, .f32⟩
  | .hbm, ⟨3, _⟩ => ⟨S1024x3200, .f32⟩
  | .hbm, ⟨4, _⟩ => ⟨S16384x3200, .f32⟩
  | .hbm, ⟨5, _⟩ => ⟨S3200x1024, .f32⟩
  | .hbm, ⟨6, _⟩ => ⟨S1024x3200, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Atout.lean ====
abbrev S16384x1024 : Shape := ⟨2, ![16384, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AtoutRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Sgd.lean ====
abbrev S16384x1024 : Shape := ⟨2, ![16384, 1024]⟩
abbrev S2048x1024 : Shape := ⟨2, ![2048, 1024]⟩
abbrev S16384x2048 : Shape := ⟨2, ![16384, 2048]⟩
abbrev S512x1024 : Shape := ⟨2, ![512, 1024]⟩
abbrev S512x2048 : Shape := ⟨2, ![512, 2048]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S2048x1024, .f32⟩
  | .hbm, ⟨2, _⟩ => ⟨S2048x1024, .bf16⟩
  | .hbm, ⟨3, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S2048x1024, .bf16⟩
  | .local _ .vmem, ⟨3, _⟩ => ⟨S512x2048, .f32⟩
  | .local _ .vmem, ⟨4, _⟩ => ⟨S512x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SgdRefIdeal.lean ====
abbrev S16384x1024 : Shape := ⟨2, ![16384, 1024]⟩
abbrev S2048x1024 : Shape := ⟨2, ![2048, 1024]⟩
abbrev S_ : Shape := ⟨0, ![]⟩
abbrev S16384x2048 : Shape := ⟨2, ![16384, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2048x1024, .f32⟩
  | .hbm, ⟨2, _⟩ => ⟨S_, .f32⟩
  | .hbm, ⟨3, _⟩ => ⟨S16384x2048, .f32⟩
  | .hbm, ⟨4, _⟩ => ⟨S16384x1024, .f32⟩
  | .hbm, ⟨5, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Atb.lean ====
abbrev S16384x3072 : Shape := ⟨2, ![16384, 3072]⟩
abbrev S16x16384 : Shape := ⟨2, ![16, 16384]⟩
abbrev S16384x1024 : Shape := ⟨2, ![16384, 1024]⟩
abbrev S16384x16x64 : Shape := ⟨3, ![16384, 16, 64]⟩
abbrev S16x16384x64 : Shape := ⟨3, ![16, 16384, 64]⟩
abbrev S16x16384x16384 : Shape := ⟨3, ![16, 16384, 16384]⟩
abbrev S_ : Shape := ⟨0, ![]⟩
abbrev S16x16384x1 : Shape := ⟨3, ![16, 16384, 1]⟩
abbrev S16x1x16384 : Shape := ⟨3, ![16, 1, 16384]⟩
abbrev S16384 : Shape := ⟨1, ![16384]⟩
abbrev S1x1x16384 : Shape := ⟨3, ![1, 1, 16384]⟩
abbrev S1x16384x1 : Shape := ⟨3, ![1, 16384, 1]⟩
abbrev S1x16384x16384 : Shape := ⟨3, ![1, 16384, 16384]⟩
abbrev S16x64x256 : Shape := ⟨3, ![16, 64, 256]⟩
abbrev S16x64x1 : Shape := ⟨3, ![16, 64, 1]⟩
abbrev S16x64 : Shape := ⟨2, ![16, 64]⟩
abbrev S8x2x16384 : Shape := ⟨3, ![8, 2, 16384]⟩
abbrev S8x16384x2 : Shape := ⟨3, ![8, 16384, 2]⟩
abbrev S8x16384x128 : Shape := ⟨3, ![8, 16384, 128]⟩
abbrev S8x8x16384 : Shape := ⟨3, ![8, 8, 16384]⟩
abbrev S16384x128 : Shape := ⟨2, ![16384, 128]⟩
abbrev S256x128 : Shape := ⟨2, ![256, 128]⟩
abbrev S1x8x16384 : Shape := ⟨3, ![1, 8, 16384]⟩
abbrev S1x256x128 : Shape := ⟨3, ![1, 256, 128]⟩
abbrev S4x256x1024 : Shape := ⟨3, ![4, 256, 1024]⟩
abbrev S1x128 : Shape := ⟨2, ![1, 128]⟩
abbrev S1x1 : Shape := ⟨2, ![1, 1]⟩
abbrev S256x1 : Shape := ⟨2, ![256, 1]⟩
abbrev S1024x128 : Shape := ⟨2, ![1024, 128]⟩
abbrev S256x1024 : Shape := ⟨2, ![256, 1024]⟩
abbrev S1x256x1024 : Shape := ⟨3, ![1, 256, 1024]⟩
abbrev S512x128 : Shape := ⟨2, ![512, 128]⟩
abbrev S1x8x512 : Shape := ⟨3, ![1, 8, 512]⟩
abbrev S8x512 : Shape := ⟨2, ![8, 512]⟩
abbrev S1x512 : Shape := ⟨2, ![1, 512]⟩
abbrev S256x512 : Shape := ⟨2, ![256, 512]⟩
abbrev S1x8x1024 : Shape := ⟨3, ![1, 8, 1024]⟩
abbrev S8x1024 : Shape := ⟨2, ![8, 1024]⟩
abbrev S1x1024 : Shape := ⟨2, ![1, 1024]⟩
abbrev S128x256 : Shape := ⟨2, ![128, 256]⟩
abbrev S8x256 : Shape := ⟨2, ![8, 256]⟩
abbrev S1x8x256 : Shape := ⟨3, ![1, 8, 256]⟩

abbrev nBuf : Space → Nat
  | .hbm => 87
  | .vmem => 29
  | .smem => 0
  | _ => 0

abbrev bufTy : (tb : Table) → Fin (tcTables nBuf tb) → BufTy
  | .hbm, ⟨0, _⟩ => ⟨S16384x3072, .f32⟩
  | .hbm, ⟨1, _⟩ => ⟨S16x16384, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x16x64, .f32⟩
  | .hbm, ⟨7, _⟩ => ⟨S16x16384x64, .f32⟩
  | .hbm, ⟨8, _⟩ => ⟨S16384x16x64, .f32⟩
  | .hbm, ⟨9, _⟩ => ⟨S16x16384x64, .f32⟩
  | .hbm, ⟨10, _⟩ => ⟨S16384x16x64, .f32⟩
  | .hbm, ⟨11, _⟩ => ⟨S16x16384x64, .f32⟩
  | .hbm, ⟨12, _⟩ => ⟨S16x16384x16384, .f32⟩
  | .hbm, ⟨13, _⟩ => ⟨S_, .f32⟩
  | .hbm, ⟨14, _⟩ => ⟨S16x16384x16384, .f32⟩
  | .hbm, ⟨15, _⟩ => ⟨S16x16384x16384, .f32⟩
  | .hbm, ⟨16, _⟩ => ⟨S16x16384x1, .f32⟩
  | .hbm, ⟨17, _⟩ => ⟨S16x16384x16384, .f32⟩
  | .hbm, ⟨18, _⟩ => ⟨S16x16384x16384, .f32⟩
  | .hbm, ⟨19, _⟩ => ⟨S16x1x16384, .f32⟩
  | .hbm, ⟨20, _⟩ => ⟨S16x16384x16384, .f32⟩
  | .hbm, ⟨21, _⟩ => ⟨S16x16384x16384, .f32⟩
  | .hbm, ⟨22, _⟩ => ⟨S16384, .i32⟩
  | .hbm, ⟨23, _⟩ => ⟨S1x1x16384, .i32⟩
  | .hbm, ⟨24, _⟩ => ⟨S1x16384x1, .i32⟩
  | .hbm, ⟨25, _⟩ => ⟨S1x16384x16384, .i32⟩
  | .hbm, ⟨26, _⟩ => ⟨S1x16384x16384, .i32⟩
  | .hbm, ⟨27, _⟩ => ⟨S1x16384x16384, .i1⟩
  | .hbm, ⟨28, _⟩ => ⟨S_, .f32⟩
  | .hbm, ⟨29, _⟩ => ⟨S_, .f32⟩
  | .hbm, ⟨30, _⟩ => ⟨S16x16384x16384, .i1⟩
  | .hbm, ⟨31, _⟩ => ⟨S16x16384x16384, .f32⟩
  | .hbm, ⟨32, _⟩ => ⟨S16x16384x16384, .f32⟩
  | .hbm, ⟨33, _⟩ => ⟨S_, .f32⟩
  | .hbm, ⟨34, _⟩ => ⟨S16x16384, .f32⟩
  | .hbm, ⟨35, _⟩ => ⟨S16x16384x1, .f32⟩
  | .hbm, ⟨36, _⟩ => ⟨S16x16384x16384, .f32⟩
  | .hbm, ⟨37, _⟩ => ⟨S16x16384x16384, .f32⟩
  | .hbm, ⟨38, _⟩ => ⟨S16x16384x16384, .f32⟩
  | .hbm, ⟨39, _⟩ => ⟨S_, .f32⟩
  | .hbm, ⟨40, _⟩ => ⟨S16x16384, .f32⟩
  | .hbm, ⟨41, _⟩ => ⟨S16x16384x1, .f32⟩
  | .hbm, ⟨42, _⟩ => ⟨S16x16384x16384, .f32⟩
  | .hbm, ⟨43, _⟩ => ⟨S16x16384x16384, .f32⟩
  | .hbm, ⟨44, _⟩ => ⟨S16x16384x64, .f32⟩
  | .hbm, ⟨45, _⟩ => ⟨S16x64x256, .f32⟩
  | .hbm, ⟨46, _⟩ => ⟨S16x64x1, .f32⟩
  | .hbm, ⟨47, _⟩ => ⟨S16x64, .f32⟩
  | .hbm, ⟨48, _⟩ => ⟨S16x64x256, .f32⟩
  | .hbm, ⟨49, _⟩ => ⟨S16x16384, .f32⟩
  | .hbm, ⟨50, _⟩ => ⟨S16x16384, .f32⟩
  | .hbm, ⟨51, _⟩ => ⟨S16x16384, .f32⟩
  | .hbm, ⟨52, _⟩ => ⟨S16x16384, .f32⟩
  | .hbm, ⟨53, _⟩ => ⟨S16x16384, .f32⟩
  | .hbm, ⟨54, _⟩ => ⟨S_, .f32⟩
  | .hbm, ⟨55, _⟩ => ⟨S_, .f32⟩
  | .hbm, ⟨56, _⟩ => ⟨S16x16384, .f32⟩
  | .hbm, ⟨57, _⟩ => ⟨S16x16384, .f32⟩
  | .hbm, ⟨58, _⟩ => ⟨S16384x16x64, .f32⟩
  | .hbm, ⟨59, _⟩ => ⟨S16x16384x64, .f32⟩
  | .hbm, ⟨60, _⟩ => ⟨S16x16384x64, .f32⟩
  | .hbm, ⟨61, _⟩ => ⟨S_, .f32⟩
  | .hbm, ⟨62, _⟩ => ⟨S16x16384, .f32⟩
  | .hbm, ⟨63, _⟩ => ⟨S8x2x16384, .f32⟩
  | .hbm, ⟨64, _⟩ => ⟨S8x16384x2, .f32⟩
  | .hbm, ⟨65, _⟩ => ⟨S_, .i32⟩
  | .hbm, ⟨66, _⟩ => ⟨S_, .f32⟩
  | .hbm, ⟨67, _⟩ => ⟨S8x16384x128, .f32⟩
  | .hbm, ⟨68, _⟩ => ⟨S16384x3072, .bf16⟩
  | .hbm, ⟨69, _⟩ => ⟨S16384x1024, .bf16⟩
  | .hbm, ⟨70, _⟩ => ⟨S8x2x16384, .f32⟩
  | .hbm, ⟨71, _⟩ => ⟨S_, .i32⟩
  | .hbm, ⟨72, _⟩ => ⟨S_, .f32⟩
  | .hbm, ⟨73, _⟩ => ⟨S8x8x16384, .f32⟩
  | .hbm, ⟨74, _⟩ => ⟨S8x2x16384, .f32⟩
  | .hbm, ⟨75, _⟩ => ⟨S_, .i32⟩
  | .hbm, ⟨76, _⟩ => ⟨S_, .f32⟩
  | .hbm, ⟨77, _⟩ => ⟨S8x8x16384, .f32⟩
  | .hbm, ⟨78, _⟩ => ⟨S8x2x16384, .f32⟩
  | .hbm, ⟨79, _⟩ => ⟨S_, .i32⟩
  | .hbm, ⟨80, _⟩ => ⟨S_, .f32⟩
  | .hbm, ⟨81, _⟩ => ⟨S8x8x16384, .f32⟩
  | .hbm, ⟨82, _⟩ => ⟨S16384x1024, .bf16⟩
  | .hbm, ⟨83, _⟩ => ⟨S16384x1024, .bf16⟩
  | .hbm, ⟨84, _⟩ => ⟨S16384x1024, .bf16⟩
  | .hbm, ⟨85, _⟩ => ⟨S8x16384x128, .f32⟩
  | .hbm, ⟨86, _⟩ => ⟨S8x8x16384, .f32⟩
  | .local _ .vmem, ⟨0, _⟩ => ⟨S16384x128, .bf16⟩
  | .local _ .vmem, ⟨1, _⟩ => ⟨S16384x128, .bf16⟩
  | .local _ .vmem, ⟨2, _⟩ => ⟨S16384x128, .bf16⟩
  | .local _ .vmem, ⟨3, _⟩ => ⟨S16384x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | .local _ .vmem, ⟨8, _⟩ => ⟨S1x8x16384, .f32⟩
  | .local _ .vmem, ⟨9, _⟩ => ⟨S1x8x16384, .f32⟩
  | .local _ .vmem, ⟨10, _⟩ => ⟨S1x8x16384, .f32⟩
  | .local _ .vmem, ⟨11, _⟩ => ⟨S1x8x16384, .f32⟩
  | .local _ .vmem, ⟨12, _⟩ => ⟨S1x8x16384, .f32⟩
  | .local _ .vmem, ⟨13, _⟩ => ⟨S1x8x16384, .f32⟩
  | .local _ .vmem, ⟨14, _⟩ => ⟨S1x256x128, .f32⟩
  | .local _ .vmem, ⟨15, _⟩ => ⟨S1x256x128, .f32⟩
  | .local _ .vmem, ⟨16, _⟩ => ⟨S16384x128, .bf16⟩
  | .local _ .vmem, ⟨17, _⟩ => ⟨S16384x128, .bf16⟩
  | .local _ .vmem, ⟨18, _⟩ => ⟨S256x128, .bf16⟩
  | .local _ .vmem, ⟨19, _⟩ => ⟨S256x128, .bf16⟩
  | .local _ .vmem, ⟨20, _⟩ => ⟨S256x128, .bf16⟩
  | .local _ .vmem, ⟨21, _⟩ => ⟨S256x128, .bf16⟩
  | .local _ .vmem, ⟨22, _⟩ => ⟨S1x256x128, .f32⟩
  | .local _ .vmem, ⟨23, _⟩ => ⟨S1x256x128, .f32⟩
  | .local _ .vmem, ⟨24, _⟩ => ⟨S1x8x16384, .f32⟩
  | .local _ .vmem, ⟨25, _⟩ => ⟨S1x8x16384, .f32⟩
  | .local _ .vmem, ⟨26, _⟩ => ⟨S16384x128, .f32⟩
  | .local _ .vmem, ⟨27, _⟩ => ⟨S16384x128, .f32⟩
  | .local _ .vmem, ⟨28, _⟩ => ⟨S4x256x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_3 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_4 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_c : Ref sig .tc := ⟨.hbm, 65, rfl⟩
abbrev main_call1_v0 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_c_5 : Ref sig .tc := ⟨.hbm, 71, rfl⟩
abbrev main_call2_v0 : Ref sig .tc := ⟨.hbm, 72, rfl⟩
abbrev main_v57 : Ref sig .tc := ⟨.hbm, 73, rfl⟩
abbrev main_v58 : Ref sig .tc := ⟨.hbm, 74, rfl⟩
abbrev main_c_6 : Ref sig .tc := ⟨.hbm, 75, rfl⟩
abbrev main_call3_v0 : Ref sig .tc := ⟨.hbm, 76, rfl⟩
abbrev main_v59 : Ref sig .tc := ⟨.hbm, 77, rfl⟩
abbrev main_v60 : Ref sig .tc := ⟨.hbm, 78, rfl⟩
abbrev main_c_7 : Ref sig .tc := ⟨.hbm, 79, rfl⟩
abbrev main_call4_v0 : Ref sig .tc := ⟨.hbm, 80, rfl⟩
abbrev main_v61 : Ref sig .tc := ⟨.hbm, 81, rfl⟩
abbrev main_v62_0 : Ref sig .tc := ⟨.hbm, 82, rfl⟩
abbrev main_v62_1 : Ref sig .tc := ⟨.hbm, 83, rfl⟩
abbrev main_v62_2 : Ref sig .tc := ⟨.hbm, 84, rfl⟩
abbrev main_v62_3 : Ref sig .tc := ⟨.hbm, 85, rfl⟩
abbrev main_v62_4 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 64], ![false, false]⟩

def k0_mult1 (i : grid0.Coords) : BitVec 32 :=
  let arg1 : BitVec 32 := BitVec.ofNat 32 (i 1).val
  let c256_i32 : BitVec 32 := 256#32
  let v46 : BitVec 32 := Scalar.muli arg1 c256_i32
  let c0_i32_11 : BitVec 32 := 0#32
  let v48 : BitVec 1 := Scalar.cmpi .sgt v46 c0_i32_11
  let v49 : BitVec 32 := Scalar.extui v48
  let c0_i32_12 : BitVec 32 := 0#32
  let v50 : BitVec 1 := Scalar.cmpi .slt v46 c0_i32_12
  let v51 : BitVec 32 := Scalar.extui v50
  let v52 : BitVec 32 := Scalar.subi v49 v51
  let c1024_i32 : BitVec 32 := 1024#32
  let c0_i32_13 : BitVec 32 := 0#32
  let v53 : BitVec 1 := Scalar.cmpi .sgt c1024_i32 c0_i32_13
  let v54 : BitVec 32 := Scalar.extui v53
  let c0_i32_14 : BitVec 32 := 0#32
  let v55 : BitVec 1 := Scalar.cmpi .slt c1024_i32 c0_i32_14
  let v56 : BitVec 32 := Scalar.extui v55
  let v57 : BitVec 32 := Scalar.subi v54 v56
  let v58 : BitVec 1 := Scalar.cmpi .ne v52 v57
  let v59 : BitVec 32 := Scalar.remsi v46 c1024_i32
  let c0_i32_15 : BitVec 32 := 0#32
  let v60 : BitVec 1 := Scalar.cmpi .ne v59 c0_i32_15
  let v61 : BitVec 1 := Scalar.andi v58 v60
  let v47 : BitVec 32 := Scalar.divsi v46 c1024_i32
  let c1_i32 : BitVec 32 := 1#32
  let v62 : BitVec 32 := Scalar.subi v47 c1_i32
  let v63 : BitVec 32 := Scalar.select v61 v62 v47
  let c1_i32_16 : BitVec 32 := 1#32
  let v64 : BitVec 32 := Scalar.addi v63 c1_i32_16
  let c15_i32 : BitVec 32 := 15#32
  let v69 : BitVec 32 := Scalar.minsi v64 c15_i32
  let c1024_i32_21 : BitVec 32 := 1024#32
  let v70 : BitVec 32 := Scalar.muli v69 c1024_i32_21
  v70
def k0_off1 (i : grid0.Coords) : Fin 2 → Nat :=
  let arg1 : BitVec 32 := BitVec.ofNat 32 (i 1).val
  let c256_i32 : BitVec 32 := 256#32
  let v46 : BitVec 32 := Scalar.muli arg1 c256_i32
  let c0_i32_11 : BitVec 32 := 0#32
  let v48 : BitVec 1 := Scalar.cmpi .sgt v46 c0_i32_11
  let v49 : BitVec 32 := Scalar.extui v48
  let c0_i32_12 : BitVec 32 := 0#32
  let v50 : BitVec 1 := Scalar.cmpi .slt v46 c0_i32_12
  let v51 : BitVec 32 := Scalar.extui v50
  let v52 : BitVec 32 := Scalar.subi v49 v51
  let c1024_i32 : BitVec 32 := 1024#32
  let c0_i32_13 : BitVec 32 := 0#32
  let v53 : BitVec 1 := Scalar.cmpi .sgt c1024_i32 c0_i32_13
  let v54 : BitVec 32 := Scalar.extui v53
  let c0_i32_14 : BitVec 32 := 0#32
  let v55 : BitVec 1 := Scalar.cmpi .slt c1024_i32 c0_i32_14
  let v56 : BitVec 32 := Scalar.extui v55
  let v57 : BitVec 32 := Scalar.subi v54 v56
  let v58 : BitVec 1 := Scalar.cmpi .ne v52 v57
  let v59 : BitVec 32 := Scalar.remsi v46 c1024_i32
  let c0_i32_15 : BitVec 32 := 0#32
  let v60 : BitVec 1 := Scalar.cmpi .ne v59 c0_i32_15
  let v61 : BitVec 1 := Scalar.andi v58 v60
  let v47 : BitVec 32 := Scalar.divsi v46 c1024_i32
  let c1_i32 : BitVec 32 := 1#32
  let v62 : BitVec 32 := Scalar.subi v47 c1_i32
  let v63 : BitVec 32 := Scalar.select v61 v62 v47
  let c1_i32_16 : BitVec 32 := 1#32
  let v64 : BitVec 32 := Scalar.addi v63 c1_i32_16
  let c15_i32 : BitVec 32 := 15#32
  let v69 : BitVec 32 := Scalar.minsi v64 c15_i32
  let c1024_i32_21 : BitVec 32 := 1024#32
  let v70 : BitVec 32 := Scalar.muli v69 c1024_i32_21
  let v71 : BitVec 32 := v70
  let v72 : Index := Scalar.indexCast v71
  let c0_22 : Index := 0#32
  ![v72.toNat, 0]
def k0_mult2 (i : grid0.Coords) : BitVec 32 :=
  let arg1 : BitVec 32 := BitVec.ofNat 32 (i 1).val
  let c256_i32 : BitVec 32 := 256#32
  let v46 : BitVec 32 := Scalar.muli arg1 c256_i32
  let c0_i32_31 : BitVec 32 := 0#32
  let v88 : BitVec 1 := Scalar.cmpi .sgt v46 c0_i32_31
  let v89 : BitVec 32 := Scalar.extui v88
  let c0_i32_32 : BitVec 32 := 0#32
  let v90 : BitVec 1 := Scalar.cmpi .slt v46 c0_i32_32
  let v91 : BitVec 32 := Scalar.extui v90
  let v92 : BitVec 32 := Scalar.subi v89 v91
  let c512_i32 : BitVec 32 := 512#32
  let c0_i32_33 : BitVec 32 := 0#32
  let v93 : BitVec 1 := Scalar.cmpi .sgt c512_i32 c0_i32_33
  let v94 : BitVec 32 := Scalar.extui v93
  let c0_i32_34 : BitVec 32 := 0#32
  let v95 : BitVec 1 := Scalar.cmpi .slt c512_i32 c0_i32_34
  let v96 : BitVec 32 := Scalar.extui v95
  let v97 : BitVec 32 := Scalar.subi v94 v96
  let v98 : BitVec 1 := Scalar.cmpi .ne v92 v97
  let v99 : BitVec 32 := Scalar.remsi v46 c512_i32
  let c0_i32_35 : BitVec 32 := 0#32
  let v100 : BitVec 1 := Scalar.cmpi .ne v99 c0_i32_35
  let v101 : BitVec 1 := Scalar.andi v98 v100
  let v87 : BitVec 32 := Scalar.divsi v46 c512_i32
  let c1_i32_36 : BitVec 32 := 1#32
  let v102 : BitVec 32 := Scalar.subi v87 c1_i32_36
  let v103 : BitVec 32 := Scalar.select v101 v102 v87
  let c512_i32_37 : BitVec 32 := 512#32
  let v104 : BitVec 32 := Scalar.muli v103 c512_i32_37
  v104
def k0_off2 (i : grid0.Coords) : Fin 2 → Nat :=
  let arg1 : BitVec 32 := BitVec.ofNat 32 (i 1).val
  let c256_i32 : BitVec 32 := 256#32
  let v46 : BitVec 32 := Scalar.muli arg1 c256_i32
  let c0_i32_31 : BitVec 32 := 0#32
  let v88 : BitVec 1 := Scalar.cmpi .sgt v46 c0_i32_31
  let v89 : BitVec 32 := Scalar.extui v88
  let c0_i32_32 : BitVec 32 := 0#32
  let v90 : BitVec 1 := Scalar.cmpi .slt v46 c0_i32_32
  let v91 : BitVec 32 := Scalar.extui v90
  let v92 : BitVec 32 := Scalar.subi v89 v91
  let c512_i32 : BitVec 32 := 512#32
  let c0_i32_33 : BitVec 32 := 0#32
  let v93 : BitVec 1 := Scalar.cmpi .sgt c512_i32 c0_i32_33
  let v94 : BitVec 32 := Scalar.extui v93
  let c0_i32_34 : BitVec 32 := 0#32
  let v95 : BitVec 1 := Scalar.cmpi .slt c512_i32 c0_i32_34
  let v96 : BitVec 32 := Scalar.extui v95
  let v97 : BitVec 32 := Scalar.subi v94 v96
  let v98 : BitVec 1 := Scalar.cmpi .ne v92 v97
  let v99 : BitVec 32 := Scalar.remsi v46 c512_i32
  let c0_i32_35 : BitVec 32 := 0#32
  let v100 : BitVec 1 := Scalar.cmpi .ne v99 c0_i32_35
  let v101 : BitVec 1 := Scalar.andi v98 v100
  let v87 : BitVec 32 := Scalar.divsi v46 c512_i32
  let c1_i32_36 : BitVec 32 := 1#32
  let v102 : BitVec 32 := Scalar.subi v87 c1_i32_36
  let v103 : BitVec 32 := Scalar.select v101 v102 v87
  let c512_i32_37 : BitVec 32 := 512#32
  let v104 : BitVec 32 := Scalar.muli v103 c512_i32_37
  let v105 : BitVec 32 := v104
  let v107 : Index := Scalar.indexCast v105
  let c0_38 : Index := 0#32
  ![v107.toNat, 0]
def k0_off3 (i : grid0.Coords) : Fin 3 → Nat :=
  let c0_42 : Index := 0#32
  let c0_43 : Index := 0#32
  let arg1 : BitVec 32 := BitVec.ofNat 32 (i 1).val
  let c256_i32 : BitVec 32 := 256#32
  let v46 : BitVec 32 := Scalar.muli arg1 c256_i32
  let c0_i32_31 : BitVec 32 := 0#32
  let v88 : BitVec 1 := Scalar.cmpi .sgt v46 c0_i32_31
  let v89 : BitVec 32 := Scalar.extui v88
  let c0_i32_32 : BitVec 32 := 0#32
  let v90 : BitVec 1 := Scalar.cmpi .slt v46 c0_i32_32
  let v91 : BitVec 32 := Scalar.extui v90
  let v92 : BitVec 32 := Scalar.subi v89 v91
  let c512_i32 : BitVec 32 := 512#32
  let c0_i32_33 : BitVec 32 := 0#32
  let v93 : BitVec 1 := Scalar.cmpi .sgt c512_i32 c0_i32_33
  let v94 : BitVec 32 := Scalar.extui v93
  let c0_i32_34 : BitVec 32 := 0#32
  let v95 : BitVec 1 := Scalar.cmpi .slt c512_i32 c0_i32_34
  let v96 : BitVec 32 := Scalar.extui v95
  let v97 : BitVec 32 := Scalar.subi v94 v96
  let v98 : BitVec 1 := Scalar.cmpi .ne v92 v97
  let v99 : BitVec 32 := Scalar.remsi v46 c512_i32
  let c0_i32_35 : BitVec 32 := 0#32
  let v100 : BitVec 1 := Scalar.cmpi .ne v99 c0_i32_35
  let v101 : BitVec 1 := Scalar.andi v98 v100
  let v87 : BitVec 32 := Scalar.divsi v46 c512_i32
  let c1_i32_36 : BitVec 32 := 1#32
  let v102 : BitVec 32 := Scalar.subi v87 c1_i32_36
  let v103 : BitVec 32 := Scalar.select v101 v102 v87
  let c512_i32_37 : BitVec 32 := 512#32
  let v104 : BitVec 32 := Scalar.muli v103 c512_i32_37
  let v105 : BitVec 32 := v104
  let v118 : Index := Scalar.indexCast v105
  ![0, 0, v118.toNat]
def k0_cond2 (i : grid0.Coords) : BitVec 1 :=
  let arg1 : BitVec 32 := BitVec.ofNat 32 (i 1).val
  let c256_i32 : BitVec 32 := 256#32
  let v46 : BitVec 32 := Scalar.muli arg1 c256_i32
  let c0_i32_31 : BitVec 32 := 0#32
  let v88 : BitVec 1 := Scalar.cmpi .sgt v46 c0_i32_31
  let v89 : BitVec 32 := Scalar.extui v88
  let c0_i32_32 : BitVec 32 := 0#32
  let v90 : BitVec 1 := Scalar.cmpi .slt v46 c0_i32_32
  let v91 : BitVec 32 := Scalar.extui v90
  let v92 : BitVec 32 := Scalar.subi v89 v91
  let c512_i32 : BitVec 32 := 512#32
  let c0_i32_33 : BitVec 32 := 0#32
  let v93 : BitVec 1 := Scalar.cmpi .sgt c512_i32 c0_i32_33
  let v94 : BitVec 32 := Scalar.extui v93
  let c0_i32_34 : BitVec 32 := 0#32
  let v95 : BitVec 1 := Scalar.cmpi .slt c512_i32 c0_i32_34
  let v96 : BitVec 32 := Scalar.extui v95
  let v97 : BitVec 32 := Scalar.subi v94 v96
  let v98 : BitVec 1 := Scalar.cmpi .ne v92 v97
  let v99 : BitVec 32 := Scalar.remsi v46 c512_i32
  let c0_i32_35 : BitVec 32 := 0#32
  let v100 : BitVec 1 := Scalar.cmpi .ne v99 c0_i32_35
  let v101 : BitVec 1 := Scalar.andi v98 v100
  let v87 : BitVec 32 := Scalar.divsi v46 c512_i32
  let c1_i32_36 : BitVec 32 := 1#32
  let v102 : BitVec 32 := Scalar.subi v87 c1_i32_36
  let v103 : BitVec 32 := Scalar.select v101 v102 v87
  let c512_i32_37 : BitVec 32 := 512#32
  let v104 : BitVec 32 := Scalar.muli v103 c512_i32_37
  let v105 : BitVec 32 := v104
  let c512_i32_70 : BitVec 32 := 512#32
  let v225 : BitVec 32 := Scalar.addi v105 c512_i32_70
  let c0_i32_11 : BitVec 32 := 0#32
  let v48 : BitVec 1 := Scalar.cmpi .sgt v46 c0_i32_11
  let v49 : BitVec 32 := Scalar.extui v48
  let c0_i32_12 : BitVec 32 := 0#32
  let v50 : BitVec 1 := Scalar.cmpi .slt v46 c0_i32_12
  let v51 : BitVec 32 := Scalar.extui v50
  let v52 : BitVec 32 := Scalar.subi v49 v51
  let c1024_i32 : BitVec 32 := 1024#32
  let c0_i32_13 : BitVec 32 := 0#32
  let v53 : BitVec 1 := Scalar.cmpi .sgt c1024_i32 c0_i32_13
  let v54 : BitVec 32 := Scalar.extui v53
  let c0_i32_14 : BitVec 32 := 0#32
  let v55 : BitVec 1 := Scalar.cmpi .slt c1024_i32 c0_i32_14
  let v56 : BitVec 32 := Scalar.extui v55
  let v57 : BitVec 32 := Scalar.subi v54 v56
  let v58 : BitVec 1 := Scalar.cmpi .ne v52 v57
  let v59 : BitVec 32 := Scalar.remsi v46 c1024_i32
  let c0_i32_15 : BitVec 32 := 0#32
  let v60 : BitVec 1 := Scalar.cmpi .ne v59 c0_i32_15
  let v61 : BitVec 1 := Scalar.andi v58 v60
  let v47 : BitVec 32 := Scalar.divsi v46 c1024_i32
  let c1_i32 : BitVec 32 := 1#32
  let v62 : BitVec 32 := Scalar.subi v47 c1_i32
  let v63 : BitVec 32 := Scalar.select v61 v62 v47
  let c1_i32_16 : BitVec 32 := 1#32
  let v64 : BitVec 32 := Scalar.addi v63 c1_i32_16
  let c1024_i32_71 : BitVec 32 := 1024#32
  let v226 : BitVec 32 := Scalar.muli v64 c1024_i32_71
  let v227 : BitVec 1 := Scalar.cmpi .slt v225 v226
  let v228 : BitVec 32 := Scalar.extui v227
  let c0_i32_72 : BitVec 32 := 0#32
  let v229 : BitVec 1 := Scalar.cmpi .ne v228 c0_i32_72
  v229

def k0_mult3 (i : grid0.Coords) : BitVec 32 :=
  let arg1 : BitVec 32 := BitVec.ofNat 32 (i 1).val
  let c256_i32 : BitVec 32 := 256#32
  let v46 : BitVec 32 := Scalar.muli arg1 c256_i32
  let c0_i32_31 : BitVec 32 := 0#32
  let v88 : BitVec 1 := Scalar.cmpi .sgt v46 c0_i32_31
  let v89 : BitVec 32 := Scalar.extui v88
  let c0_i32_32 : BitVec 32 := 0#32
  let v90 : BitVec 1 := Scalar.cmpi .slt v46 c0_i32_32
  let v91 : BitVec 32 := Scalar.extui v90
  let v92 : BitVec 32 := Scalar.subi v89 v91
  let c512_i32 : BitVec 32 := 512#32
  let c0_i32_33 : BitVec 32 := 0#32
  let v93 : BitVec 1 := Scalar.cmpi .sgt c512_i32 c0_i32_33
  let v94 : BitVec 32 := Scalar.extui v93
  let c0_i32_34 : BitVec 32 := 0#32
  let v95 : BitVec 1 := Scalar.cmpi .slt c512_i32 c0_i32_34
  let v96 : BitVec 32 := Scalar.extui v95
  let v97 : BitVec 32 := Scalar.subi v94 v96
  let v98 : BitVec 1 := Scalar.cmpi .ne v92 v97
  let v99 : BitVec 32 := Scalar.remsi v46 c512_i32
  let c0_i32_35 : BitVec 32 := 0#32
  let v100 : BitVec 1 := Scalar.cmpi .ne v99 c0_i32_35
  let v101 : BitVec 1 := Scalar.andi v98 v100
  let v87 : BitVec 32 := Scalar.divsi v46 c512_i32
  let c1_i32_36 : BitVec 32 := 1#32
  let v102 : BitVec 32 := Scalar.subi v87 c1_i32_36
  let v103 : BitVec 32 := Scalar.select v101 v102 v87
  let c512_i32_37 : BitVec 32 := 512#32
  let v104 : BitVec 32 := Scalar.muli v103 c512_i32_37
  let v105 : BitVec 32 := v104
  let c512_i32_106 : BitVec 32 := 512#32
  let v311 : BitVec 32 := Scalar.addi v105 c512_i32_106
  v311
def k0_off4 (i : grid0.Coords) : Fin 2 → Nat :=
  let arg1 : BitVec 32 := BitVec.ofNat 32 (i 1).val
  let c256_i32 : BitVec 32 := 256#32
  let v46 : BitVec 32 := Scalar.muli arg1 c256_i32
  let c0_i32_31 : BitVec 32 := 0#32
  let v88 : BitVec 1 := Scalar.cmpi .sgt v46 c0_i32_31
  let v89 : BitVec 32 := Scalar.extui v88
  let c0_i32_32 : BitVec 32 := 0#32
  let v90 : BitVec 1 := Scalar.cmpi .slt v46 c0_i32_32
  let v91 : BitVec 32 := Scalar.extui v90
  let v92 : BitVec 32 := Scalar.subi v89 v91
  let c512_i32 : BitVec 32 := 512#32
  let c0_i32_33 : BitVec 32 := 0#32
  let v93 : BitVec 1 := Scalar.cmpi .sgt c512_i32 c0_i32_33
  let v94 : BitVec 32 := Scalar.extui v93
  let c0_i32_34 : BitVec 32 := 0#32
  let v95 : BitVec 1 := Scalar.cmpi .slt c512_i32 c0_i32_34
  let v96 : BitVec 32 := Scalar.extui v95
  let v97 : BitVec 32 := Scalar.subi v94 v96
  let v98 : BitVec 1 := Scalar.cmpi .ne v92 v97
  let v99 : BitVec 32 := Scalar.remsi v46 c512_i32
  let c0_i32_35 : BitVec 32 := 0#32
  let v100 : BitVec 1 := Scalar.cmpi .ne v99 c0_i32_35
  let v101 : BitVec 1 := Scalar.andi v98 v100
  let v87 : BitVec 32 := Scalar.divsi v46 c512_i32
  let c1_i32_36 : BitVec 32 := 1#32
  let v102 : BitVec 32 := Scalar.subi v87 c1_i32_36
  let v103 : BitVec 32 := Scalar.select v101 v102 v87
  let c512_i32_37 : BitVec 32 := 512#32
  let v104 : BitVec 32 := Scalar.muli v103 c512_i32_37
  let v105 : BitVec 32 := v104
  let c512_i32_106 : BitVec 32 := 512#32
  let v311 : BitVec 32 := Scalar.addi v105 c512_i32_106
  let v312 : BitVec 32 := v311
  let v313 : Index := Scalar.indexCast v312
  let c0_107 : Index := 0#32
  ![v313.toNat, 0]
def k0_off5 (i : grid0.Coords) : Fin 3 → Nat :=
  let c0_111 : Index := 0#32
  let c0_112 : Index := 0#32
  let arg1 : BitVec 32 := BitVec.ofNat 32 (i 1).val
  let c256_i32 : BitVec 32 := 256#32
  let v46 : BitVec 32 := Scalar.muli arg1 c256_i32
  let c0_i32_31 : BitVec 32 := 0#32
  let v88 : BitVec 1 := Scalar.cmpi .sgt v46 c0_i32_31
  let v89 : BitVec 32 := Scalar.extui v88
  let c0_i32_32 : BitVec 32 := 0#32
  let v90 : BitVec 1 := Scalar.cmpi .slt v46 c0_i32_32
  let v91 : BitVec 32 := Scalar.extui v90
  let v92 : BitVec 32 := Scalar.subi v89 v91
  let c512_i32 : BitVec 32 := 512#32
  let c0_i32_33 : BitVec 32 := 0#32
  let v93 : BitVec 1 := Scalar.cmpi .sgt c512_i32 c0_i32_33
  let v94 : BitVec 32 := Scalar.extui v93
  let c0_i32_34 : BitVec 32 := 0#32
  let v95 : BitVec 1 := Scalar.cmpi .slt c512_i32 c0_i32_34
  let v96 : BitVec 32 := Scalar.extui v95
  let v97 : BitVec 32 := Scalar.subi v94 v96
  let v98 : BitVec 1 := Scalar.cmpi .ne v92 v97
  let v99 : BitVec 32 := Scalar.remsi v46 c512_i32
  let c0_i32_35 : BitVec 32 := 0#32
  let v100 : BitVec 1 := Scalar.cmpi .ne v99 c0_i32_35
  let v101 : BitVec 1 := Scalar.andi v98 v100
  let v87 : BitVec 32 := Scalar.divsi v46 c512_i32
  let c1_i32_36 : BitVec 32 := 1#32
  let v102 : BitVec 32 := Scalar.subi v87 c1_i32_36
  let v103 : BitVec 32 := Scalar.select v101 v102 v87
  let c512_i32_37 : BitVec 32 := 512#32
  let v104 : BitVec 32 := Scalar.muli v103 c512_i32_37
  let v105 : BitVec 32 := v104
  let c512_i32_106 : BitVec 32 := 512#32
  let v311 : BitVec 32 := Scalar.addi v105 c512_i32_106
  let v312 : BitVec 32 := v311
  let v324 : Index := Scalar.indexCast v312
  ![0, 0, v324.toNat]
@[reducible] def k0_t1_loop (i : grid0.Coords) : Scf.Loop 32 :=
  let c0_i32_79 : BitVec 32 := 0#32
  let c16_i32 : BitVec 32 := 16#32
  let arg1 : BitVec 32 := BitVec.ofNat 32 (i 1).val
  let c256_i32 : BitVec 32 := 256#32
  let v46 : BitVec 32 := Scalar.muli arg1 c256_i32
  let c0_i32_11 : BitVec 32 := 0#32
  let v48 : BitVec 1 := Scalar.cmpi .sgt v46 c0_i32_11
  let v49 : BitVec 32 := Scalar.extui v48
  let c0_i32_12 : BitVec 32 := 0#32
  let v50 : BitVec 1 := Scalar.cmpi .slt v46 c0_i32_12
  let v51 : BitVec 32 := Scalar.extui v50
  let v52 : BitVec 32 := Scalar.subi v49 v51
  let c1024_i32 : BitVec 32 := 1024#32
  let c0_i32_13 : BitVec 32 := 0#32
  let v53 : BitVec 1 := Scalar.cmpi .sgt c1024_i32 c0_i32_13
  let v54 : BitVec 32 := Scalar.extui v53
  let c0_i32_14 : BitVec 32 := 0#32
  let v55 : BitVec 1 := Scalar.cmpi .slt c1024_i32 c0_i32_14
  let v56 : BitVec 32 := Scalar.extui v55
  let v57 : BitVec 32 := Scalar.subi v54 v56
  let v58 : BitVec 1 := Scalar.cmpi .ne v52 v57
  let v59 : BitVec 32 := Scalar.remsi v46 c1024_i32
  let c0_i32_15 : BitVec 32 := 0#32
  let v60 : BitVec 1 := Scalar.cmpi .ne v59 c0_i32_15
  let v61 : BitVec 1 := Scalar.andi v58 v60
  let v47 : BitVec 32 := Scalar.divsi v46 c1024_i32
  let c1_i32 : BitVec 32 := 1#32
  let v62 : BitVec 32 := Scalar.subi v47 c1_i32
  let v63 : BitVec 32 := Scalar.select v61 v62 v47
  let c1_i32_16 : BitVec 32 := 1#32
  let v64 : BitVec 32 := Scalar.addi v63 c1_i32_16
  let v231 : BitVec 32 := Scalar.subi c16_i32 v64
  let c0_i32_73 : BitVec 32 := 0#32
  let v233 : BitVec 1 := Scalar.cmpi .sgt v231 c0_i32_73
  let v234 : BitVec 32 := Scalar.extui v233
  let c0_i32_74 : BitVec 32 := 0#32
  let v235 : BitVec 1 := Scalar.cmpi .slt v231 c0_i32_74
  let v236 : BitVec 32 := Scalar.extui v235
  let v237 : BitVec 32 := Scalar.subi v234 v236
  let c2_i32 : BitVec 32 := 2#32
  let c0_i32_75 : BitVec 32 := 0#32
  let v238 : BitVec 1 := Scalar.cmpi .sgt c2_i32 c0_i32_75
  let v239 : BitVec 32 := Scalar.extui v238
  let c0_i32_76 : BitVec 32 := 0#32
  let v240 : BitVec 1 := Scalar.cmpi .slt c2_i32 c0_i32_76
  let v241 : BitVec 32 := Scalar.extui v240
  let v242 : BitVec 32 := Scalar.subi v239 v241
  let v243 : BitVec 1 := Scalar.cmpi .ne v237 v242
  let v244 : BitVec 32 := Scalar.remsi v231 c2_i32
  let c0_i32_77 : BitVec 32 := 0#32
  let v245 : BitVec 1 := Scalar.cmpi .ne v244 c0_i32_77
  let v246 : BitVec 1 := Scalar.andi v243 v245
  let v232 : BitVec 32 := Scalar.divsi v231 c2_i32
  let c1_i32_78 : BitVec 32 := 1#32
  let v247 : BitVec 32 := Scalar.subi v232 c1_i32_78
  let v248 : BitVec 32 := Scalar.select v246 v247 v232
  let v249 : BitVec 32 := Scalar.subi v248 c0_i32_79
  let c1_i32_80 : BitVec 32 := 1#32
  let v251 : BitVec 32 := Scalar.divsi v249 c1_i32_80
  let v252 : BitVec 32 := Scalar.muli v251 c1_i32_80
  let v253 : BitVec 32 := Scalar.addi c0_i32_79 v252
  let c1_i32_81 : BitVec 32 := 1#32
  ⟨c0_i32_79, v253, c1_i32_81⟩
def k0_mult4 (i : grid0.Coords) (k0_t1 : Fin (k0_t1_loop i).trips) : BitVec 32 :=
  let arg1 : BitVec 32 := BitVec.ofNat 32 (i 1).val
  let c256_i32 : BitVec 32 := 256#32
  let v46 : BitVec 32 := Scalar.muli arg1 c256_i32
  let c0_i32_11 : BitVec 32 := 0#32
  let v48 : BitVec 1 := Scalar.cmpi .sgt v46 c0_i32_11
  let v49 : BitVec 32 := Scalar.extui v48
  let c0_i32_12 : BitVec 32 := 0#32
  let v50 : BitVec 1 := Scalar.cmpi .slt v46 c0_i32_12
  let v51 : BitVec 32 := Scalar.extui v50
  let v52 : BitVec 32 := Scalar.subi v49 v51
  let c1024_i32 : BitVec 32 := 1024#32
  let c0_i32_13 : BitVec 32 := 0#32
  let v53 : BitVec 1 := Scalar.cmpi .sgt c1024_i32 c0_i32_13
  let v54 : BitVec 32 := Scalar.extui v53
  let c0_i32_14 : BitVec 32 := 0#32
  let v55 : BitVec 1 := Scalar.cmpi .slt c1024_i32 c0_i32_14
  let v56 : BitVec 32 := Scalar.extui v55
  let v57 : BitVec 32 := Scalar.subi v54 v56
  let v58 : BitVec 1 := Scalar.cmpi .ne v52 v57
  let v59 : BitVec 32 := Scalar.remsi v46 c1024_i32
  let c0_i32_15 : BitVec 32 := 0#32
  let v60 : BitVec 1 := Scalar.cmpi .ne v59 c0_i32_15
  let v61 : BitVec 1 := Scalar.andi v58 v60
  let v47 : BitVec 32 := Scalar.divsi v46 c1024_i32
  let c1_i32 : BitVec 32 := 1#32
  let v62 : BitVec 32 := Scalar.subi v47 c1_i32
  let v63 : BitVec 32 := Scalar.select v61 v62 v47
  let c1_i32_16 : BitVec 32 := 1#32
  let v64 : BitVec 32 := Scalar.addi v63 c1_i32_16
  let c2_i32_106 : BitVec 32 := 2#32
  let c0_i32_79 : BitVec 32 := 0#32
  let c1_i32_81 : BitVec 32 := 1#32
  let arg18 : BitVec 32 := Scf.iv c0_i32_79 c1_i32_81 k0_t1
  let v311 : BitVec 32 := Scalar.muli c2_i32_106 arg18
  let v312 : BitVec 32 := Scalar.addi v64 v311
  let c1_i32_107 : BitVec 32 := 1#32
  let v313 : BitVec 32 := Scalar.addi v312 c1_i32_107
  let c15_i32_108 : BitVec 32 := 15#32
  let v314 : BitVec 32 := Scalar.minsi v313 c15_i32_108
  let c1024_i32_109 : BitVec 32 := 1024#32
  let v315 : BitVec 32 := Scalar.muli v314 c1024_i32_109
  v315
def k0_off6 (i : grid0.Coords) (k0_t1 : Fin (k0_t1_loop i).trips) (c1_i32_107 : BitVec 32) : Fin 2 → Nat :=
  let arg1 : BitVec 32 := BitVec.ofNat 32 (i 1).val
  let c256_i32 : BitVec 32 := 256#32
  let v46 : BitVec 32 := Scalar.muli arg1 c256_i32
  let c0_i32_11 : BitVec 32 := 0#32
  let v48 : BitVec 1 := Scalar.cmpi .sgt v46 c0_i32_11
  let v49 : BitVec 32 := Scalar.extui v48
  let c0_i32_12 : BitVec 32 := 0#32
  let v50 : BitVec 1 := Scalar.cmpi .slt v46 c0_i32_12
  let v51 : BitVec 32 := Scalar.extui v50
  let v52 : BitVec 32 := Scalar.subi v49 v51
  let c1024_i32 : BitVec 32 := 1024#32
  let c0_i32_13 : BitVec 32 := 0#32
  let v53 : BitVec 1 := Scalar.cmpi .sgt c1024_i32 c0_i32_13
  let v54 : BitVec 32 := Scalar.extui v53
  let c0_i32_14 : BitVec 32 := 0#32
  let v55 : BitVec 1 := Scalar.cmpi .slt c1024_i32 c0_i32_14
  let v56 : BitVec 32 := Scalar.extui v55
  let v57 : BitVec 32 := Scalar.subi v54 v56
  let v58 : BitVec 1 := Scalar.cmpi .ne v52 v57
  let v59 : BitVec 32 := Scalar.remsi v46 c1024_i32
  let c0_i32_15 : BitVec 32 := 0#32
  let v60 : BitVec 1 := Scalar.cmpi .ne v59 c0_i32_15
  let v61 : BitVec 1 := Scalar.andi v58 v60
  let v47 : BitVec 32 := Scalar.divsi v46 c1024_i32
  let c1_i32 : BitVec 32 := 1#32
  let v62 : BitVec 32 := Scalar.subi v47 c1_i32
  let v63 : BitVec 32 := Scalar.select v61 v62 v47
  let c1_i32_16 : BitVec 32 := 1#32
  let v64 : BitVec 32 := Scalar.addi v63 c1_i32_16
  let c2_i32_106 : BitVec 32 := 2#32
  let c0_i32_79 : BitVec 32 := 0#32
  let c1_i32_81 : BitVec 32 := 1#32
  let arg18 : BitVec 32 := Scf.iv c0_i32_79 c1_i32_81 k0_t1
  let v311 : BitVec 32 := Scalar.muli c2_i32_106 arg18
  let v312 : BitVec 32 := Scalar.addi v64 v311
  let v313 : BitVec 32 := Scalar.addi v312 c1_i32_107
  let c15_i32_108 : BitVec 32 := 15#32
  let v314 : BitVec 32 := Scalar.minsi v313 c15_i32_108
  let c1024_i32_109 : BitVec 32 := 1024#32
  let v315 : BitVec 32 := Scalar.muli v314 c1024_i32_109
  let v316 : BitVec 32 := v315
  let v317 : Index := Scalar.indexCast v316
  let c0_110 : Index := 0#32
  ![v317.toNat, 0]
def k0_mult5 (i : grid0.Coords) (k0_t1 : Fin (k0_t1_loop i).trips) : BitVec 32 :=
  let arg1 : BitVec 32 := BitVec.ofNat 32 (i 1).val
  let c256_i32 : BitVec 32 := 256#32
  let v46 : BitVec 32 := Scalar.muli arg1 c256_i32
  let c0_i32_11 : BitVec 32 := 0#32
  let v48 : BitVec 1 := Scalar.cmpi .sgt v46 c0_i32_11
  let v49 : BitVec 32 := Scalar.extui v48
  let c0_i32_12 : BitVec 32 := 0#32
  let v50 : BitVec 1 := Scalar.cmpi .slt v46 c0_i32_12
  let v51 : BitVec 32 := Scalar.extui v50
  let v52 : BitVec 32 := Scalar.subi v49 v51
  let c1024_i32 : BitVec 32 := 1024#32
  let c0_i32_13 : BitVec 32 := 0#32
  let v53 : BitVec 1 := Scalar.cmpi .sgt c1024_i32 c0_i32_13
  let v54 : BitVec 32 := Scalar.extui v53
  let c0_i32_14 : BitVec 32 := 0#32
  let v55 : BitVec 1 := Scalar.cmpi .slt c1024_i32 c0_i32_14
  let v56 : BitVec 32 := Scalar.extui v55
  let v57 : BitVec 32 := Scalar.subi v54 v56
  let v58 : BitVec 1 := Scalar.cmpi .ne v52 v57
  let v59 : BitVec 32 := Scalar.remsi v46 c1024_i32
  let c0_i32_15 : BitVec 32 := 0#32
  let v60 : BitVec 1 := Scalar.cmpi .ne v59 c0_i32_15
  let v61 : BitVec 1 := Scalar.andi v58 v60
  let v47 : BitVec 32 := Scalar.divsi v46 c1024_i32
  let c1_i32 : BitVec 32 := 1#32
  let v62 : BitVec 32 := Scalar.subi v47 c1_i32
  let v63 : BitVec 32 := Scalar.select v61 v62 v47
  let c1_i32_16 : BitVec 32 := 1#32
  let v64 : BitVec 32 := Scalar.addi v63 c1_i32_16
  let c2_i32_106 : BitVec 32 := 2#32
  let c0_i32_79 : BitVec 32 := 0#32
  let c1_i32_81 : BitVec 32 := 1#32
  let arg18 : BitVec 32 := Scf.iv c0_i32_79 c1_i32_81 k0_t1
  let v311 : BitVec 32 := Scalar.muli c2_i32_106 arg18
  let v312 : BitVec 32 := Scalar.addi v64 v311
  let c1024_i32_118 : BitVec 32 := 1024#32
  let v332 : BitVec 32 := Scalar.muli v312 c1024_i32_118
  v332
def k0_off7 (i : grid0.Coords) (k0_t1 : Fin (k0_t1_loop i).trips) : Fin 2 → Nat :=
  let arg1 : BitVec 32 := BitVec.ofNat 32 (i 1).val
  let c256_i32 : BitVec 32 := 256#32
  let v46 : BitVec 32 := Scalar.muli arg1 c256_i32
  let c0_i32_11 : BitVec 32 := 0#32
  let v48 : BitVec 1 := Scalar.cmpi .sgt v46 c0_i32_11
  let v49 : BitVec 32 := Scalar.extui v48
  let c0_i32_12 : BitVec 32 := 0#32
  let v50 : BitVec 1 := Scalar.cmpi .slt v46 c0_i32_12
  let v51 : BitVec 32 := Scalar.extui v50
  let v52 : BitVec 32 := Scalar.subi v49 v51
  let c1024_i32 : BitVec 32 := 1024#32
  let c0_i32_13 : BitVec 32 := 0#32
  let v53 : BitVec 1 := Scalar.cmpi .sgt c1024_i32 c0_i32_13
  let v54 : BitVec 32 := Scalar.extui v53
  let c0_i32_14 : BitVec 32 := 0#32
  let v55 : BitVec 1 := Scalar.cmpi .slt c1024_i32 c0_i32_14
  let v56 : BitVec 32 := Scalar.extui v55
  let v57 : BitVec 32 := Scalar.subi v54 v56
  let v58 : BitVec 1 := Scalar.cmpi .ne v52 v57
  let v59 : BitVec 32 := Scalar.remsi v46 c1024_i32
  let c0_i32_15 : BitVec 32 := 0#32
  let v60 : BitVec 1 := Scalar.cmpi .ne v59 c0_i32_15
  let v61 : BitVec 1 := Scalar.andi v58 v60
  let v47 : BitVec 32 := Scalar.divsi v46 c1024_i32
  let c1_i32 : BitVec 32 := 1#32
  let v62 : BitVec 32 := Scalar.subi v47 c1_i32
  let v63 : BitVec 32 := Scalar.select v61 v62 v47
  let c1_i32_16 : BitVec 32 := 1#32
  let v64 : BitVec 32 := Scalar.addi v63 c1_i32_16
  let c2_i32_106 : BitVec 32 := 2#32
  let c0_i32_79 : BitVec 32 := 0#32
  let c1_i32_81 : BitVec 32 := 1#32
  let arg18 : BitVec 32 := Scf.iv c0_i32_79 c1_i32_81 k0_t1
  let v311 : BitVec 32 := Scalar.muli c2_i32_106 arg18
  let v312 : BitVec 32 := Scalar.addi v64 v311
  let c1024_i32_118 : BitVec 32 := 1024#32
  let v332 : BitVec 32 := Scalar.muli v312 c1024_i32_118
  let v333 : BitVec 32 := v332
  let v334 : Index := Scalar.indexCast v333
  let c0_119 : Index := 0#32
  ![v334.toNat, 0]
def k0_off8 (i : grid0.Coords) (k0_t1 : Fin (k0_t1_loop i).trips) : Fin 3 → Nat :=
  let c0_123 : Index := 0#32
  let c0_124 : Index := 0#32
  let arg1 : BitVec 32 := BitVec.ofNat 32 (i 1).val
  let c256_i32 : BitVec 32 := 256#32
  let v46 : BitVec 32 := Scalar.muli arg1 c256_i32
  let c0_i32_11 : BitVec 32 := 0#32
  let v48 : BitVec 1 := Scalar.cmpi .sgt v46 c0_i32_11
  let v49 : BitVec 32 := Scalar.extui v48
  let c0_i32_12 : BitVec 32 := 0#32
  let v50 : BitVec 1 := Scalar.cmpi .slt v46 c0_i32_12
  let v51 : BitVec 32 := Scalar.extui v50
  let v52 : BitVec 32 := Scalar.subi v49 v51
  let c1024_i32 : BitVec 32 := 1024#32
  let c0_i32_13 : BitVec 32 := 0#32
  let v53 : BitVec 1 := Scalar.cmpi .sgt c1024_i32 c0_i32_13
  let v54 : BitVec 32 := Scalar.extui v53
  let c0_i32_14 : BitVec 32 := 0#32
  let v55 : BitVec 1 := Scalar.cmpi .slt c1024_i32 c0_i32_14
  let v56 : BitVec 32 := Scalar.extui v55
  let v57 : BitVec 32 := Scalar.subi v54 v56
  let v58 : BitVec 1 := Scalar.cmpi .ne v52 v57
  let v59 : BitVec 32 := Scalar.remsi v46 c1024_i32
  let c0_i32_15 : BitVec 32 := 0#32
  let v60 : BitVec 1 := Scalar.cmpi .ne v59 c0_i32_15
  let v61 : BitVec 1 := Scalar.andi v58 v60
  let v47 : BitVec 32 := Scalar.divsi v46 c1024_i32
  let c1_i32 : BitVec 32 := 1#32
  let v62 : BitVec 32 := Scalar.subi v47 c1_i32
  let v63 : BitVec 32 := Scalar.select v61 v62 v47
  let c1_i32_16 : BitVec 32 := 1#32
  let v64 : BitVec 32 := Scalar.addi v63 c1_i32_16
  let c2_i32_106 : BitVec 32 := 2#32
  let c0_i32_79 : BitVec 32 := 0#32
  let c1_i32_81 : BitVec 32 := 1#32
  let arg18 : BitVec 32 := Scf.iv c0_i32_79 c1_i32_81 k0_t1
  let v311 : BitVec 32 := Scalar.muli c2_i32_106 arg18
  let v312 : BitVec 32 := Scalar.addi v64 v311
  let c1024_i32_118 : BitVec 32 := 1024#32
  let v332 : BitVec 32 := Scalar.muli v312 c1024_i32_118
  let v333 : BitVec 32 := v332
  let v345 : Index := Scalar.indexCast v333
  ![0, 0, v345.toNat]
def k0_mult6 (i : grid0.Coords) (k0_t1 : Fin (k0_t1_loop i).trips) : BitVec 32 :=
  let arg1 : BitVec 32 := BitVec.ofNat 32 (i 1).val
  let c256_i32 : BitVec 32 := 256#32
  let v46 : BitVec 32 := Scalar.muli arg1 c256_i32
  let c0_i32_11 : BitVec 32 := 0#32
  let v48 : BitVec 1 := Scalar.cmpi .sgt v46 c0_i32_11
  let v49 : BitVec 32 := Scalar.extui v48
  let c0_i32_12 : BitVec 32 := 0#32
  let v50 : BitVec 1 := Scalar.cmpi .slt v46 c0_i32_12
  let v51 : BitVec 32 := Scalar.extui v50
  let v52 : BitVec 32 := Scalar.subi v49 v51
  let c1024_i32 : BitVec 32 := 1024#32
  let c0_i32_13 : BitVec 32 := 0#32
  let v53 : BitVec 1 := Scalar.cmpi .sgt c1024_i32 c0_i32_13
  let v54 : BitVec 32 := Scalar.extui v53
  let c0_i32_14 : BitVec 32 := 0#32
  let v55 : BitVec 1 := Scalar.cmpi .slt c1024_i32 c0_i32_14
  let v56 : BitVec 32 := Scalar.extui v55
  let v57 : BitVec 32 := Scalar.subi v54 v56
  let v58 : BitVec 1 := Scalar.cmpi .ne v52 v57
  let v59 : BitVec 32 := Scalar.remsi v46 c1024_i32
  let c0_i32_15 : BitVec 32 := 0#32
  let v60 : BitVec 1 := Scalar.cmpi .ne v59 c0_i32_15
  let v61 : BitVec 1 := Scalar.andi v58 v60
  let v47 : BitVec 32 := Scalar.divsi v46 c1024_i32
  let c1_i32 : BitVec 32 := 1#32
  let v62 : BitVec 32 := Scalar.subi v47 c1_i32
  let v63 : BitVec 32 := Scalar.select v61 v62 v47
  let c1_i32_16 : BitVec 32 := 1#32
  let v64 : BitVec 32 := Scalar.addi v63 c1_i32_16
  let c2_i32_106 : BitVec 32 := 2#32
  let c0_i32_79 : BitVec 32 := 0#32
  let c1_i32_81 : BitVec 32 := 1#32
  let arg18 : BitVec 32 := Scf.iv c0_i32_79 c1_i32_81 k0_t1
  let v311 : BitVec 32 := Scalar.muli c2_i32_106 arg18
  let v312 : BitVec 32 := Scalar.addi v64 v311
  let c2_i32_149 : BitVec 32 := 2#32
  let v426 : BitVec 32 := Scalar.addi v312 c2_i32_149
  let c15_i32_150 : BitVec 32 := 15#32
  let v427 : BitVec 32 := Scalar.minsi v426 c15_i32_150
  let c1024_i32_151 : BitVec 32 := 1024#32
  let v428 : BitVec 32 := Scalar.muli v427 c1024_i32_151
  v428
def k0_mult7 (i : grid0.Coords) (k0_t1 : Fin (k0_t1_loop i).trips) : BitVec 32 :=
  let arg1 : BitVec 32 := BitVec.ofNat 32 (i 1).val
  let c256_i32 : BitVec 32 := 256#32
  let v46 : BitVec 32 := Scalar.muli arg1 c256_i32
  let c0_i32_11 : BitVec 32 := 0#32
  let v48 : BitVec 1 := Scalar.cmpi .sgt v46 c0_i32_11
  let v49 : BitVec 32 := Scalar.extui v48
  let c0_i32_12 : BitVec 32 := 0#32
  let v50 : BitVec 1 := Scalar.cmpi .slt v46 c0_i32_12
  let v51 : BitVec 32 := Scalar.extui v50
  let v52 : BitVec 32 := Scalar.subi v49 v51
  let c1024_i32 : BitVec 32 := 1024#32
  let c0_i32_13 : BitVec 32 := 0#32
  let v53 : BitVec 1 := Scalar.cmpi .sgt c1024_i32 c0_i32_13
  let v54 : BitVec 32 := Scalar.extui v53
  let c0_i32_14 : BitVec 32 := 0#32
  let v55 : BitVec 1 := Scalar.cmpi .slt c1024_i32 c0_i32_14
  let v56 : BitVec 32 := Scalar.extui v55
  let v57 : BitVec 32 := Scalar.subi v54 v56
  let v58 : BitVec 1 := Scalar.cmpi .ne v52 v57
  let v59 : BitVec 32 := Scalar.remsi v46 c1024_i32
  let c0_i32_15 : BitVec 32 := 0#32
  let v60 : BitVec 1 := Scalar.cmpi .ne v59 c0_i32_15
  let v61 : BitVec 1 := Scalar.andi v58 v60
  let v47 : BitVec 32 := Scalar.divsi v46 c1024_i32
  let c1_i32 : BitVec 32 := 1#32
  let v62 : BitVec 32 := Scalar.subi v47 c1_i32
  let v63 : BitVec 32 := Scalar.select v61 v62 v47
  let c1_i32_16 : BitVec 32 := 1#32
  let v64 : BitVec 32 := Scalar.addi v63 c1_i32_16
  let c2_i32_106 : BitVec 32 := 2#32
  let c0_i32_79 : BitVec 32 := 0#32
  let c1_i32_81 : BitVec 32 := 1#32
  let arg18 : BitVec 32 := Scf.iv c0_i32_79 c1_i32_81 k0_t1
  let v311 : BitVec 32 := Scalar.muli c2_i32_106 arg18
  let v312 : BitVec 32 := Scalar.addi v64 v311
  let c1_i32_162 : BitVec 32 := 1#32
  let v445 : BitVec 32 := Scalar.addi v312 c1_i32_162
  let c1024_i32_163 : BitVec 32 := 1024#32
  let v446 : BitVec 32 := Scalar.muli v445 c1024_i32_163
  v446
def k0_off9 (i : grid0.Coords) (k0_t1 : Fin (k0_t1_loop i).trips) : Fin 2 → Nat :=
  let arg1 : BitVec 32 := BitVec.ofNat 32 (i 1).val
  let c256_i32 : BitVec 32 := 256#32
  let v46 : BitVec 32 := Scalar.muli arg1 c256_i32
  let c0_i32_11 : BitVec 32 := 0#32
  let v48 : BitVec 1 := Scalar.cmpi .sgt v46 c0_i32_11
  let v49 : BitVec 32 := Scalar.extui v48
  let c0_i32_12 : BitVec 32 := 0#32
  let v50 : BitVec 1 := Scalar.cmpi .slt v46 c0_i32_12
  let v51 : BitVec 32 := Scalar.extui v50
  let v52 : BitVec 32 := Scalar.subi v49 v51
  let c1024_i32 : BitVec 32 := 1024#32
  let c0_i32_13 : BitVec 32 := 0#32
  let v53 : BitVec 1 := Scalar.cmpi .sgt c1024_i32 c0_i32_13
  let v54 : BitVec 32 := Scalar.extui v53
  let c0_i32_14 : BitVec 32 := 0#32
  let v55 : BitVec 1 := Scalar.cmpi .slt c1024_i32 c0_i32_14
  let v56 : BitVec 32 := Scalar.extui v55
  let v57 : BitVec 32 := Scalar.subi v54 v56
  let v58 : BitVec 1 := Scalar.cmpi .ne v52 v57
  let v59 : BitVec 32 := Scalar.remsi v46 c1024_i32
  let c0_i32_15 : BitVec 32 := 0#32
  let v60 : BitVec 1 := Scalar.cmpi .ne v59 c0_i32_15
  let v61 : BitVec 1 := Scalar.andi v58 v60
  let v47 : BitVec 32 := Scalar.divsi v46 c1024_i32
  let c1_i32 : BitVec 32 := 1#32
  let v62 : BitVec 32 := Scalar.subi v47 c1_i32
  let v63 : BitVec 32 := Scalar.select v61 v62 v47
  let c1_i32_16 : BitVec 32 := 1#32
  let v64 : BitVec 32 := Scalar.addi v63 c1_i32_16
  let c2_i32_106 : BitVec 32 := 2#32
  let c0_i32_79 : BitVec 32 := 0#32
  let c1_i32_81 : BitVec 32 := 1#32
  let arg18 : BitVec 32 := Scf.iv c0_i32_79 c1_i32_81 k0_t1
  let v311 : BitVec 32 := Scalar.muli c2_i32_106 arg18
  let v312 : BitVec 32 := Scalar.addi v64 v311
  let c1_i32_162 : BitVec 32 := 1#32
  let v445 : BitVec 32 := Scalar.addi v312 c1_i32_162
  let c1024_i32_163 : BitVec 32 := 1024#32
  let v446 : BitVec 32 := Scalar.muli v445 c1024_i32_163
  let v447 : BitVec 32 := v446
  let v448 : Index := Scalar.indexCast v447
  let c0_164 : Index := 0#32
  ![v448.toNat, 0]
def k0_off10 (i : grid0.Coords) (k0_t1 : Fin (k0_t1_loop i).trips) : Fin 3 → Nat :=
  let c0_168 : Index := 0#32
  let c0_169 : Index := 0#32
  let arg1 : BitVec 32 := BitVec.ofNat 32 (i 1).val
  let c256_i32 : BitVec 32 := 256#32
  let v46 : BitVec 32 := Scalar.muli arg1 c256_i32
  let c0_i32_11 : BitVec 32 := 0#32
  let v48 : BitVec 1 := Scalar.cmpi .sgt v46 c0_i32_11
  let v49 : BitVec 32 := Scalar.extui v48
  let c0_i32_12 : BitVec 32 := 0#32
  let v50 : BitVec 1 := Scalar.cmpi .slt v46 c0_i32_12
  let v51 : BitVec 32 := Scalar.extui v50
  let v52 : BitVec 32 := Scalar.subi v49 v51
  let c1024_i32 : BitVec 32 := 1024#32
  let c0_i32_13 : BitVec 32 := 0#32
  let v53 : BitVec 1 := Scalar.cmpi .sgt c1024_i32 c0_i32_13
  let v54 : BitVec 32 := Scalar.extui v53
  let c0_i32_14 : BitVec 32 := 0#32
  let v55 : BitVec 1 := Scalar.cmpi .slt c1024_i32 c0_i32_14
  let v56 : BitVec 32 := Scalar.extui v55
  let v57 : BitVec 32 := Scalar.subi v54 v56
  let v58 : BitVec 1 := Scalar.cmpi .ne v52 v57
  let v59 : BitVec 32 := Scalar.remsi v46 c1024_i32
  let c0_i32_15 : BitVec 32 := 0#32
  let v60 : BitVec 1 := Scalar.cmpi .ne v59 c0_i32_15
  let v61 : BitVec 1 := Scalar.andi v58 v60
  let v47 : BitVec 32 := Scalar.divsi v46 c1024_i32
  let c1_i32 : BitVec 32 := 1#32
  let v62 : BitVec 32 := Scalar.subi v47 c1_i32
  let v63 : BitVec 32 := Scalar.select v61 v62 v47
  let c1_i32_16 : BitVec 32 := 1#32
  let v64 : BitVec 32 := Scalar.addi v63 c1_i32_16
  let c2_i32_106 : BitVec 32 := 2#32
  let c0_i32_79 : BitVec 32 := 0#32
  let c1_i32_81 : BitVec 32 := 1#32
  let arg18 : BitVec 32 := Scf.iv c0_i32_79 c1_i32_81 k0_t1
  let v311 : BitVec 32 := Scalar.muli c2_i32_106 arg18
  let v312 : BitVec 32 := Scalar.addi v64 v311
  let c1_i32_162 : BitVec 32 := 1#32
  let v445 : BitVec 32 := Scalar.addi v312 c1_i32_162
  let c1024_i32_163 : BitVec 32 := 1024#32
  let v446 : BitVec 32 := Scalar.muli v445 c1024_i32_163
  let v447 : BitVec 32 := v446
  let v459 : Index := Scalar.indexCast v447
  ![0, 0, v459.toNat]
@[reducible] def k0_t2_loop (i : grid0.Coords) : Scf.Loop 32 :=
  let c0_i32_79 : BitVec 32 := 0#32
  let c16_i32 : BitVec 32 := 16#32
  let arg1 : BitVec 32 := BitVec.ofNat 32 (i 1).val
  let c256_i32 : BitVec 32 := 256#32
  let v46 : BitVec 32 := Scalar.muli arg1 c256_i32
  let c0_i32_11 : BitVec 32 := 0#32
  let v48 : BitVec 1 := Scalar.cmpi .sgt v46 c0_i32_11
  let v49 : BitVec 32 := Scalar.extui v48
  let c0_i32_12 : BitVec 32 := 0#32
  let v50 : BitVec 1 := Scalar.cmpi .slt v46 c0_i32_12
  let v51 : BitVec 32 := Scalar.extui v50
  let v52 : BitVec 32 := Scalar.subi v49 v51
  let c1024_i32 : BitVec 32 := 1024#32
  let c0_i32_13 : BitVec 32 := 0#32
  let v53 : BitVec 1 := Scalar.cmpi .sgt c1024_i32 c0_i32_13
  let v54 : BitVec 32 := Scalar.extui v53
  let c0_i32_14 : BitVec 32 := 0#32
  let v55 : BitVec 1 := Scalar.cmpi .slt c1024_i32 c0_i32_14
  let v56 : BitVec 32 := Scalar.extui v55
  let v57 : BitVec 32 := Scalar.subi v54 v56
  let v58 : BitVec 1 := Scalar.cmpi .ne v52 v57
  let v59 : BitVec 32 := Scalar.remsi v46 c1024_i32
  let c0_i32_15 : BitVec 32 := 0#32
  let v60 : BitVec 1 := Scalar.cmpi .ne v59 c0_i32_15
  let v61 : BitVec 1 := Scalar.andi v58 v60
  let v47 : BitVec 32 := Scalar.divsi v46 c1024_i32
  let c1_i32 : BitVec 32 := 1#32
  let v62 : BitVec 32 := Scalar.subi v47 c1_i32
  let v63 : BitVec 32 := Scalar.select v61 v62 v47
  let c1_i32_16 : BitVec 32 := 1#32
  let v64 : BitVec 32 := Scalar.addi v63 c1_i32_16
  let v231 : BitVec 32 := Scalar.subi c16_i32 v64
  let c0_i32_73 : BitVec 32 := 0#32
  let v233 : BitVec 1 := Scalar.cmpi .sgt v231 c0_i32_73
  let v234 : BitVec 32 := Scalar.extui v233
  let c0_i32_74 : BitVec 32 := 0#32
  let v235 : BitVec 1 := Scalar.cmpi .slt v231 c0_i32_74
  let v236 : BitVec 32 := Scalar.extui v235
  let v237 : BitVec 32 := Scalar.subi v234 v236
  let c2_i32 : BitVec 32 := 2#32
  let c0_i32_75 : BitVec 32 := 0#32
  let v238 : BitVec 1 := Scalar.cmpi .sgt c2_i32 c0_i32_75
  let v239 : BitVec 32 := Scalar.extui v238
  let c0_i32_76 : BitVec 32 := 0#32
  let v240 : BitVec 1 := Scalar.cmpi .slt c2_i32 c0_i32_76
  let v241 : BitVec 32 := Scalar.extui v240
  let v242 : BitVec 32 := Scalar.subi v239 v241
  let v243 : BitVec 1 := Scalar.cmpi .ne v237 v242
  let v244 : BitVec 32 := Scalar.remsi v231 c2_i32
  let c0_i32_77 : BitVec 32 := 0#32
  let v245 : BitVec 1 := Scalar.cmpi .ne v244 c0_i32_77
  let v246 : BitVec 1 := Scalar.andi v243 v245
  let v232 : BitVec 32 := Scalar.divsi v231 c2_i32
  let c1_i32_78 : BitVec 32 := 1#32
  let v247 : BitVec 32 := Scalar.subi v232 c1_i32_78
  let v248 : BitVec 32 := Scalar.select v246 v247 v232
  let v249 : BitVec 32 := Scalar.subi v248 c0_i32_79
  let c1_i32_80 : BitVec 32 := 1#32
  let v251 : BitVec 32 := Scalar.divsi v249 c1_i32_80
  let v252 : BitVec 32 := Scalar.muli v251 c1_i32_80
  let v253 : BitVec 32 := Scalar.addi c0_i32_79 v252
  let v250 : BitVec 32 := Scalar.addi c0_i32_79 v249
  let c1_i32_82 : BitVec 32 := 1#32
  ⟨v253, v250, c1_i32_82⟩
def k0_mult8 (i : grid0.Coords) (k0_t2 : Fin (k0_t2_loop i).trips) : BitVec 32 :=
  let arg1 : BitVec 32 := BitVec.ofNat 32 (i 1).val
  let c256_i32 : BitVec 32 := 256#32
  let v46 : BitVec 32 := Scalar.muli arg1 c256_i32
  let c0_i32_11 : BitVec 32 := 0#32
  let v48 : BitVec 1 := Scalar.cmpi .sgt v46 c0_i32_11
  let v49 : BitVec 32 := Scalar.extui v48
  let c0_i32_12 : BitVec 32 := 0#32
  let v50 : BitVec 1 := Scalar.cmpi .slt v46 c0_i32_12
  let v51 : BitVec 32 := Scalar.extui v50
  let v52 : BitVec 32 := Scalar.subi v49 v51
  let c1024_i32 : BitVec 32 := 1024#32
  let c0_i32_13 : BitVec 32 := 0#32
  let v53 : BitVec 1 := Scalar.cmpi .sgt c1024_i32 c0_i32_13
  let v54 : BitVec 32 := Scalar.extui v53
  let c0_i32_14 : BitVec 32 := 0#32
  let v55 : BitVec 1 := Scalar.cmpi .slt c1024_i32 c0_i32_14
  let v56 : BitVec 32 := Scalar.extui v55
  let v57 : BitVec 32 := Scalar.subi v54 v56
  let v58 : BitVec 1 := Scalar.cmpi .ne v52 v57
  let v59 : BitVec 32 := Scalar.remsi v46 c1024_i32
  let c0_i32_15 : BitVec 32 := 0#32
  let v60 : BitVec 1 := Scalar.cmpi .ne v59 c0_i32_15
  let v61 : BitVec 1 := Scalar.andi v58 v60
  let v47 : BitVec 32 := Scalar.divsi v46 c1024_i32
  let c1_i32 : BitVec 32 := 1#32
  let v62 : BitVec 32 := Scalar.subi v47 c1_i32
  let v63 : BitVec 32 := Scalar.select v61 v62 v47
  let c1_i32_16 : BitVec 32 := 1#32
  let v64 : BitVec 32 := Scalar.addi v63 c1_i32_16
  let c2_i32_106 : BitVec 32 := 2#32
  let c0_i32_79 : BitVec 32 := 0#32
  let c16_i32 : BitVec 32 := 16#32
  let v231 : BitVec 32 := Scalar.subi c16_i32 v64
  let c0_i32_73 : BitVec 32 := 0#32
  let v233 : BitVec 1 := Scalar.cmpi .sgt v231 c0_i32_73
  let v234 : BitVec 32 := Scalar.extui v233
  let c0_i32_74 : BitVec 32 := 0#32
  let v235 : BitVec 1 := Scalar.cmpi .slt v231 c0_i32_74
  let v236 : BitVec 32 := Scalar.extui v235
  let v237 : BitVec 32 := Scalar.subi v234 v236
  let c2_i32 : BitVec 32 := 2#32
  let c0_i32_75 : BitVec 32 := 0#32
  let v238 : BitVec 1 := Scalar.cmpi .sgt c2_i32 c0_i32_75
  let v239 : BitVec 32 := Scalar.extui v238
  let c0_i32_76 : BitVec 32 := 0#32
  let v240 : BitVec 1 := Scalar.cmpi .slt c2_i32 c0_i32_76
  let v241 : BitVec 32 := Scalar.extui v240
  let v242 : BitVec 32 := Scalar.subi v239 v241
  let v243 : BitVec 1 := Scalar.cmpi .ne v237 v242
  let v244 : BitVec 32 := Scalar.remsi v231 c2_i32
  let c0_i32_77 : BitVec 32 := 0#32
  let v245 : BitVec 1 := Scalar.cmpi .ne v244 c0_i32_77
  let v246 : BitVec 1 := Scalar.andi v243 v245
  let v232 : BitVec 32 := Scalar.divsi v231 c2_i32
  let c1_i32_78 : BitVec 32 := 1#32
  let v247 : BitVec 32 := Scalar.subi v232 c1_i32_78
  let v248 : BitVec 32 := Scalar.select v246 v247 v232
  let v249 : BitVec 32 := Scalar.subi v248 c0_i32_79
  let c1_i32_80 : BitVec 32 := 1#32
  let v251 : BitVec 32 := Scalar.divsi v249 c1_i32_80
  let v252 : BitVec 32 := Scalar.muli v251 c1_i32_80
  let v253 : BitVec 32 := Scalar.addi c0_i32_79 v252
  let c1_i32_82 : BitVec 32 := 1#32
  let arg18 : BitVec 32 := Scf.iv v253 c1_i32_82 k0_t2
  let v311 : BitVec 32 := Scalar.muli c2_i32_106 arg18
  let v312 : BitVec 32 := Scalar.addi v64 v311
  let c1_i32_107 : BitVec 32 := 1#32
  let v313 : BitVec 32 := Scalar.addi v312 c1_i32_107
  let c15_i32_108 : BitVec 32 := 15#32
  let v314 : BitVec 32 := Scalar.minsi v313 c15_i32_108
  let c1024_i32_109 : BitVec 32 := 1024#32
  let v315 : BitVec 32 := Scalar.muli v314 c1024_i32_109
  v315
def k0_off11 (i : grid0.Coords) (k0_t2 : Fin (k0_t2_loop i).trips) (c1_i32_107 : BitVec 32) : Fin 2 → Nat :=
  let arg1 : BitVec 32 := BitVec.ofNat 32 (i 1).val
  let c256_i32 : BitVec 32 := 256#32
  let v46 : BitVec 32 := Scalar.muli arg1 c256_i32
  let c0_i32_11 : BitVec 32 := 0#32
  let v48 : BitVec 1 := Scalar.cmpi .sgt v46 c0_i32_11
  let v49 : BitVec 32 := Scalar.extui v48
  let c0_i32_12 : BitVec 32 := 0#32
  let v50 : BitVec 1 := Scalar.cmpi .slt v46 c0_i32_12
  let v51 : BitVec 32 := Scalar.extui v50
  let v52 : BitVec 32 := Scalar.subi v49 v51
  let c1024_i32 : BitVec 32 := 1024#32
  let c0_i32_13 : BitVec 32 := 0#32
  let v53 : BitVec 1 := Scalar.cmpi .sgt c1024_i32 c0_i32_13
  let v54 : BitVec 32 := Scalar.extui v53
  let c0_i32_14 : BitVec 32 := 0#32
  let v55 : BitVec 1 := Scalar.cmpi .slt c1024_i32 c0_i32_14
  let v56 : BitVec 32 := Scalar.extui v55
  let v57 : BitVec 32 := Scalar.subi v54 v56
  let v58 : BitVec 1 := Scalar.cmpi .ne v52 v57
  let v59 : BitVec 32 := Scalar.remsi v46 c1024_i32
  let c0_i32_15 : BitVec 32 := 0#32
  let v60 : BitVec 1 := Scalar.cmpi .ne v59 c0_i32_15
  let v61 : BitVec 1 := Scalar.andi v58 v60
  let v47 : BitVec 32 := Scalar.divsi v46 c1024_i32
  let c1_i32 : BitVec 32 := 1#32
  let v62 : BitVec 32 := Scalar.subi v47 c1_i32
  let v63 : BitVec 32 := Scalar.select v61 v62 v47
  let c1_i32_16 : BitVec 32 := 1#32
  let v64 : BitVec 32 := Scalar.addi v63 c1_i32_16
  let c2_i32_106 : BitVec 32 := 2#32
  let c0_i32_79 : BitVec 32 := 0#32
  let c16_i32 : BitVec 32 := 16#32
  let v231 : BitVec 32 := Scalar.subi c16_i32 v64
  let c0_i32_73 : BitVec 32 := 0#32
  let v233 : BitVec 1 := Scalar.cmpi .sgt v231 c0_i32_73
  let v234 : BitVec 32 := Scalar.extui v233
  let c0_i32_74 : BitVec 32 := 0#32
  let v235 : BitVec 1 := Scalar.cmpi .slt v231 c0_i32_74
  let v236 : BitVec 32 := Scalar.extui v235
  let v237 : BitVec 32 := Scalar.subi v234 v236
  let c2_i32 : BitVec 32 := 2#32
  let c0_i32_75 : BitVec 32 := 0#32
  let v238 : BitVec 1 := Scalar.cmpi .sgt c2_i32 c0_i32_75
  let v239 : BitVec 32 := Scalar.extui v238
  let c0_i32_76 : BitVec 32 := 0#32
  let v240 : BitVec 1 := Scalar.cmpi .slt c2_i32 c0_i32_76
  let v241 : BitVec 32 := Scalar.extui v240
  let v242 : BitVec 32 := Scalar.subi v239 v241
  let v243 : BitVec 1 := Scalar.cmpi .ne v237 v242
  let v244 : BitVec 32 := Scalar.remsi v231 c2_i32
  let c0_i32_77 : BitVec 32 := 0#32
  let v245 : BitVec 1 := Scalar.cmpi .ne v244 c0_i32_77
  let v246 : BitVec 1 := Scalar.andi v243 v245
  let v232 : BitVec 32 := Scalar.divsi v231 c2_i32
  let c1_i32_78 : BitVec 32 := 1#32
  let v247 : BitVec 32 := Scalar.subi v232 c1_i32_78
  let v248 : BitVec 32 := Scalar.select v246 v247 v232
  let v249 : BitVec 32 := Scalar.subi v248 c0_i32_79
  let c1_i32_80 : BitVec 32 := 1#32
  let v251 : BitVec 32 := Scalar.divsi v249 c1_i32_80
  let v252 : BitVec 32 := Scalar.muli v251 c1_i32_80
  let v253 : BitVec 32 := Scalar.addi c0_i32_79 v252
  let c1_i32_82 : BitVec 32 := 1#32
  let arg18 : BitVec 32 := Scf.iv v253 c1_i32_82 k0_t2
  let v311 : BitVec 32 := Scalar.muli c2_i32_106 arg18
  let v312 : BitVec 32 := Scalar.addi v64 v311
  let v313 : BitVec 32 := Scalar.addi v312 c1_i32_107
  let c15_i32_108 : BitVec 32 := 15#32
  let v314 : BitVec 32 := Scalar.minsi v313 c15_i32_108
  let c1024_i32_109 : BitVec 32 := 1024#32
  let v315 : BitVec 32 := Scalar.muli v314 c1024_i32_109
  let v316 : BitVec 32 := v315
  let v317 : Index := Scalar.indexCast v316
  let c0_110 : Index := 0#32
  ![v317.toNat, 0]
def k0_mult9 (i : grid0.Coords) (k0_t2 : Fin (k0_t2_loop i).trips) : BitVec 32 :=
  let arg1 : BitVec 32 := BitVec.ofNat 32 (i 1).val
  let c256_i32 : BitVec 32 := 256#32
  let v46 : BitVec 32 := Scalar.muli arg1 c256_i32
  let c0_i32_11 : BitVec 32 := 0#32
  let v48 : BitVec 1 := Scalar.cmpi .sgt v46 c0_i32_11
  let v49 : BitVec 32 := Scalar.extui v48
  let c0_i32_12 : BitVec 32 := 0#32
  let v50 : BitVec 1 := Scalar.cmpi .slt v46 c0_i32_12
  let v51 : BitVec 32 := Scalar.extui v50
  let v52 : BitVec 32 := Scalar.subi v49 v51
  let c1024_i32 : BitVec 32 := 1024#32
  let c0_i32_13 : BitVec 32 := 0#32
  let v53 : BitVec 1 := Scalar.cmpi .sgt c1024_i32 c0_i32_13
  let v54 : BitVec 32 := Scalar.extui v53
  let c0_i32_14 : BitVec 32 := 0#32
  let v55 : BitVec 1 := Scalar.cmpi .slt c1024_i32 c0_i32_14
  let v56 : BitVec 32 := Scalar.extui v55
  let v57 : BitVec 32 := Scalar.subi v54 v56
  let v58 : BitVec 1 := Scalar.cmpi .ne v52 v57
  let v59 : BitVec 32 := Scalar.remsi v46 c1024_i32
  let c0_i32_15 : BitVec 32 := 0#32
  let v60 : BitVec 1 := Scalar.cmpi .ne v59 c0_i32_15
  let v61 : BitVec 1 := Scalar.andi v58 v60
  let v47 : BitVec 32 := Scalar.divsi v46 c1024_i32
  let c1_i32 : BitVec 32 := 1#32
  let v62 : BitVec 32 := Scalar.subi v47 c1_i32
  let v63 : BitVec 32 := Scalar.select v61 v62 v47
  let c1_i32_16 : BitVec 32 := 1#32
  let v64 : BitVec 32 := Scalar.addi v63 c1_i32_16
  let c2_i32_106 : BitVec 32 := 2#32
  let c0_i32_79 : BitVec 32 := 0#32
  let c16_i32 : BitVec 32 := 16#32
  let v231 : BitVec 32 := Scalar.subi c16_i32 v64
  let c0_i32_73 : BitVec 32 := 0#32
  let v233 : BitVec 1 := Scalar.cmpi .sgt v231 c0_i32_73
  let v234 : BitVec 32 := Scalar.extui v233
  let c0_i32_74 : BitVec 32 := 0#32
  let v235 : BitVec 1 := Scalar.cmpi .slt v231 c0_i32_74
  let v236 : BitVec 32 := Scalar.extui v235
  let v237 : BitVec 32 := Scalar.subi v234 v236
  let c2_i32 : BitVec 32 := 2#32
  let c0_i32_75 : BitVec 32 := 0#32
  let v238 : BitVec 1 := Scalar.cmpi .sgt c2_i32 c0_i32_75
  let v239 : BitVec 32 := Scalar.extui v238
  let c0_i32_76 : BitVec 32 := 0#32
  let v240 : BitVec 1 := Scalar.cmpi .slt c2_i32 c0_i32_76
  let v241 : BitVec 32 := Scalar.extui v240
  let v242 : BitVec 32 := Scalar.subi v239 v241
  let v243 : BitVec 1 := Scalar.cmpi .ne v237 v242
  let v244 : BitVec 32 := Scalar.remsi v231 c2_i32
  let c0_i32_77 : BitVec 32 := 0#32
  let v245 : BitVec 1 := Scalar.cmpi .ne v244 c0_i32_77
  let v246 : BitVec 1 := Scalar.andi v243 v245
  let v232 : BitVec 32 := Scalar.divsi v231 c2_i32
  let c1_i32_78 : BitVec 32 := 1#32
  let v247 : BitVec 32 := Scalar.subi v232 c1_i32_78
  let v248 : BitVec 32 := Scalar.select v246 v247 v232
  let v249 : BitVec 32 := Scalar.subi v248 c0_i32_79
  let c1_i32_80 : BitVec 32 := 1#32
  let v251 : BitVec 32 := Scalar.divsi v249 c1_i32_80
  let v252 : BitVec 32 := Scalar.muli v251 c1_i32_80
  let v253 : BitVec 32 := Scalar.addi c0_i32_79 v252
  let c1_i32_82 : BitVec 32 := 1#32
  let arg18 : BitVec 32 := Scf.iv v253 c1_i32_82 k0_t2
  let v311 : BitVec 32 := Scalar.muli c2_i32_106 arg18
  let v312 : BitVec 32 := Scalar.addi v64 v311
  let c1024_i32_118 : BitVec 32 := 1024#32
  let v332 : BitVec 32 := Scalar.muli v312 c1024_i32_118
  v332
def k0_off12 (i : grid0.Coords) (k0_t2 : Fin (k0_t2_loop i).trips) : Fin 2 → Nat :=
  let arg1 : BitVec 32 := BitVec.ofNat 32 (i 1).val
  let c256_i32 : BitVec 32 := 256#32
  let v46 : BitVec 32 := Scalar.muli arg1 c256_i32
  let c0_i32_11 : BitVec 32 := 0#32
  let v48 : BitVec 1 := Scalar.cmpi .sgt v46 c0_i32_11
  let v49 : BitVec 32 := Scalar.extui v48
  let c0_i32_12 : BitVec 32 := 0#32
  let v50 : BitVec 1 := Scalar.cmpi .slt v46 c0_i32_12
  let v51 : BitVec 32 := Scalar.extui v50
  let v52 : BitVec 32 := Scalar.subi v49 v51
  let c1024_i32 : BitVec 32 := 1024#32
  let c0_i32_13 : BitVec 32 := 0#32
  let v53 : BitVec 1 := Scalar.cmpi .sgt c1024_i32 c0_i32_13
  let v54 : BitVec 32 := Scalar.extui v53
  let c0_i32_14 : BitVec 32 := 0#32
  let v55 : BitVec 1 := Scalar.cmpi .slt c1024_i32 c0_i32_14
  let v56 : BitVec 32 := Scalar.extui v55
  let v57 : BitVec 32 := Scalar.subi v54 v56
  let v58 : BitVec 1 := Scalar.cmpi .ne v52 v57
  let v59 : BitVec 32 := Scalar.remsi v46 c1024_i32
  let c0_i32_15 : BitVec 32 := 0#32
  let v60 : BitVec 1 := Scalar.cmpi .ne v59 c0_i32_15
  let v61 : BitVec 1 := Scalar.andi v58 v60
  let v47 : BitVec 32 := Scalar.divsi v46 c1024_i32
  let c1_i32 : BitVec 32 := 1#32
  let v62 : BitVec 32 := Scalar.subi v47 c1_i32
  let v63 : BitVec 32 := Scalar.select v61 v62 v47
  let c1_i32_16 : BitVec 32 := 1#32
  let v64 : BitVec 32 := Scalar.addi v63 c1_i32_16
  let c2_i32_106 : BitVec 32 := 2#32
  let c0_i32_79 : BitVec 32 := 0#32
  let c16_i32 : BitVec 32 := 16#32
  let v231 : BitVec 32 := Scalar.subi c16_i32 v64
  let c0_i32_73 : BitVec 32 := 0#32
  let v233 : BitVec 1 := Scalar.cmpi .sgt v231 c0_i32_73
  let v234 : BitVec 32 := Scalar.extui v233
  let c0_i32_74 : BitVec 32 := 0#32
  let v235 : BitVec 1 := Scalar.cmpi .slt v231 c0_i32_74
  let v236 : BitVec 32 := Scalar.extui v235
  let v237 : BitVec 32 := Scalar.subi v234 v236
  let c2_i32 : BitVec 32 := 2#32
  let c0_i32_75 : BitVec 32 := 0#32
  let v238 : BitVec 1 := Scalar.cmpi .sgt c2_i32 c0_i32_75
  let v239 : BitVec 32 := Scalar.extui v238
  let c0_i32_76 : BitVec 32 := 0#32
  let v240 : BitVec 1 := Scalar.cmpi .slt c2_i32 c0_i32_76
  let v241 : BitVec 32 := Scalar.extui v240
  let v242 : BitVec 32 := Scalar.subi v239 v241
  let v243 : BitVec 1 := Scalar.cmpi .ne v237 v242
  let v244 : BitVec 32 := Scalar.remsi v231 c2_i32
  let c0_i32_77 : BitVec 32 := 0#32
  let v245 : BitVec 1 := Scalar.cmpi .ne v244 c0_i32_77
  let v246 : BitVec 1 := Scalar.andi v243 v245
  let v232 : BitVec 32 := Scalar.divsi v231 c2_i32
  let c1_i32_78 : BitVec 32 := 1#32
  let v247 : BitVec 32 := Scalar.subi v232 c1_i32_78
  let v248 : BitVec 32 := Scalar.select v246 v247 v232
  let v249 : BitVec 32 := Scalar.subi v248 c0_i32_79
  let c1_i32_80 : BitVec 32 := 1#32
  let v251 : BitVec 32 := Scalar.divsi v249 c1_i32_80
  let v252 : BitVec 32 := Scalar.muli v251 c1_i32_80
  let v253 : BitVec 32 := Scalar.addi c0_i32_79 v252
  let c1_i32_82 : BitVec 32 := 1#32
  let arg18 : BitVec 32 := Scf.iv v253 c1_i32_82 k0_t2
  let v311 : BitVec 32 := Scalar.muli c2_i32_106 arg18
  let v312 : BitVec 32 := Scalar.addi v64 v311
  let c1024_i32_118 : BitVec 32 := 1024#32
  let v332 : BitVec 32 := Scalar.muli v312 c1024_i32_118
  let v333 : BitVec 32 := v332
  let v334 : Index := Scalar.indexCast v333
  let c0_119 : Index := 0#32
  ![v334.toNat, 0]
def k0_off13 (i : grid0.Coords) (k0_t2 : Fin (k0_t2_loop i).trips) : Fin 3 → Nat :=
  let c0_123 : Index := 0#32
  let c0_124 : Index := 0#32
  let arg1 : BitVec 32 := BitVec.ofNat 32 (i 1).val
  let c256_i32 : BitVec 32 := 256#32
  let v46 : BitVec 32 := Scalar.muli arg1 c256_i32
  let c0_i32_11 : BitVec 32 := 0#32
  let v48 : BitVec 1 := Scalar.cmpi .sgt v46 c0_i32_11
  let v49 : BitVec 32 := Scalar.extui v48
  let c0_i32_12 : BitVec 32 := 0#32
  let v50 : BitVec 1 := Scalar.cmpi .slt v46 c0_i32_12
  let v51 : BitVec 32 := Scalar.extui v50
  let v52 : BitVec 32 := Scalar.subi v49 v51
  let c1024_i32 : BitVec 32 := 1024#32
  let c0_i32_13 : BitVec 32 := 0#32
  let v53 : BitVec 1 := Scalar.cmpi .sgt c1024_i32 c0_i32_13
  let v54 : BitVec 32 := Scalar.extui v53
  let c0_i32_14 : BitVec 32 := 0#32
  let v55 : BitVec 1 := Scalar.cmpi .slt c1024_i32 c0_i32_14
  let v56 : BitVec 32 := Scalar.extui v55
  let v57 : BitVec 32 := Scalar.subi v54 v56
  let v58 : BitVec 1 := Scalar.cmpi .ne v52 v57
  let v59 : BitVec 32 := Scalar.remsi v46 c1024_i32
  let c0_i32_15 : BitVec 32 := 0#32
  let v60 : BitVec 1 := Scalar.cmpi .ne v59 c0_i32_15
  let v61 : BitVec 1 := Scalar.andi v58 v60
  let v47 : BitVec 32 := Scalar.divsi v46 c1024_i32
  let c1_i32 : BitVec 32 := 1#32
  let v62 : BitVec 32 := Scalar.subi v47 c1_i32
  let v63 : BitVec 32 := Scalar.select v61 v62 v47
  let c1_i32_16 : BitVec 32 := 1#32
  let v64 : BitVec 32 := Scalar.addi v63 c1_i32_16
  let c2_i32_106 : BitVec 32 := 2#32
  let c0_i32_79 : BitVec 32 := 0#32
  let c16_i32 : BitVec 32 := 16#32
  let v231 : BitVec 32 := Scalar.subi c16_i32 v64
  let c0_i32_73 : BitVec 32 := 0#32
  let v233 : BitVec 1 := Scalar.cmpi .sgt v231 c0_i32_73
  let v234 : BitVec 32 := Scalar.extui v233
  let c0_i32_74 : BitVec 32 := 0#32
  let v235 : BitVec 1 := Scalar.cmpi .slt v231 c0_i32_74
  let v236 : BitVec 32 := Scalar.extui v235
  let v237 : BitVec 32 := Scalar.subi v234 v236
  let c2_i32 : BitVec 32 := 2#32
  let c0_i32_75 : BitVec 32 := 0#32
  let v238 : BitVec 1 := Scalar.cmpi .sgt c2_i32 c0_i32_75
  let v239 : BitVec 32 := Scalar.extui v238
  let c0_i32_76 : BitVec 32 := 0#32
  let v240 : BitVec 1 := Scalar.cmpi .slt c2_i32 c0_i32_76
  let v241 : BitVec 32 := Scalar.extui v240
  let v242 : BitVec 32 := Scalar.subi v239 v241
  let v243 : BitVec 1 := Scalar.cmpi .ne v237 v242
  let v244 : BitVec 32 := Scalar.remsi v231 c2_i32
  let c0_i32_77 : BitVec 32 := 0#32
  let v245 : BitVec 1 := Scalar.cmpi .ne v244 c0_i32_77
  let v246 : BitVec 1 := Scalar.andi v243 v245
  let v232 : BitVec 32 := Scalar.divsi v231 c2_i32
  let c1_i32_78 : BitVec 32 := 1#32
  let v247 : BitVec 32 := Scalar.subi v232 c1_i32_78
  let v248 : BitVec 32 := Scalar.select v246 v247 v232
  let v249 : BitVec 32 := Scalar.subi v248 c0_i32_79
  let c1_i32_80 : BitVec 32 := 1#32
  let v251 : BitVec 32 := Scalar.divsi v249 c1_i32_80
  let v252 : BitVec 32 := Scalar.muli v251 c1_i32_80
  let v253 : BitVec 32 := Scalar.addi c0_i32_79 v252
  let c1_i32_82 : BitVec 32 := 1#32
  let arg18 : BitVec 32 := Scf.iv v253 c1_i32_82 k0_t2
  let v311 : BitVec 32 := Scalar.muli c2_i32_106 arg18
  let v312 : BitVec 32 := Scalar.addi v64 v311
  let c1024_i32_118 : BitVec 32 := 1024#32
  let v332 : BitVec 32 := Scalar.muli v312 c1024_i32_118
  let v333 : BitVec 32 := v332
  let v345 : Index := Scalar.indexCast v333
  ![0, 0, v345.toNat]
def k0_mult10 (i : grid0.Coords) (k0_t2 : Fin (k0_t2_loop i).trips) : BitVec 32 :=
  let arg1 : BitVec 32 := BitVec.ofNat 32 (i 1).val
  let c256_i32 : BitVec 32 := 256#32
  let v46 : BitVec 32 := Scalar.muli arg1 c256_i32
  let c0_i32_11 : BitVec 32 := 0#32
  let v48 : BitVec 1 := Scalar.cmpi .sgt v46 c0_i32_11
  let v49 : BitVec 32 := Scalar.extui v48
  let c0_i32_12 : BitVec 32 := 0#32
  let v50 : BitVec 1 := Scalar.cmpi .slt v46 c0_i32_12
  let v51 : BitVec 32 := Scalar.extui v50
  let v52 : BitVec 32 := Scalar.subi v49 v51
  let c1024_i32 : BitVec 32 := 1024#32
  let c0_i32_13 : BitVec 32 := 0#32
  let v53 : BitVec 1 := Scalar.cmpi .sgt c1024_i32 c0_i32_13
  let v54 : BitVec 32 := Scalar.extui v53
  let c0_i32_14 : BitVec 32 := 0#32
  let v55 : BitVec 1 := Scalar.cmpi .slt c1024_i32 c0_i32_14
  let v56 : BitVec 32 := Scalar.extui v55
  let v57 : BitVec 32 := Scalar.subi v54 v56
  let v58 : BitVec 1 := Scalar.cmpi .ne v52 v57
  let v59 : BitVec 32 := Scalar.remsi v46 c1024_i32
  let c0_i32_15 : BitVec 32 := 0#32
  let v60 : BitVec 1 := Scalar.cmpi .ne v59 c0_i32_15
  let v61 : BitVec 1 := Scalar.andi v58 v60
  let v47 : BitVec 32 := Scalar.divsi v46 c1024_i32
  let c1_i32 : BitVec 32 := 1#32
  let v62 : BitVec 32 := Scalar.subi v47 c1_i32
  let v63 : BitVec 32 := Scalar.select v61 v62 v47
  let c1_i32_16 : BitVec 32 := 1#32
  let v64 : BitVec 32 := Scalar.addi v63 c1_i32_16
  let c2_i32_106 : BitVec 32 := 2#32
  let c0_i32_79 : BitVec 32 := 0#32
  let c16_i32 : BitVec 32 := 16#32
  let v231 : BitVec 32 := Scalar.subi c16_i32 v64
  let c0_i32_73 : BitVec 32 := 0#32
  let v233 : BitVec 1 := Scalar.cmpi .sgt v231 c0_i32_73
  let v234 : BitVec 32 := Scalar.extui v233
  let c0_i32_74 : BitVec 32 := 0#32
  let v235 : BitVec 1 := Scalar.cmpi .slt v231 c0_i32_74
  let v236 : BitVec 32 := Scalar.extui v235
  let v237 : BitVec 32 := Scalar.subi v234 v236
  let c2_i32 : BitVec 32 := 2#32
  let c0_i32_75 : BitVec 32 := 0#32
  let v238 : BitVec 1 := Scalar.cmpi .sgt c2_i32 c0_i32_75
  let v239 : BitVec 32 := Scalar.extui v238
  let c0_i32_76 : BitVec 32 := 0#32
  let v240 : BitVec 1 := Scalar.cmpi .slt c2_i32 c0_i32_76
  let v241 : BitVec 32 := Scalar.extui v240
  let v242 : BitVec 32 := Scalar.subi v239 v241
  let v243 : BitVec 1 := Scalar.cmpi .ne v237 v242
  let v244 : BitVec 32 := Scalar.remsi v231 c2_i32
  let c0_i32_77 : BitVec 32 := 0#32
  let v245 : BitVec 1 := Scalar.cmpi .ne v244 c0_i32_77
  let v246 : BitVec 1 := Scalar.andi v243 v245
  let v232 : BitVec 32 := Scalar.divsi v231 c2_i32
  let c1_i32_78 : BitVec 32 := 1#32
  let v247 : BitVec 32 := Scalar.subi v232 c1_i32_78
  let v248 : BitVec 32 := Scalar.select v246 v247 v232
  let v249 : BitVec 32 := Scalar.subi v248 c0_i32_79
  let c1_i32_80 : BitVec 32 := 1#32
  let v251 : BitVec 32 := Scalar.divsi v249 c1_i32_80
  let v252 : BitVec 32 := Scalar.muli v251 c1_i32_80
  let v253 : BitVec 32 := Scalar.addi c0_i32_79 v252
  let c1_i32_82 : BitVec 32 := 1#32
  let arg18 : BitVec 32 := Scf.iv v253 c1_i32_82 k0_t2
  let v311 : BitVec 32 := Scalar.muli c2_i32_106 arg18
  let v312 : BitVec 32 := Scalar.addi v64 v311
  let c2_i32_149 : BitVec 32 := 2#32
  let v426 : BitVec 32 := Scalar.addi v312 c2_i32_149
  let c15_i32_150 : BitVec 32 := 15#32
  let v427 : BitVec 32 := Scalar.minsi v426 c15_i32_150
  let c1024_i32_151 : BitVec 32 := 1024#32
  let v428 : BitVec 32 := Scalar.muli v427 c1024_i32_151
  v428
def k0_mult11 (i : grid0.Coords) (k0_t2 : Fin (k0_t2_loop i).trips) : BitVec 32 :=
  let arg1 : BitVec 32 := BitVec.ofNat 32 (i 1).val
  let c256_i32 : BitVec 32 := 256#32
  let v46 : BitVec 32 := Scalar.muli arg1 c256_i32
  let c0_i32_11 : BitVec 32 := 0#32
  let v48 : BitVec 1 := Scalar.cmpi .sgt v46 c0_i32_11
  let v49 : BitVec 32 := Scalar.extui v48
  let c0_i32_12 : BitVec 32 := 0#32
  let v50 : BitVec 1 := Scalar.cmpi .slt v46 c0_i32_12
  let v51 : BitVec 32 := Scalar.extui v50
  let v52 : BitVec 32 := Scalar.subi v49 v51
  let c1024_i32 : BitVec 32 := 1024#32
  let c0_i32_13 : BitVec 32 := 0#32
  let v53 : BitVec 1 := Scalar.cmpi .sgt c1024_i32 c0_i32_13
  let v54 : BitVec 32 := Scalar.extui v53
  let c0_i32_14 : BitVec 32 := 0#32
  let v55 : BitVec 1 := Scalar.cmpi .slt c1024_i32 c0_i32_14
  let v56 : BitVec 32 := Scalar.extui v55
  let v57 : BitVec 32 := Scalar.subi v54 v56
  let v58 : BitVec 1 := Scalar.cmpi .ne v52 v57
  let v59 : BitVec 32 := Scalar.remsi v46 c1024_i32
  let c0_i32_15 : BitVec 32 := 0#32
  let v60 : BitVec 1 := Scalar.cmpi .ne v59 c0_i32_15
  let v61 : BitVec 1 := Scalar.andi v58 v60
  let v47 : BitVec 32 := Scalar.divsi v46 c1024_i32
  let c1_i32 : BitVec 32 := 1#32
  let v62 : BitVec 32 := Scalar.subi v47 c1_i32
  let v63 : BitVec 32 := Scalar.select v61 v62 v47
  let c1_i32_16 : BitVec 32 := 1#32
  let v64 : BitVec 32 := Scalar.addi v63 c1_i32_16
  let c2_i32_106 : BitVec 32 := 2#32
  let c0_i32_79 : BitVec 32 := 0#32
  let c16_i32 : BitVec 32 := 16#32
  let v231 : BitVec 32 := Scalar.subi c16_i32 v64
  let c0_i32_73 : BitVec 32 := 0#32
  let v233 : BitVec 1 := Scalar.cmpi .sgt v231 c0_i32_73
  let v234 : BitVec 32 := Scalar.extui v233
  let c0_i32_74 : BitVec 32 := 0#32
  let v235 : BitVec 1 := Scalar.cmpi .slt v231 c0_i32_74
  let v236 : BitVec 32 := Scalar.extui v235
  let v237 : BitVec 32 := Scalar.subi v234 v236
  let c2_i32 : BitVec 32 := 2#32
  let c0_i32_75 : BitVec 32 := 0#32
  let v238 : BitVec 1 := Scalar.cmpi .sgt c2_i32 c0_i32_75
  let v239 : BitVec 32 := Scalar.extui v238
  let c0_i32_76 : BitVec 32 := 0#32
  let v240 : BitVec 1 := Scalar.cmpi .slt c2_i32 c0_i32_76
  let v241 : BitVec 32 := Scalar.extui v240
  let v242 : BitVec 32 := Scalar.subi v239 v241
  let v243 : BitVec 1 := Scalar.cmpi .ne v237 v242
  let v244 : BitVec 32 := Scalar.remsi v231 c2_i32
  let c0_i32_77 : BitVec 32 := 0#32
  let v245 : BitVec 1 := Scalar.cmpi .ne v244 c0_i32_77
  let v246 : BitVec 1 := Scalar.andi v243 v245
  let v232 : BitVec 32 := Scalar.divsi v231 c2_i32
  let c1_i32_78 : BitVec 32 := 1#32
  let v247 : BitVec 32 := Scalar.subi v232 c1_i32_78
  let v248 : BitVec 32 := Scalar.select v246 v247 v232
  let v249 : BitVec 32 := Scalar.subi v248 c0_i32_79
  let c1_i32_80 : BitVec 32 := 1#32
  let v251 : BitVec 32 := Scalar.divsi v249 c1_i32_80
  let v252 : BitVec 32 := Scalar.muli v251 c1_i32_80
  let v253 : BitVec 32 := Scalar.addi c0_i32_79 v252
  let c1_i32_82 : BitVec 32 := 1#32
  let arg18 : BitVec 32 := Scf.iv v253 c1_i32_82 k0_t2
  let v311 : BitVec 32 := Scalar.muli c2_i32_106 arg18
  let v312 : BitVec 32 := Scalar.addi v64 v311
  let c1_i32_162 : BitVec 32 := 1#32
  let v445 : BitVec 32 := Scalar.addi v312 c1_i32_162
  let c1024_i32_163 : BitVec 32 := 1024#32
  let v446 : BitVec 32 := Scalar.muli v445 c1024_i32_163
  v446
def k0_off14 (i : grid0.Coords) (k0_t2 : Fin (k0_t2_loop i).trips) : Fin 2 → Nat :=
  let arg1 : BitVec 32 := BitVec.ofNat 32 (i 1).val
  let c256_i32 : BitVec 32 := 256#32
  let v46 : BitVec 32 := Scalar.muli arg1 c256_i32
  let c0_i32_11 : BitVec 32 := 0#32
  let v48 : BitVec 1 := Scalar.cmpi .sgt v46 c0_i32_11
  let v49 : BitVec 32 := Scalar.extui v48
  let c0_i32_12 : BitVec 32 := 0#32
  let v50 : BitVec 1 := Scalar.cmpi .slt v46 c0_i32_12
  let v51 : BitVec 32 := Scalar.extui v50
  let v52 : BitVec 32 := Scalar.subi v49 v51
  let c1024_i32 : BitVec 32 := 1024#32
  let c0_i32_13 : BitVec 32 := 0#32
  let v53 : BitVec 1 := Scalar.cmpi .sgt c1024_i32 c0_i32_13
  let v54 : BitVec 32 := Scalar.extui v53
  let c0_i32_14 : BitVec 32 := 0#32
  let v55 : BitVec 1 := Scalar.cmpi .slt c1024_i32 c0_i32_14
  let v56 : BitVec 32 := Scalar.extui v55
  let v57 : BitVec 32 := Scalar.subi v54 v56
  let v58 : BitVec 1 := Scalar.cmpi .ne v52 v57
  let v59 : BitVec 32 := Scalar.remsi v46 c1024_i32
  let c0_i32_15 : BitVec 32 := 0#32
  let v60 : BitVec 1 := Scalar.cmpi .ne v59 c0_i32_15
  let v61 : BitVec 1 := Scalar.andi v58 v60
  let v47 : BitVec 32 := Scalar.divsi v46 c1024_i32
  let c1_i32 : BitVec 32 := 1#32
  let v62 : BitVec 32 := Scalar.subi v47 c1_i32
  let v63 : BitVec 32 := Scalar.select v61 v62 v47
  let c1_i32_16 : BitVec 32 := 1#32
  let v64 : BitVec 32 := Scalar.addi v63 c1_i32_16
  let c2_i32_106 : BitVec 32 := 2#32
  let c0_i32_79 : BitVec 32 := 0#32
  let c16_i32 : BitVec 32 := 16#32
  let v231 : BitVec 32 := Scalar.subi c16_i32 v64
  let c0_i32_73 : BitVec 32 := 0#32
  let v233 : BitVec 1 := Scalar.cmpi .sgt v231 c0_i32_73
  let v234 : BitVec 32 := Scalar.extui v233
  let c0_i32_74 : BitVec 32 := 0#32
  let v235 : BitVec 1 := Scalar.cmpi .slt v231 c0_i32_74
  let v236 : BitVec 32 := Scalar.extui v235
  let v237 : BitVec 32 := Scalar.subi v234 v236
  let c2_i32 : BitVec 32 := 2#32
  let c0_i32_75 : BitVec 32 := 0#32
  let v238 : BitVec 1 := Scalar.cmpi .sgt c2_i32 c0_i32_75
  let v239 : BitVec 32 := Scalar.extui v238
  let c0_i32_76 : BitVec 32 := 0#32
  let v240 : BitVec 1 := Scalar.cmpi .slt c2_i32 c0_i32_76
  let v241 : BitVec 32 := Scalar.extui v240
  let v242 : BitVec 32 := Scalar.subi v239 v241
  let v243 : BitVec 1 := Scalar.cmpi .ne v237 v242
  let v244 : BitVec 32 := Scalar.remsi v231 c2_i32
  let c0_i32_77 : BitVec 32 := 0#32
  let v245 : BitVec 1 := Scalar.cmpi .ne v244 c0_i32_77
  let v246 : BitVec 1 := Scalar.andi v243 v245
  let v232 : BitVec 32 := Scalar.divsi v231 c2_i32
  let c1_i32_78 : BitVec 32 := 1#32
  let v247 : BitVec 32 := Scalar.subi v232 c1_i32_78
  let v248 : BitVec 32 := Scalar.select v246 v247 v232
  let v249 : BitVec 32 := Scalar.subi v248 c0_i32_79
  let c1_i32_80 : BitVec 32 := 1#32
  let v251 : BitVec 32 := Scalar.divsi v249 c1_i32_80
  let v252 : BitVec 32 := Scalar.muli v251 c1_i32_80
  let v253 : BitVec 32 := Scalar.addi c0_i32_79 v252
  let c1_i32_82 : BitVec 32 := 1#32
  let arg18 : BitVec 32 := Scf.iv v253 c1_i32_82 k0_t2
  let v311 : BitVec 32 := Scalar.muli c2_i32_106 arg18
  let v312 : BitVec 32 := Scalar.addi v64 v311
  let c1_i32_162 : BitVec 32 := 1#32
  let v445 : BitVec 32 := Scalar.addi v312 c1_i32_162
  let c1024_i32_163 : BitVec 32 := 1024#32
  let v446 : BitVec 32 := Scalar.muli v445 c1024_i32_163
  let v447 : BitVec 32 := v446
  let v448 : Index := Scalar.indexCast v447
  let c0_164 : Index := 0#32
  ![v448.toNat, 0]
def k0_off15 (i : grid0.Coords) (k0_t2 : Fin (k0_t2_loop i).trips) : Fin 3 → Nat :=
  let c0_168 : Index := 0#32
  let c0_169 : Index := 0#32
  let arg1 : BitVec 32 := BitVec.ofNat 32 (i 1).val
  let c256_i32 : BitVec 32 := 256#32
  let v46 : BitVec 32 := Scalar.muli arg1 c256_i32
  let c0_i32_11 : BitVec 32 := 0#32
  let v48 : BitVec 1 := Scalar.cmpi .sgt v46 c0_i32_11
  let v49 : BitVec 32 := Scalar.extui v48
  let c0_i32_12 : BitVec 32 := 0#32
  let v50 : BitVec 1 := Scalar.cmpi .slt v46 c0_i32_12
  let v51 : BitVec 32 := Scalar.extui v50
  let v52 : BitVec 32 := Scalar.subi v49 v51
  let c1024_i32 : BitVec 32 := 1024#32
  let c0_i32_13 : BitVec 32 := 0#32
  let v53 : BitVec 1 := Scalar.cmpi .sgt c1024_i32 c0_i32_13
  let v54 : BitVec 32 := Scalar.extui v53
  let c0_i32_14 : BitVec 32 := 0#32
  let v55 : BitVec 1 := Scalar.cmpi .slt c1024_i32 c0_i32_14
  let v56 : BitVec 32 := Scalar.extui v55
  let v57 : BitVec 32 := Scalar.subi v54 v56
  let v58 : BitVec 1 := Scalar.cmpi .ne v52 v57
  let v59 : BitVec 32 := Scalar.remsi v46 c1024_i32
  let c0_i32_15 : BitVec 32 := 0#32
  let v60 : BitVec 1 := Scalar.cmpi .ne v59 c0_i32_15
  let v61 : BitVec 1 := Scalar.andi v58 v60
  let v47 : BitVec 32 := Scalar.divsi v46 c1024_i32
  let c1_i32 : BitVec 32 := 1#32
  let v62 : BitVec 32 := Scalar.subi v47 c1_i32
  let v63 : BitVec 32 := Scalar.select v61 v62 v47
  let c1_i32_16 : BitVec 32 := 1#32
  let v64 : BitVec 32 := Scalar.addi v63 c1_i32_16
  let c2_i32_106 : BitVec 32 := 2#32
  let c0_i32_79 : BitVec 32 := 0#32
  let c16_i32 : BitVec 32 := 16#32
  let v231 : BitVec 32 := Scalar.subi c16_i32 v64
  let c0_i32_73 : BitVec 32 := 0#32
  let v233 : BitVec 1 := Scalar.cmpi .sgt v231 c0_i32_73
  let v234 : BitVec 32 := Scalar.extui v233
  let c0_i32_74 : BitVec 32 := 0#32
  let v235 : BitVec 1 := Scalar.cmpi .slt v231 c0_i32_74
  let v236 : BitVec 32 := Scalar.extui v235
  let v237 : BitVec 32 := Scalar.subi v234 v236
  let c2_i32 : BitVec 32 := 2#32
  let c0_i32_75 : BitVec 32 := 0#32
  let v238 : BitVec 1 := Scalar.cmpi .sgt c2_i32 c0_i32_75
  let v239 : BitVec 32 := Scalar.extui v238
  let c0_i32_76 : BitVec 32 := 0#32
  let v240 : BitVec 1 := Scalar.cmpi .slt c2_i32 c0_i32_76
  let v241 : BitVec 32 := Scalar.extui v240
  let v242 : BitVec 32 := Scalar.subi v239 v241
  let v243 : BitVec 1 := Scalar.cmpi .ne v237 v242
  let v244 : BitVec 32 := Scalar.remsi v231 c2_i32
  let c0_i32_77 : BitVec 32 := 0#32
  let v245 : BitVec 1 := Scalar.cmpi .ne v244 c0_i32_77
  let v246 : BitVec 1 := Scalar.andi v243 v245
  let v232 : BitVec 32 := Scalar.divsi v231 c2_i32
  let c1_i32_78 : BitVec 32 := 1#32
  let v247 : BitVec 32 := Scalar.subi v232 c1_i32_78
  let v248 : BitVec 32 := Scalar.select v246 v247 v232
  let v249 : BitVec 32 := Scalar.subi v248 c0_i32_79
  let c1_i32_80 : BitVec 32 := 1#32
  let v251 : BitVec 32 := Scalar.divsi v249 c1_i32_80
  let v252 : BitVec 32 := Scalar.muli v251 c1_i32_80
  let v253 : BitVec 32 := Scalar.addi c0_i32_79 v252
  let c1_i32_82 : BitVec 32 := 1#32
  let arg18 : BitVec 32 := Scf.iv v253 c1_i32_82 k0_t2
  let v311 : BitVec 32 := Scalar.muli c2_i32_106 arg18
  let v312 : BitVec 32 := Scalar.addi v64 v311
  let c1_i32_162 : BitVec 32 := 1#32
  let v445 : BitVec 32 := Scalar.addi v312 c1_i32_162
  let c1024_i32_163 : BitVec 32 := 1024#32
  let v446 : BitVec 32 := Scalar.muli v445 c1024_i32_163
  let v447 : BitVec 32 := v446
  let v459 : Index := Scalar.indexCast v447
  ![0, 0, v459.toNat]
def k0_cond3 (i : grid0.Coords) : BitVec 1 :=
  let c16_i32 : BitVec 32 := 16#32
  let arg1 : BitVec 32 := BitVec.ofNat 32 (i 1).val
  let c256_i32 : BitVec 32 := 256#32
  let v46 : BitVec 32 := Scalar.muli arg1 c256_i32
  let c0_i32_11 : BitVec 32 := 0#32
  let v48 : BitVec 1 := Scalar.cmpi .sgt v46 c0_i32_11
  let v49 : BitVec 32 := Scalar.extui v48
  let c0_i32_12 : BitVec 32 := 0#32
  let v50 : BitVec 1 := Scalar.cmpi .slt v46 c0_i32_12
  let v51 : BitVec 32 := Scalar.extui v50
  let v52 : BitVec 32 := Scalar.subi v49 v51
  let c1024_i32 : BitVec 32 := 1024#32
  let c0_i32_13 : BitVec 32 := 0#32
  let v53 : BitVec 1 := Scalar.cmpi .sgt c1024_i32 c0_i32_13
  let v54 : BitVec 32 := Scalar.extui v53
  let c0_i32_14 : BitVec 32 := 0#32
  let v55 : BitVec 1 := Scalar.cmpi .slt c1024_i32 c0_i32_14
  let v56 : BitVec 32 := Scalar.extui v55
  let v57 : BitVec 32 := Scalar.subi v54 v56
  let v58 : BitVec 1 := Scalar.cmpi .ne v52 v57
  let v59 : BitVec 32 := Scalar.remsi v46 c1024_i32
  let c0_i32_15 : BitVec 32 := 0#32
  let v60 : BitVec 1 := Scalar.cmpi .ne v59 c0_i32_15
  let v61 : BitVec 1 := Scalar.andi v58 v60
  let v47 : BitVec 32 := Scalar.divsi v46 c1024_i32
  let c1_i32 : BitVec 32 := 1#32
  let v62 : BitVec 32 := Scalar.subi v47 c1_i32
  let v63 : BitVec 32 := Scalar.select v61 v62 v47
  let c1_i32_16 : BitVec 32 := 1#32
  let v64 : BitVec 32 := Scalar.addi v63 c1_i32_16
  let v231 : BitVec 32 := Scalar.subi c16_i32 v64
  let c2_i32_83 : BitVec 32 := 2#32
  let c0_i32_84 : BitVec 32 := 0#32
  let v256 : BitVec 1 := Scalar.cmpi .eq c2_i32_83 c0_i32_84
  let c1_i32_85 : BitVec 32 := 1#32
  let v257 : BitVec 32 := Scalar.select v256 c1_i32_85 c2_i32_83
  let v258 : BitVec 32 := Scalar.remsi v231 v257
  let c0_i32_87 : BitVec 32 := 0#32
  let v260 : BitVec 1 := Scalar.cmpi .slt v258 c0_i32_87
  let c0_i32_88 : BitVec 32 := 0#32
  let v261 : BitVec 1 := Scalar.cmpi .slt v257 c0_i32_88
  let v262 : BitVec 1 := Scalar.xori v260 v261
  let c0_i32_86 : BitVec 32 := 0#32
  let v259 : BitVec 1 := Scalar.cmpi .ne v258 c0_i32_86
  let v263 : BitVec 1 := Scalar.andi v262 v259
  let v264 : BitVec 32 := Scalar.addi v258 v257
  let v265 : BitVec 32 := Scalar.select v263 v264 v258
  let c1_i32_89 : BitVec 32 := 1#32
  let v266 : BitVec 1 := Scalar.cmpi .eq v265 c1_i32_89
  let v267 : BitVec 32 := Scalar.extui v266
  let c0_i32_90 : BitVec 32 := 0#32
  let v268 : BitVec 1 := Scalar.cmpi .ne v267 c0_i32_90
  v268

def k0_mult12 : BitVec 32 :=
  let c15360_i32 : BitVec 32 := 15360#32
  c15360_i32
def k0_cond4 (i : grid0.Coords) : BitVec 1 :=
  let arg1 : BitVec 32 := BitVec.ofNat 32 (i 1).val
  let c63_i32 : BitVec 32 := 63#32
  let v308 : BitVec 1 := Scalar.cmpi .eq arg1 c63_i32
  let v309 : BitVec 32 := Scalar.extui v308
  let c0_i32_105 : BitVec 32 := 0#32
  let v310 : BitVec 1 := Scalar.cmpi .ne v309 c0_i32_105
  v310

@[reducible] def k0_t3_loop : Scf.Loop 32 :=
  let c0_i32_106 : BitVec 32 := 0#32
  let c64_i32_107 : BitVec 32 := 64#32
  let v311 : BitVec 32 := Scalar.addi c0_i32_106 c64_i32_107
  let c1_i32_108 : BitVec 32 := 1#32
  ⟨c0_i32_106, v311, c1_i32_108⟩
def k0_mult13 (k0_t3 : Fin k0_t3_loop.trips) : BitVec 32 :=
  let c0_i32_106 : BitVec 32 := 0#32
  let c1_i32_108 : BitVec 32 := 1#32
  let arg18 : BitVec 32 := Scf.iv c0_i32_106 c1_i32_108 k0_t3
  let c256_i32_110 : BitVec 32 := 256#32
  let v312 : BitVec 32 := Scalar.muli arg18 c256_i32_110
  v312
def k0_off16 (k0_t3 : Fin k0_t3_loop.trips) : Fin 2 → Nat :=
  let c0_i32_106 : BitVec 32 := 0#32
  let c1_i32_108 : BitVec 32 := 1#32
  let arg18 : BitVec 32 := Scf.iv c0_i32_106 c1_i32_108 k0_t3
  let c256_i32_110 : BitVec 32 := 256#32
  let v312 : BitVec 32 := Scalar.muli arg18 c256_i32_110
  let v313 : BitVec 32 := v312
  let v314 : Index := Scalar.indexCast v313
  let c0_111 : Index := 0#32
  ![v314.toNat, 0]
def k0_off17 (k0_t3 : Fin k0_t3_loop.trips) : Fin 3 → Nat :=
  let c0_119 : Index := 0#32
  let c0_120 : Index := 0#32
  let c0_i32_106 : BitVec 32 := 0#32
  let c1_i32_108 : BitVec 32 := 1#32
  let arg18 : BitVec 32 := Scf.iv c0_i32_106 c1_i32_108 k0_t3
  let c256_i32_110 : BitVec 32 := 256#32
  let v312 : BitVec 32 := Scalar.muli arg18 c256_i32_110
  let v313 : BitVec 32 := v312
  let v347 : Index := Scalar.indexCast v313
  ![0, 0, v347.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x16384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16384x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x16384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== AtbIdeal.lean ====
variable {F : FTy → Type} [FloatOps F] [Named F]
def κ : String → Option EReal := fun
  | "log2e" => some (((Real.log 2)⁻¹ : ℝ) : EReal)
  | "scaled_log2e" => some (((8 * (Real.log 2))⁻¹ : ℝ) : EReal)
  | _ => none
-- ==== AtbRefIdeal.lean ====
abbrev S16384x3072 : Shape := ⟨2, ![16384, 3072]⟩
abbrev S16x16384 : Shape := ⟨2, ![16, 16384]⟩
abbrev S16384x1024 : Shape := ⟨2, ![16384, 1024]⟩
abbrev S16384x16x64 : Shape := ⟨3, ![16384, 16, 64]⟩
abbrev S16x16384x64 : Shape := ⟨3, ![16, 16384, 64]⟩
abbrev S16x16384x16384 : Shape := ⟨3, ![16, 16384, 16384]⟩
abbrev S_ : Shape := ⟨0, ![]⟩
abbrev S16x16384x1 : Shape := ⟨3, ![16, 16384, 1]⟩
abbrev S16x1x16384 : Shape := ⟨3, ![16, 1, 16384]⟩
abbrev S16384 : Shape := ⟨1, ![16384]⟩
abbrev S1x1x16384 : Shape := ⟨3, ![1, 1, 16384]⟩
abbrev S1x16384x1 : Shape := ⟨3, ![1, 16384, 1]⟩
abbrev S1x16384x16384 : Shape := ⟨3, ![1, 16384, 16384]⟩
abbrev S16x64x16384 : Shape := ⟨3, ![16, 64, 16384]⟩

abbrev nBuf : Space → Nat
  | .hbm => 123
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S16x16384, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x16x64, .f32⟩
  | .hbm, ⟨7, _⟩ => ⟨S16x16384x64, .f32⟩
  | .hbm, ⟨8, _⟩ => ⟨S16384x16x64, .f32⟩
  | .hbm, ⟨9, _⟩ => ⟨S16x16384x64, .f32⟩
  | .hbm, ⟨10, _⟩ => ⟨S16384x16x64, .f32⟩
  | .hbm, ⟨11, _⟩ => ⟨S16x16384x64, .f32⟩
  | .hbm, ⟨12, _⟩ => ⟨S16x16384x16384, .f32⟩
  | .hbm, ⟨13, _⟩ => ⟨S_, .f32⟩
  | .hbm, ⟨14, _⟩ => ⟨S16x16384x16384, .f32⟩
  | .hbm, ⟨15, _⟩ => ⟨S16x16384x16384, .f32⟩
  | .hbm, ⟨16, _⟩ => ⟨S16x16384x1, .f32⟩
  | .hbm, ⟨17, _⟩ => ⟨S16x16384x16384, .f32⟩
  | .hbm, ⟨18, _⟩ => ⟨S16x16384x16384, .f32⟩
  | .hbm, ⟨19, _⟩ => ⟨S16x1x16384, .f32⟩
  | .hbm, ⟨20, _⟩ => ⟨S16x16384x16384, .f32⟩
  | .hbm, ⟨21, _⟩ => ⟨S16x16384x16384, .f32⟩
  | .hbm, ⟨22, _⟩ => ⟨S16384, .i32⟩
  | .hbm, ⟨23, _⟩ => ⟨S1x1x16384, .i32⟩
  | .hbm, ⟨24, _⟩ => ⟨S1x16384x1, .i32⟩
  | .hbm, ⟨25, _⟩ => ⟨S1x16384x16384, .i32⟩
  | .hbm, ⟨26, _⟩ => ⟨S1x16384x16384, .i32⟩
  | .hbm, ⟨27, _⟩ => ⟨S1x16384x16384, .i1⟩
  | .hbm, ⟨28, _⟩ => ⟨S_, .f32⟩
  | .hbm, ⟨29, _⟩ => ⟨S_, .f32⟩
  | .hbm, ⟨30, _⟩ => ⟨S16x16384x16384, .i1⟩
  | .hbm, ⟨31, _⟩ => ⟨S16x16384x16384, .f32⟩
  | .hbm, ⟨32, _⟩ => ⟨S16x16384x16384, .f32⟩
  | .hbm, ⟨33, _⟩ => ⟨S_, .f32⟩
  | .hbm, ⟨34, _⟩ => ⟨S16x16384x16384, .f32⟩
  | .hbm, ⟨35, _⟩ => ⟨S_, .f32⟩
  | .hbm, ⟨36, _⟩ => ⟨S16x16384, .f32⟩
  | .hbm, ⟨37, _⟩ => ⟨S16x16384x1, .f32⟩
  | .hbm, ⟨38, _⟩ => ⟨S16x16384x16384, .f32⟩
  | .hbm, ⟨39, _⟩ => ⟨S16x16384x16384, .i1⟩
  | .hbm, ⟨40, _⟩ => ⟨S16x16384x16384, .f32⟩
  | .hbm, ⟨41, _⟩ => ⟨S_, .f32⟩
  | .hbm, ⟨42, _⟩ => ⟨S16x16384, .f32⟩
  | .hbm, ⟨43, _⟩ => ⟨S_, .f32⟩
  | .hbm, ⟨44, _⟩ => ⟨S16x16384, .f32⟩
  | .hbm, ⟨45, _⟩ => ⟨S16x16384, .f32⟩
  | .hbm, ⟨46, _⟩ => ⟨S_, .f32⟩
  | .hbm, ⟨47, _⟩ => ⟨S16x16384, .f32⟩
  | .hbm, ⟨48, _⟩ => ⟨S16x16384, .i1⟩
  | .hbm, ⟨49, _⟩ => ⟨S_, .f32⟩
  | .hbm, ⟨50, _⟩ => ⟨S16x16384, .f32⟩
  | .hbm, ⟨51, _⟩ => ⟨S16x16384, .i1⟩
  | .hbm, ⟨52, _⟩ => ⟨S_, .f32⟩
  | .hbm, ⟨53, _⟩ => ⟨S16x16384, .f32⟩
  | .hbm, ⟨54, _⟩ => ⟨S_, .f32⟩
  | .hbm, ⟨55, _⟩ => ⟨S16x16384, .f32⟩
  | .hbm, ⟨56, _⟩ => ⟨S_, .f32⟩
  | .hbm, ⟨57, _⟩ => ⟨S16x16384, .f32⟩
  | .hbm, ⟨58, _⟩ => ⟨S16x16384, .f32⟩
  | .hbm, ⟨59, _⟩ => ⟨S16x16384, .f32⟩
  | .hbm, ⟨60, _⟩ => ⟨S16x16384x1, .f32⟩
  | .hbm, ⟨61, _⟩ => ⟨S16x16384x16384, .f32⟩
  | .hbm, ⟨62, _⟩ => ⟨S16x16384x16384, .f32⟩
  | .hbm, ⟨63, _⟩ => ⟨S16x16384x16384, .f32⟩
  | .hbm, ⟨64, _⟩ => ⟨S_, .f32⟩
  | .hbm, ⟨65, _⟩ => ⟨S16x16384, .f32⟩
  | .hbm, ⟨66, _⟩ => ⟨S16x16384x1, .f32⟩
  | .hbm, ⟨67, _⟩ => ⟨S16x16384x16384, .f32⟩
  | .hbm, ⟨68, _⟩ => ⟨S16x16384x16384, .f32⟩
  | .hbm, ⟨69, _⟩ => ⟨S16x16384x1, .f32⟩
  | .hbm, ⟨70, _⟩ => ⟨S_, .f32⟩
  | .hbm, ⟨71, _⟩ => ⟨S16x16384x1, .f32⟩
  | .hbm, ⟨72, _⟩ => ⟨S16x16384x1, .f32⟩
  | .hbm, ⟨73, _⟩ => ⟨S16x16384x64, .f32⟩
  | .hbm, ⟨74, _⟩ => ⟨S16384x16x64, .f32⟩
  | .hbm, ⟨75, _⟩ => ⟨S16384x1024, .f32⟩
  | .hbm, ⟨76, _⟩ => ⟨S16384x16x64, .f32⟩
  | .hbm, ⟨77, _⟩ => ⟨S16x16384x64, .f32⟩
  | .hbm, ⟨78, _⟩ => ⟨S16x64x16384, .f32⟩
  | .hbm, ⟨79, _⟩ => ⟨S16x16384x64, .f32⟩
  | .hbm, ⟨80, _⟩ => ⟨S16x16384x16384, .f32⟩
  | .hbm, ⟨81, _⟩ => ⟨S16x16384x16384, .f32⟩
  | .hbm, ⟨82, _⟩ => ⟨S16x16384x16384, .f32⟩
  | .hbm, ⟨83, _⟩ => ⟨S16x16384x16384, .f32⟩
  | .hbm, ⟨84, _⟩ => ⟨S_, .f32⟩
  | .hbm, ⟨85, _⟩ => ⟨S16x16384, .f32⟩
  | .hbm, ⟨86, _⟩ => ⟨S16x16384x1, .f32⟩
  | .hbm, ⟨87, _⟩ => ⟨S16x16384x1, .f32⟩
  | .hbm, ⟨88, _⟩ => ⟨S16x16384x16384, .f32⟩
  | .hbm, ⟨89, _⟩ => ⟨S16x16384x16384, .f32⟩
  | .hbm, ⟨90, _⟩ => ⟨S_, .f32⟩
  | .hbm, ⟨91, _⟩ => ⟨S16x16384, .f32⟩
  | .hbm, ⟨92, _⟩ => ⟨S16x16384x16384, .f32⟩
  | .hbm, ⟨93, _⟩ => ⟨S16x16384x16384, .f32⟩
  | .hbm, ⟨94, _⟩ => ⟨S16x16384x16384, .f32⟩
  | .hbm, ⟨95, _⟩ => ⟨S_, .f32⟩
  | .hbm, ⟨96, _⟩ => ⟨S16x16384x16384, .f32⟩
  | .hbm, ⟨97, _⟩ => ⟨S16x16384x16384, .f32⟩
  | .hbm, ⟨98, _⟩ => ⟨S16x16384x16384, .f32⟩
  | .hbm, ⟨99, _⟩ => ⟨S_, .f32⟩
  | .hbm, ⟨100, _⟩ => ⟨S16x16384, .f32⟩
  | .hbm, ⟨101, _⟩ => ⟨S16x1x16384, .f32⟩
  | .hbm, ⟨102, _⟩ => ⟨S_, .f32⟩
  | .hbm, ⟨103, _⟩ => ⟨S16x16384, .f32⟩
  | .hbm, ⟨104, _⟩ => ⟨S_, .f32⟩
  | .hbm, ⟨105, _⟩ => ⟨S16x16384, .f32⟩
  | .hbm, ⟨106, _⟩ => ⟨S16x16384x1, .f32⟩
  | .hbm, ⟨107, _⟩ => ⟨S_, .f32⟩
  | .hbm, ⟨108, _⟩ => ⟨S16x16384, .f32⟩
  | .hbm, ⟨109, _⟩ => ⟨S16x16384, .f32⟩
  | .hbm, ⟨110, _⟩ => ⟨S_, .f32⟩
  | .hbm, ⟨111, _⟩ => ⟨S16x16384x16384, .f32⟩
  | .hbm, ⟨112, _⟩ => ⟨S16x16384x16384, .f32⟩
  | .hbm, ⟨113, _⟩ => ⟨S16x16384x64, .f32⟩
  | .hbm, ⟨114, _⟩ => ⟨S16x16384x64, .f32⟩
  | .hbm, ⟨115, _⟩ => ⟨S16384x16x64, .f32⟩
  | .hbm, ⟨116, _⟩ => ⟨S16384x1024, .f32⟩
  | .hbm, ⟨117, _⟩ => ⟨S16384x16x64, .f32⟩
  | .hbm, ⟨118, _⟩ => ⟨S16384x1024, .f32⟩
  | .hbm, ⟨119, _⟩ => ⟨S16384x16x64, .f32⟩
  | .hbm, ⟨120, _⟩ => ⟨S16384x1024, .f32⟩
  | .hbm, ⟨121, _⟩ => ⟨S16384x1024, .bf16⟩
  | .hbm, ⟨122, _⟩ => ⟨S16384x1024, .bf16⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call0_v0 : Ref sig .tc := ⟨.hbm, 29, rfl⟩
abbrev main_v24_1 : Ref sig .tc := ⟨.hbm, 30, rfl⟩
abbrev main_call0_v2 : Ref sig .tc := ⟨.hbm, 31, rfl⟩
abbrev main_v24_0 : Ref sig .tc := ⟨.hbm, 32, rfl⟩
abbrev main_call0_cst : Ref sig .tc := ⟨.hbm, 33, rfl⟩
abbrev main_v24_2 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_11 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_12 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_call1_cst : Ref sig .tc := ⟨.hbm, 95, rfl⟩
abbrev main_call1_v0 : Ref sig .tc := ⟨.hbm, 96, rfl⟩
abbrev main_v73 : Ref sig .tc := ⟨.hbm, 97, rfl⟩
abbrev main_v74 : Ref sig .tc := ⟨.hbm, 98, rfl⟩
abbrev main_cst_13 : Ref sig .tc := ⟨.hbm, 99, rfl⟩
abbrev main_v75 : Ref sig .tc := ⟨.hbm, 100, rfl⟩
abbrev main_v76 : Ref sig .tc := ⟨.hbm, 101, rfl⟩
abbrev main_cst_14 : Ref sig .tc := ⟨.hbm, 102, rfl⟩
abbrev main_v77 : Ref sig .tc := ⟨.hbm, 103, rfl⟩
abbrev main_cst_15 : Ref sig .tc := ⟨.hbm, 104, rfl⟩
abbrev main_v78 : Ref sig .tc := ⟨.hbm, 105, rfl⟩
abbrev main_v79 : Ref sig .tc := ⟨.hbm, 106, rfl⟩
abbrev main_cst_16 : Ref sig .tc := ⟨.hbm, 107, rfl⟩
abbrev main_v80 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩

abbrev nD : Nat := 1
abbrev τ : Topo := Topo.v7x

variable {F : FTy → Type} [FloatOps F]
-- ==== Proof.AtbRun.lean ====
module

public import proofs.«01_k».proof.Proof.Gen.Atb.Frame
public import proofs.«01_k».proof.Proof.Gen.Atb.Loops
public import proofs.«01_k».proof.Proof.AtbOffsets

@[expose] public section

set_option maxRecDepth 16384

noncomputable section

namespace Cert.Atb.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Atb Cert.Atb.Gen

variable {F : FTy → Type} [FloatOps F]

local notation "𝕄" => MT nD τ sig Unit (Elt F) ℕ (UR sig nD τ) ℕ

/-- The wide blocks' loop leaves the inputs in place and the accumulators and the scratch at some contents. -/
@[sl_loop] def loopInv_t1 (c : Dev nD) (i : grid0.Coords) (arg2 : Memref sig .tc .vmem S16384x128 .bf16) (harg2 : arg2.IsWhole) (arg3 : Memref sig .tc .vmem S16384x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S1x8x16384 .f32) (harg6 : arg6.IsWhole) (arg7 : Memref sig .tc .vmem S1x8x16384 .f32) (harg7 : arg7.IsWhole) (arg8 : Memref sig .tc .vmem S1x8x16384 .f32) (harg8 : arg8.IsWhole) (arg9 : Memref sig .tc .vmem S1x256x128 .f32) (harg9 : arg9.IsWhole) (arg10 : Memref sig .tc .vmem S16384x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S1x256x128 .f32) (harg13 : arg13.IsWhole) (arg14 : Memref sig .tc .vmem S1x8x16384 .f32) (harg14 : arg14.IsWhole) (arg15 : Memref sig .tc .vmem S16384x128 .f32) (harg15 : arg15.IsWhole) (arg16 : Memref sig .tc .vmem S16384x128 .f32) (harg16 : arg16.IsWhole) (arg17 : Memref sig .tc .vmem S4x256x1024 .f32) (harg17 : arg17.IsWhole) (v5 : IVec S1x128 1) (v7 : IVec S1x128 1) (v16 : FVec F S256x128 .bf16) (v19 : FVec F S256x128 .bf16) (v22 : FVec F S256x128 .bf16) (v25 : FVec F S256x128 .bf16) (v28 : FVec F S256x128 .bf16) (v31 : FVec F S256x128 .bf16) (v34 : FVec F S1x1 .f32) (v35 : FVec F S1x1 .f32) (v40 : FVec F S256x1 .f32) (v45 : FVec F S256x1 .f32) (v64 : BitVec 32) (v105 : BitVec 32) (v162 : FVec F S256x128 .f32) (v167 : FVec F S256x128 .f32) (v208 : FVec F S256x512 .bf16) (v211 : FVec F S256x128 .f32) (v216 : FVec F S256x128 .f32)  (X2 : BufTy.Contents (Elt F) arg2.view.ty) (X3 : BufTy.Contents (Elt F) arg3.view.ty) (X6 : BufTy.Contents (Elt F) arg6.view.ty) (X7 : BufTy.Contents (Elt F) arg7.view.ty) (X8 : BufTy.Contents (Elt F) arg8.view.ty) (init : FVec F S256x128 .f32 × FVec F S256x128 .f32 × FVec F S256x128 .f32 × FVec F S256x128 .f32) :
    Gen.LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v7 v16 v19 v22 v25 v28 v31 v34 v35 v40 v45 v64 v105 v162 v167 v208 v211 v216 init where
  inv _ _ := iprop((arg2.view.loc (c : Thread nD τ) ↦[arg2.view.set]{fullShare} X2) ∗ (arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f))
  step k acc := by
    have hk : k.val < (15 - (i 1).val / 4) / 2 := Nat.lt_of_lt_of_eq k.isLt (trips i)
    have hi : (i 1).val < 64 := (i 1).isLt
    obtain ⟨a0, a1, a2, a3⟩ := acc
    unfold k0_t1_body
    iintro ⟨H2, H3, H6, H7, H8, ⟨%f15, H15⟩, ⟨%f16, H16⟩, ⟨%f17, H17⟩⟩
    sl_exec
    sl_step
    sl_close

end Cert.Atb.Hand

end
-- ==== Proof.AtbWeak.lean ====
module

public import proofs.«01_k».proof.Proof.Gen.Atb.Frame
public import proofs.«01_k».proof.Proof.Gen.Atb.Loops
public import proofs.«01_k».proof.Proof.AtbRun
public import Idealize.ShloMosaic.Lib.LoopRemainder

@[expose] public section

set_option maxRecDepth 16384

noncomputable section

namespace Cert.Atb.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Atb Cert.Atb.Gen

variable {F : FTy → Type} [FloatOps F]

local notation "𝕄" => MT nD τ sig Unit (Elt F) ℕ (UR sig nD τ) ℕ

set_option maxHeartbeats 4000000 in
/-- The body at any grid point: the inputs stay in place, every written buffer ends at some contents. -/
theorem body_run (c : Dev nD) (i : grid0.Coords) (arg2 : Memref sig .tc .vmem S16384x128 .bf16) (harg2 : arg2.IsWhole) (arg3 : Memref sig .tc .vmem S16384x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S1x8x16384 .f32) (harg6 : arg6.IsWhole) (arg7 : Memref sig .tc .vmem S1x8x16384 .f32) (harg7 : arg7.IsWhole) (arg8 : Memref sig .tc .vmem S1x8x16384 .f32) (harg8 : arg8.IsWhole) (arg9 : Memref sig .tc .vmem S1x256x128 .f32) (harg9 : arg9.IsWhole) (arg10 : Memref sig .tc .vmem S16384x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S1x256x128 .f32) (harg13 : arg13.IsWhole) (arg14 : Memref sig .tc .vmem S1x8x16384 .f32) (harg14 : arg14.IsWhole) (arg15 : Memref sig .tc .vmem S16384x128 .f32) (harg15 : arg15.IsWhole) (arg16 : Memref sig .tc .vmem S16384x128 .f32) (harg16 : arg16.IsWhole) (arg17 : Memref sig .tc .vmem S4x256x1024 .f32) (harg17 : arg17.IsWhole) (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (X9 : Buf (Elt F) (arg9.view.loc (c : Thread nD τ))) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f)) : sProp 𝕄)
      ⊢ wp frame (wpE (defs₀ (F := F)) Variants.none (c : Thread nD τ) none) Set.univ (cc0_attn_bwd_2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f))) := by
  have hi : (i 1).val < 64 := (i 1).isLt
  have htr2 := trips2 i
  rw [cc0_attn_bwd_2_eq_skeleton]
  unfold cc0_attn_bwd_2_skel
  iintro ⟨H2, H3, H4, H5, H6, H7, H8, H9, ⟨%f10, H10⟩, ⟨%f11, H11⟩, ⟨%f12, H12⟩, ⟨%f13, H13⟩, ⟨%f14, H14⟩, ⟨%f15, H15⟩, ⟨%f16, H16⟩, ⟨%f17, H17⟩⟩
  by_cases hc2 : k0_cond2 i = 1#1 <;> by_cases hc3 : k0_cond3 i = 1#1 <;> by_cases hc4 : k0_cond4 i = 1#1
  all_goals sl_exec
  all_goals sl_step
  all_goals sl_close

end Cert.Atb.Hand

end
-- ==== Proof.AtbFrame.lean ====
module

public import proofs.«01_k».proof.Proof.Gen.Atb.Frame
public import proofs.«01_k».proof.Proof.Gen.Atb.Loops
public import proofs.«01_k».proof.Proof.AtbWeak
public import Idealize.ShloMosaic.Lib.Claim

@[expose] public section

set_option maxRecDepth 16384

noncomputable section

namespace Cert.Atb.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.Atb Cert.Atb.Gen

variable {F : FTy → Type} [FloatOps F]

local notation "𝕄" => MT nD τ sig Unit (Elt F) ℕ (UR sig nD τ) ℕ

/-- The body over buffers owned at their values: the inputs stay, every written buffer ends at some contents. -/
theorem body_owns (c : Dev nD) (i : grid0.Coords) (arg2 : Memref sig .tc .vmem S16384x128 .bf16) (harg2 : arg2.IsWhole) (arg3 : Memref sig .tc .vmem S16384x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S1x8x16384 .f32) (harg6 : arg6.IsWhole) (arg7 : Memref sig .tc .vmem S1x8x16384 .f32) (harg7 : arg7.IsWhole) (arg8 : Memref sig .tc .vmem S1x8x16384 .f32) (harg8 : arg8.IsWhole) (arg9 : Memref sig .tc .vmem S1x256x128 .f32) (harg9 : arg9.IsWhole) (arg10 : Memref sig .tc .vmem S16384x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S1x256x128 .f32) (harg13 : arg13.IsWhole) (arg14 : Memref sig .tc .vmem S1x8x16384 .f32) (harg14 : arg14.IsWhole) (arg15 : Memref sig .tc .vmem S16384x128 .f32) (harg15 : arg15.IsWhole) (arg16 : Memref sig .tc .vmem S16384x128 .f32) (harg16 : arg16.IsWhole) (arg17 : Memref sig .tc .vmem S4x256x1024 .f32) (harg17 : arg17.IsWhole) (Y2 : S16384x128.Idx → Elt F .bf16) (Y3 : S16384x128.Idx → Elt F .bf16) (Y4 : S256x128.Idx → Elt F .bf16) (Y5 : S256x128.Idx → Elt F .bf16) (Y6 : S1x8x16384.Idx → Elt F .f32) (Y7 : S1x8x16384.Idx → Elt F .f32) (Y8 : S1x8x16384.Idx → Elt F .f32) (Y9 : S1x256x128.Idx → Elt F .f32) :
    (iprop(owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X)) : sProp 𝕄)
      ⊢ wp frame (wpE (defs₀ (F := F)) Variants.none (c : Thread nD τ) none) Set.univ (cc0_attn_bwd_2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) (fun _ => iprop(owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X))) := by
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%X10, %f10, %h10, H10⟩, ⟨%X11, %f11, %h11, H11⟩, ⟨%X12, %f12, %h12, H12⟩, ⟨%X13, %f13, %h13, H13⟩, ⟨%X14, %f14, %h14, H14⟩, ⟨%X15, %f15, %h15, H15⟩, ⟨%X16, %f16, %h16, H16⟩, ⟨%X17, %f17, %h17, H17⟩⟩
  iapply (wp_wand_r Idealize.ShloMosaic.frame (wpE (defs₀ (F := F)) Variants.none (c : Thread nD τ) none) Set.univ)
  isplitl [H2 H3 H4 H5 H6 H7 H8 H9 H10 H11 H12 H13 H14 H15 H16 H17]
  · iapply (body_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17
  · iintro %_ ⟨H2, H3, H4, H5, H6, H7, H8, H9, ⟨%g10, H10⟩, ⟨%g11, H11⟩, ⟨%g12, H12⟩, ⟨%g13, H13⟩, ⟨%g14, H14⟩, ⟨%g15, H15⟩, ⟨%g16, H16⟩, ⟨%g17, H17⟩⟩
    isplitl [H2]
    · iexists _; isplitr
      swap; · iexact H2
      ipureintro; exact h2
    isplitl [H3]
    · iexists _; isplitr
      swap; · iexact H3
      ipureintro; exact h3
    isplitl [H4]
    · iexists _; isplitr
      swap; · iexact H4
      ipureintro; exact h4
    isplitl [H5]
    · iexists _; isplitr
      swap; · iexact H5
      ipureintro; exact h5
    isplitl [H6]
    · iexists _; isplitr
      swap; · iexact H6
      ipureintro; exact h6
    isplitl [H7]
    · iexists _; isplitr
      swap; · iexact H7
      ipureintro; exact h7
    isplitl [H8]
    · iexists _; isplitr
      swap; · iexact H8
      ipureintro; exact h8
    isplitl [H9]
    · iexists _; isplitr
      swap; · iexact H9
      ipureintro; exact h9
    isplitl [H10]
    · iexists _; iexists _; isplitr
      swap; · iexact H10
      ipureintro; rfl
    isplitl [H11]
    · iexists _; iexists _; isplitr
      swap; · iexact H11
      ipureintro; rfl
    isplitl [H12]
    · iexists _; iexists _; isplitr
      swap; · iexact H12
      ipureintro; rfl
    isplitl [H13]
    · iexists _; iexists _; isplitr
      swap; · iexact H13
      ipureintro; rfl
    isplitl [H14]
    · iexists _; iexists _; isplitr
      swap; · iexact H14
      ipureintro; rfl
    isplitl [H15]
    · iexists _; iexists _; isplitr
      swap; · iexact H15
      ipureintro; rfl
    isplitl [H16]
    · iexists _; iexists _; isplitr
      swap; · iexact H16
      ipureintro; rfl
    iexists _; iexists _; isplitr
    swap; · iexact H17
    ipureintro; rfl

variable (m : (ℓ : Loc nD τ sig) → Buf (Elt F) ℓ) (ρ : Dev nD → PrngReg)

/-- The output windows, of whose contents the frame says nothing. -/
def fgt : Fin 13 → Bool
  | 0 => false
  | 1 => false
  | 2 => false
  | 3 => false
  | 4 => false
  | 5 => false
  | 6 => false
  | 7 => false
  | 8 => true
  | 9 => true
  | 10 => true
  | 11 => true
  | 12 => true

/-- The pipeline's data: each input's buffer stays at its block, the outputs and the scratch at some contents, the
    windows that read one array share it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
    | ⟨11, _⟩ => Pipeline.Dat.unnamed (cfg := cfg0) 11 t
    | ⟨12, _⟩ => Pipeline.Dat.unnamed (cfg := cfg0) 12 t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d

/-- The region's invariant: the three scratch buffers at some contents, and the generator register. -/
theorem PhiA0_eq (c : Dev nD) :
    (Pipeline.ΦA spec0 c : sProp 𝕄)
      = iprop(iprop((∃ d, owns (c : Thread nD τ) (Memref.whole cc0_scratch0 : Memref sig .tc .vmem S16384x128 .f32) fullShare d) ∗ (∃ d, owns (c : Thread nD τ) (Memref.whole cc0_scratch1 : Memref sig .tc .vmem S16384x128 .f32) fullShare d) ∗ (∃ d, owns (c : Thread nD τ) (Memref.whole cc0_scratch2 : Memref sig .tc .vmem S4x256x1024 .f32) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ X, owns (c : Thread nD τ) (win0_8.stage (cfg0.slots t 8)) fullShare X)
    ∗ (∃ X, owns (c : Thread nD τ) (win0_9.stage (cfg0.slots t 9)) fullShare X)
    ∗ (∃ X, owns (c : Thread nD τ) (win0_10.stage (cfg0.slots t 10)) fullShare X)
    ∗ (∃ X, owns (c : Thread nD τ) (win0_11.stage (cfg0.slots t 11)) fullShare X)
    ∗ (∃ X, owns (c : Thread nD τ) (win0_12.stage (cfg0.slots t 12)) fullShare X))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ (∃ X, owns (c : Thread nD τ) (win0_8.stage (cfg0.slots t 8)) fullShare X)
    ∗ (∃ X, owns (c : Thread nD τ) (win0_9.stage (cfg0.slots t 9)) fullShare X)
    ∗ (∃ X, owns (c : Thread nD τ) (win0_10.stage (cfg0.slots t 10)) fullShare X)
    ∗ (∃ X, owns (c : Thread nD τ) (win0_11.stage (cfg0.slots t 11)) fullShare X)
    ∗ (∃ X, owns (c : Thread nD τ) (win0_12.stage (cfg0.slots t 12)) fullShare X))

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12⟩
  iapply (wp_wand_r Idealize.ShloMosaic.frame (wpE (defs₀ (F := F)) Variants.none (c : Thread nD τ) none) Set.univ)
  isplitl [HS0 HS1 HS2 H0 H1 H2 H3 H4 H5 H6 H7 H8 H9 H10 H11 H12]
  · iapply (body_owns c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    iexact HS2
  · iintro %_ ⟨H0, H1, H2, H3, H4, H5, H6, H7, H8, H9, H10, H11, H12, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The run to the arrays: nothing said of the outputs, every counter at zero. -/
theorem run_main : θ_run defs (onTc (τ := τ) (main (F := F))) (s₀ m ρ) (fun r => Pipeline.RDat.FramePost cfg0 (fun c => (dats m 0 c).toRForget fgt) (V m) r ∧ r.2.sem = fun _ => 0) :=
  Pipeline.θ_run_frame_forget_shared (Q' := _) cfgs (dats m) (0 : Fin 1) launch₀0 defs₀ Variants.none fgt m ρ main
    (hbody := body_obligation m) (hq := fun _ _ _ => rfl)
    (howed := fun _ _ => rfl) (V := V m) (hmain := hmain m Variants.none) (hA := A_eq m) (hΦ := fun _ _ => rfl)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.Atb.Hand

end
-- ==== Proof.Reals.lean ====
/-
  Extended reals that are real numbers: what a finite array is, and how a sum, a mean, an inverse root
  and the logistic function of real numbers are again real numbers. Every value proof of this
  certificate that needs finite arguments brings its scalar identity to the reals with these.
-/
module

public import Idealize.ShloMosaic.Lib.Pipeline.ValueKit
public import Idealize.ShloMosaic.Lib.Pointwise
public import Idealize.ShloMosaic.PureOps.Ideal.Laws
public import Idealize.ShloMosaic.Lib.IdealHost

@[expose] public section

noncomputable section

namespace Cert.Reals

open Idealize.ShloMosaic

/-- The array `x` holds real numbers only. -/
def Finite {α : Type} (x : α → EReal) : Prop := ∀ i, x i ≠ ⊥ ∧ x i ≠ ⊤

/-- A finite array is an array of real numbers. -/
theorem Finite.lift {α : Type} {x : α → EReal} (h : Finite x) : ∃ r : α → ℝ, x = fun i => (r i : EReal) :=
  ⟨fun i => (x i).toReal, funext fun i => (EReal.coe_toReal (h i).2 (h i).1).symm⟩

/-- An absolute value below the float infinity is that of a real number. -/
theorem ne_of_abs_lt {a b : EReal} (h : Ideal.cmp .olt (max a (-a)) b = 1#1) : a ≠ ⊥ ∧ a ≠ ⊤ := by
  have h' : max a (-a) < b := by
    by_contra hn
    simp [Ideal.cmp, hn] at h
  constructor
  · rintro rfl; simp at h'
  · rintro rfl; simp at h'

/-- An array the precondition speaks of holds real numbers. -/
theorem finite_of {S : Shape} {x : FVec Ideal S .f32} (b : FVec Ideal S .f32)
    (h : cmpf .olt (Host.absf x) b = fun _ => 1#1) : Finite x := fun i =>
  ne_of_abs_lt (b := b i) (congrFun h i)

/-- The sum of real numbers, taken among the extended reals, is their sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A product of two rows of real numbers is a real number. -/
theorem coe_sum_mul {ι : Type*} (s : Finset ι) (f g : ι → ℝ) :
    ∑ i ∈ s, ((f i : ℝ) : EReal) * ((g i : ℝ) : EReal) = ((∑ i ∈ s, f i * g i : ℝ) : EReal) := by
  rw [← coe_sum]; exact Finset.sum_congr rfl fun i _ => (EReal.coe_mul _ _).symm

/-- The pattern of 1024. -/
theorem ofBits_1024 : Ideal.ofBits .f32 0x44800000#32 = ((1024 : ℝ) : EReal) := by
  simp [Ideal.ofBits, Ideal.ieee, -EReal.coe_mul]; norm_num

/-- The pattern of minus a half. -/
theorem ofBits_mhalf : Ideal.ofBits .f32 0xBF000000#32 = ((-(1 / 2) : ℝ) : EReal) := by
  simp [Ideal.ofBits, Ideal.ieee, -EReal.coe_mul, -EReal.coe_neg]; norm_num

/-- The constant under the root is a positive real number. -/
theorem ofBits_eps : ∃ e : ℝ, 0 < e ∧ Ideal.ofBits .f32 0x358637BD#32 = (e : EReal) := by
  refine ⟨8796093 * (2 ^ 43)⁻¹, by positivity, ?_⟩
  simp [Ideal.ofBits, Ideal.ieee, -EReal.coe_mul]

end Cert.Reals

end
-- ==== Proof.ActValue.lean ====
/-
  The gradient of the gated activation: the tiled kernel forms the gradient of the hidden row by one product
  and differentiates `silu g * u` in closed form, piece by piece; the reference differentiates the same lines
  mechanically. Over the reals the two are equal.
-/
module

public import proofs.«01_k».proof.Proof.Gen.ActIdeal.Value
public import proofs.«01_k».proof.Proof.Gen.ActRefIdeal.Run
public import proofs.«01_k».proof.Defs
public import Idealize.ShloMosaic.Lib.Pipeline.ValueKit
public import Idealize.ShloMosaic.Lib.Pointwise
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.ActIdeal.Value
open Cert.ActIdeal Cert.ActIdeal.Gen

variable (m : (ℓ : Loc nD τ sig) → Buf (Elt Ideal) ℓ)

/-- What the reference returns, over the three arguments. -/
abbrev REF (X : FVec Ideal S16384x1024 .f32) (W : FVec Ideal S2816x1024 .f32) (A : FVec Ideal S16384x5632 .f32) :
    FVec Ideal S2x2x16384x1408 .bf16 :=
  truncf .bf16 (transpose Cert.ActRefIdeal.S2x2x16384x1408 [1, 2, 0, 3] (shapeCast _ (concatenate Cert.ActRefIdeal.S16384x5632 1 [⟨Cert.ActRefIdeal.S16384x2816, (addf (mulf (mulf (Host.dotGeneral Cert.ActRefIdeal.dot_S16384x1024_S2816x1024_S16384x2816_1_1_0_0_n_n none X W) (extractStridedSlice Cert.ActRefIdeal.S16384x2816 ![0, 2816] A Cert.ActRefIdeal.Gen.slices_S16384x5632_S16384x2816_0_2816)) (Host.divf (broadcastInDim Cert.ActRefIdeal.S16384x2816 ![] Cert.ActRefIdeal.Gen.bcast_S_S16384x2816 (constant Cert.ActRefIdeal.S_ .f32 0x3F800000#32)) (addf (broadcastInDim Cert.ActRefIdeal.S16384x2816 ![] Cert.ActRefIdeal.Gen.bcast_S_S16384x2816 (constant Cert.ActRefIdeal.S_ .f32 0x3F800000#32)) (Host.exp (Host.negf (extractStridedSlice Cert.ActRefIdeal.S16384x2816 ![0, 0] A Cert.ActRefIdeal.Gen.slices_S16384x5632_S16384x2816_0_0)))))) (mulf (mulf (extractStridedSlice Cert.ActRefIdeal.S16384x2816 ![0, 0] A Cert.ActRefIdeal.Gen.slices_S16384x5632_S16384x2816_0_0) (mulf (Host.dotGeneral Cert.ActRefIdeal.dot_S16384x1024_S2816x1024_S16384x2816_1_1_0_0_n_n none X W) (extractStridedSlice Cert.ActRefIdeal.S16384x2816 ![0, 2816] A Cert.ActRefIdeal.Gen.slices_S16384x5632_S16384x2816_0_2816))) (mulf (Host.divf (broadcastInDim Cert.ActRefIdeal.S16384x2816 ![] Cert.ActRefIdeal.Gen.bcast_S_S16384x2816 (constant Cert.ActRefIdeal.S_ .f32 0x3F800000#32)) (addf (broadcastInDim Cert.ActRefIdeal.S16384x2816 ![] Cert.ActRefIdeal.Gen.bcast_S_S16384x2816 (constant Cert.ActRefIdeal.S_ .f32 0x3F800000#32)) (Host.exp (Host.negf (extractStridedSlice Cert.ActRefIdeal.S16384x2816 ![0, 0] A Cert.ActRefIdeal.Gen.slices_S16384x5632_S16384x2816_0_0))))) (subf (broadcastInDim Cert.ActRefIdeal.S16384x2816 ![] Cert.ActRefIdeal.Gen.bcast_S_S16384x2816 (constant Cert.ActRefIdeal.S_ .f32 0x3F800000#32)) (Host.divf (broadcastInDim Cert.ActRefIdeal.S16384x2816 ![] Cert.ActRefIdeal.Gen.bcast_S_S16384x2816 (constant Cert.ActRefIdeal.S_ .f32 0x3F800000#32)) (addf (broadcastInDim Cert.ActRefIdeal.S16384x2816 ![] Cert.ActRefIdeal.Gen.bcast_S_S16384x2816 (constant Cert.ActRefIdeal.S_ .f32 0x3F800000#32)) (Host.exp (Host.negf (extractStridedSlice Cert.ActRefIdeal.S16384x2816 ![0, 0] A Cert.ActRefIdeal.Gen.slices_S16384x5632_S16384x2816_0_0)))))))))⟩, ⟨Cert.ActRefIdeal.S16384x2816, (mulf (mulf (extractStridedSlice Cert.ActRefIdeal.S16384x2816 ![0, 0] A Cert.ActRefIdeal.Gen.slices_S16384x5632_S16384x2816_0_0) (Host.divf (broadcastInDim Cert.ActRefIdeal.S16384x2816 ![] Cert.ActRefIdeal.Gen.bcast_S_S16384x2816 (constant Cert.ActRefIdeal.S_ .f32 0x3F800000#32)) (addf (broadcastInDim Cert.ActRefIdeal.S16384x2816 ![] Cert.ActRefIdeal.Gen.bcast_S_S16384x2816 (constant Cert.ActRefIdeal.S_ .f32 0x3F800000#32)) (Host.exp (Host.negf (extractStridedSlice Cert.ActRefIdeal.S16384x2816 ![0, 0] A Cert.ActRefIdeal.Gen.slices_S16384x5632_S16384x2816_0_0)))))) (Host.dotGeneral Cert.ActRefIdeal.dot_S16384x1024_S2816x1024_S16384x2816_1_1_0_0_n_n none X W))⟩] Cert.ActRefIdeal.Gen.concatenates_S16384x2816_S16384x2816_S16384x5632_d1) Cert.ActRefIdeal.Gen.shapeCasts_S16384x5632_S16384x2x2x1408) Cert.ActRefIdeal.Gen.transposes_S16384x2x2x1408_S2x2x16384x1408_1_2_0_3) Cert.ActRefIdeal.Gen.bitsLt_bf16_f32

/-- The block each window is on at a point. -/
theorem idx : ∀ t : Fin cfg0.N, win0_0.index t = ![t.val % 64, 0] ∧ win0_1.index t = ![t.val / 64, 0]
    ∧ win0_2.index t = ![0, t.val / 64, t.val % 64, 0] ∧ win0_3.index t = ![0, t.val / 64, t.val % 64, 0]
    ∧ t.val / 64 < 2 :=
  (by decide +kernel : ∀ t : Fin grid0.N, _)

/-- An entry of the hidden row's gradient. -/
def hid (x0 : Vec Ideal S256x1024 .f32) (x1 : Vec Ideal S1408x1024 .bf16) (r : Fin 256) (q : Fin 1408) : EReal :=
  ∑ k : Fin 1024, x0 (ix2 r k) * x1 (ix2 q k)

/-- The gradient of the gate in closed form. -/
def gateK (d g u : EReal) : EReal := d * u * (Ideal.logistic g * (1 + g * (1 - Ideal.logistic g)))

/-- The gradient of the other factor. -/
def upK (d g : EReal) : EReal := d * (g * Ideal.logistic g)

/-- What a point leaves in its block. -/
def KER (x0 : Vec Ideal S256x1024 .f32) (x1 : Vec Ideal S1408x1024 .bf16) (x2 : Vec Ideal S2x1x256x1408 .bf16)
    (y : S2x1x256x1408.Idx) : EReal :=
  if (y 0 : ℕ) = 0 then gateK (hid x0 x1 (y 2) (y 3)) (x2 (ix4 0 0 (y 2) (y 3))) (x2 (ix4 1 0 (y 2) (y 3)))
  else upK (hid x0 x1 (y 2) (y 3)) (x2 (ix4 0 0 (y 2) (y 3)))

/-- The eight pieces a point stores are `KER`. -/
theorem pieces (c : Dev nD) (t : Fin cfg0.N) (y : S2x1x256x1408.Idx) :
    outsAt0 m c t y = KER (iblk m c 0 t) (iblk m c 1 t) (iblk m c 2 t) y := by
  unfold outsAt0
  frame_out
  canon_tiles x h using (View.cover_of_tiledBy _ ![1, 1, 256, 128] (by sl_kernel_rfl) y)
  all_goals (first | rw [KER, if_pos (by omega)] | rw [KER, if_neg (by omega)])
  all_goals (simp only [gateK, upK, hid]; open_payloads; pointwise; blk_point [])

/-- The entry of the hidden row's gradient, over the whole arrays. -/
def HID (X : FVec Ideal S16384x1024 .f32) (W : FVec Ideal S2816x1024 .f32) (r : Fin 16384) (q : Fin 2816) : EReal :=
  ∑ k : Fin 1024, X (ix2 r k) * W (ix2 q k)

/-- The gradient of the gate as the reference forms it. -/
def gateR (d g u : EReal) : EReal :=
  d * u * Ideal.logistic g + g * (d * u) * (Ideal.logistic g * (1 - Ideal.logistic g))

/-- The reference at an entry of the gate's half. -/
theorem ref_gate (X : FVec Ideal S16384x1024 .f32) (W : FVec Ideal S2816x1024 .f32) (A : FVec Ideal S16384x5632 .f32)
    (j : S2x2x16384x1408.Idx) (r : Fin 16384) (q : Fin 2816) (g u : Fin 5632) (hr : (r : ℕ) = j 2)
    (hq : (q : ℕ) = 1408 * (j 1 : ℕ) + (j 3 : ℕ)) (hg : (g : ℕ) = q) (hu : (u : ℕ) = 2816 + q) (h0 : (j 0 : ℕ) = 0) :
    REF X W A j = gateR (HID X W r q) (A (ix2 r g)) (A (ix2 r u)) := by
  simp only [gateR, HID, Ideal.logistic]
  pointwise [REF]
  refine (dif_pos (by omega)).trans ?_
  blk_point []

/-- The reference at an entry of the other half. -/
theorem ref_up (X : FVec Ideal S16384x1024 .f32) (W : FVec Ideal S2816x1024 .f32) (A : FVec Ideal S16384x5632 .f32)
    (j : S2x2x16384x1408.Idx) (r : Fin 16384) (q : Fin 2816) (g : Fin 5632) (hr : (r : ℕ) = j 2)
    (hq : (q : ℕ) = 1408 * (j 1 : ℕ) + (j 3 : ℕ)) (hg : (g : ℕ) = q) (h0 : ¬ (j 0 : ℕ) = 0) :
    REF X W A j = A (ix2 r g) * Ideal.logistic (A (ix2 r g)) * HID X W r q := by
  have b0 : (j 0 : ℕ) < 2 := (j 0).isLt
  simp only [HID, Ideal.logistic]
  pointwise [REF]
  refine (dif_neg (by omega)).trans ?_
  blk_point []

/-- Over the reals the closed form is the mechanical derivative. -/
theorem gate_eq (d g u : ℝ) : gateK d g u = gateR d g u := by
  simp only [gateK, gateR, Ideal.logistic_coe]
  norm_cast
  ring

/-- On real arrays a point leaves the reference's block. -/
theorem point (c : Dev nD) (t : Fin cfg0.N) (y : S2x1x256x1408.Idx)
    (hX : Cert.Reals.Finite (m ((c : Thread nD τ).loc main_arg0))) (hW : Cert.Reals.Finite (m ((c : Thread nD τ).loc main_arg1)))
    (hA : Cert.Reals.Finite (m ((c : Thread nD τ).loc main_arg2))) :
    KER (iblk m c 0 t) (iblk m c 1 t) (iblk m c 2 t) y
      = REF (m ((c : Thread nD τ).loc main_arg0)) (m ((c : Thread nD τ).loc main_arg1)) (m ((c : Thread nD τ).loc main_arg2))
          (((cfg0.win 3).blk t).view.emb y) := by
  have ht : t.val / 64 < 2 := (idx t).2.2.2.2
  have hy2 : (y 2 : ℕ) < 256 := (y 2).isLt
  have hy3 : (y 3 : ℕ) < 1408 := (y 3).isLt
  obtain ⟨r, hr⟩ : ∃ r : Fin 16384, (r : ℕ) = t.val % 64 * 256 + y 2 := ⟨⟨_, by omega⟩, rfl⟩
  obtain ⟨q, hq⟩ : ∃ q : Fin 2816, (q : ℕ) = t.val / 64 * 1408 + y 3 := ⟨⟨_, by omega⟩, rfl⟩
  obtain ⟨g, hg⟩ : ∃ g : Fin 5632, (g : ℕ) = q := ⟨⟨q, by omega⟩, rfl⟩
  obtain ⟨u, hu⟩ : ∃ u : Fin 5632, (u : ℕ) = 2816 + q := ⟨⟨2816 + q, by omega⟩, rfl⟩
  have eH : hid (iblk m c 0 t) (iblk m c 1 t) (y 2) (y 3)
      = HID (m ((c : Thread nD τ).loc main_arg0)) (m ((c : Thread nD τ).loc main_arg1)) r q := by
    unfold hid HID
    blk_point [iblk, V, idx t]
  have eG : (show Vec Ideal S2x1x256x1408 .bf16 from iblk m c 2 t) (ix4 0 0 (y 2) (y 3)) = (m ((c : Thread nD τ).loc main_arg2)) (ix2 r g) := by
    blk_point [iblk, V, idx t]
  have eU : (show Vec Ideal S2x1x256x1408 .bf16 from iblk m c 2 t) (ix4 1 0 (y 2) (y 3)) = (m ((c : Thread nD τ).loc main_arg2)) (ix2 r u) := by
    blk_point [iblk, V, idx t]
  by_cases h0 : (y 0 : ℕ) = 0
  · rw [ref_gate _ _ _ _ r q g u (by blk_simp [idx t] <;> try omega) (by blk_simp [idx t] <;> try omega) hg hu (by blk_simp [idx t] <;> try omega)]
    rw [KER, if_pos h0, eH]
    obtain ⟨X, eX⟩ := hX.lift
    obtain ⟨W, eW⟩ := hW.lift
    obtain ⟨A, eA⟩ := hA.lift
    have eHR : HID (m ((c : Thread nD τ).loc main_arg0)) (m ((c : Thread nD τ).loc main_arg1)) r q
        = ((∑ k : Fin 1024, X (ix2 r k) * W (ix2 q k) : ℝ) : EReal) := by
      unfold HID
      rw [eX, eW]
      exact Cert.Reals.coe_sum_mul _ _ _
    refine Eq.trans (congrArg₂ (gateK _) eG eU) ?_
    rw [eHR, eA]
    exact gate_eq _ _ _
  · rw [ref_up _ _ _ _ r q g (by blk_simp [idx t] <;> try omega) (by blk_simp [idx t] <;> try omega) hg (by blk_simp [idx t] <;> try omega)]
    rw [KER, if_neg h0, eH, mul_comm]
    exact congrArg (fun v : EReal => HID _ _ r q * (v * Ideal.logistic v)) eG

/-- The array after the run. -/
theorem final (c : Dev nD)
    (hX : Cert.Reals.Finite (m ((c : Thread nD τ).loc main_arg0))) (hW : Cert.Reals.Finite (m ((c : Thread nD τ).loc main_arg1)))
    (hA : Cert.Reals.Finite (m ((c : Thread nD τ).loc main_arg2))) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, pieces]
  exact point m c t y hX hW hA

/-- Kernel and reference return the same array. -/
theorem value [Cert.Pre_act_finite.Facts] : Cert.algebraic_ActIdeal_ActRefIdeal := by
  intro m g m' g' hpre hargs
  refine ⟨fun c => REF (m ((c : Thread nD τ).loc main_arg0)) (m ((c : Thread nD τ).loc main_arg1)) (m ((c : Thread nD τ).loc main_arg2)), ?_, ?_⟩
  · exact (θ_run defs _ _).mono (fun r h c => ⟨(h c).1.trans (final m c (Cert.Reals.finite_of _ (hpre c).1) (Cert.Reals.finite_of _ (hpre c).2.1)
      (Cert.Reals.finite_of _ (hpre c).2.2)), (h c).2⟩) (run_blocks m g)
  · refine (θ_run Cert.ActRefIdeal.defs _ _).mono (fun r h c => ⟨?_, (h c).2⟩) (Cert.ActRefIdeal.Value.run m' g')
    rw [(h c).1, (hargs c).1, (hargs c).2.1, (hargs c).2.2]

end Cert.ActIdeal.Value

end
-- ==== Proof.NormValue.lean ====
/-
  The gradient of the feed-forward block's input product and of its norm. The tiled kernel forms the gradient of
  a normalised row as four partial products and uses the closed form of the norm's derivative; the reference
  differentiates the norm mechanically. Over the reals the two are equal.
-/
module

public import proofs.«01_k».proof.Proof.Gen.NormIdeal.Value
public import proofs.«01_k».proof.Proof.Gen.NormRefIdeal.Run
public import proofs.«01_k».proof.Defs
public import Idealize.ShloMosaic.Lib.Pipeline.ValueKit
public import Idealize.ShloMosaic.Lib.Pointwise
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.NormIdeal.Value
open Cert.NormIdeal Cert.NormIdeal.Gen

variable (m : (ℓ : Loc nD τ sig) → Buf (Elt Ideal) ℓ)

/-- The gradient of the normalised rows, as the reference writes it. -/
abbrev DH (DA : FVec Ideal S16384x5632 .f32) (Wi : FVec Ideal S4x1024x5632 .f32) : FVec Ideal S16384x1024 .f32 :=
  (Host.dotGeneral Cert.NormRefIdeal.dot_S16384x5632_S1024x5632_S16384x1024_1_1_0_0_n_n none DA (shapeCast _ (extractStridedSlice Cert.NormRefIdeal.S1x1024x5632 ![3, 0, 0] Wi Cert.NormRefIdeal.Gen.slices_S4x1024x5632_S1x1024x5632_3_0_0) Cert.NormRefIdeal.Gen.shapeCasts_S1x1024x5632_S1024x5632))

/-- A row's mean square and the constant, as the reference writes it. -/
abbrev MS (X : FVec Ideal S16384x1024 .f32) : FVec Ideal Cert.NormRefIdeal.S16384x1 .f32 :=
  (addf (Host.divf (broadcastInDim Cert.NormRefIdeal.S16384x1 ![0] Cert.NormRefIdeal.Gen.bcast_S16384_S16384x1_0 (Host.reduceAdd (mulf X X) (constant Cert.NormRefIdeal.S_ .f32 0x00000000#32) Cert.NormRefIdeal.Gen.reducesTo_S16384x1024_S16384_d1 Cert.NormRefIdeal.Gen.h_S_)) (broadcastInDim Cert.NormRefIdeal.S16384x1 ![] Cert.NormRefIdeal.Gen.bcast_S_S16384x1 (constant Cert.NormRefIdeal.S_ .f32 0x44800000#32))) (broadcastInDim Cert.NormRefIdeal.S16384x1 ![] Cert.NormRefIdeal.Gen.bcast_S_S16384x1 (constant Cert.NormRefIdeal.S_ .f32 0x358637BD#32)))

/-- The reference's first result. -/
abbrev REF5 (DA : FVec Ideal S16384x5632 .f32) (Wi : FVec Ideal S4x1024x5632 .f32) (X : FVec Ideal S16384x1024 .f32) (W : FVec Ideal S1024 .f32) (R : FVec Ideal S16384x1024 .f32) : FVec Ideal S16384x1024 .f32 :=
  addf R (addf (addf (mulf (mulf (DH DA Wi) (broadcastInDim Cert.NormRefIdeal.S16384x1024 ![0, 1] Cert.NormRefIdeal.Gen.bcast_S1x1024_S16384x1024_0_1 (broadcastInDim Cert.NormRefIdeal.S1x1024 ![1] Cert.NormRefIdeal.Gen.bcast_S1024_S1x1024_1 W))) (broadcastInDim Cert.NormRefIdeal.S16384x1024 ![0, 1] Cert.NormRefIdeal.Gen.bcast_S16384x1_S16384x1024_0_1 (Host.rsqrt (MS X)))) (mulf X (broadcastInDim Cert.NormRefIdeal.S16384x1024 ![0] Cert.NormRefIdeal.Gen.bcast_S16384_S16384x1024_0 (Host.reduceAdd (Host.divf (mulf (shapeCast _ (Host.reduceAdd (mulf X (mulf (DH DA Wi) (broadcastInDim Cert.NormRefIdeal.S16384x1024 ![0, 1] Cert.NormRefIdeal.Gen.bcast_S1x1024_S16384x1024_0_1 (broadcastInDim Cert.NormRefIdeal.S1x1024 ![1] Cert.NormRefIdeal.Gen.bcast_S1024_S1x1024_1 W)))) (constant Cert.NormRefIdeal.S_ .f32 0x00000000#32) Cert.NormRefIdeal.Gen.reducesTo_S16384x1024_S16384_d1 Cert.NormRefIdeal.Gen.h_S_) Cert.NormRefIdeal.Gen.shapeCasts_S16384_S16384x1) (mulf (broadcastInDim Cert.NormRefIdeal.S16384x1 ![] Cert.NormRefIdeal.Gen.bcast_S_S16384x1 (constant Cert.NormRefIdeal.S_ .f32 0xBF000000#32)) (Host.divf (Host.rsqrt (MS X)) (MS X)))) (broadcastInDim Cert.NormRefIdeal.S16384x1 ![] Cert.NormRefIdeal.Gen.bcast_S_S16384x1 (constant Cert.NormRefIdeal.S_ .f32 0x44800000#32))) (constant Cert.NormRefIdeal.S_ .f32 0x00000000#32) Cert.NormRefIdeal.Gen.reducesTo_S16384x1_S16384_d1 Cert.NormRefIdeal.Gen.h_S_)))) (mulf (broadcastInDim Cert.NormRefIdeal.S16384x1024 ![0] Cert.NormRefIdeal.Gen.bcast_S16384_S16384x1024_0 (Host.reduceAdd (Host.divf (mulf (shapeCast _ (Host.reduceAdd (mulf X (mulf (DH DA Wi) (broadcastInDim Cert.NormRefIdeal.S16384x1024 ![0, 1] Cert.NormRefIdeal.Gen.bcast_S1x1024_S16384x1024_0_1 (broadcastInDim Cert.NormRefIdeal.S1x1024 ![1] Cert.NormRefIdeal.Gen.bcast_S1024_S1x1024_1 W)))) (constant Cert.NormRefIdeal.S_ .f32 0x00000000#32) Cert.NormRefIdeal.Gen.reducesTo_S16384x1024_S16384_d1 Cert.NormRefIdeal.Gen.h_S_) Cert.NormRefIdeal.Gen.shapeCasts_S16384_S16384x1) (mulf (broadcastInDim Cert.NormRefIdeal.S16384x1 ![] Cert.NormRefIdeal.Gen.bcast_S_S16384x1 (constant Cert.NormRefIdeal.S_ .f32 0xBF000000#32)) (Host.divf (Host.rsqrt (MS X)) (MS X)))) (broadcastInDim Cert.NormRefIdeal.S16384x1 ![] Cert.NormRefIdeal.Gen.bcast_S_S16384x1 (constant Cert.NormRefIdeal.S_ .f32 0x44800000#32))) (constant Cert.NormRefIdeal.S_ .f32 0x00000000#32) Cert.NormRefIdeal.Gen.reducesTo_S16384x1_S16384_d1 Cert.NormRefIdeal.Gen.h_S_)) X))

/-- The reference's second result. -/
abbrev REF6 (DA : FVec Ideal S16384x5632 .f32) (Wi : FVec Ideal S4x1024x5632 .f32) (X : FVec Ideal S16384x1024 .f32) : FVec Ideal S8x1024 .f32 :=
  broadcastInDim Cert.NormRefIdeal.S8x1024 ![1] Cert.NormRefIdeal.Gen.bcast_S1024_S8x1024_1 (Host.reduceAdd (shapeCast _ (Host.reduceAdd (mulf (mulf X (broadcastInDim Cert.NormRefIdeal.S16384x1024 ![0, 1] Cert.NormRefIdeal.Gen.bcast_S16384x1_S16384x1024_0_1 (Host.rsqrt (MS X)))) (DH DA Wi)) (constant Cert.NormRefIdeal.S_ .f32 0x00000000#32) Cert.NormRefIdeal.Gen.reducesTo_S16384x1024_S1024_d0 Cert.NormRefIdeal.Gen.h_S_) Cert.NormRefIdeal.Gen.shapeCasts_S1024_S1x1024) (constant Cert.NormRefIdeal.S_ .f32 0x00000000#32) Cert.NormRefIdeal.Gen.reducesTo_S1x1024_S1024_d0 Cert.NormRefIdeal.Gen.h_S_)

/-- The block each window is on at a point. -/
theorem idx : ∀ t : Fin cfg0.N, win0_0.index t = ![0, t.val, 0] ∧ win0_1.index t = ![0, 3, 0, 0] ∧ win0_2.index t = ![t.val, 0]
    ∧ win0_3.index t = ![0, 0] ∧ win0_4.index t = ![t.val, 0] ∧ win0_5.index t = ![t.val, 0] ∧ win0_6.index t = ![0, 0]
    ∧ t.val < 64 :=
  (by decide +kernel : ∀ t : Fin grid0.N, _)

/-- The constant under the root. -/
abbrev eps : EReal := FloatOps.ofBits (F := Ideal) .f32 0x358637BD#32

/-- A row's length. -/
abbrev len : EReal := FloatOps.ofBits (F := Ideal) .f32 0x44800000#32

/-- The factor of the mechanical derivative. -/
abbrev mhalf : EReal := FloatOps.ofBits (F := Ideal) .f32 0xBF000000#32

/-- An entry of the gradient of a normalised row, over a block: four partial products. -/
def dhB (x0 : Vec Ideal S4x256x1408 .bf16) (x1 : Vec Ideal S4x1x1024x1408 .bf16) (r : Fin 256) (k : Fin 1024) : EReal :=
  (∑ q : Fin 1408, x0 (ix3 0 r q) * x1 (ix4 0 0 k q)) + (∑ q : Fin 1408, x0 (ix3 1 r q) * x1 (ix4 1 0 k q))
    + (∑ q : Fin 1408, x0 (ix3 2 r q) * x1 (ix4 2 0 k q)) + (∑ q : Fin 1408, x0 (ix3 3 r q) * x1 (ix4 3 0 k q))

/-- The same entry over the arrays. -/
def dhA (DA : FVec Ideal S16384x5632 .f32) (Wi : FVec Ideal S4x1024x5632 .f32) (r : Fin 16384) (k : Fin 1024) : EReal := ∑ l : Fin 5632, DA (ix2 r l) * Wi (ix3 3 k l)

/-- The mean square of a row with the constant. -/
def ms {n : ℕ} (X : Fin n → Fin 1024 → EReal) (r : Fin n) : EReal := Ideal.div (∑ l : Fin 1024, X r l * X r l) len + eps

/-- The closed form of the gradient of a row: `d` the normalised row's gradient times the weight, `x` the row. -/
def dxK (d x : Fin 1024 → EReal) (s : EReal) (k : Fin 1024) : EReal :=
  Ideal.rsqrt s * (d k - x k * Ideal.rsqrt s * Ideal.div (∑ l : Fin 1024, d l * (x l * Ideal.rsqrt s)) len)

/-- The mechanical derivative of a row. -/
def dxR (d x : Fin 1024 → EReal) (s : EReal) (k : Fin 1024) : EReal :=
  d k * Ideal.rsqrt s
    + x k * Ideal.div ((∑ l : Fin 1024, x l * d l) * (mhalf * Ideal.div (Ideal.rsqrt s) s)) len
    + Ideal.div ((∑ l : Fin 1024, x l * d l) * (mhalf * Ideal.div (Ideal.rsqrt s) s)) len * x k

/-- The reference's first result at an entry. -/
theorem ref5_at (DA : FVec Ideal S16384x5632 .f32) (Wi : FVec Ideal S4x1024x5632 .f32) (X : FVec Ideal S16384x1024 .f32) (W : FVec Ideal S1024 .f32) (R : FVec Ideal S16384x1024 .f32) (j : S16384x1024.Idx) (r : Fin 16384) (k : Fin 1024) (hr : (r : ℕ) = j 0) (hk : (k : ℕ) = j 1) : REF5 DA Wi X W R j
    = R (ix2 r k) + dxR (fun l => dhA DA Wi r l * W (ix1 l)) (fun l => X (ix2 r l)) (ms (fun r l => X (ix2 r l)) r) k := by
  obtain rfl : j = ix2 r k := by
    funext a; fin_cases a
    · exact Fin.ext hr.symm
    · exact Fin.ext hk.symm
  simp only [dxR, dhA, ms, len, eps, mhalf]
  pointwise [REF5, DH, MS]
  simp only [Fin.sum_univ_one]

/-- The reference's second result at an entry. -/
theorem ref6_at (DA : FVec Ideal S16384x5632 .f32) (Wi : FVec Ideal S4x1024x5632 .f32) (X : FVec Ideal S16384x1024 .f32) (j : S8x1024.Idx) (k : Fin 1024) (hk : (k : ℕ) = j 1) : REF6 DA Wi X j
    = ∑ r : Fin 16384, X (ix2 r k) * Ideal.rsqrt (ms (fun r l => X (ix2 r l)) r) * dhA DA Wi r k := by
  simp only [dhA, ms, len, eps]
  pointwise [REF6, DH, MS]
  simp only [Fin.sum_univ_one]
  blk_point []

/-- Over the reals, with a positive number under the root, the closed form is the mechanical derivative. -/
theorem dx_eq (d x : Fin 1024 → ℝ) (s : ℝ) (hs : 0 < s) (k : Fin 1024) :
    dxK (fun l => d l) (fun l => x l) s k = dxR (fun l => d l) (fun l => x l) s k := by
  have hr : Ideal.rsqrt (s : EReal) = (((√s)⁻¹ : ℝ) : EReal) := by
    rw [Ideal.rsqrt_coe, if_neg (not_lt.mpr hs.le), if_neg hs.ne']
  have hl : len = ((1024 : ℝ) : EReal) := Cert.Reals.ofBits_1024
  have hm : mhalf = ((-(1 / 2) : ℝ) : EReal) := Cert.Reals.ofBits_mhalf
  have hq : √s * √s = s := Real.mul_self_sqrt hs.le
  have hp : √s ≠ 0 := (Real.sqrt_pos.mpr hs).ne'
  simp only [dxK, dxR, hr, hl, hm, ← EReal.coe_mul, Cert.Reals.coe_sum, Ideal.div_coe (show (1024 : ℝ) ≠ 0 by norm_num),
    Ideal.div_coe hs.ne', ← EReal.coe_add, ← EReal.coe_sub]
  congr 1
  have e1 : ∑ l, d l * (x l * (√s)⁻¹) = (∑ l, x l * d l) * (√s)⁻¹ := by
    rw [Finset.sum_mul]; exact Finset.sum_congr rfl fun l _ => by ring
  rw [e1]
  clear hr e1 hs
  generalize √s = p at *
  subst hq
  field_simp
  ring

/-- The mean square of a row of real numbers, with the constant, is a positive real number. -/
theorem ms_real (x : Fin 1024 → ℝ) : ∃ s : ℝ, 0 < s ∧ Ideal.div (∑ l : Fin 1024, (x l : EReal) * (x l : EReal)) len + eps = (s : EReal) := by
  obtain ⟨e, he, ee⟩ := Cert.Reals.ofBits_eps
  have hl : len = ((1024 : ℝ) : EReal) := Cert.Reals.ofBits_1024
  have hE : eps = (e : EReal) := ee
  refine ⟨(∑ l, x l * x l) * (1 / 1024) + e, ?_, ?_⟩
  · have : 0 ≤ ∑ l, x l * x l := Finset.sum_nonneg fun l _ => mul_self_nonneg _
    positivity
  · rw [Cert.Reals.coe_sum_mul, hl, hE, Ideal.div_coe (by norm_num), ← EReal.coe_mul, ← EReal.coe_add]

/-- A block's entry of the normalised row's gradient is the array's, at the place the block has in it. -/
theorem dh_eq (c : Dev nD) (t : Fin cfg0.N) (r : Fin 256) (k : Fin 1024) (r' : Fin 16384) (hr : (r' : ℕ) = t.val * 256 + r) :
    dhB (iblk m c 0 t) (iblk m c 1 t) r k = dhA (m ((c : Thread nD τ).loc main_arg0)) (m ((c : Thread nD τ).loc main_arg1)) r' k := by
  have h : dhB (iblk m c 0 t) (iblk m c 1 t) r k
      = ∑ p : Fin 4, ∑ q : Fin 1408, (show Vec Ideal S4x256x1408 .bf16 from iblk m c 0 t) (ix3 p r q) * (show Vec Ideal S4x1x1024x1408 .bf16 from iblk m c 1 t) (ix4 p 0 k q) := by
    rw [Fin.sum_univ_four]; rfl
  rw [h, dhA]
  refine Fin.sum_mul_add_congr fun p q hl => ?_
  blk_point [iblk, V, idx t]

/-- What a point leaves in the first result's block. -/
def KER5 (x0 : Vec Ideal S4x256x1408 .bf16) (x1 : Vec Ideal S4x1x1024x1408 .bf16) (x2 : Vec Ideal S256x1024 .f32) (x3 : Vec Ideal S1x1024 .f32)
    (x4 : Vec Ideal S256x1024 .f32) (r : Fin 256) (k : Fin 1024) : EReal :=
  x4 (ix2 r k) + dxK (fun l => dhB x0 x1 r l * x3 (ix2 0 l)) (fun l => x2 (ix2 r l)) (ms (fun r l => x2 (ix2 r l)) r) k

/-- A point's part of the weight's gradient. -/
def KER6 (x0 : Vec Ideal S4x256x1408 .bf16) (x1 : Vec Ideal S4x1x1024x1408 .bf16) (x2 : Vec Ideal S256x1024 .f32) (k : Fin 1024) : EReal :=
  ∑ r : Fin 256, dhB x0 x1 r k * (x2 (ix2 r k) * Ideal.rsqrt (ms (fun r l => x2 (ix2 r l)) r))

/-- The first result's block at either kind of point. -/
theorem out5 (c : Dev nD) (t : Fin cfg0.N) (y : S256x1024.Idx) : (outsAt0 m c t.val t.isLt).1 y
    = KER5 (iblk m c 0 t) (iblk m c 1 t) (iblk m c 2 t) (iblk m c 3 t) (iblk m c 4 t) (y 0) (y 1) := by
  simp only [KER5, dxK, dhB, ms, len, eps]
  by_cases h : t.val % 64 = 0
  · rw [outsAt0_A m c t h]
    frame_out
    pointwise [k0_pay1, k0_pay2, k0_pay3, k0_pay4, k0_pay7, k0_pay8, k0_pay9]
  · rw [outsAt0_B m c t h]
    frame_out
    pointwise [k0_pay1, k0_pay2, k0_pay3, k0_pay4, k0_pay7, k0_pay8, k0_pay9]

/-- The second result's block starts at nothing. -/
theorem zero_at (j) : k0_pay6 (F := Ideal) j = 0 := by pointwise [k0_pay6]

/-- On real arrays a point's first block is the reference's. -/
theorem point5 (c : Dev nD) (t : Fin cfg0.N) (p : Fin 256) (k : Fin 1024) (r : Fin 16384) (hr : (r : ℕ) = t.val * 256 + p)
    (h0 : Cert.Reals.Finite (m ((c : Thread nD τ).loc main_arg0)))
    (h1 : Cert.Reals.Finite (m ((c : Thread nD τ).loc main_arg1)))
    (h2 : Cert.Reals.Finite (m ((c : Thread nD τ).loc main_arg2)))
    (h3 : Cert.Reals.Finite (m ((c : Thread nD τ).loc main_arg3))) :
    KER5 (iblk m c 0 t) (iblk m c 1 t) (iblk m c 2 t) (iblk m c 3 t) (iblk m c 4 t) p k
      = (show EReal from (m ((c : Thread nD τ).loc main_arg4)) (ix2 r k)) + dxR (fun l => dhA (m ((c : Thread nD τ).loc main_arg0)) (m ((c : Thread nD τ).loc main_arg1)) r l * (m ((c : Thread nD τ).loc main_arg3)) (ix1 l)) (fun l => (m ((c : Thread nD τ).loc main_arg2)) (ix2 r l)) (ms (fun r l => (m ((c : Thread nD τ).loc main_arg2)) (ix2 r l)) r) k := by
  rw [KER5]
  have e0 : ∀ l, dhB (iblk m c 0 t) (iblk m c 1 t) p l = dhA (m ((c : Thread nD τ).loc main_arg0)) (m ((c : Thread nD τ).loc main_arg1)) r l := fun l => dh_eq m c t _ l r hr
  have e2 : ∀ l, (show Vec Ideal S256x1024 .f32 from iblk m c 2 t) (ix2 p l) = (m ((c : Thread nD τ).loc main_arg2)) (ix2 r l) := fun l => by
    blk_point [iblk, V, idx t]
  have e3 : ∀ l, (show Vec Ideal S1x1024 .f32 from iblk m c 3 t) (ix2 0 l) = (m ((c : Thread nD τ).loc main_arg3)) (ix1 l) := fun l => by
    blk_point [iblk, V, idx t]
  have e4 : (show Vec Ideal S256x1024 .f32 from iblk m c 4 t) (ix2 p k) = (m ((c : Thread nD τ).loc main_arg4)) (ix2 r k) := by
    blk_point [iblk, V, idx t]
  refine congrArg₂ (· + ·) e4 ?_
  obtain ⟨D, eD⟩ := h0.lift
  obtain ⟨Wi, eWi⟩ := h1.lift
  obtain ⟨X, eX⟩ := h2.lift
  obtain ⟨W, eW⟩ := h3.lift
  obtain ⟨s, hs, es⟩ := ms_real fun l => X (ix2 r l)
  have eH : ∀ l, dhA (m ((c : Thread nD τ).loc main_arg0)) (m ((c : Thread nD τ).loc main_arg1)) r l = ((∑ q : Fin 5632, D (ix2 r q) * Wi (ix3 3 l q) : ℝ) : EReal) := fun l => by
    rw [dhA, eD, eWi]; exact Cert.Reals.coe_sum_mul _ _ _
  have eS : ms (fun r l => (m ((c : Thread nD τ).loc main_arg2)) (ix2 r l)) r = (s : EReal) := by
    rw [ms, eX]; exact es
  have eS' : ms (fun r l => (show Vec Ideal S256x1024 .f32 from iblk m c 2 t) (ix2 r l)) p = (s : EReal) := by
    rw [← eS]; simp only [ms, e2]
  have eK : (fun l => dhB (iblk m c 0 t) (iblk m c 1 t) p l * (show Vec Ideal S1x1024 .f32 from iblk m c 3 t) (ix2 0 l))
      = fun l => (((∑ q : Fin 5632, D (ix2 r q) * Wi (ix3 3 l q)) * W (ix1 l) : ℝ) : EReal) := funext fun l => by
    rw [e0, eH, e3, eW, ← EReal.coe_mul]
  have eR : (fun l => dhA (m ((c : Thread nD τ).loc main_arg0)) (m ((c : Thread nD τ).loc main_arg1)) r l * (m ((c : Thread nD τ).loc main_arg3)) (ix1 l))
      = fun l => (((∑ q : Fin 5632, D (ix2 r q) * Wi (ix3 3 l q)) * W (ix1 l) : ℝ) : EReal) := funext fun l => by
    rw [eH, eW, ← EReal.coe_mul]
  have eX' : (fun l => (show Vec Ideal S256x1024 .f32 from iblk m c 2 t) (ix2 p l)) = fun l => ((X (ix2 r l) : ℝ) : EReal) :=
    funext fun l => by rw [e2, eX]
  have eX'' : (fun l => (m ((c : Thread nD τ).loc main_arg2)) (ix2 r l)) = fun l => ((X (ix2 r l) : ℝ) : EReal) := funext fun l => by rw [eX]
  refine ((congr (congr (congr (congrArg dxK eK) eX') eS') rfl).trans (dx_eq _ _ s hs _)).trans
    (congr (congr (congr (congrArg dxR eR) eX'') eS) rfl).symm

/-- The first result after the run. -/
theorem final5 (c : Dev nD)
    (h0 : Cert.Reals.Finite (m ((c : Thread nD τ).loc main_arg0)))
    (h1 : Cert.Reals.Finite (m ((c : Thread nD τ).loc main_arg1)))
    (h2 : Cert.Reals.Finite (m ((c : Thread nD τ).loc main_arg2)))
    (h3 : Cert.Reals.Finite (m ((c : Thread nD τ).loc main_arg3))) : (dats m 0 c).arrAt 5 cfg0.N = REF5 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht : t.val < 64 := (idx t).2.2.2.2.2.2.2
  have b0 : (y 0 : ℕ) < 256 := (y 0).isLt
  blk_simp
  rw [after0_5, out5, ref5_at _ _ _ _ _ _ ⟨t.val * 256 + y 0, by omega⟩ (y 1) (by blk_simp [idx t] <;> try omega) (by blk_simp [idx t] <;> try omega)]
  exact point5 m c t (y 0) (y 1) ⟨t.val * 256 + y 0, by omega⟩ rfl h0 h1 h2 h3

/-- A first point's second block. -/
theorem out6_A (c : Dev nD) (t : Fin cfg0.N) (h : t.val % 64 = 0) (y : S8x1024.Idx) : (outsAt0 m c t.val t.isLt).2 y
    = 0 + KER6 (iblk m c 0 t) (iblk m c 1 t) (iblk m c 2 t) (y 1) := by
  simp only [KER6, dhB, ms, len, eps]
  rw [outsAt0_A m c t h]
  frame_out
  pointwise [k0_pay1, k0_pay2, k0_pay3, k0_pay5, k0_pay6, k0_pay7, k0_pay8, k0_pay9]

/-- Any other point's second block, over what the point before left. -/
theorem out6_B (c : Dev nD) (t : Fin cfg0.N) (h : ¬ t.val % 64 = 0) (y : S8x1024.Idx) : (outsAt0 m c t.val t.isLt).2 y
    = (outsAt0 m c (t.val - 1) (by omega)).2 y + KER6 (iblk m c 0 t) (iblk m c 1 t) (iblk m c 2 t) (y 1) := by
  simp only [KER6, dhB, ms, len, eps]
  rw [outsAt0_B m c t h]
  frame_out
  pointwise [k0_pay1, k0_pay2, k0_pay3, k0_pay5, k0_pay7, k0_pay8, k0_pay9]

/-- The second result after the run. -/
theorem final6 (c : Dev nD) : (dats m 0 c).arrAt 6 cfg0.N = REF6 (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6, Pipeline.eq_sum_fin_of_reset_step_apply_of_flush (fun n h => (outsAt0 m c n h).2) 64 (fun _ => 0) _
    (fun t h j => out6_A m c t h j) (fun t h j => out6_B m c t h j) t ((flush0_6 t).mp hf) _, zero_add, ref6_at _ _ _ _ (y 1) (by blk_simp [idx t] <;> try omega)]
  unfold KER6
  refine Fin.sum_mul_add_congr fun s k hl => ?_
  have hs := idx ⟨_, Pipeline.run_point_lt_of_flush t ((flush0_6 t).mp hf) s⟩
  have ht : t.val < 64 := (idx t).2.2.2.2.2.2.2
  have e : 64 * (t.val / 64) + (s : ℕ) = s := by omega
  rw [dh_eq m c ⟨_, Pipeline.run_point_lt_of_flush t ((flush0_6 t).mp hf) s⟩ k (y 1) ⟨s * 256 + k, hl⟩ (by simp only [e]), mul_comm]
  refine congrArg₂ (· * ·) ?_ rfl
  simp only [ms]
  blk_point [iblk, V, hs]

/-- Kernel and reference return the same arrays. -/
theorem value [Cert.Pre_norm_finite.Facts] : Cert.algebraic_NormIdeal_NormRefIdeal := by
  intro m g m' g' hpre hargs
  refine ⟨fun c => REF5 (m ((c : Thread nD τ).loc main_arg0)) (m ((c : Thread nD τ).loc main_arg1)) (m ((c : Thread nD τ).loc main_arg2)) (m ((c : Thread nD τ).loc main_arg3)) (m ((c : Thread nD τ).loc main_arg4)), fun c => REF6 (m ((c : Thread nD τ).loc main_arg0)) (m ((c : Thread nD τ).loc main_arg1)) (m ((c : Thread nD τ).loc main_arg2)), ?_, ?_⟩
  · exact (θ_run defs _ _).mono (fun r h c => ⟨(h c).1.trans (final5 m c (Cert.Reals.finite_of _ (hpre c).1) (Cert.Reals.finite_of _ (hpre c).2.1)
      (Cert.Reals.finite_of _ (hpre c).2.2.1) (Cert.Reals.finite_of _ (hpre c).2.2.2)), (h c).2.1.trans (final6 m c), (h c).2.2⟩) (run_blocks m g)
  · refine (θ_run Cert.NormRefIdeal.defs _ _).mono (fun r h c => ⟨?_, ?_, (h c).2.2⟩) (Cert.NormRefIdeal.Value.run m' g')
    · rw [(h c).1, Cert.NormRefIdeal.Value.res_main_v40, (hargs c).1, (hargs c).2.1, (hargs c).2.2.1, (hargs c).2.2.2.1, (hargs c).2.2.2.2]
    · rw [(h c).2.1, (hargs c).1, (hargs c).2.1, (hargs c).2.2.1]

end Cert.NormIdeal.Value

end
-- ==== Proof.WinValue.lean ====
/-
  The weight gradient of the way into the feed-forward part: sixteen blocks of tokens, each adding its own
  product to one of the four column blocks of the gradient, are the one product over all tokens.
-/
module

public import proofs.«01_k».proof.Proof.Gen.WinIdeal.Value
public import proofs.«01_k».proof.Proof.Gen.WinRefIdeal.Run
public import proofs.«01_k».proof.Defs
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.WinIdeal.Value
open Cert.WinIdeal Cert.WinIdeal.Gen

variable (m : (ℓ : Loc nD τ sig) → Buf (Elt Ideal) ℓ)

/-- What the reference returns, over the two arguments. -/
abbrev REF (H : FVec Ideal S16384x1024 .f32) (G : FVec Ideal S16384x5632 .f32) : FVec Ideal S4x1024x1408 .f32 :=
  transpose S4x1024x1408 [1, 0, 2] (shapeCast _ (transpose Cert.WinRefIdeal.S1024x5632 [1, 0]
    (Host.dotGeneral Cert.WinRefIdeal.dot_S16384x5632_S16384x1024_S5632x1024_0_0_1_1_n_n none G H)
    Cert.WinRefIdeal.Gen.transposes_S5632x1024_S1024x5632_1_0) Cert.WinRefIdeal.Gen.shapeCasts_S1024x5632_S1024x4x1408)
    Cert.WinRefIdeal.Gen.transposes_S1024x4x1408_S4x1024x1408_1_0_2

/-- The block each window is on at a point. -/
theorem idx : ∀ t : Fin cfg0.N, win0_0.index t = ![t.val % 16, 0] ∧ win0_1.index t = ![t.val / 16, t.val % 16, 0]
    ∧ win0_2.index t = ![t.val / 16, 0, 0] ∧ t.val / 16 < 4 :=
  (by decide +kernel : ∀ t : Fin grid0.N, _)

/-- A block starts at nothing. -/
theorem zero_at (j) : k0_pay1 (F := Ideal) j = 0 := by pointwise [k0_pay1]

/-- A point adds its tokens' part of the product. -/
theorem step_at (acc : Vec Ideal S1x1024x1408 .f32) (h : Vec Ideal S1024x1024 .bf16) (g : Vec Ideal S1x1024x1408 .bf16) (j) :
    k0_pay2 (F := Ideal) acc h g j = acc j + ∑ k : Fin 1024, h (ix2 k (j 1)) * g (ix3 0 k (j 2)) := by
  pointwise [k0_pay2]

/-- The reference at one entry. -/
theorem ref_at (H : FVec Ideal S16384x1024 .f32) (G : FVec Ideal S16384x5632 .f32) (j : S4x1024x1408.Idx)
    (q : Fin 5632) (hq : (q : ℕ) = 1408 * (j 0 : ℕ) + (j 2 : ℕ)) :
    REF H G j = ∑ l : Fin 16384, H (ix2 l (j 1)) * G (ix2 l q) := by
  pointwise [REF]
  refine Fin.sum_fin_congr fun l => ?_
  rw [mul_comm]
  blk_point []

/-- The array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  have hq : 1408 * (t.val / 16) + (y 2 : ℕ) < 5632 := by
    have := (idx t).2.2.2
    have h2 : (y 2 : ℕ) < 1408 := (y 2).isLt
    omega
  rw [after0_2, Pipeline.eq_sum_fin_of_reset_step_apply_of_flush (fun n h => outsAt0 m c n h) 16 (fun _ => 0) _
    (fun t h j => by rw [outsAt0_A m c t h]; frame_out; rw [step_at, zero_at])
    (fun t h j => by rw [outsAt0_B m c t h]; frame_out; rw [step_at])
    t ((flush0_2 t).mp hf) _, zero_add, ref_at _ _ _ ⟨_, hq⟩ (by blk_simp [idx t] <;> try omega)]
  refine Fin.sum_mul_add_congr fun s k hl => ?_
  blk_point [iblk, V, idx t, idx ⟨_, Pipeline.run_point_lt_of_flush t ((flush0_2 t).mp hf) s⟩]

/-- Kernel and reference return the same array. -/
theorem value : Cert.algebraic_WinIdeal_WinRefIdeal := by
  intro m g m' g' hpre hargs
  refine ⟨fun c => REF (m ((c : Thread nD τ).loc main_arg0)) (m ((c : Thread nD τ).loc main_arg1)), ?_, ?_⟩
  · exact (θ_run defs _ _).mono (fun r h c => ⟨(h c).1.trans (final m c), (h c).2⟩) (run_blocks m g)
  · refine (θ_run Cert.WinRefIdeal.defs _ _).mono (fun r h c => ⟨?_, (h c).2⟩) (Cert.WinRefIdeal.Value.run m' g')
    rw [(h c).1, (hargs c).1, (hargs c).2]

end Cert.WinIdeal.Value

end
-- ==== Proof.WoutValue.lean ====
/-
  The weight gradient of the way out of the feed-forward part: sixteen blocks of tokens, each adding its own
  product to the block of the gradient, are the one product over all tokens.
-/
module

public import proofs.«01_k».proof.Proof.Gen.WoutIdeal.Value
public import proofs.«01_k».proof.Proof.Gen.WoutRefIdeal.Run
public import proofs.«01_k».proof.Defs
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.WoutIdeal.Value
open Cert.WoutIdeal Cert.WoutIdeal.Gen

variable (m : (ℓ : Loc nD τ sig) → Buf (Elt Ideal) ℓ)

/-- What the reference returns, over the two arguments. -/
abbrev REF (X : FVec Ideal S16384x2816 .f32) (G : FVec Ideal S16384x1024 .f32) : FVec Ideal S2816x1024 .f32 :=
  transpose S2816x1024 [1, 0] (Host.dotGeneral Cert.WoutRefIdeal.dot_S16384x1024_S16384x2816_S1024x2816_0_0_1_1_n_n none G X)
    Cert.WoutRefIdeal.Gen.transposes_S1024x2816_S2816x1024_1_0

/-- The block each window is on at a point. -/
theorem idx : ∀ t : Fin cfg0.N, win0_0.index t = ![t.val % 16, t.val / 16] ∧ win0_1.index t = ![t.val % 16, 0]
    ∧ win0_2.index t = ![t.val / 16, 0] :=
  (by decide +kernel : ∀ t : Fin grid0.N, _)

/-- A block starts at nothing. -/
theorem zero_at (j) : k0_pay1 (F := Ideal) j = 0 := by pointwise [k0_pay1]

/-- A point adds its tokens' part of the product. -/
theorem step_at (acc : Vec Ideal S1408x1024 .f32) (x : Vec Ideal S1024x1408 .bf16) (g : Vec Ideal S1024x1024 .f32) (j) :
    k0_pay2 (F := Ideal) acc x g j = acc j + ∑ k : Fin 1024, x (ix2 k (j 0)) * g (ix2 k (j 1)) := by
  pointwise [k0_pay2]

/-- The reference at one entry. -/
theorem ref_at (X : FVec Ideal S16384x2816 .f32) (G : FVec Ideal S16384x1024 .f32) (j) :
    REF X G j = ∑ l : Fin 16384, X (ix2 l (j 0)) * G (ix2 l (j 1)) := by
  pointwise [REF]
  refine Fin.sum_fin_congr fun l => ?_
  rw [mul_comm]

/-- The array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 16 (fun _ => 0) _
    (fun t h j => by rw [outsAt0_A m c t h]; frame_out; rw [step_at, zero_at])
    (fun t h j => by rw [outsAt0_B m c t h]; frame_out; rw [step_at])
    t ((flush0_2 t).mp hf) _, zero_add, ref_at]
  refine Fin.sum_mul_add_congr fun s k hl => ?_
  blk_point [iblk, V, idx t, idx ⟨_, Pipeline.run_point_lt_of_flush t ((flush0_2 t).mp hf) s⟩]

/-- Kernel and reference return the same array. -/
theorem value : Cert.algebraic_WoutIdeal_WoutRefIdeal := by
  intro m g m' g' hpre hargs
  refine ⟨fun c => REF (m ((c : Thread nD τ).loc main_arg0)) (m ((c : Thread nD τ).loc main_arg1)), ?_, ?_⟩
  · exact (θ_run defs _ _).mono (fun r h c => ⟨(h c).1.trans (final m c), (h c).2⟩) (run_blocks m g)
  · refine (θ_run Cert.WoutRefIdeal.defs _ _).mono (fun r h c => ⟨?_, (h c).2⟩) (Cert.WoutRefIdeal.Value.run m' g')
    rw [(h c).1, (hargs c).1, (hargs c).2]

end Cert.WoutIdeal.Value

end
-- ==== Proof.FinValue.lean ====
/-
  The way into the feed-forward part, forward: a row is normalised, multiplied by the four column blocks of the
  input matrix, and gated. The tiled kernel's three arrays are the reference's.
-/
module

public import proofs.«01_k».proof.Proof.Gen.FinIdeal.Value
public import proofs.«01_k».proof.Proof.Gen.FinRefIdeal.Run
public import proofs.«01_k».proof.Defs
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FinIdeal.Value
open Cert.FinIdeal Cert.FinIdeal.Gen

variable (m : (ℓ : Loc nD τ sig) → Buf (Elt Ideal) ℓ)

/-- The normalised rows, as the reference writes them. -/
abbrev HREF (X : FVec Ideal S16384x1024 .f32) (W : FVec Ideal S1024 .f32) : FVec Ideal S16384x1024 .f32 :=
  (mulf (mulf X (broadcastInDim Cert.FinRefIdeal.S16384x1024 ![0, 1] Cert.FinRefIdeal.Gen.bcast_S16384x1_S16384x1024_0_1 (Host.rsqrt (addf (Host.divf (broadcastInDim Cert.FinRefIdeal.S16384x1 ![0] Cert.FinRefIdeal.Gen.bcast_S16384_S16384x1_0 (Host.reduceAdd (mulf X X) (constant Cert.FinRefIdeal.S_ .f32 0x00000000#32) Cert.FinRefIdeal.Gen.reducesTo_S16384x1024_S16384_d1 Cert.FinRefIdeal.Gen.h_S_)) (broadcastInDim Cert.FinRefIdeal.S16384x1 ![] Cert.FinRefIdeal.Gen.bcast_S_S16384x1 (constant Cert.FinRefIdeal.S_ .f32 0x44800000#32))) (broadcastInDim Cert.FinRefIdeal.S16384x1 ![] Cert.FinRefIdeal.Gen.bcast_S_S16384x1 (constant Cert.FinRefIdeal.S_ .f32 0x358637BD#32)))))) (broadcastInDim Cert.FinRefIdeal.S16384x1024 ![0, 1] Cert.FinRefIdeal.Gen.bcast_S1x1024_S16384x1024_0_1 (broadcastInDim Cert.FinRefIdeal.S1x1024 ![1] Cert.FinRefIdeal.Gen.bcast_S1024_S1x1024_1 W)))

/-- Their product with the fourth layer's matrix. -/
abbrev AREF (X : FVec Ideal S16384x1024 .f32) (W : FVec Ideal S1024 .f32) (A : FVec Ideal S4x1024x5632 .f32) : FVec Ideal Cert.FinRefIdeal.S16384x5632 .f32 :=
  (Host.dotGeneral Cert.FinRefIdeal.dot_S16384x1024_S1024x5632_S16384x5632_1_0_0_1_n_n none (HREF X W) (shapeCast _ (extractStridedSlice Cert.FinRefIdeal.S1x1024x5632 ![3, 0, 0] A Cert.FinRefIdeal.Gen.slices_S4x1024x5632_S1x1024x5632_3_0_0) Cert.FinRefIdeal.Gen.shapeCasts_S1x1024x5632_S1024x5632))

/-- The reference's first result. -/
abbrev REF3 (X : FVec Ideal S16384x1024 .f32) (W : FVec Ideal S1024 .f32) : FVec Ideal S16384x1024 .bf16 := truncf .bf16 (HREF X W) Cert.FinRefIdeal.Gen.bitsLt_bf16_f32

/-- The reference's second result. -/
abbrev REF4 (X : FVec Ideal S16384x1024 .f32) (W : FVec Ideal S1024 .f32) (A : FVec Ideal S4x1024x5632 .f32) : FVec Ideal S2x2x16384x1408 .bf16 :=
  truncf .bf16 (transpose Cert.FinRefIdeal.S2x2x16384x1408 [1, 2, 0, 3] (shapeCast _ (AREF X W A) Cert.FinRefIdeal.Gen.shapeCasts_S16384x5632_S16384x2x2x1408) Cert.FinRefIdeal.Gen.transposes_S16384x2x2x1408_S2x2x16384x1408_1_2_0_3) Cert.FinRefIdeal.Gen.bitsLt_bf16_f32

/-- The reference's third result. -/
abbrev REF5 (X : FVec Ideal S16384x1024 .f32) (W : FVec Ideal S1024 .f32) (A : FVec Ideal S4x1024x5632 .f32) : FVec Ideal S16384x2816 .bf16 :=
  truncf .bf16 (mulf (mulf (extractStridedSlice Cert.FinRefIdeal.S16384x2816 ![0, 0] (AREF X W A) Cert.FinRefIdeal.Gen.slices_S16384x5632_S16384x2816_0_0) (Host.divf (broadcastInDim Cert.FinRefIdeal.S16384x2816 ![] Cert.FinRefIdeal.Gen.bcast_S_S16384x2816 (constant Cert.FinRefIdeal.S_ .f32 0x3F800000#32)) (addf (broadcastInDim Cert.FinRefIdeal.S16384x2816 ![] Cert.FinRefIdeal.Gen.bcast_S_S16384x2816 (constant Cert.FinRefIdeal.S_ .f32 0x3F800000#32)) (Host.exp (Host.negf (extractStridedSlice Cert.FinRefIdeal.S16384x2816 ![0, 0] (AREF X W A) Cert.FinRefIdeal.Gen.slices_S16384x5632_S16384x2816_0_0)))))) (extractStridedSlice Cert.FinRefIdeal.S16384x2816 ![0, 2816] (AREF X W A) Cert.FinRefIdeal.Gen.slices_S16384x5632_S16384x2816_0_2816)) Cert.FinRefIdeal.Gen.bitsLt_bf16_f32

/-- The block each window is on at a point. -/
theorem idx : ∀ t : Fin cfg0.N, win0_0.index t = ![t.val, 0] ∧ win0_1.index t = ![0, 0] ∧ win0_2.index t = ![0, 0, 3, 0, 0]
    ∧ win0_3.index t = ![t.val, 0] ∧ win0_4.index t = ![0, 0, t.val, 0] ∧ win0_5.index t = ![t.val, 0] ∧ t.val < 64 :=
  (by decide +kernel : ∀ t : Fin grid0.N, _)

/-- The constant under the root. -/
abbrev eps : EReal := FloatOps.ofBits (F := Ideal) .f32 0x358637BD#32

/-- A row's length. -/
abbrev len : EReal := FloatOps.ofBits (F := Ideal) .f32 0x44800000#32

/-- An entry of a normalised row of a block. -/
def hnB (x0 : Vec Ideal S256x1024 .f32) (x1 : Vec Ideal S1x1024 .f32) (r : Fin 256) (k : Fin 1024) : EReal :=
  x0 (ix2 r k) * Ideal.rsqrt (Ideal.div (∑ l : Fin 1024, x0 (ix2 r l) * x0 (ix2 r l)) len + eps) * x1 (ix2 0 k)

/-- An entry of its product with a column block. -/
def preB (x0 : Vec Ideal S256x1024 .f32) (x1 : Vec Ideal S1x1024 .f32) (x2 : Vec Ideal S2x2x1x1024x1408 .bf16)
    (p b : Fin 2) (r : Fin 256) (q : Fin 1408) : EReal :=
  ∑ k : Fin 1024, hnB x0 x1 r k * x2 (ix5 p b 0 k q)

/-- An entry of a normalised row of the array. -/
def hnA (X : FVec Ideal S16384x1024 .f32) (W : FVec Ideal S1024 .f32) (r : Fin 16384) (k : Fin 1024) : EReal :=
  X (ix2 r k) * Ideal.rsqrt (Ideal.div (∑ l : Fin 1024, X (ix2 r l) * X (ix2 r l)) len + eps) * W (ix1 k)

/-- An entry of its product with the fourth layer's matrix. -/
def preA (X : FVec Ideal S16384x1024 .f32) (W : FVec Ideal S1024 .f32) (A : FVec Ideal S4x1024x5632 .f32) (r : Fin 16384) (q : Fin 5632) : EReal :=
  ∑ k : Fin 1024, hnA X W r k * A (ix3 3 k q)

/-- The reference's normalised rows at an entry. -/
theorem href_at (X : FVec Ideal S16384x1024 .f32) (W : FVec Ideal S1024 .f32) (r : Fin 16384) (k : Fin 1024) : HREF X W (ix2 r k) = hnA X W r k := by
  simp only [hnA, len, eps]
  pointwise [HREF]

/-- The reference's product at an entry. -/
theorem aref_at (X : FVec Ideal S16384x1024 .f32) (W : FVec Ideal S1024 .f32) (A : FVec Ideal S4x1024x5632 .f32) (r : Fin 16384) (q : Fin 5632) : AREF X W A (ix2 r q) = preA X W A r q := by
  simp only [preA, hnA, len, eps]
  pointwise [AREF, HREF]

/-- The reference's second result at an entry. -/
theorem ref4_at (X : FVec Ideal S16384x1024 .f32) (W : FVec Ideal S1024 .f32) (A : FVec Ideal S4x1024x5632 .f32) (j : S2x2x16384x1408.Idx) (r : Fin 16384) (q : Fin 5632) (hr : (r : ℕ) = j 2)
    (hq : (q : ℕ) = 2816 * (j 0 : ℕ) + 1408 * (j 1 : ℕ) + (j 3 : ℕ)) : REF4 X W A j = preA X W A r q := by
  simp only [preA, hnA, len, eps]
  pointwise [REF4, AREF, HREF]
  blk_point []

/-- The reference's third result at an entry. -/
theorem ref5_at (X : FVec Ideal S16384x1024 .f32) (W : FVec Ideal S1024 .f32) (A : FVec Ideal S4x1024x5632 .f32) (j : S16384x2816.Idx) (r : Fin 16384) (g u : Fin 5632) (hr : (r : ℕ) = j 0)
    (hg : (g : ℕ) = j 1) (hu : (u : ℕ) = 2816 + j 1) :
    REF5 X W A j = preA X W A r g * Ideal.logistic (preA X W A r g) * preA X W A r u := by
  simp only [preA, hnA, len, eps, Ideal.logistic]
  pointwise [REF5, AREF, HREF]
  blk_point []

/-- What a point leaves in the second result's block. -/
theorem pieces4 (x0 : Vec Ideal S256x1024 .f32) (x1 : Vec Ideal S1x1024 .f32) (x2 : Vec Ideal S2x2x1x1024x1408 .bf16)
    (y : S2x2x256x1408.Idx) : out0_4 (F := Ideal) x0 x1 x2 y = preB x0 x1 x2 (y 0) (y 1) (y 2) (y 3) := by
  simp only [preB, hnB, len, eps]
  frame_out
  canon_tiles x h
  all_goals (open_payloads; pointwise; blk_point [])

/-- What a point leaves in the third result's block. -/
theorem pieces5 (x0 : Vec Ideal S256x1024 .f32) (x1 : Vec Ideal S1x1024 .f32) (x2 : Vec Ideal S2x2x1x1024x1408 .bf16)
    (y : S256x2816.Idx) (b : Fin 2) (q : Fin 1408) (hy : (y 1 : ℕ) = 1408 * b + q) :
    out0_5 (F := Ideal) x0 x1 x2 y
      = preB x0 x1 x2 0 b (y 0) q * Ideal.logistic (preB x0 x1 x2 0 b (y 0) q) * preB x0 x1 x2 1 b (y 0) q := by
  simp only [preB, hnB, len, eps]
  frame_out
  canon_tiles x h
  all_goals (open_payloads; pointwise; blk_point [])

/-- A block's product is the array's, at the place the block has in it. -/
theorem pre_eq (c : Dev nD) (t : Fin cfg0.N) (p b : Fin 2) (r : Fin 256) (q : Fin 1408) (r' : Fin 16384) (q' : Fin 5632)
    (hr : (r' : ℕ) = t.val * 256 + r) (hq : (q' : ℕ) = 2816 * p + 1408 * b + q) :
    preB (iblk m c 0 t) (iblk m c 1 t) (iblk m c 2 t) p b r q = preA (m ((c : Thread nD τ).loc main_arg0)) (m ((c : Thread nD τ).loc main_arg1)) (m ((c : Thread nD τ).loc main_arg2)) r' q' := by
  simp only [preA, preB, hnA, hnB]
  blk_point [iblk, V, idx t]

/-- The first result after the run. -/
theorem final3 (c : Dev nD) : (dats m 0 c).arrAt 3 cfg0.N = REF3 (m ((c : Thread nD τ).loc main_arg0)) (m ((c : Thread nD τ).loc main_arg1)) := by
  refine (dats m 0 c).arrAt_eq_of_covers 3 _ (by decide +kernel) fun t _ y => ?_
  blk_simp
  rw [after0_3]
  frame_out
  pointwise [k0_pay8, REF3, HREF]
  blk_point [iblk, V, idx t]

/-- The second result after the run. -/
theorem final4 (c : Dev nD) : (dats m 0 c).arrAt 4 cfg0.N = REF4 (m ((c : Thread nD τ).loc main_arg0)) (m ((c : Thread nD τ).loc main_arg1)) (m ((c : Thread nD τ).loc main_arg2)) := by
  refine (dats m 0 c).arrAt_eq_of_covers 4 _ (by decide +kernel) fun t _ y => ?_
  have ht : t.val < 64 := (idx t).2.2.2.2.2.2
  have h0 : (y 0 : ℕ) < 2 := (y 0).isLt
  have h1 : (y 1 : ℕ) < 2 := (y 1).isLt
  have h2 : (y 2 : ℕ) < 256 := (y 2).isLt
  have h3 : (y 3 : ℕ) < 1408 := (y 3).isLt
  blk_simp
  rw [after0_4, pieces4, ref4_at _ _ _ _ ⟨t.val * 256 + y 2, by omega⟩ ⟨2816 * (y 0 : ℕ) + 1408 * (y 1 : ℕ) + (y 3 : ℕ), by omega⟩
    (by blk_simp [idx t] <;> try omega) (by blk_simp [idx t] <;> try omega)]
  exact pre_eq m c t _ _ _ _ _ _ rfl rfl

/-- The third result after the run. -/
theorem final5 (c : Dev nD) : (dats m 0 c).arrAt 5 cfg0.N = REF5 (m ((c : Thread nD τ).loc main_arg0)) (m ((c : Thread nD τ).loc main_arg1)) (m ((c : Thread nD τ).loc main_arg2)) := by
  refine (dats m 0 c).arrAt_eq_of_covers 5 _ (by decide +kernel) fun t _ y => ?_
  have ht : t.val < 64 := (idx t).2.2.2.2.2.2
  have h0 : (y 0 : ℕ) < 256 := (y 0).isLt
  have h1 : (y 1 : ℕ) < 2816 := (y 1).isLt
  obtain ⟨b, q, hy⟩ : ∃ (b : Fin 2) (q : Fin 1408), (y 1 : ℕ) = 1408 * b + q :=
    ⟨⟨(y 1 : ℕ) / 1408, by omega⟩, ⟨(y 1 : ℕ) % 1408, by omega⟩, by simp only []; omega⟩
  blk_simp
  rw [after0_5, pieces5 _ _ _ _ b q hy, ref5_at _ _ _ _ ⟨t.val * 256 + y 0, by omega⟩ ⟨(y 1 : ℕ), by omega⟩ ⟨2816 + (y 1 : ℕ), by omega⟩
    (by blk_simp [idx t] <;> try omega) (by blk_simp [idx t] <;> try omega) (by blk_simp [idx t] <;> try omega),
    pre_eq m c t 0 b (y 0) q ⟨t.val * 256 + y 0, by omega⟩ ⟨(y 1 : ℕ), by omega⟩ rfl (by simp [hy]),
    pre_eq m c t 1 b (y 0) q ⟨t.val * 256 + y 0, by omega⟩ ⟨2816 + (y 1 : ℕ), by omega⟩ rfl (by simp [hy]; omega)]

/-- Kernel and reference return the same three arrays. -/
theorem value : Cert.algebraic_FinIdeal_FinRefIdeal := by
  intro m g m' g' hpre hargs
  refine ⟨fun c => REF3 (m ((c : Thread nD τ).loc main_arg0)) (m ((c : Thread nD τ).loc main_arg1)), fun c => REF4 (m ((c : Thread nD τ).loc main_arg0)) (m ((c : Thread nD τ).loc main_arg1)) (m ((c : Thread nD τ).loc main_arg2)), fun c => REF5 (m ((c : Thread nD τ).loc main_arg0)) (m ((c : Thread nD τ).loc main_arg1)) (m ((c : Thread nD τ).loc main_arg2)), ?_, ?_⟩
  · exact (θ_run defs _ _).mono (fun r h c => ⟨(h c).1.trans (final3 m c), (h c).2.1.trans (final4 m c),
      (h c).2.2.1.trans (final5 m c), (h c).2.2.2⟩) (run_blocks m g)
  · refine (θ_run Cert.FinRefIdeal.defs _ _).mono (fun r h c => ⟨?_, ?_, ?_, (h c).2.2.2⟩) (Cert.FinRefIdeal.Value.run m' g')
    · rw [(h c).1, (hargs c).1, (hargs c).2.1]
    · rw [(h c).2.1, (hargs c).1, (hargs c).2.1, (hargs c).2.2]
    · rw [(h c).2.2.1, (hargs c).1, (hargs c).2.1, (hargs c).2.2]

end Cert.FinIdeal.Value

end
-- ==== Proof.FoutValue.lean ====
/-
  The way out of the feed-forward part, forward: the tiled kernel's array is the residual stream plus the
  product of the activations with the output matrix.
-/
module

public import proofs.«01_k».proof.Proof.Gen.FoutIdeal.Value
public import proofs.«01_k».proof.Proof.Gen.FoutRefIdeal.Run
public import proofs.«01_k».proof.Defs
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FoutIdeal.Value
open Cert.FoutIdeal Cert.FoutIdeal.Gen

variable (m : (ℓ : Loc nD τ sig) → Buf (Elt Ideal) ℓ)

/-- What the reference returns, over the three arguments. -/
abbrev REF (X : FVec Ideal S16384x2816 .f32) (Wt : FVec Ideal S2816x1024 .f32) (R : FVec Ideal S16384x1024 .f32) :
    FVec Ideal S16384x1024 .f32 :=
  addf R (Host.dotGeneral Cert.FoutRefIdeal.dot_S16384x2816_S2816x1024_S16384x1024_1_0_0_1_n_n none X Wt)

/-- The block each window is on at a point. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- The rows point `t` stores are the reference's rows of that block. -/
theorem point (c : Dev nD) (t : Fin cfg0.N) (y) :
    k0_pay1 (F := Ideal) (iblk m c 0 t) (iblk m c 1 t) (iblk m c 2 t) y
      = REF (m ((c : Thread nD τ).loc main_arg0)) (m ((c : Thread nD τ).loc main_arg1)) (m ((c : Thread nD τ).loc main_arg2))
          (((cfg0.win 3).blk t).view.emb y) := by
  pointwise [k0_pay1, REF]
  blk_point [iblk, V, idx t]

/-- The array after the run. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

/-- Kernel and reference return the same array. -/
theorem value : Cert.algebraic_FoutIdeal_FoutRefIdeal := by
  intro m g m' g' hpre hargs
  refine ⟨fun c => REF (m ((c : Thread nD τ).loc main_arg0)) (m ((c : Thread nD τ).loc main_arg1)) (m ((c : Thread nD τ).loc main_arg2)), ?_, ?_⟩
  · exact (θ_run defs _ _).mono (fun r h c => ⟨(h c).1.trans (final m c), (h c).2⟩) (run_blocks m g)
  · refine (θ_run Cert.FoutRefIdeal.defs _ _).mono (fun r h c => ⟨?_, (h c).2⟩) (Cert.FoutRefIdeal.Value.run m' g')
    rw [(h c).1, (hargs c).1, (hargs c).2.1, (hargs c).2.2]

end Cert.FoutIdeal.Value

end
-- ==== Proof.SginValue.lean ====
/-
  The weight gradient of the way into the spatial gating unit, in four blocks of columns: sixteen blocks of tokens,
  each adding its own product, are the one product over all tokens.
-/
module

public import proofs.«01_k».proof.Proof.Gen.SginIdeal.Value
public import proofs.«01_k».proof.Proof.Gen.SginRefIdeal.Run
public import proofs.«01_k».proof.Defs
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SginIdeal.Value
open Cert.SginIdeal Cert.SginIdeal.Gen

variable (m : (ℓ : Loc nD τ sig) → Buf (Elt Ideal) ℓ)

/-- What the reference returns, over the two arguments. -/
abbrev REF (X : FVec Ideal S16384x1024 .f32) (G : FVec Ideal S16384x4096 .f32) : FVec Ideal S1024x4096 .f32 :=
  transpose S1024x4096 [1, 0] (Host.dotGeneral Cert.SginRefIdeal.dot_S16384x4096_S16384x1024_S4096x1024_0_0_1_1_n_n none G X)
    Cert.SginRefIdeal.Gen.transposes_S4096x1024_S1024x4096_1_0

/-- The block each window is on at a point. -/
theorem idx : ∀ t : Fin cfg0.N, win0_0.index t = ![t.val % 16, 0] ∧ win0_1.index t = ![t.val % 16, t.val / 16]
    ∧ win0_2.index t = ![0, t.val / 16] :=
  (by decide +kernel : ∀ t : Fin grid0.N, _)

/-- A block starts at nothing. -/
theorem zero_at (j) : k0_pay1 (F := Ideal) j = 0 := by pointwise [k0_pay1]

/-- A point adds its tokens' part of the product. -/
theorem step_at (acc : Vec Ideal S1024x1024 .f32) (x : Vec Ideal S1024x1024 .bf16) (g : Vec Ideal S1024x1024 .bf16) (j) :
    k0_pay2 (F := Ideal) acc x g j = acc j + ∑ k : Fin 1024, x (ix2 k (j 0)) * g (ix2 k (j 1)) := by
  pointwise [k0_pay2]

/-- The reference at one entry. -/
theorem ref_at (X : FVec Ideal S16384x1024 .f32) (G : FVec Ideal S16384x4096 .f32) (j) :
    REF X G j = ∑ l : Fin 16384, X (ix2 l (j 0)) * G (ix2 l (j 1)) := by
  pointwise [REF]
  refine Fin.sum_fin_congr fun l => ?_
  rw [mul_comm]

/-- The array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 16 (fun _ => 0) _
    (fun t h j => by rw [outsAt0_A m c t h]; frame_out; rw [step_at, zero_at])
    (fun t h j => by rw [outsAt0_B m c t h]; frame_out; rw [step_at])
    t ((flush0_2 t).mp hf) _, zero_add, ref_at]
  refine Fin.sum_mul_add_congr fun s k hl => ?_
  blk_point [iblk, V, idx t, idx ⟨_, Pipeline.run_point_lt_of_flush t ((flush0_2 t).mp hf) s⟩]

/-- Kernel and reference return the same array. -/
theorem value : Cert.algebraic_SginIdeal_SginRefIdeal := by
  intro m g m' g' hpre hargs
  refine ⟨fun c => REF (m ((c : Thread nD τ).loc main_arg0)) (m ((c : Thread nD τ).loc main_arg1)), ?_, ?_⟩
  · exact (θ_run defs _ _).mono (fun r h c => ⟨(h c).1.trans (final m c), (h c).2⟩) (run_blocks m g)
  · refine (θ_run Cert.SginRefIdeal.defs _ _).mono (fun r h c => ⟨?_, (h c).2⟩) (Cert.SginRefIdeal.Value.run m' g')
    rw [(h c).1, (hargs c).1, (hargs c).2]

end Cert.SginIdeal.Value

end
-- ==== Proof.SgoutValue.lean ====
/-
  The weight gradient of the way out of the spatial gating unit, in two blocks of rows: sixteen blocks of tokens,
  each adding its own product, are the one product over all tokens.
-/
module

public import proofs.«01_k».proof.Proof.Gen.SgoutIdeal.Value
public import proofs.«01_k».proof.Proof.Gen.SgoutRefIdeal.Run
public import proofs.«01_k».proof.Defs
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SgoutIdeal.Value
open Cert.SgoutIdeal Cert.SgoutIdeal.Gen

variable (m : (ℓ : Loc nD τ sig) → Buf (Elt Ideal) ℓ)

/-- What the reference returns, over the two arguments. -/
abbrev REF (X : FVec Ideal S16384x2048 .f32) (G : FVec Ideal S16384x1024 .f32) : FVec Ideal S2048x1024 .f32 :=
  transpose S2048x1024 [1, 0] (Host.dotGeneral Cert.SgoutRefIdeal.dot_S16384x1024_S16384x2048_S1024x2048_0_0_1_1_n_n none G X)
    Cert.SgoutRefIdeal.Gen.transposes_S1024x2048_S2048x1024_1_0

/-- The block each window is on at a point. -/
theorem idx : ∀ t : Fin cfg0.N, win0_0.index t = ![t.val % 16, t.val / 16] ∧ win0_1.index t = ![t.val % 16, 0]
    ∧ win0_2.index t = ![t.val / 16, 0] :=
  (by decide +kernel : ∀ t : Fin grid0.N, _)

/-- A block starts at nothing. -/
theorem zero_at (j) : k0_pay1 (F := Ideal) j = 0 := by pointwise [k0_pay1]

/-- A point adds its tokens' part of the product. -/
theorem step_at (acc : Vec Ideal S1024x1024 .f32) (x : Vec Ideal S1024x1024 .bf16) (g : Vec Ideal S1024x1024 .f32) (j) :
    k0_pay2 (F := Ideal) acc x g j = acc j + ∑ k : Fin 1024, x (ix2 k (j 0)) * g (ix2 k (j 1)) := by
  pointwise [k0_pay2]

/-- The reference at one entry. -/
theorem ref_at (X : FVec Ideal S16384x2048 .f32) (G : FVec Ideal S16384x1024 .f32) (j) :
    REF X G j = ∑ l : Fin 16384, X (ix2 l (j 0)) * G (ix2 l (j 1)) := by
  pointwise [REF]
  refine Fin.sum_fin_congr fun l => ?_
  rw [mul_comm]

/-- The array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 16 (fun _ => 0) _
    (fun t h j => by rw [outsAt0_A m c t h]; frame_out; rw [step_at, zero_at])
    (fun t h j => by rw [outsAt0_B m c t h]; frame_out; rw [step_at])
    t ((flush0_2 t).mp hf) _, zero_add, ref_at]
  refine Fin.sum_mul_add_congr fun s k hl => ?_
  blk_point [iblk, V, idx t, idx ⟨_, Pipeline.run_point_lt_of_flush t ((flush0_2 t).mp hf) s⟩]

/-- Kernel and reference return the same array. -/
theorem value : Cert.algebraic_SgoutIdeal_SgoutRefIdeal := by
  intro m g m' g' hpre hargs
  refine ⟨fun c => REF (m ((c : Thread nD τ).loc main_arg0)) (m ((c : Thread nD τ).loc main_arg1)), ?_, ?_⟩
  · exact (θ_run defs _ _).mono (fun r h c => ⟨(h c).1.trans (final m c), (h c).2⟩) (run_blocks m g)
  · refine (θ_run Cert.SgoutRefIdeal.defs _ _).mono (fun r h c => ⟨?_, (h c).2⟩) (Cert.SgoutRefIdeal.Value.run m' g')
    rw [(h c).1, (hargs c).1, (hargs c).2]

end Cert.SgoutIdeal.Value

end
-- ==== Proof.AtinValue.lean ====
/-
  The weight gradient of the projection to queries, keys, values and forget gates, in five blocks of columns:
  sixteen blocks of tokens, each adding its own product, are the one product over all tokens.
-/
module

public import proofs.«01_k».proof.Proof.Gen.AtinIdeal.Value
public import proofs.«01_k».proof.Proof.Gen.AtinRefIdeal.Run
public import proofs.«01_k».proof.Defs
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AtinIdeal.Value
open Cert.AtinIdeal Cert.AtinIdeal.Gen

variable (m : (ℓ : Loc nD τ sig) → Buf (Elt Ideal) ℓ)

/-- What the reference returns, over the two arguments. -/
abbrev REF (X : FVec Ideal S16384x1024 .f32) (G : FVec Ideal S16384x3200 .f32) : FVec Ideal S1024x3200 .f32 :=
  transpose S1024x3200 [1, 0] (Host.dotGeneral Cert.AtinRefIdeal.dot_S16384x3200_S16384x1024_S3200x1024_0_0_1_1_n_n none G X)
    Cert.AtinRefIdeal.Gen.transposes_S3200x1024_S1024x3200_1_0

/-- The block each window is on at a point. -/
theorem idx : ∀ t : Fin cfg0.N, win0_0.index t = ![t.val % 16, 0] ∧ win0_1.index t = ![t.val % 16, t.val / 16]
    ∧ win0_2.index t = ![0, t.val / 16] :=
  (by decide +kernel : ∀ t : Fin grid0.N, _)

/-- A block starts at nothing. -/
theorem zero_at (j) : k0_pay1 (F := Ideal) j = 0 := by pointwise [k0_pay1]

/-- A point adds its tokens' part of the product. -/
theorem step_at (acc : Vec Ideal S1024x640 .f32) (x : Vec Ideal S1024x1024 .bf16) (g : Vec Ideal S1024x640 .bf16) (j) :
    k0_pay2 (F := Ideal) acc x g j = acc j + ∑ k : Fin 1024, x (ix2 k (j 0)) * g (ix2 k (j 1)) := by
  pointwise [k0_pay2]

/-- The reference at one entry. -/
theorem ref_at (X : FVec Ideal S16384x1024 .f32) (G : FVec Ideal S16384x3200 .f32) (j) :
    REF X G j = ∑ l : Fin 16384, X (ix2 l (j 0)) * G (ix2 l (j 1)) := by
  pointwise [REF]
  refine Fin.sum_fin_congr fun l => ?_
  rw [mul_comm]

/-- The array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 16 (fun _ => 0) _
    (fun t h j => by rw [outsAt0_A m c t h]; frame_out; rw [step_at, zero_at])
    (fun t h j => by rw [outsAt0_B m c t h]; frame_out; rw [step_at])
    t ((flush0_2 t).mp hf) _, zero_add, ref_at]
  refine Fin.sum_mul_add_congr fun s k hl => ?_
  blk_point [iblk, V, idx t, idx ⟨_, Pipeline.run_point_lt_of_flush t ((flush0_2 t).mp hf) s⟩]

/-- Kernel and reference return the same array. -/
theorem value : Cert.algebraic_AtinIdeal_AtinRefIdeal := by
  intro m g m' g' hpre hargs
  refine ⟨fun c => REF (m ((c : Thread nD τ).loc main_arg0)) (m ((c : Thread nD τ).loc main_arg1)), ?_, ?_⟩
  · exact (θ_run defs _ _).mono (fun r h c => ⟨(h c).1.trans (final m c), (h c).2⟩) (run_blocks m g)
  · refine (θ_run Cert.AtinRefIdeal.defs _ _).mono (fun r h c => ⟨?_, (h c).2⟩) (Cert.AtinRefIdeal.Value.run m' g')
    rw [(h c).1, (hargs c).1, (hargs c).2]

end Cert.AtinIdeal.Value

end
-- ==== Proof.AtoutValue.lean ====
/-
  The weight gradient of the way out of the attention: sixteen blocks of tokens, each adding its own product, are
  the one product over all tokens.
-/
module

public import proofs.«01_k».proof.Proof.Gen.AtoutIdeal.Value
public import proofs.«01_k».proof.Proof.Gen.AtoutRefIdeal.Run
public import proofs.«01_k».proof.Defs
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AtoutIdeal.Value
open Cert.AtoutIdeal Cert.AtoutIdeal.Gen

variable (m : (ℓ : Loc nD τ sig) → Buf (Elt Ideal) ℓ)

/-- What the reference returns, over the two arguments. -/
abbrev REF (X : FVec Ideal S16384x1024 .f32) (G : FVec Ideal S16384x1024 .f32) : FVec Ideal S1024x1024 .f32 :=
  transpose S1024x1024 [1, 0] (Host.dotGeneral Cert.AtoutRefIdeal.dot_S16384x1024_S16384x1024_S1024x1024_0_0_1_1_n_n none G X)
    Cert.AtoutRefIdeal.Gen.transposes_S1024x1024_S1024x1024_1_0

/-- The block each window is on at a point. -/
theorem idx : ∀ t : Fin cfg0.N, win0_0.index t = ![t.val % 16, 0] ∧ win0_1.index t = ![t.val % 16, 0]
    ∧ win0_2.index t = ![0, 0] :=
  (by decide +kernel : ∀ t : Fin grid0.N, _)

/-- A block starts at nothing. -/
theorem zero_at (j) : k0_pay1 (F := Ideal) j = 0 := by pointwise [k0_pay1]

/-- A point adds its tokens' part of the product. -/
theorem step_at (acc : Vec Ideal S1024x1024 .f32) (x : Vec Ideal S1024x1024 .bf16) (g : Vec Ideal S1024x1024 .f32) (j) :
    k0_pay2 (F := Ideal) acc x g j = acc j + ∑ k : Fin 1024, x (ix2 k (j 0)) * g (ix2 k (j 1)) := by
  pointwise [k0_pay2]

/-- The reference at one entry. -/
theorem ref_at (X : FVec Ideal S16384x1024 .f32) (G : FVec Ideal S16384x1024 .f32) (j) :
    REF X G j = ∑ l : Fin 16384, X (ix2 l (j 0)) * G (ix2 l (j 1)) := by
  pointwise [REF]
  refine Fin.sum_fin_congr fun l => ?_
  rw [mul_comm]

/-- The array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 16 (fun _ => 0) _
    (fun t h j => by rw [outsAt0_A m c t h]; frame_out; rw [step_at, zero_at])
    (fun t h j => by rw [outsAt0_B m c t h]; frame_out; rw [step_at])
    t ((flush0_2 t).mp hf) _, zero_add, ref_at]
  refine Fin.sum_mul_add_congr fun s k hl => ?_
  blk_point [iblk, V, idx t, idx ⟨_, Pipeline.run_point_lt_of_flush t ((flush0_2 t).mp hf) s⟩]

/-- Kernel and reference return the same array. -/
theorem value : Cert.algebraic_AtoutIdeal_AtoutRefIdeal := by
  intro m g m' g' hpre hargs
  refine ⟨fun c => REF (m ((c : Thread nD τ).loc main_arg0)) (m ((c : Thread nD τ).loc main_arg1)), ?_, ?_⟩
  · exact (θ_run defs _ _).mono (fun r h c => ⟨(h c).1.trans (final m c), (h c).2⟩) (run_blocks m g)
  · refine (θ_run Cert.AtoutRefIdeal.defs _ _).mono (fun r h c => ⟨?_, (h c).2⟩) (Cert.AtoutRefIdeal.Value.run m' g')
    rw [(h c).1, (hargs c).1, (hargs c).2]

end Cert.AtoutIdeal.Value

end
-- ==== Proof.SgdValue.lean ====
/-
  The gradient of the way out of the spatial gating unit, to its rows: the tiled kernel's array is the product of
  the cotangent with the transposed weight.
-/
module

public import proofs.«01_k».proof.Proof.Gen.SgdIdeal.Value
public import proofs.«01_k».proof.Proof.Gen.SgdRefIdeal.Run
public import proofs.«01_k».proof.Defs
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SgdIdeal.Value
open Cert.SgdIdeal Cert.SgdIdeal.Gen

variable (m : (ℓ : Loc nD τ sig) → Buf (Elt Ideal) ℓ)

/-- What the reference returns, over the two arguments. -/
abbrev REF (G : FVec Ideal S16384x1024 .f32) (Wt : FVec Ideal S2048x1024 .f32) : FVec Ideal S16384x2048 .f32 :=
  Host.dotGeneral Cert.SgdRefIdeal.dot_S16384x1024_S2048x1024_S16384x2048_1_1_0_0_n_n none G Wt

/-- The block each window is on at a point. -/
theorem idx : ∀ t : Fin cfg0.N, win0_0.index t = ![t.val, 0] ∧ win0_1.index t = ![0, 0] ∧ win0_2.index t = ![t.val, 0] :=
  (by decide +kernel : ∀ t : Fin grid0.N, _)

/-- The rows point `t` stores are the reference's rows of that block. -/
theorem point (c : Dev nD) (t : Fin cfg0.N) (y) :
    k0_pay1 (F := Ideal) (iblk m c 0 t) (iblk m c 1 t) y
      = REF (m ((c : Thread nD τ).loc main_arg0)) (m ((c : Thread nD τ).loc main_arg1)) (((cfg0.win 2).blk t).view.emb y) := by
  pointwise [k0_pay1, REF]
  blk_point [iblk, V, idx t]

/-- The array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- Kernel and reference return the same array. -/
theorem value : Cert.algebraic_SgdIdeal_SgdRefIdeal := by
  intro m g m' g' hpre hargs
  refine ⟨fun c => REF (m ((c : Thread nD τ).loc main_arg0)) (m ((c : Thread nD τ).loc main_arg1)), ?_, ?_⟩
  · exact (θ_run defs _ _).mono (fun r h c => ⟨(h c).1.trans (final m c), (h c).2⟩) (run_blocks m g)
  · refine (θ_run Cert.SgdRefIdeal.defs _ _).mono (fun r h c => ⟨?_, (h c).2⟩) (Cert.SgdRefIdeal.Value.run m' g')
    rw [(h c).1, (hargs c).1, (hargs c).2]

end Cert.SgdIdeal.Value

end
-- ==== Proof.AtbIdealOffsets.lean ====
module

public import proofs.«01_k».proof.Proof.Gen.AtbIdeal.Skeleton
public import Idealize.ShloMosaic.Lib.Exec
public import Idealize.ShloMosaic.Lib.Tactic

@[expose] public section

namespace Cert.AtbIdeal.Hand

open Idealize.ShloMosaic Cert.AtbIdeal Cert.AtbIdeal.Gen

theorem off1 : ∀ i : grid0.Coords, k0_off1 i = ![min ((i 1).val / 4 + 1) 15 * 1024, 0] := by decide +kernel
theorem off2 : ∀ i : grid0.Coords, k0_off2 i = ![(i 1).val / 2 * 512, 0] := by decide +kernel
theorem off3 : ∀ i : grid0.Coords, k0_off3 i = ![0, 0, (i 1).val / 2 * 512] := by decide +kernel
theorem off4 : ∀ i : grid0.Coords, k0_off4 i = ![(i 1).val / 2 * 512 + 512, 0] := by decide +kernel
theorem off5 : ∀ i : grid0.Coords, k0_off5 i = ![0, 0, (i 1).val / 2 * 512 + 512] := by decide +kernel
theorem off6_1 : ∀ (i : grid0.Coords) (k : Fin (k0_t1_loop i).trips),
    k0_off6 i k 1#32 = ![min ((i 1).val / 4 + 2 + 2 * k.val) 15 * 1024, 0] := by decide +kernel
theorem off6_2 : ∀ (i : grid0.Coords) (k : Fin (k0_t1_loop i).trips),
    k0_off6 i k 2#32 = ![min ((i 1).val / 4 + 3 + 2 * k.val) 15 * 1024, 0] := by decide +kernel
theorem off7 : ∀ (i : grid0.Coords) (k : Fin (k0_t1_loop i).trips),
    k0_off7 i k = ![((i 1).val / 4 + 1 + 2 * k.val) * 1024, 0] := by decide +kernel
theorem off8 : ∀ (i : grid0.Coords) (k : Fin (k0_t1_loop i).trips),
    k0_off8 i k = ![0, 0, ((i 1).val / 4 + 1 + 2 * k.val) * 1024] := by decide +kernel
theorem off9 : ∀ (i : grid0.Coords) (k : Fin (k0_t1_loop i).trips),
    k0_off9 i k = ![((i 1).val / 4 + 2 + 2 * k.val) * 1024, 0] := by decide +kernel
theorem off10 : ∀ (i : grid0.Coords) (k : Fin (k0_t1_loop i).trips),
    k0_off10 i k = ![0, 0, ((i 1).val / 4 + 2 + 2 * k.val) * 1024] := by decide +kernel
theorem trips : ∀ i : grid0.Coords, (k0_t1_loop i).trips = (15 - (i 1).val / 4) / 2 := by decide +kernel
theorem trips2 : ∀ i : grid0.Coords, (k0_t2_loop i).trips = 0 := by decide +kernel
theorem cond2 : ∀ i : grid0.Coords, k0_cond2 i = 1#1 ↔ (i 1).val / 2 * 512 + 512 < ((i 1).val / 4 + 1) * 1024 := by decide +kernel
theorem cond3 : ∀ i : grid0.Coords, k0_cond3 i = 1#1 ↔ (15 - (i 1).val / 4) % 2 = 1 := by decide +kernel
theorem cond4 : ∀ i : grid0.Coords, k0_cond4 i = 1#1 ↔ (i 1).val = 63 := by decide +kernel

instance (i : grid0.Coords) : ClosedOff (k0_off1 i) := ⟨_, off1 i⟩
instance (i : grid0.Coords) : ClosedOff (k0_off2 i) := ⟨_, off2 i⟩
instance (i : grid0.Coords) : ClosedOff (k0_off3 i) := ⟨_, off3 i⟩
instance (i : grid0.Coords) : ClosedOff (k0_off4 i) := ⟨_, off4 i⟩
instance (i : grid0.Coords) : ClosedOff (k0_off5 i) := ⟨_, off5 i⟩
instance (i : grid0.Coords) (k : Fin (k0_t1_loop i).trips) : ClosedOff (k0_off6 i k 1#32) := ⟨_, off6_1 i k⟩
instance (i : grid0.Coords) (k : Fin (k0_t1_loop i).trips) : ClosedOff (k0_off6 i k 2#32) := ⟨_, off6_2 i k⟩
instance (i : grid0.Coords) (k : Fin (k0_t1_loop i).trips) : ClosedOff (k0_off7 i k) := ⟨_, off7 i k⟩
instance (i : grid0.Coords) (k : Fin (k0_t1_loop i).trips) : ClosedOff (k0_off8 i k) := ⟨_, off8 i k⟩
instance (i : grid0.Coords) (k : Fin (k0_t1_loop i).trips) : ClosedOff (k0_off9 i k) := ⟨_, off9 i k⟩
instance (i : grid0.Coords) (k : Fin (k0_t1_loop i).trips) : ClosedOff (k0_off10 i k) := ⟨_, off10 i k⟩

end Cert.AtbIdeal.Hand

end
-- ==== Proof.AtbPay.lean ====
module

public import proofs.«01_k».proof.Proof.AtbIdealOffsets
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.AtbIdeal.Hand
open Cert.AtbIdeal Cert.AtbIdeal.Gen

/-- What the body computes once from the key block for one head: the masked keys and values, the block's first decay, the decays relative to it, the head's lanes, and the row of the query-side arrays that belongs to it. -/
structure Hd where
  w : FVec Ideal S256x128 .bf16
  u : FVec Ideal S256x128 .bf16
  f : FVec Ideal S1x1 .f32
  g : FVec Ideal S256x1 .f32
  m : IVec S1x128 1
  a : Fin 8

/-- The query-side arrays of a pair: queries, output gradients, shifted log-sums, deltas and the decays at block starts. -/
structure Op where
  Q : Vec Ideal S16384x128 .bf16
  D : Vec Ideal S16384x128 .bf16
  L : Vec Ideal S1x8x16384 .f32
  E : Vec Ideal S1x8x16384 .f32
  C : Vec Ideal S1x8x16384 .f32

/-- A natural number as a query's position. -/
def pos (n : ℕ) : Fin 16384 := Fin.ofNat 16384 n

/-- The score, in powers of two, of key `r` of the block with query `n`. -/
def sc (h : Hd) (o : Op) (r : Fin 256) (n : ℕ) : EReal :=
  ∑ l : Fin 128, h.w (ix2 r l) * (o.Q (ix2 (pos n) l) * Named.named (F := Ideal) (φ := .f32) κ "scaled_log2e" 0x3E38AA3B#32)

/-- The attention weight of key `r` for query `n`. -/
def pr (h : Hd) (o : Op) (r : Fin 256) (n : ℕ) : EReal :=
  FloatOps.exp2 (F := Ideal) (φ := .f32) (sc h o r n - h.g (ix2 r 0) - (o.L (ix3 0 h.a (pos n)) + (h.f (ix2 0 0) - o.C (ix3 0 h.a (pos n))) * Named.named (F := Ideal) (φ := .f32) κ "log2e" 0x3FB8AA3B#32))

/-- The gradient of the score, given the weight. -/
def ds (h : Hd) (o : Op) (p : EReal) (r : Fin 256) (n : ℕ) : EReal :=
  p * (∑ l : Fin 128, h.u (ix2 r l) * o.D (ix2 (pos n) l) - o.E (ix3 0 h.a (pos n)))

/-- What query `n` adds to the value gradient of key `r`, given the weight. -/
def gv (o : Op) (p : EReal) (l : Fin 128) (n : ℕ) : EReal := p * o.D (ix2 (pos n) l)

/-- What query `n` adds to the key gradient of key `r`, given the weight. -/
def gk (h : Hd) (o : Op) (p : EReal) (r : Fin 256) (l : Fin 128) (n : ℕ) : EReal :=
  ds h o p r n * Scalar.select (h.m (ix2 0 l)) (o.Q (ix2 (pos n) l) * Ideal.ofBits FTy.f32 1040187392#32) 1

/-- 1024 rows from row `n`. -/
def rowsW (Y : Vec Ideal S16384x128 .bf16) (n : ℕ) : Vec Ideal S1024x128 .bf16 := fun x => Y (ix2 (pos (n + (x 0).val)) (x 1))
/-- 1024 lanes from lane `n`. -/
def lanesW (Y : Vec Ideal S1x8x16384 .f32) (n : ℕ) : Vec Ideal S1x8x1024 .f32 := fun x => Y (ix3 0 (x 1) (pos (n + (x 2).val)))
/-- 512 rows from row `n`. -/
def rowsN (Y : Vec Ideal S16384x128 .bf16) (n : ℕ) : Vec Ideal S512x128 .bf16 := fun x => Y (ix2 (pos (n + (x 0).val)) (x 1))
/-- 512 lanes from lane `n`. -/
def lanesN (Y : Vec Ideal S1x8x16384 .f32) (n : ℕ) : Vec Ideal S1x8x512 .f32 := fun x => Y (ix3 0 (x 1) (pos (n + (x 2).val)))
/-- The scores of 1024 queries from `n`. -/
def scW (h : Hd) (o : Op) (n : ℕ) : Vec Ideal S1x256x1024 .f32 := fun x => sc h o (x 1) (n + (x 2).val)

variable (h : Hd) (o : Op) (n n' : ℕ) (acc : FVec Ideal S256x128 .f32)

theorem pay21_eq : k0_pay21 h.w (rowsW o.Q n) = scW h o n := by
  funext j; pointwise [k0_pay21, k0_pay20]; simp only [scW, sc, rowsW]; rfl
theorem pay22_eq : k0_pay22 h.w (rowsW o.Q n) = scW h o n := by
  funext j; pointwise [k0_pay22, k0_pay20]; simp only [scW, sc, rowsW]; rfl
theorem pay43_eq : k0_pay43 h.w (k0_pay41 (rowsW o.Q n)) = scW h o n := by
  funext j; pointwise [k0_pay43, k0_pay42, k0_pay41]; simp only [scW, sc, rowsW]; rfl
theorem pay44_eq : k0_pay44 h.w (k0_pay41 (rowsW o.Q n)) = scW h o n := by
  funext j; pointwise [k0_pay44, k0_pay42, k0_pay41]; simp only [scW, sc, rowsW]; rfl

/-- The first head's value gradient through one trip of the wide blocks. -/
theorem tripV0 (ha : h.a = 0) (j) :
    k0_pay56 h.g (k0_pay31 h.f h.g acc (k0_pay25 (rowsW o.D n)) (lanesW o.L n) (lanesW o.C n) (scW h o n)) (k0_pay47 (rowsW o.D n'))
      (k0_pay51 (lanesW o.L n')) (k0_pay52 h.f (lanesW o.C n')) k0_pay53 (scW h o n') j
    = acc j + ∑ q : Fin 1024, gv o (pr h o (j 0) (n + q)) (j 1) (n + q) + ∑ q : Fin 1024, gv o (pr h o (j 0) (n' + q)) (j 1) (n' + q) := by
  open_payloads
  pointwise
  all_goals (simp only [gv, pr, ha, rowsW, lanesW, scW]; rfl)

/-- The first head's key gradient through one trip of the wide blocks. -/
theorem tripK0 (ha : h.a = 0) (j) :
    k0_pay57 h.m h.u h.g (k0_pay32 h.m h.u h.f h.g acc (k0_pay23 (rowsW o.Q n)) k0_pay24 (k0_pay25 (rowsW o.D n)) (lanesW o.L n) (lanesW o.E n) (lanesW o.C n) (scW h o n))
      (k0_pay45 (rowsW o.Q n')) k0_pay46 (k0_pay47 (rowsW o.D n')) (k0_pay49 (lanesW o.E n'))
      (k0_pay51 (lanesW o.L n')) (k0_pay52 h.f (lanesW o.C n')) k0_pay53 (scW h o n') j
    = acc j + ∑ q : Fin 1024, gk h o (pr h o (j 0) (n + q)) (j 0) (j 1) (n + q) + ∑ q : Fin 1024, gk h o (pr h o (j 0) (n' + q)) (j 0) (j 1) (n' + q) := by
  open_payloads
  pointwise
  all_goals (simp only [gk, ds, pr, ha, rowsW, lanesW, scW]; rfl)

/-- The second head's value gradient through one trip of the wide blocks. -/
theorem tripV1 (ha : h.a = 1) (j) :
    k0_pay166 (k0_pay38 h.f h.g acc (k0_pay25 (rowsW o.D n)) (k0_pay34 (lanesW o.L n)) (k0_pay35 (lanesW o.C n)) (scW h o n)) (k0_pay47 (rowsW o.D n'))
      (k0_pay59 h.f h.g (k0_pay48 (lanesW o.L n')) (k0_pay50 (lanesW o.C n')) (scW h o n')) j
    = acc j + ∑ q : Fin 1024, gv o (pr h o (j 0) (n + q)) (j 1) (n + q) + ∑ q : Fin 1024, gv o (pr h o (j 0) (n' + q)) (j 1) (n' + q) := by
  open_payloads
  pointwise
  all_goals (simp only [gv, pr, ha, rowsW, lanesW, scW]; rfl)

/-- The second head's key gradient through one trip of the wide blocks. -/
theorem tripK1 (ha : h.a = 1) (z : FVec Ideal S256x1024 .f32) (hz : z = fun _ => 0) (j) :
    k0_pay167 h.m h.u (k0_pay39 h.m h.u h.f h.g acc (k0_pay23 (rowsW o.Q n)) k0_pay24 (k0_pay25 (rowsW o.D n)) (k0_pay27 (lanesW o.E n)) (k0_pay34 (lanesW o.L n)) (k0_pay35 (lanesW o.C n)) (scW h o n))
      (k0_pay45 (rowsW o.Q n')) k0_pay46 (k0_pay47 (rowsW o.D n')) (k0_pay49 (lanesW o.E n'))
      (k0_pay59 h.f h.g (k0_pay48 (lanesW o.L n')) (k0_pay50 (lanesW o.C n')) (scW h o n')) z j
    = acc j + ∑ q : Fin 1024, gk h o (pr h o (j 0) (n + q)) (j 0) (j 1) (n + q) + ∑ q : Fin 1024, gk h o (pr h o (j 0) (n' + q)) (j 0) (j 1) (n' + q) := by
  subst hz
  open_payloads
  pointwise
  all_goals (simp only [gk, ds, pr, ha, rowsW, lanesW, scW]; rfl)

/-- The first head's value gradient through the last, odd wide block. -/
theorem oddV0 (ha : h.a = 0) (j) :
    k0_pay109 acc (k0_pay108 h.f h.g (rowsW o.D n) (lanesW o.L n) (lanesW o.C n) (scW h o n)) j
    = acc j + ∑ q : Fin 1024, gv o (pr h o (j 0) (n + q)) (j 1) (n + q) := by
  open_payloads
  pointwise
  all_goals (simp only [gv, pr, ha, rowsW, lanesW, scW]; rfl)

/-- The first head's key gradient through the last, odd wide block. -/
theorem oddK0 (ha : h.a = 0) (j) :
    k0_pay110 h.m acc (k0_pay100 (rowsW o.Q n)) k0_pay101 (k0_pay107 h.u h.f h.g (rowsW o.D n) (lanesW o.L n) (lanesW o.E n) (lanesW o.C n) (scW h o n)) j
    = acc j + ∑ q : Fin 1024, gk h o (pr h o (j 0) (n + q)) (j 0) (j 1) (n + q) := by
  open_payloads
  pointwise
  all_goals (simp only [gk, ds, pr, ha, rowsW, lanesW, scW]; rfl)

/-- The second head's value gradient through the last, odd wide block. -/
theorem oddV1 (ha : h.a = 1) (j) :
    k0_pay114 h.f h.g acc (k0_pay102 (rowsW o.D n)) (k0_pay103 (lanesW o.L n)) (k0_pay105 (lanesW o.C n)) (scW h o n) j
    = acc j + ∑ q : Fin 1024, gv o (pr h o (j 0) (n + q)) (j 1) (n + q) := by
  open_payloads
  pointwise
  all_goals (simp only [gv, pr, ha, rowsW, lanesW, scW]; rfl)

/-- The second head's key gradient through the last, odd wide block. -/
theorem oddK1 (ha : h.a = 1) (j) :
    k0_pay115 h.m h.u h.f h.g acc (k0_pay100 (rowsW o.Q n)) k0_pay101 (k0_pay102 (rowsW o.D n)) (k0_pay103 (lanesW o.L n)) (k0_pay104 (lanesW o.E n)) (k0_pay105 (lanesW o.C n)) (scW h o n) j
    = acc j + ∑ q : Fin 1024, gk h o (pr h o (j 0) (n + q)) (j 0) (j 1) (n + q) := by
  open_payloads
  pointwise
  all_goals (simp only [gk, ds, pr, ha, rowsW, lanesW, scW]; rfl)

/-- The first head's value gradient through the narrow block behind the diagonal one. -/
theorem nextV0 (ha : h.a = 0) (j) :
    k0_pay14 acc (k0_pay6 (rowsN o.D n)) (k0_pay10 h.w h.f h.g (lanesN o.L n) (lanesN o.C n) (rowsN o.Q n)) j
    = acc j + ∑ q : Fin 512, gv o (pr h o (j 0) (n + q)) (j 1) (n + q) := by
  open_payloads
  pointwise
  all_goals (simp only [gv, pr, sc, ha, rowsN, lanesN]; rfl)

/-- The first head's key gradient through the narrow block behind the diagonal one. -/
theorem nextK0 (ha : h.a = 0) (j) :
    k0_pay15 h.m acc (k0_pay4 (rowsN o.Q n)) k0_pay5 (k0_pay10 h.w h.f h.g (lanesN o.L n) (lanesN o.C n) (rowsN o.Q n)) (k0_pay11 h.u (rowsN o.D n)) (k0_pay12 (lanesN o.E n)) j
    = acc j + ∑ q : Fin 512, gk h o (pr h o (j 0) (n + q)) (j 0) (j 1) (n + q) := by
  open_payloads
  pointwise
  all_goals (simp only [gk, ds, pr, sc, ha, rowsN, lanesN]; rfl)

/-- The second head's value gradient through the narrow block behind the diagonal one. -/
theorem nextV1 (ha : h.a = 1) (j) :
    k0_pay162 acc (k0_pay19 h.w h.f h.g (k0_pay6 (rowsN o.D n)) (k0_pay7 (lanesN o.L n)) (k0_pay9 (lanesN o.C n)) (rowsN o.Q n)) j
    = acc j + ∑ q : Fin 512, gv o (pr h o (j 0) (n + q)) (j 1) (n + q) := by
  open_payloads
  pointwise
  all_goals (simp only [gv, pr, sc, ha, rowsN, lanesN]; rfl)

/-- The second head's key gradient through the narrow block behind the diagonal one. -/
theorem nextK1 (ha : h.a = 1) (j) :
    k0_pay163 h.m acc (k0_pay4 (rowsN o.Q n)) k0_pay5 (k0_pay18 h.w h.u h.f h.g (k0_pay6 (rowsN o.D n)) (k0_pay7 (lanesN o.L n)) (k0_pay8 (lanesN o.E n)) (k0_pay9 (lanesN o.C n)) (rowsN o.Q n)) j
    = acc j + ∑ q : Fin 512, gk h o (pr h o (j 0) (n + q)) (j 0) (j 1) (n + q) := by
  open_payloads
  pointwise
  all_goals (simp only [gk, ds, pr, sc, ha, rowsN, lanesN]; rfl)

/-- The weight with the queries before the key left out: the block's keys start at `d`. -/
def pm (d : ℕ) (r : Fin 256) (n : ℕ) : EReal := if d + r.val ≤ n then pr h o r n else 0

theorem toInt_small (q : ℕ) (hq : q < 512) : (BitVec.ofNat 32 q).toInt = (q : ℤ) := by
  rw [BitVec.toInt_eq_toNat_cond, BitVec.toNat_ofNat, Nat.mod_eq_of_lt (by omega), if_pos (by omega)]

/-- The mask of the diagonal block: the word comparison, in numbers. -/
theorem mask_iff (d q r : ℕ) (hd : d < 512) (hq : q < 512) (hr : r < 256) (x : EReal) :
    Scalar.select (IntOp.cmpi CmpIPredicate.sge (IntOp.subi (BitVec.ofNat 32 q) (BitVec.ofNat 32 r)) (BitVec.ofNat 32 d)) x 0 = if n + d + r ≤ n + q then x else 0 := by
  have e1 : (IntOp.subi (BitVec.ofNat 32 q) (BitVec.ofNat 32 r)).toInt = (q : ℤ) - r := by
    rw [IntOp.subi, BitVec.toInt_sub, toInt_small q hq, toInt_small r (by omega), Int.bmod]
    omega
  have e2 := toInt_small d hd
  have e3 : IntOp.cmpi CmpIPredicate.sge (IntOp.subi (BitVec.ofNat 32 q) (BitVec.ofNat 32 r)) (BitVec.ofNat 32 d) = if n + d + r ≤ n + q then 1#1 else 0#1 := by
    have e4 : ((d : ℤ) ≤ (q : ℤ) - r) ↔ n + d + r ≤ n + q := by omega
    simp only [IntOp.cmpi, BitVec.sle, e1, e2, e4]
    split_ifs with hh <;> simp [hh]
  rw [e3]
  split_ifs <;> rfl

/-- The first head's value gradient of the diagonal block. -/
theorem diagV0 (ha : h.a = 0) (d : ℕ) (hd : d < 512) (j) :
    k0_pay154 h.w h.f h.g k0_pay139 (BitVec.ofNat 32 d) (k0_pay148 (rowsN o.D n)) (k0_pay149 (lanesN o.L n)) (lanesN o.C n) (rowsN o.Q n) j
    = ∑ q : Fin 512, gv o (pm h o (n + d) (j 0) (n + q)) (j 1) (n + q) := by
  open_payloads
  pointwise
  refine Finset.sum_congr rfl fun q _ => ?_
  rw [mask_iff n d q (j 0) hd q.isLt (j 0).isLt]
  simp only [gk, ds, gv, pm]
  split_ifs
  · simp only [pr, sc, ha, rowsN, lanesN]; rfl
  · simp only [zero_mul]

/-- The first head's key gradient of the diagonal block. -/
theorem diagK0 (ha : h.a = 0) (d : ℕ) (hd : d < 512) (j) :
    k0_pay155 h.m h.w h.u h.f h.g k0_pay138 (BitVec.ofNat 32 d) (k0_pay146 (rowsN o.Q n)) k0_pay147 (k0_pay148 (rowsN o.D n)) (k0_pay149 (lanesN o.L n)) (lanesN o.E n) (lanesN o.C n) (rowsN o.Q n) j
    = ∑ q : Fin 512, gk h o (pm h o (n + d) (j 0) (n + q)) (j 0) (j 1) (n + q) := by
  open_payloads
  pointwise
  refine Finset.sum_congr rfl fun q _ => ?_
  rw [mask_iff n d q (j 0) hd q.isLt (j 0).isLt]
  simp only [gk, ds, gv, pm]
  split_ifs
  · simp only [pr, sc, ha, rowsN, lanesN]; rfl
  · simp only [zero_mul]

/-- The second head's value gradient of the diagonal block. -/
theorem diagV1 (ha : h.a = 1) (d : ℕ) (hd : d < 512) (j) :
    k0_pay159 h.w h.f h.g k0_pay141 (BitVec.ofNat 32 d) (k0_pay148 (rowsN o.D n)) (k0_pay149 (lanesN o.L n)) (k0_pay151 (lanesN o.C n)) (rowsN o.Q n) j
    = ∑ q : Fin 512, gv o (pm h o (n + d) (j 0) (n + q)) (j 1) (n + q) := by
  open_payloads
  pointwise
  refine Finset.sum_congr rfl fun q _ => ?_
  rw [mask_iff n d q (j 0) hd q.isLt (j 0).isLt]
  simp only [gk, ds, gv, pm]
  split_ifs
  · simp only [pr, sc, ha, rowsN, lanesN]; rfl
  · simp only [zero_mul]

/-- The second head's key gradient of the diagonal block. -/
theorem diagK1 (ha : h.a = 1) (d : ℕ) (hd : d < 512) (j) :
    k0_pay160 h.m h.w h.u h.f h.g k0_pay140 (BitVec.ofNat 32 d) (k0_pay146 (rowsN o.Q n)) k0_pay147 (k0_pay148 (rowsN o.D n)) (k0_pay149 (lanesN o.L n)) (k0_pay150 (lanesN o.E n)) (k0_pay151 (lanesN o.C n)) (rowsN o.Q n) j
    = ∑ q : Fin 512, gk h o (pm h o (n + d) (j 0) (n + q)) (j 0) (j 1) (n + q) := by
  open_payloads
  pointwise
  refine Finset.sum_congr rfl fun q _ => ?_
  rw [mask_iff n d q (j 0) hd q.isLt (j 0).isLt]
  simp only [gk, ds, gv, pm]
  split_ifs
  · simp only [pr, sc, ha, rowsN, lanesN]; rfl
  · simp only [zero_mul]

end Cert.AtbIdeal.Hand

end
-- ==== Proof.AtbLoads.lean ====
module

public import proofs.«01_k».proof.Proof.AtbPay
public import Idealize.ShloMosaic.Lib.Pipeline.ReadBack
public import Idealize.ShloMosaic.Lib.VecWindow

@[expose] public section

set_option maxRecDepth 16384

noncomputable section

open Idealize.ShloMosaic Idealize.ShloMosaic.TcCoe Idealize.SL.Sem

namespace Cert.AtbIdeal.Hand
open Cert.AtbIdeal Cert.AtbIdeal.Gen

variable (off : Fin 2 → ℕ) (off3 : Fin 3 → ℕ) (n : ℕ)

theorem ld_rowsW (m : Memref sig .tc .vmem S16384x128 .bf16) (X : BufTy.Contents (Elt Ideal) m.view.ty) (ho : off = ![n, 0]) (hn : n + 1024 ≤ 16384) (inb) :
    View.readAt (Elt Ideal) m.view (Rect.unit (s := S16384x128) off S1024x128.size inb).toLoadRect X = rowsW (m.view.read (Elt Ideal) X) n := by
  subst ho
  funext x
  rw [View.readAt_apply, rowsW]
  have h0 : (x 0).val < 1024 := (x 0).isLt
  refine congrArg _ (funext fun a => Fin.ext ?_)
  fin_cases a
  · show n + 1 * (x 0).val = (n + (x 0).val) % 16384
    omega
  · show 0 + 1 * (x 1).val = (x 1).val
    omega

theorem ld_rowsN (m : Memref sig .tc .vmem S16384x128 .bf16) (X : BufTy.Contents (Elt Ideal) m.view.ty) (ho : off = ![n, 0]) (hn : n + 512 ≤ 16384) (inb) :
    View.readAt (Elt Ideal) m.view (Rect.unit (s := S16384x128) off S512x128.size inb).toLoadRect X = rowsN (m.view.read (Elt Ideal) X) n := by
  subst ho
  funext x
  rw [View.readAt_apply, rowsN]
  have h0 : (x 0).val < 512 := (x 0).isLt
  refine congrArg _ (funext fun a => Fin.ext ?_)
  fin_cases a
  · show n + 1 * (x 0).val = (n + (x 0).val) % 16384
    omega
  · show 0 + 1 * (x 1).val = (x 1).val
    omega

theorem ld_lanesW (m : Memref sig .tc .vmem S1x8x16384 .f32) (X : BufTy.Contents (Elt Ideal) m.view.ty) (ho : off3 = ![0, 0, n]) (hn : n + 1024 ≤ 16384) (inb) :
    View.readAt (Elt Ideal) m.view (Rect.unit (s := S1x8x16384) off3 S1x8x1024.size inb).toLoadRect X = lanesW (m.view.read (Elt Ideal) X) n := by
  subst ho
  funext x
  rw [View.readAt_apply, lanesW]
  have h0 : (x 0).val < 1 := (x 0).isLt
  have h2 : (x 2).val < 1024 := (x 2).isLt
  refine congrArg _ (funext fun a => Fin.ext ?_)
  fin_cases a
  · show 0 + 1 * (x 0).val = 0
    omega
  · show 0 + 1 * (x 1).val = (x 1).val
    omega
  · show n + 1 * (x 2).val = (n + (x 2).val) % 16384
    omega

theorem ld_lanesN (m : Memref sig .tc .vmem S1x8x16384 .f32) (X : BufTy.Contents (Elt Ideal) m.view.ty) (ho : off3 = ![0, 0, n]) (hn : n + 512 ≤ 16384) (inb) :
    View.readAt (Elt Ideal) m.view (Rect.unit (s := S1x8x16384) off3 S1x8x512.size inb).toLoadRect X = lanesN (m.view.read (Elt Ideal) X) n := by
  subst ho
  funext x
  rw [View.readAt_apply, lanesN]
  have h0 : (x 0).val < 1 := (x 0).isLt
  have h2 : (x 2).val < 512 := (x 2).isLt
  refine congrArg _ (funext fun a => Fin.ext ?_)
  fin_cases a
  · show 0 + 1 * (x 0).val = 0
    omega
  · show 0 + 1 * (x 1).val = (x 1).val
    omega
  · show n + 1 * (x 2).val = (n + (x 2).val) % 16384
    omega

theorem ld_full2 (m : Memref sig .tc .vmem S256x128 .bf16) (X : BufTy.Contents (Elt Ideal) m.view.ty) (inb) :
    View.readAt (Elt Ideal) m.view (Rect.unit (s := S256x128) ![0, 0] S256x128.size inb).toLoadRect X = m.view.read (Elt Ideal) X :=
  View.readAt_full m.view X inb

theorem ld_full3 (m : Memref sig .tc .vmem S1x256x128 .f32) (X : BufTy.Contents (Elt Ideal) m.view.ty) (inb) :
    View.readAt (Elt Ideal) m.view (Rect.unit (s := S1x256x128) ![0, 0, 0] S1x256x128.size inb).toLoadRect X = m.view.read (Elt Ideal) X :=
  View.readAt_full m.view X inb

/-- A load through the last write's own rectangle reads its payload. -/
theorem readAt_head {sp : Space} {s : Shape} {e : EltTy} (m : Memref sig .tc sp s e) (f : BufTy.Contents (Elt Ideal) m.view.ty) (r : Rect s) (w : r.shape.Idx → Elt Ideal e) (L) :
    View.readAt (Elt Ideal) m.view r.toLoadRect (m.view.writes (Elt Ideal) f (⟨r, w⟩ :: L)) = w := by
  funext j
  rw [View.readAt_apply]
  exact View.read_writes_cons_emb m.view f r w L j

/-- A load apart from the last write's rectangle reads what was there before it. -/
theorem readAt_skip {sp : Space} {s : Shape} {e : EltTy} (m : Memref sig .tc sp s e) (f : BufTy.Contents (Elt Ideal) m.view.ty) (r : Rect s) (w : r.shape.Idx → Elt Ideal e) (L) (B : LoadRect s)
    (h : LoadRect.disj r B = true) :
    View.readAt (Elt Ideal) m.view B (m.view.writes (Elt Ideal) f (⟨r, w⟩ :: L)) = View.readAt (Elt Ideal) m.view B (m.view.writes (Elt Ideal) f L) := by
  funext j
  rw [View.readAt_apply, View.readAt_apply, View.writes_cons]
  refine View.read_slice_write_of_not_mem _ _ _ _ ?_
  rw [Rect.map_emb_univ]
  exact LoadRect.idx_not_mem_of_disj h j

theorem cst0 : (constant S256x1024 .f32 0x00000000#32 : FVec Ideal S256x1024 .f32) = fun _ => 0 := by
  funext j
  pointwise

/-- Four accumulators: the two heads' key and value gradients. -/
abbrev Acc := FVec Ideal S256x128 .f32 × FVec Ideal S256x128 .f32 × FVec Ideal S256x128 .f32 × FVec Ideal S256x128 .f32

variable (h0 h1 : Hd) (o : Op) (lo B : ℕ) (init : Acc)

/-- The accumulators have taken in the `B` queries from `lo`. -/
structure Good (acc : Acc) : Prop where
  k0 : ∀ j, acc.1 j = init.1 j + ∑ q ∈ Finset.range B, gk h0 o (pr h0 o (j 0) (lo + q)) (j 0) (j 1) (lo + q)
  v0 : ∀ j, acc.2.1 j = init.2.1 j + ∑ q ∈ Finset.range B, gv o (pr h0 o (j 0) (lo + q)) (j 1) (lo + q)
  k1 : ∀ j, acc.2.2.1 j = init.2.2.1 j + ∑ q ∈ Finset.range B, gk h1 o (pr h1 o (j 0) (lo + q)) (j 0) (j 1) (lo + q)
  v1 : ∀ j, acc.2.2.2 j = init.2.2.2 j + ∑ q ∈ Finset.range B, gv o (pr h1 o (j 0) (lo + q)) (j 1) (lo + q)

theorem Good.zero : Good h0 h1 o lo 0 init init := by
  constructor <;> intro j <;> simp

theorem sum_more (G : ℕ → EReal) (M : ℕ) : ∑ q ∈ Finset.range (B + M), G (lo + q) = ∑ q ∈ Finset.range B, G (lo + q) + ∑ q : Fin M, G (lo + B + q) := by
  rw [Finset.sum_range_add, Finset.sum_range (n := M)]
  simp only [Nat.add_assoc]

theorem sum_two (G : ℕ → EReal) (x a b : EReal) (hab : a = x + ∑ q ∈ Finset.range B, G (lo + q))
    (hb : b = a + ∑ q : Fin 1024, G (lo + B + q) + ∑ q : Fin 1024, G (lo + B + 1024 + q)) :
    b = x + ∑ q ∈ Finset.range (B + 2048), G (lo + q) := by
  rw [show B + 2048 = (B + 1024) + 1024 from rfl, sum_more lo (B + 1024), sum_more lo B, hb, hab]
  simp only [add_assoc]

theorem sum_one (G : ℕ → EReal) (x a b : EReal) (hab : a = x + ∑ q ∈ Finset.range B, G (lo + q))
    (hb : b = a + ∑ q : Fin 1024, G (lo + B + q)) :
    b = x + ∑ q ∈ Finset.range (B + 1024), G (lo + q) := by
  rw [sum_more lo B, hb, hab]
  simp only [add_assoc]

/-- One trip of the wide blocks takes in 2048 more. -/
theorem Good.trip {a0 a1 a2 a3 : FVec Ideal S256x128 .f32} (hg : Good h0 h1 o lo B init (a0, a1, a2, a3)) (ha0 : h0.a = 0) (ha1 : h1.a = 1)
    (n n' : ℕ) (hn : n = lo + B) (hn' : n' = lo + B + 1024) (z : FVec Ideal S256x1024 .f32) (hz : z = fun _ => 0) :
    Good h0 h1 o lo (B + 2048) init
      (k0_pay57 h0.m h0.u h0.g (k0_pay32 h0.m h0.u h0.f h0.g a0 (k0_pay23 (rowsW o.Q n)) k0_pay24 (k0_pay25 (rowsW o.D n)) (lanesW o.L n) (lanesW o.E n) (lanesW o.C n) (scW h0 o n))
        (k0_pay45 (rowsW o.Q n')) k0_pay46 (k0_pay47 (rowsW o.D n')) (k0_pay49 (lanesW o.E n'))
        (k0_pay51 (lanesW o.L n')) (k0_pay52 h0.f (lanesW o.C n')) k0_pay53 (scW h0 o n'),
      k0_pay56 h0.g (k0_pay31 h0.f h0.g a1 (k0_pay25 (rowsW o.D n)) (lanesW o.L n) (lanesW o.C n) (scW h0 o n)) (k0_pay47 (rowsW o.D n'))
        (k0_pay51 (lanesW o.L n')) (k0_pay52 h0.f (lanesW o.C n')) k0_pay53 (scW h0 o n'),
      k0_pay167 h1.m h1.u (k0_pay39 h1.m h1.u h1.f h1.g a2 (k0_pay23 (rowsW o.Q n)) k0_pay24 (k0_pay25 (rowsW o.D n)) (k0_pay27 (lanesW o.E n)) (k0_pay34 (lanesW o.L n)) (k0_pay35 (lanesW o.C n)) (scW h1 o n))
        (k0_pay45 (rowsW o.Q n')) k0_pay46 (k0_pay47 (rowsW o.D n')) (k0_pay49 (lanesW o.E n'))
        (k0_pay59 h1.f h1.g (k0_pay48 (lanesW o.L n')) (k0_pay50 (lanesW o.C n')) (scW h1 o n')) z,
      k0_pay166 (k0_pay38 h1.f h1.g a3 (k0_pay25 (rowsW o.D n)) (k0_pay34 (lanesW o.L n)) (k0_pay35 (lanesW o.C n)) (scW h1 o n)) (k0_pay47 (rowsW o.D n'))
        (k0_pay59 h1.f h1.g (k0_pay48 (lanesW o.L n')) (k0_pay50 (lanesW o.C n')) (scW h1 o n'))) := by
  subst hn hn'
  exact ⟨fun j => sum_two lo B (fun q => gk h0 o (pr h0 o (j 0) q) (j 0) (j 1) q) _ _ _ (hg.k0 j) (tripK0 h0 o _ _ a0 ha0 j),
    fun j => sum_two lo B (fun q => gv o (pr h0 o (j 0) q) (j 1) q) _ _ _ (hg.v0 j) (tripV0 h0 o _ _ a1 ha0 j),
    fun j => sum_two lo B (fun q => gk h1 o (pr h1 o (j 0) q) (j 0) (j 1) q) _ _ _ (hg.k1 j) (tripK1 h1 o _ _ a2 ha1 z hz j),
    fun j => sum_two lo B (fun q => gv o (pr h1 o (j 0) q) (j 1) q) _ _ _ (hg.v1 j) (tripV1 h1 o _ _ a3 ha1 j)⟩

/-- The last, odd wide block takes in 1024 more. -/
theorem Good.odd {a0 a1 a2 a3 : FVec Ideal S256x128 .f32} (hg : Good h0 h1 o lo B init (a0, a1, a2, a3)) (ha0 : h0.a = 0) (ha1 : h1.a = 1)
    (n : ℕ) (hn : n = lo + B) :
    Good h0 h1 o lo (B + 1024) init
      (k0_pay110 h0.m a0 (k0_pay100 (rowsW o.Q n)) k0_pay101 (k0_pay107 h0.u h0.f h0.g (rowsW o.D n) (lanesW o.L n) (lanesW o.E n) (lanesW o.C n) (scW h0 o n)),
      k0_pay109 a1 (k0_pay108 h0.f h0.g (rowsW o.D n) (lanesW o.L n) (lanesW o.C n) (scW h0 o n)),
      k0_pay115 h1.m h1.u h1.f h1.g a2 (k0_pay100 (rowsW o.Q n)) k0_pay101 (k0_pay102 (rowsW o.D n)) (k0_pay103 (lanesW o.L n)) (k0_pay104 (lanesW o.E n)) (k0_pay105 (lanesW o.C n)) (scW h1 o n),
      k0_pay114 h1.f h1.g a3 (k0_pay102 (rowsW o.D n)) (k0_pay103 (lanesW o.L n)) (k0_pay105 (lanesW o.C n)) (scW h1 o n)) := by
  subst hn
  exact ⟨fun j => sum_one lo B (fun q => gk h0 o (pr h0 o (j 0) q) (j 0) (j 1) q) _ _ _ (hg.k0 j) (oddK0 h0 o _ a0 ha0 j),
    fun j => sum_one lo B (fun q => gv o (pr h0 o (j 0) q) (j 1) q) _ _ _ (hg.v0 j) (oddV0 h0 o _ a1 ha0 j),
    fun j => sum_one lo B (fun q => gk h1 o (pr h1 o (j 0) q) (j 0) (j 1) q) _ _ _ (hg.k1 j) (oddK1 h1 o _ a2 ha1 j),
    fun j => sum_one lo B (fun q => gv o (pr h1 o (j 0) q) (j 1) q) _ _ _ (hg.v1 j) (oddV1 h1 o _ a3 ha1 j)⟩

end Cert.AtbIdeal.Hand

end
-- ==== Proof.AtbIdealRun.lean ====
module

public import proofs.«01_k».proof.Proof.Gen.AtbIdeal.Frame
public import proofs.«01_k».proof.Proof.Gen.AtbIdeal.Loops
public import proofs.«01_k».proof.Proof.AtbIdealOffsets
public import proofs.«01_k».proof.Proof.AtbLoads

@[expose] public section

set_option maxRecDepth 16384

noncomputable section

namespace Cert.AtbIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AtbIdeal Cert.AtbIdeal.Gen

local notation "𝕄" => MT nD τ sig Unit (Elt Ideal) ℕ (UR sig nD τ) ℕ

set_option maxHeartbeats 4000000 in
/-- Before trip `k` the accumulators hold the sums over the queries of the first `2 k` wide blocks, and the first two rows of the scratch the scores of the next one. -/
@[instance_reducible] def loopInv_t1 (c : Dev nD) (i : grid0.Coords) (arg2 : Memref sig .tc .vmem S16384x128 .bf16) (harg2 : arg2.IsWhole) (arg3 : Memref sig .tc .vmem S16384x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S1x8x16384 .f32) (harg6 : arg6.IsWhole) (arg7 : Memref sig .tc .vmem S1x8x16384 .f32) (harg7 : arg7.IsWhole) (arg8 : Memref sig .tc .vmem S1x8x16384 .f32) (harg8 : arg8.IsWhole) (arg9 : Memref sig .tc .vmem S1x256x128 .f32) (harg9 : arg9.IsWhole) (arg10 : Memref sig .tc .vmem S16384x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S1x256x128 .f32) (harg13 : arg13.IsWhole) (arg14 : Memref sig .tc .vmem S1x8x16384 .f32) (harg14 : arg14.IsWhole) (arg15 : Memref sig .tc .vmem S16384x128 .f32) (harg15 : arg15.IsWhole) (arg16 : Memref sig .tc .vmem S16384x128 .f32) (harg16 : arg16.IsWhole) (arg17 : Memref sig .tc .vmem S4x256x1024 .f32) (harg17 : arg17.IsWhole) (v5 : IVec S1x128 1) (v7 : IVec S1x128 1) (v16 : FVec Ideal S256x128 .bf16) (v19 : FVec Ideal S256x128 .bf16) (v22 : FVec Ideal S256x128 .bf16) (v25 : FVec Ideal S256x128 .bf16) (v28 : FVec Ideal S256x128 .bf16) (v31 : FVec Ideal S256x128 .bf16) (v34 : FVec Ideal S1x1 .f32) (v35 : FVec Ideal S1x1 .f32) (v40 : FVec Ideal S256x1 .f32) (v45 : FVec Ideal S256x1 .f32) (v64 : BitVec 32) (v105 : BitVec 32) (v162 : FVec Ideal S256x128 .f32) (v167 : FVec Ideal S256x128 .f32) (v208 : FVec Ideal S256x512 .bf16) (v211 : FVec Ideal S256x128 .f32) (v216 : FVec Ideal S256x128 .f32) (X2 : BufTy.Contents (Elt Ideal) arg2.view.ty) (X3 : BufTy.Contents (Elt Ideal) arg3.view.ty) (X6 : BufTy.Contents (Elt Ideal) arg6.view.ty) (X7 : BufTy.Contents (Elt Ideal) arg7.view.ty) (X8 : BufTy.Contents (Elt Ideal) arg8.view.ty) (init : FVec Ideal S256x128 .f32 × FVec Ideal S256x128 .f32 × FVec Ideal S256x128 .f32 × FVec Ideal S256x128 .f32) :
    Gen.LoopInvTy_k0_t1 (F := Ideal) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v7 v16 v19 v22 v25 v28 v31 v34 v35 v40 v45 v64 v105 v162 v167 v208 v211 v216 init where
  inv k acc := iprop((arg2.view.loc (c : Thread nD τ) ↦[arg2.view.set]{fullShare} X2) ∗ (arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f, arg15.view.loc (c : Thread nD τ) ↦[arg15.view.set]{fullShare} f) ∗ (∃ f, arg16.view.loc (c : Thread nD τ) ↦[arg16.view.set]{fullShare} f)
    ∗ (∃ f, ⌜Good ⟨v16, v22, v34, v40, v5, 0⟩ ⟨v19, v25, v35, v45, v7, 1⟩ ⟨arg2.view.read (Elt Ideal) X2, arg3.view.read (Elt Ideal) X3, arg6.view.read (Elt Ideal) X6, arg7.view.read (Elt Ideal) X7, arg8.view.read (Elt Ideal) X8⟩ (((i 1).val / 4 + 1) * 1024) (2048 * k) init acc
        ∧ View.readAt (Elt Ideal) arg17.view (Rect.unit (s := S4x256x1024) ![0, 0, 0] S1x256x1024.size inb_S4x256x1024_S1x256x1024_0_0_0).toLoadRect f = scW ⟨v16, v22, v34, v40, v5, 0⟩ ⟨arg2.view.read (Elt Ideal) X2, arg3.view.read (Elt Ideal) X3, arg6.view.read (Elt Ideal) X6, arg7.view.read (Elt Ideal) X7, arg8.view.read (Elt Ideal) X8⟩ (min ((i 1).val / 4 + 1 + 2 * k) 15 * 1024)
        ∧ View.readAt (Elt Ideal) arg17.view (Rect.unit (s := S4x256x1024) ![1, 0, 0] S1x256x1024.size inb_S4x256x1024_S1x256x1024_1_0_0).toLoadRect f = scW ⟨v19, v25, v35, v45, v7, 1⟩ ⟨arg2.view.read (Elt Ideal) X2, arg3.view.read (Elt Ideal) X3, arg6.view.read (Elt Ideal) X6, arg7.view.read (Elt Ideal) X7, arg8.view.read (Elt Ideal) X8⟩ (min ((i 1).val / 4 + 1 + 2 * k) 15 * 1024)⌝
      ∗ arg17.view.loc (c : Thread nD τ) ↦[arg17.view.set]{fullShare} f))
  step k acc := by
    have hk : k.val < (15 - (i 1).val / 4) / 2 := Nat.lt_of_lt_of_eq k.isLt (trips i)
    have hi : (i 1).val < 64 := (i 1).isLt
    obtain ⟨a0, a1, a2, a3⟩ := acc
    unfold k0_t1_body
    iintro ⟨H2, H3, H6, H7, H8, ⟨%f15, H15⟩, ⟨%f16, H16⟩, ⟨%f17, %hg, H17⟩⟩
    sl_exec
    sl_step
    isplitl [H2]
    · iexact H2
    isplitl [H3]
    · iexact H3
    isplitl [H6]
    · iexact H6
    isplitl [H7]
    · iexact H7
    isplitl [H8]
    · iexact H8
    isplitl [H15]
    · iexists _; iexact H15
    isplitl [H16]
    · iexists _; iexact H16
    iexists _
    isplitr [H17]
    rotate_left
    · iexact H17
    ipureintro
    obtain ⟨hg, hs0, hs1⟩ := hg
    have e61 : k0_off6 i k 1#32 = ![((i 1).val / 4 + 2 + 2 * k.val) * 1024, 0] := (off6_1 i k).trans (by rw [Nat.min_eq_left (by omega)])
    have e62 := off6_2 i k
    have e7 := off7 i k
    have e8 := off8 i k
    have e9 := off9 i k
    have e10 := off10 i k
    rw [Nat.min_eq_left (show (i 1).val / 4 + 1 + 2 * k.val ≤ 15 by omega)] at hs0 hs1
    sl_unfold_run_names
    simp only [fun inb => ld_rowsW _ _ arg2 X2 e61 (by omega) inb, fun inb => ld_rowsW _ _ arg2 X2 e62 (by omega) inb, fun inb => ld_rowsW _ _ arg2 X2 e7 (by omega) inb, fun inb => ld_rowsW _ _ arg2 X2 e9 (by omega) inb,
      fun inb => ld_rowsW _ _ arg3 X3 e7 (by omega) inb, fun inb => ld_rowsW _ _ arg3 X3 e9 (by omega) inb,
      fun inb => ld_lanesW _ _ arg6 X6 e8 (by omega) inb, fun inb => ld_lanesW _ _ arg6 X6 e10 (by omega) inb,
      fun inb => ld_lanesW _ _ arg7 X7 e8 (by omega) inb, fun inb => ld_lanesW _ _ arg7 X7 e10 (by omega) inb,
      fun inb => ld_lanesW _ _ arg8 X8 e8 (by omega) inb, fun inb => ld_lanesW _ _ arg8 X8 e10 (by omega) inb, hs0, hs1]
    have p21 : ∀ n, k0_pay21 v16 (rowsW (arg2.view.read (Elt Ideal) X2) n) = scW ⟨v16, v22, v34, v40, v5, 0⟩ ⟨arg2.view.read (Elt Ideal) X2, arg3.view.read (Elt Ideal) X3, arg6.view.read (Elt Ideal) X6, arg7.view.read (Elt Ideal) X7, arg8.view.read (Elt Ideal) X8⟩ n := pay21_eq ⟨v16, v22, v34, v40, v5, 0⟩ ⟨arg2.view.read (Elt Ideal) X2, arg3.view.read (Elt Ideal) X3, arg6.view.read (Elt Ideal) X6, arg7.view.read (Elt Ideal) X7, arg8.view.read (Elt Ideal) X8⟩
    have p22 : ∀ n, k0_pay22 v19 (rowsW (arg2.view.read (Elt Ideal) X2) n) = scW ⟨v19, v25, v35, v45, v7, 1⟩ ⟨arg2.view.read (Elt Ideal) X2, arg3.view.read (Elt Ideal) X3, arg6.view.read (Elt Ideal) X6, arg7.view.read (Elt Ideal) X7, arg8.view.read (Elt Ideal) X8⟩ n := pay22_eq ⟨v19, v25, v35, v45, v7, 1⟩ ⟨arg2.view.read (Elt Ideal) X2, arg3.view.read (Elt Ideal) X3, arg6.view.read (Elt Ideal) X6, arg7.view.read (Elt Ideal) X7, arg8.view.read (Elt Ideal) X8⟩
    have p43 : ∀ n, k0_pay43 v16 (k0_pay41 (rowsW (arg2.view.read (Elt Ideal) X2) n)) = scW ⟨v16, v22, v34, v40, v5, 0⟩ ⟨arg2.view.read (Elt Ideal) X2, arg3.view.read (Elt Ideal) X3, arg6.view.read (Elt Ideal) X6, arg7.view.read (Elt Ideal) X7, arg8.view.read (Elt Ideal) X8⟩ n := pay43_eq ⟨v16, v22, v34, v40, v5, 0⟩ ⟨arg2.view.read (Elt Ideal) X2, arg3.view.read (Elt Ideal) X3, arg6.view.read (Elt Ideal) X6, arg7.view.read (Elt Ideal) X7, arg8.view.read (Elt Ideal) X8⟩
    have p44 : ∀ n, k0_pay44 v19 (k0_pay41 (rowsW (arg2.view.read (Elt Ideal) X2) n)) = scW ⟨v19, v25, v35, v45, v7, 1⟩ ⟨arg2.view.read (Elt Ideal) X2, arg3.view.read (Elt Ideal) X3, arg6.view.read (Elt Ideal) X6, arg7.view.read (Elt Ideal) X7, arg8.view.read (Elt Ideal) X8⟩ n := pay44_eq ⟨v19, v25, v35, v45, v7, 1⟩ ⟨arg2.view.read (Elt Ideal) X2, arg3.view.read (Elt Ideal) X3, arg6.view.read (Elt Ideal) X6, arg7.view.read (Elt Ideal) X7, arg8.view.read (Elt Ideal) X8⟩
    simp only [p21, p22, p43, p44]
    refine ⟨?_, ?_, ?_⟩
    · rw [View.readCov_skip _ _ _ _ _ (by rfl), View.readCov_skip _ _ _ _ _ (by rfl), View.readCov_skip _ _ _ _ _ (by rfl), View.readCov_cons_toLoadRect,
        View.readCov_skip _ _ _ _ _ (by rfl), View.readCov_skip _ _ _ _ _ (by rfl), View.readCov_cons_toLoadRect]
      exact hg.trip _ _ _ _ _ _ rfl rfl _ _ (by omega) (by omega) _ cst0
    · rw [readAt_skip _ _ _ _ _ _ (by rfl)]
      exact (readAt_head _ _ _ _ _).trans (congrArg _ (by rw [show (i 1).val / 4 + 1 + 2 * (k.val + 1) = (i 1).val / 4 + 3 + 2 * k.val by omega]))
    · exact (readAt_head _ _ _ _ _).trans (congrArg _ (by rw [show (i 1).val / 4 + 1 + 2 * (k.val + 1) = (i 1).val / 4 + 3 + 2 * k.val by omega]))

end Cert.AtbIdeal.Hand

end
-- ==== Proof.AtbSum.lean ====
module

public import proofs.«01_k».proof.Proof.AtbLoads

@[expose] public section

set_option maxRecDepth 16384

noncomputable section

open Idealize.ShloMosaic Idealize.ShloMosaic.TcCoe Idealize.SL.Sem

namespace Cert.AtbIdeal.Hand
open Cert.AtbIdeal Cert.AtbIdeal.Gen

/-- The first head of a pair, of a block of keys, values and decays. -/
abbrev hd0 (K V : Vec Ideal S256x128 .bf16) (C : Vec Ideal S1x256x128 .f32) : Hd :=
  ⟨k0_pay125 K, k0_pay127 V, k0_pay132 C, k0_pay134 C, k0_pay119, 0⟩
/-- The second head of a pair. -/
abbrev hd1 (K V : Vec Ideal S256x128 .bf16) (C : Vec Ideal S1x256x128 .f32) : Hd :=
  ⟨k0_pay126 K, k0_pay128 V, k0_pay133 C, k0_pay137 (k0_pay135 C) (k0_pay136 C), k0_pay120, 1⟩

variable (h h0 h1 : Hd) (o : Op)

theorem pay144_eq (n : ℕ) : k0_pay144 (k0_pay143 h.w (rowsW o.Q n)) = scW h o n := by
  funext j; pointwise [k0_pay144, k0_pay143, k0_pay142]; simp only [scW, sc, rowsW]; rfl
theorem pay145_eq (n : ℕ) : k0_pay145 h.w (k0_pay142 (rowsW o.Q n)) = scW h o n := by
  funext j; pointwise [k0_pay145, k0_pay142]; simp only [scW, sc, rowsW]; rfl

/-- The key gradient of a block whose keys start at `d`, over all the queries. -/
def fullK (d : ℕ) (r : Fin 256) (l : Fin 128) (N : ℕ) : EReal := ∑ n ∈ Finset.range N, gk h o (pm h o d r n) r l n
/-- The value gradient of a block whose keys start at `d`, over the first `N` queries. -/
def fullV (d : ℕ) (r : Fin 256) (l : Fin 128) (N : ℕ) : EReal := ∑ n ∈ Finset.range N, gv o (pm h o d r n) l n

/-- The accumulators hold the sums over the first `N` queries. -/
structure Sofar (d N : ℕ) (acc : Acc) : Prop where
  k0 : ∀ j, acc.1 j = fullK h0 o d (j 0) (j 1) N
  v0 : ∀ j, acc.2.1 j = fullV h0 o d (j 0) (j 1) N
  k1 : ∀ j, acc.2.2.1 j = fullK h1 o d (j 0) (j 1) N
  v1 : ∀ j, acc.2.2.2 j = fullV h1 o d (j 0) (j 1) N

theorem sum_first (n M : ℕ) (G : ℕ → EReal) (hG : ∀ q, q < n → G q = 0) (a : EReal) (ha : a = ∑ q : Fin M, G (n + q)) :
    a = ∑ q ∈ Finset.range (n + M), G q := by
  rw [Finset.sum_range_add, Finset.sum_eq_zero fun q hq => hG q (Finset.mem_range.mp hq), zero_add, ha, Finset.sum_range (n := M)]

theorem sum_next (n M : ℕ) (G G' : ℕ → EReal) (hG : ∀ q, G (n + q) = G' (n + q)) (a b : EReal) (hab : a = ∑ q ∈ Finset.range n, G q)
    (hb : b = a + ∑ q : Fin M, G' (n + q)) : b = ∑ q ∈ Finset.range (n + M), G q := by
  rw [Finset.sum_range_add, hb, hab, Finset.sum_range (n := M)]
  simp only [hG]

theorem pm_zero {d n : ℕ} (hn : n < d) (r) : pm h o d r n = 0 := if_neg (by omega)
theorem pm_pr {d n : ℕ} (hn : d + 256 ≤ n) (r) : pm h o d r n = pr h o r n := if_pos (by have := r.isLt; omega)
theorem gk_zero (r l n) : gk h o 0 r l n = 0 := by simp only [gk, ds, zero_mul]
theorem gv_zero (l n) : gv o 0 l n = 0 := by simp only [gv, zero_mul]

theorem gkm_zero {d n : ℕ} (hn : n < d) (r l) : gk h o (pm h o d r n) r l n = 0 := by rw [pm_zero h o hn, gk_zero]
theorem gvm_zero {d n : ℕ} (hn : n < d) (r l) : gv o (pm h o d r n) l n = 0 := by rw [pm_zero h o hn, gv_zero]
theorem gkm_pr {d n : ℕ} (hn : d + 256 ≤ n) (r l) : gk h o (pm h o d r n) r l n = gk h o (pr h o r n) r l n := by rw [pm_pr h o hn]
theorem gvm_pr {d n : ℕ} (hn : d + 256 ≤ n) (r l) : gv o (pm h o d r n) l n = gv o (pr h o r n) l n := by rw [pm_pr h o hn]

/-- The diagonal block, then nothing before it counts. -/
theorem Sofar.diag (ha0 : h0.a = 0) (ha1 : h1.a = 1) (n e : ℕ) (he : e < 512) (w : BitVec 32) (hw : w = BitVec.ofNat 32 e) :
    Sofar h0 h1 o (n + e) (n + 512)
      (k0_pay155 h0.m h0.w h0.u h0.f h0.g k0_pay138 w (k0_pay146 (rowsN o.Q n)) k0_pay147 (k0_pay148 (rowsN o.D n)) (k0_pay149 (lanesN o.L n)) (lanesN o.E n) (lanesN o.C n) (rowsN o.Q n),
      k0_pay154 h0.w h0.f h0.g k0_pay139 w (k0_pay148 (rowsN o.D n)) (k0_pay149 (lanesN o.L n)) (lanesN o.C n) (rowsN o.Q n),
      k0_pay160 h1.m h1.w h1.u h1.f h1.g k0_pay140 w (k0_pay146 (rowsN o.Q n)) k0_pay147 (k0_pay148 (rowsN o.D n)) (k0_pay149 (lanesN o.L n)) (k0_pay150 (lanesN o.E n)) (k0_pay151 (lanesN o.C n)) (rowsN o.Q n),
      k0_pay159 h1.w h1.f h1.g k0_pay141 w (k0_pay148 (rowsN o.D n)) (k0_pay149 (lanesN o.L n)) (k0_pay151 (lanesN o.C n)) (rowsN o.Q n)) := by
  subst hw
  exact ⟨fun j => sum_first n 512 (fun q => gk h0 o (pm h0 o (n + e) (j 0) q) (j 0) (j 1) q) (fun q hq => gkm_zero h0 o (by omega) _ _) _ (diagK0 h0 o n ha0 e he j),
   fun j => sum_first n 512 (fun q => gv o (pm h0 o (n + e) (j 0) q) (j 1) q) (fun q hq => gvm_zero h0 o (by omega) _ _) _ (diagV0 h0 o n ha0 e he j),
   fun j => sum_first n 512 (fun q => gk h1 o (pm h1 o (n + e) (j 0) q) (j 0) (j 1) q) (fun q hq => gkm_zero h1 o (by omega) _ _) _ (diagK1 h1 o n ha1 e he j),
   fun j => sum_first n 512 (fun q => gv o (pm h1 o (n + e) (j 0) q) (j 1) q) (fun q hq => gvm_zero h1 o (by omega) _ _) _ (diagV1 h1 o n ha1 e he j)⟩

/-- The narrow block behind the diagonal one. -/
theorem Sofar.next {d n : ℕ} {a0 a1 a2 a3 : FVec Ideal S256x128 .f32} (hs : Sofar h0 h1 o d n (a0, a1, a2, a3)) (hd : d + 256 ≤ n) (ha0 : h0.a = 0) (ha1 : h1.a = 1) :
    Sofar h0 h1 o d (n + 512)
      (k0_pay15 h0.m a0 (k0_pay4 (rowsN o.Q n)) k0_pay5 (k0_pay10 h0.w h0.f h0.g (lanesN o.L n) (lanesN o.C n) (rowsN o.Q n)) (k0_pay11 h0.u (rowsN o.D n)) (k0_pay12 (lanesN o.E n)),
      k0_pay14 a1 (k0_pay6 (rowsN o.D n)) (k0_pay10 h0.w h0.f h0.g (lanesN o.L n) (lanesN o.C n) (rowsN o.Q n)),
      k0_pay163 h1.m a2 (k0_pay4 (rowsN o.Q n)) k0_pay5 (k0_pay18 h1.w h1.u h1.f h1.g (k0_pay6 (rowsN o.D n)) (k0_pay7 (lanesN o.L n)) (k0_pay8 (lanesN o.E n)) (k0_pay9 (lanesN o.C n)) (rowsN o.Q n)),
      k0_pay162 a3 (k0_pay19 h1.w h1.f h1.g (k0_pay6 (rowsN o.D n)) (k0_pay7 (lanesN o.L n)) (k0_pay9 (lanesN o.C n)) (rowsN o.Q n))) :=
  ⟨fun j => sum_next n 512 (fun q => gk h0 o (pm h0 o d (j 0) q) (j 0) (j 1) q) (fun q => gk h0 o (pr h0 o (j 0) q) (j 0) (j 1) q) (fun q => gkm_pr h0 o (by omega) _ _) _ _ (hs.k0 j) (nextK0 h0 o n a0 ha0 j),
   fun j => sum_next n 512 (fun q => gv o (pm h0 o d (j 0) q) (j 1) q) (fun q => gv o (pr h0 o (j 0) q) (j 1) q) (fun q => gvm_pr h0 o (by omega) _ _) _ _ (hs.v0 j) (nextV0 h0 o n a1 ha0 j),
   fun j => sum_next n 512 (fun q => gk h1 o (pm h1 o d (j 0) q) (j 0) (j 1) q) (fun q => gk h1 o (pr h1 o (j 0) q) (j 0) (j 1) q) (fun q => gkm_pr h1 o (by omega) _ _) _ _ (hs.k1 j) (nextK1 h1 o n a2 ha1 j),
   fun j => sum_next n 512 (fun q => gv o (pm h1 o d (j 0) q) (j 1) q) (fun q => gv o (pr h1 o (j 0) q) (j 1) q) (fun q => gvm_pr h1 o (by omega) _ _) _ _ (hs.v1 j) (nextV1 h1 o n a3 ha1 j)⟩

/-- The wide blocks. -/
theorem Sofar.good {d n B : ℕ} {init acc : Acc} (hs : Sofar h0 h1 o d n init) (hd : d + 256 ≤ n) (hg : Good h0 h1 o n B init acc) :
    Sofar h0 h1 o d (n + B) acc :=
  ⟨fun j => sum_next n B (fun q => gk h0 o (pm h0 o d (j 0) q) (j 0) (j 1) q) (fun q => gk h0 o (pr h0 o (j 0) q) (j 0) (j 1) q) (fun q => gkm_pr h0 o (by omega) _ _) _ _ (hs.k0 j) ((hg.k0 j).trans (by rw [Finset.sum_range])),
   fun j => sum_next n B (fun q => gv o (pm h0 o d (j 0) q) (j 1) q) (fun q => gv o (pr h0 o (j 0) q) (j 1) q) (fun q => gvm_pr h0 o (by omega) _ _) _ _ (hs.v0 j) ((hg.v0 j).trans (by rw [Finset.sum_range])),
   fun j => sum_next n B (fun q => gk h1 o (pm h1 o d (j 0) q) (j 0) (j 1) q) (fun q => gk h1 o (pr h1 o (j 0) q) (j 0) (j 1) q) (fun q => gkm_pr h1 o (by omega) _ _) _ _ (hs.k1 j) ((hg.k1 j).trans (by rw [Finset.sum_range])),
   fun j => sum_next n B (fun q => gv o (pm h1 o d (j 0) q) (j 1) q) (fun q => gv o (pr h1 o (j 0) q) (j 1) q) (fun q => gvm_pr h1 o (by omega) _ _) _ _ (hs.v1 j) ((hg.v1 j).trans (by rw [Finset.sum_range]))⟩

theorem lane_lt : ∀ l : Fin 128, IntOp.cmpi CmpIPredicate.slt (BitVec.ofNat 32 l.val) 64#32 = if l.val < 64 then 1#1 else 0#1 := by decide +kernel
theorem lane_ge : ∀ l : Fin 128, IntOp.cmpi CmpIPredicate.sge (BitVec.ofNat 32 l.val) 64#32 = if l.val < 64 then 0#1 else 1#1 := by decide +kernel

/-- The block of key gradients the body writes. -/
def outK (d : ℕ) : FVec Ideal S256x128 .bf16 := fun j => if (j 1).val < 64 then fullK h0 o d (j 0) (j 1) 16384 else fullK h1 o d (j 0) (j 1) 16384
/-- The block of value gradients the body writes. -/
def outV (d : ℕ) : FVec Ideal S256x128 .bf16 := fun j => if (j 1).val < 64 then fullV h0 o d (j 0) (j 1) 16384 else fullV h1 o d (j 0) (j 1) 16384

theorem Sofar.outK {d : ℕ} {acc : Acc} (hs : Sofar h0 h1 o d 16384 acc) :
    k0_pay174 (iota .tc S1x128 32 [1] iota_S1x128_d1_w32) acc.1 acc.2.2.1 = outK h0 h1 o d := by
  funext j
  pointwise [k0_pay174]
  rw [hs.k0, hs.k1, show IntOp.cmpi CmpIPredicate.slt (BitVec.ofNat 32 (j 1).val) 64#32 = _ from lane_lt (j 1)]
  simp only [Hand.outK]
  split_ifs <;> rfl

theorem Sofar.outV {d : ℕ} {acc : Acc} (hs : Sofar h0 h1 o d 16384 acc) :
    k0_pay175 (iota .tc S1x128 32 [1] iota_S1x128_d1_w32) acc.2.1 acc.2.2.2 = outV h0 h1 o d := by
  funext j
  pointwise [k0_pay175]
  rw [hs.v0, hs.v1, show IntOp.cmpi CmpIPredicate.slt (BitVec.ofNat 32 (j 1).val) 64#32 = _ from lane_lt (j 1)]
  simp only [Hand.outV]
  split_ifs <;> rfl

variable (K V : Vec Ideal S256x128 .bf16) (C : Vec Ideal S1x256x128 .f32) (r : Fin 256) (l : Fin 128)

theorem hd0_w : (hd0 K V C).w (ix2 r l) = if l.val < 64 then K (ix2 r l) else 0 := by
  pointwise [k0_pay125, k0_pay119, k0_pay121, k0_pay123]
  rw [lane_lt]
  split_ifs <;> rfl
theorem hd1_w : (hd1 K V C).w (ix2 r l) = if l.val < 64 then 0 else K (ix2 r l) := by
  pointwise [k0_pay126, k0_pay120, k0_pay121, k0_pay123]
  rw [lane_ge]
  split_ifs <;> rfl
theorem hd0_u : (hd0 K V C).u (ix2 r l) = if l.val < 64 then V (ix2 r l) else 0 := by
  pointwise [k0_pay127, k0_pay119, k0_pay122, k0_pay123]
  rw [lane_lt]
  split_ifs <;> rfl
theorem hd1_u : (hd1 K V C).u (ix2 r l) = if l.val < 64 then 0 else V (ix2 r l) := by
  pointwise [k0_pay128, k0_pay120, k0_pay122, k0_pay123]
  rw [lane_ge]
  split_ifs <;> rfl
theorem hd0_f : (hd0 K V C).f (ix2 0 0) = C (ix3 0 0 0) := by
  pointwise [k0_pay132, k0_pay131]; all_goals rfl
theorem hd1_f : (hd1 K V C).f (ix2 0 0) = C (ix3 0 0 1) := by
  pointwise [k0_pay133, k0_pay131]; all_goals rfl
theorem hd0_g : (hd0 K V C).g (ix2 r 0) = (C (ix3 0 r 0) - C (ix3 0 0 0)) * Named.named (F := Ideal) (φ := .f32) κ "log2e" 0x3FB8AA3B#32 := by
  pointwise [k0_pay134, k0_pay132, k0_pay131]; all_goals rfl
theorem hd1_g : (hd1 K V C).g (ix2 r 0) = (C (ix3 0 r 1) - C (ix3 0 0 1)) * Named.named (F := Ideal) (φ := .f32) κ "log2e" 0x3FB8AA3B#32 := by
  pointwise [k0_pay137, k0_pay135, k0_pay136, k0_pay133, k0_pay131]; all_goals rfl
theorem hd0_m : (hd0 K V C).m (ix2 0 l) = if l.val < 64 then 1#1 else 0#1 := by
  pointwise [k0_pay119]
  exact lane_lt l
theorem hd1_m : (hd1 K V C).m (ix2 0 l) = if l.val < 64 then 0#1 else 1#1 := by
  pointwise [k0_pay120]
  exact lane_ge l

end Cert.AtbIdeal.Hand

end
-- ==== Proof.AtbIdealLoop.lean ====
module

public import proofs.«01_k».proof.Proof.AtbIdealRun
public import proofs.«01_k».proof.Proof.AtbSum
public import Idealize.ShloMosaic.Lib.LoopRemainder
public import Idealize.ShloMosaic.Lib.VecWindow

@[expose] public section

set_option maxRecDepth 16384

noncomputable section

namespace Cert.AtbIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AtbIdeal Cert.AtbIdeal.Gen

local notation "𝕄" => MT nD τ sig Unit (Elt Ideal) ℕ (UR sig nD τ) ℕ

/-- How far the block's first key lies behind the first query of the diagonal block. -/
def behind (a : BitVec 32) : BitVec 32 :=
  let v46 : BitVec 32 := Scalar.muli a 256#32
  let v87 : BitVec 32 := Scalar.divsi v46 512#32
  let v88 : BitVec 1 := Scalar.cmpi .sgt v46 0#32
  let v89 : BitVec 32 := Scalar.extui v88
  let v90 : BitVec 1 := Scalar.cmpi .slt v46 0#32
  let v91 : BitVec 32 := Scalar.extui v90
  let v92 : BitVec 32 := Scalar.subi v89 v91
  let v93 : BitVec 1 := Scalar.cmpi .sgt 512#32 0#32
  let v94 : BitVec 32 := Scalar.extui v93
  let v95 : BitVec 1 := Scalar.cmpi .slt 512#32 0#32
  let v96 : BitVec 32 := Scalar.extui v95
  let v97 : BitVec 32 := Scalar.subi v94 v96
  let v98 : BitVec 1 := Scalar.cmpi .ne v92 v97
  let v99 : BitVec 32 := Scalar.remsi v46 512#32
  let v100 : BitVec 1 := Scalar.cmpi .ne v99 0#32
  let v101 : BitVec 1 := Scalar.andi v98 v100
  let v102 : BitVec 32 := Scalar.subi v87 1#32
  let v103 : BitVec 32 := Scalar.select v101 v102 v87
  Scalar.subi v46 (Scalar.muli v103 512#32)

theorem behind_eq : ∀ j : Fin 64, behind (BitVec.ofNat 32 j.val) = BitVec.ofNat 32 (256 * (j.val % 2)) := by decide +kernel

/-- The loop over pairs of wide blocks, as one step. -/
theorem loop_t1 (c : Dev nD) (i : grid0.Coords) (arg2 : Memref sig .tc .vmem S16384x128 .bf16) (harg2 : arg2.IsWhole) (arg3 : Memref sig .tc .vmem S16384x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S1x8x16384 .f32) (harg6 : arg6.IsWhole) (arg7 : Memref sig .tc .vmem S1x8x16384 .f32) (harg7 : arg7.IsWhole) (arg8 : Memref sig .tc .vmem S1x8x16384 .f32) (harg8 : arg8.IsWhole) (arg9 : Memref sig .tc .vmem S1x256x128 .f32) (harg9 : arg9.IsWhole) (arg10 : Memref sig .tc .vmem S16384x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S1x256x128 .f32) (harg13 : arg13.IsWhole) (arg14 : Memref sig .tc .vmem S1x8x16384 .f32) (harg14 : arg14.IsWhole) (arg15 : Memref sig .tc .vmem S16384x128 .f32) (harg15 : arg15.IsWhole) (arg16 : Memref sig .tc .vmem S16384x128 .f32) (harg16 : arg16.IsWhole) (arg17 : Memref sig .tc .vmem S4x256x1024 .f32) (harg17 : arg17.IsWhole) (v5 : IVec S1x128 1) (v7 : IVec S1x128 1) (v16 : FVec Ideal S256x128 .bf16) (v19 : FVec Ideal S256x128 .bf16) (v22 : FVec Ideal S256x128 .bf16) (v25 : FVec Ideal S256x128 .bf16) (v28 : FVec Ideal S256x128 .bf16) (v31 : FVec Ideal S256x128 .bf16) (v34 : FVec Ideal S1x1 .f32) (v35 : FVec Ideal S1x1 .f32) (v40 : FVec Ideal S256x1 .f32) (v45 : FVec Ideal S256x1 .f32) (v64 : BitVec 32) (v105 : BitVec 32) (v162 : FVec Ideal S256x128 .f32) (v167 : FVec Ideal S256x128 .f32) (v208 : FVec Ideal S256x512 .bf16) (v211 : FVec Ideal S256x128 .f32) (v216 : FVec Ideal S256x128 .f32) (X2 : BufTy.Contents (Elt Ideal) arg2.view.ty) (X3 : BufTy.Contents (Elt Ideal) arg3.view.ty) (X6 : BufTy.Contents (Elt Ideal) arg6.view.ty) (X7 : BufTy.Contents (Elt Ideal) arg7.view.ty) (X8 : BufTy.Contents (Elt Ideal) arg8.view.ty) (init : Acc) (f15 : BufTy.Contents (Elt Ideal) arg15.view.ty) (f16 : BufTy.Contents (Elt Ideal) arg16.view.ty) (f17 : BufTy.Contents (Elt Ideal) arg17.view.ty)
    (hr0 : View.readAt (Elt Ideal) arg17.view (Rect.unit (s := S4x256x1024) ![0, 0, 0] S1x256x1024.size inb_S4x256x1024_S1x256x1024_0_0_0).toLoadRect f17 = scW ⟨v16, v22, v34, v40, v5, 0⟩ ⟨arg2.view.read (Elt Ideal) X2, arg3.view.read (Elt Ideal) X3, arg6.view.read (Elt Ideal) X6, arg7.view.read (Elt Ideal) X7, arg8.view.read (Elt Ideal) X8⟩ (min ((i 1).val / 4 + 1) 15 * 1024))
    (hr1 : View.readAt (Elt Ideal) arg17.view (Rect.unit (s := S4x256x1024) ![1, 0, 0] S1x256x1024.size inb_S4x256x1024_S1x256x1024_1_0_0).toLoadRect f17 = scW ⟨v19, v25, v35, v45, v7, 1⟩ ⟨arg2.view.read (Elt Ideal) X2, arg3.view.read (Elt Ideal) X3, arg6.view.read (Elt Ideal) X6, arg7.view.read (Elt Ideal) X7, arg8.view.read (Elt Ideal) X8⟩ (min ((i 1).val / 4 + 1) 15 * 1024))
    {β : Type} {kk : Acc → Prog (TpuEff nD τ sig (Elt Ideal) Λ₀ .tc) β} {Q : β → sProp 𝕄} :
    (iprop((arg2.view.loc (c : Thread nD τ) ↦[arg2.view.set]{fullShare} X2) ∗ (arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)) : sProp 𝕄)
      ⊢ iprop((∀ acc, ((arg2.view.loc (c : Thread nD τ) ↦[arg2.view.set]{fullShare} X2) ∗ (arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f, (arg15.view.loc (c : Thread nD τ) ↦[arg15.view.set]{fullShare} f)) ∗ (∃ f, (arg16.view.loc (c : Thread nD τ) ↦[arg16.view.set]{fullShare} f)) ∗ (∃ f, ⌜Good ⟨v16, v22, v34, v40, v5, 0⟩ ⟨v19, v25, v35, v45, v7, 1⟩ ⟨arg2.view.read (Elt Ideal) X2, arg3.view.read (Elt Ideal) X3, arg6.view.read (Elt Ideal) X6, arg7.view.read (Elt Ideal) X7, arg8.view.read (Elt Ideal) X8⟩ (((i 1).val / 4 + 1) * 1024) (2048 * ((15 - (i 1).val / 4) / 2)) init acc
        ∧ View.readAt (Elt Ideal) arg17.view (Rect.unit (s := S4x256x1024) ![0, 0, 0] S1x256x1024.size inb_S4x256x1024_S1x256x1024_0_0_0).toLoadRect f = scW ⟨v16, v22, v34, v40, v5, 0⟩ ⟨arg2.view.read (Elt Ideal) X2, arg3.view.read (Elt Ideal) X3, arg6.view.read (Elt Ideal) X6, arg7.view.read (Elt Ideal) X7, arg8.view.read (Elt Ideal) X8⟩ (min ((i 1).val / 4 + 1 + 2 * ((15 - (i 1).val / 4) / 2)) 15 * 1024)
        ∧ View.readAt (Elt Ideal) arg17.view (Rect.unit (s := S4x256x1024) ![1, 0, 0] S1x256x1024.size inb_S4x256x1024_S1x256x1024_1_0_0).toLoadRect f = scW ⟨v19, v25, v35, v45, v7, 1⟩ ⟨arg2.view.read (Elt Ideal) X2, arg3.view.read (Elt Ideal) X3, arg6.view.read (Elt Ideal) X6, arg7.view.read (Elt Ideal) X7, arg8.view.read (Elt Ideal) X8⟩ (min ((i 1).val / 4 + 1 + 2 * ((15 - (i 1).val / 4) / 2)) 15 * 1024)⌝
      ∗ arg17.view.loc (c : Thread nD τ) ↦[arg17.view.set]{fullShare} f)) -∗ wp frame (wpE (defs₀ (F := Ideal)) Variants.none (c : Thread nD τ) none) Set.univ (kk acc) Q)
        -∗ wp frame (wpE (defs₀ (F := Ideal)) Variants.none (c : Thread nD τ) none) Set.univ
          (Scf.Loop.for (k0_t1_loop i) (k0_t1_ok i) init (k0_t1_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v7 v16 v19 v22 v25 v28 v31 v34 v35 v40 v45 v64 v105 v162 v167 v208 v211 v216) >>= kk) Q) := by
  have key := Scf.wp_for_bind frame (wpE (defs₀ (F := Ideal)) Variants.none (c : Thread nD τ) none) Set.univ _ _ _ (k0_t1_ok i) init
    (k0_t1_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v7 v16 v19 v22 v25 v28 v31 v34 v35 v40 v45 v64 v105 v162 v167 v208 v211 v216)
    (loopInv_t1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v7 v16 v19 v22 v25 v28 v31 v34 v35 v40 v45 v64 v105 v162 v167 v208 v211 v216 X2 X3 X6 X7 X8 init).inv (loopInv_t1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v7 v16 v19 v22 v25 v28 v31 v34 v35 v40 v45 v64 v105 v162 v167 v208 v211 v216 X2 X3 X6 X7 X8 init).step (kk := kk) (Q := Q)
  rw [show Scf.trips (k0_t1_loop i).lb (k0_t1_loop i).ub (k0_t1_loop i).st = ((15 - (i 1).val / 4) / 2) from trips i] at key
  refine BIBase.Entails.trans (Q := iprop((arg2.view.loc (c : Thread nD τ) ↦[arg2.view.set]{fullShare} X2) ∗ (arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f, (arg15.view.loc (c : Thread nD τ) ↦[arg15.view.set]{fullShare} f)) ∗ (∃ f, (arg16.view.loc (c : Thread nD τ) ↦[arg16.view.set]{fullShare} f)) ∗ (∃ f, ⌜Good ⟨v16, v22, v34, v40, v5, 0⟩ ⟨v19, v25, v35, v45, v7, 1⟩ ⟨arg2.view.read (Elt Ideal) X2, arg3.view.read (Elt Ideal) X3, arg6.view.read (Elt Ideal) X6, arg7.view.read (Elt Ideal) X7, arg8.view.read (Elt Ideal) X8⟩ (((i 1).val / 4 + 1) * 1024) (2048 * 0) init init
        ∧ View.readAt (Elt Ideal) arg17.view (Rect.unit (s := S4x256x1024) ![0, 0, 0] S1x256x1024.size inb_S4x256x1024_S1x256x1024_0_0_0).toLoadRect f = scW ⟨v16, v22, v34, v40, v5, 0⟩ ⟨arg2.view.read (Elt Ideal) X2, arg3.view.read (Elt Ideal) X3, arg6.view.read (Elt Ideal) X6, arg7.view.read (Elt Ideal) X7, arg8.view.read (Elt Ideal) X8⟩ (min ((i 1).val / 4 + 1 + 2 * 0) 15 * 1024)
        ∧ View.readAt (Elt Ideal) arg17.view (Rect.unit (s := S4x256x1024) ![1, 0, 0] S1x256x1024.size inb_S4x256x1024_S1x256x1024_1_0_0).toLoadRect f = scW ⟨v19, v25, v35, v45, v7, 1⟩ ⟨arg2.view.read (Elt Ideal) X2, arg3.view.read (Elt Ideal) X3, arg6.view.read (Elt Ideal) X6, arg7.view.read (Elt Ideal) X7, arg8.view.read (Elt Ideal) X8⟩ (min ((i 1).val / 4 + 1 + 2 * 0) 15 * 1024)⌝
      ∗ arg17.view.loc (c : Thread nD τ) ↦[arg17.view.set]{fullShare} f))) ?_ key
  iintro ⟨H2, H3, H6, H7, H8, H15, H16, H17⟩
  isplitl [H2]; · iexact H2
  isplitl [H3]; · iexact H3
  isplitl [H6]; · iexact H6
  isplitl [H7]; · iexact H7
  isplitl [H8]; · iexact H8
  isplitl [H15]; · iexists _; iexact H15
  isplitl [H16]; · iexists _; iexact H16
  iexists _
  isplitr [H17]
  rotate_left
  · iexact H17
  ipureintro
  exact ⟨Good.zero _ _ _ _ _, hr0, hr1⟩

end Cert.AtbIdeal.Hand

end
-- ==== Proof.AtbIdealStrongA.lean ====
module

public import proofs.«01_k».proof.Proof.AtbIdealLoop
public import proofs.«01_k».proof.Proof.AtbSum
public import Idealize.ShloMosaic.Lib.LoopRemainder
public import Idealize.ShloMosaic.Lib.VecWindow

@[expose] public section

set_option maxRecDepth 16384

noncomputable section

namespace Cert.AtbIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AtbIdeal Cert.AtbIdeal.Gen

local notation "𝕄" => MT nD τ sig Unit (Elt Ideal) ℕ (UR sig nD τ) ℕ

set_option maxHeartbeats 4000000 in
/-- The body at any grid point: the inputs stay in place, the blocks of key and value gradients are the sums over all the queries, and every other written buffer ends at some contents. Here the narrow block behind the diagonal one is run. -/
theorem body_strongA (c : Dev nD) (i : grid0.Coords) (arg2 : Memref sig .tc .vmem S16384x128 .bf16) (harg2 : arg2.IsWhole) (arg3 : Memref sig .tc .vmem S16384x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S1x8x16384 .f32) (harg6 : arg6.IsWhole) (arg7 : Memref sig .tc .vmem S1x8x16384 .f32) (harg7 : arg7.IsWhole) (arg8 : Memref sig .tc .vmem S1x8x16384 .f32) (harg8 : arg8.IsWhole) (arg9 : Memref sig .tc .vmem S1x256x128 .f32) (harg9 : arg9.IsWhole) (arg10 : Memref sig .tc .vmem S16384x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S1x256x128 .f32) (harg13 : arg13.IsWhole) (arg14 : Memref sig .tc .vmem S1x8x16384 .f32) (harg14 : arg14.IsWhole) (arg15 : Memref sig .tc .vmem S16384x128 .f32) (harg15 : arg15.IsWhole) (arg16 : Memref sig .tc .vmem S16384x128 .f32) (harg16 : arg16.IsWhole) (arg17 : Memref sig .tc .vmem S4x256x1024 .f32) (harg17 : arg17.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (hc2 : k0_cond2 i = 1#1) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f))) : sProp 𝕄)
      ⊢ wp frame (wpE (defs₀ (F := Ideal)) Variants.none (c : Thread nD τ) none) Set.univ (cc0_attn_bwd_2 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (∃ f, (arg10.view.loc (c : Thread nD τ) ↦[arg10.view.set]{fullShare} f)) ∗ (∃ f, ⌜arg11.view.read (Elt Ideal) f = outK (hd0 (arg4.view.read (Elt Ideal) X4) (arg5.view.read (Elt Ideal) X5) (arg9.view.read (Elt Ideal) X9)) (hd1 (arg4.view.read (Elt Ideal) X4) (arg5.view.read (Elt Ideal) X5) (arg9.view.read (Elt Ideal) X9)) ⟨arg2.view.read (Elt Ideal) X2, arg3.view.read (Elt Ideal) X3, arg6.view.read (Elt Ideal) X6, arg7.view.read (Elt Ideal) X7, arg8.view.read (Elt Ideal) X8⟩ (256 * (i 1).val)⌝ ∗ (arg11.view.loc (c : Thread nD τ) ↦[arg11.view.set]{fullShare} f)) ∗ (∃ f, ⌜arg12.view.read (Elt Ideal) f = outV (hd0 (arg4.view.read (Elt Ideal) X4) (arg5.view.read (Elt Ideal) X5) (arg9.view.read (Elt Ideal) X9)) (hd1 (arg4.view.read (Elt Ideal) X4) (arg5.view.read (Elt Ideal) X5) (arg9.view.read (Elt Ideal) X9)) ⟨arg2.view.read (Elt Ideal) X2, arg3.view.read (Elt Ideal) X3, arg6.view.read (Elt Ideal) X6, arg7.view.read (Elt Ideal) X7, arg8.view.read (Elt Ideal) X8⟩ (256 * (i 1).val)⌝ ∗ (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)))) := by
  have hi : (i 1).val < 64 := (i 1).isLt
  have htr2 := trips2 i
  rw [cc0_attn_bwd_2_eq_skeleton]
  unfold cc0_attn_bwd_2_skel
  iintro ⟨H2, H3, H4, H5, H6, H7, H8, H9, ⟨%f10, H10⟩, ⟨%f11, H11⟩, ⟨%f12, H12⟩, ⟨%f13, H13⟩, ⟨%f14, H14⟩, ⟨%f15, H15⟩, ⟨%f16, H16⟩, ⟨%f17, H17⟩⟩
  have fo4 := fun inb => ld_full2 arg4 X4 inb
  have fo5 := fun inb => ld_full2 arg5 X5 inb
  have fo9 := fun inb => ld_full3 arg9 X9 inb
  have po2 := fun inb => ld_rowsW _ _ arg2 X2 (off1 i) (by omega) inb
  have ho2 := fun inb => ld_rowsN _ _ arg2 X2 (off2 i) (by omega) inb
  have ho3 := fun inb => ld_rowsN _ _ arg3 X3 (off2 i) (by omega) inb
  have ho6 := fun inb => ld_lanesN _ _ arg6 X6 (off3 i) (by omega) inb
  have ho7 := fun inb => ld_lanesN _ _ arg7 X7 (off3 i) (by omega) inb
  have ho8 := fun inb => ld_lanesN _ _ arg8 X8 (off3 i) (by omega) inb
  have lo2 := fun inb => ld_rowsW _ _ arg2 X2 (show ![15360, 0] = ![15360, 0] from rfl) (by omega) inb
  have lo3 := fun inb => ld_rowsW _ _ arg3 X3 (show ![15360, 0] = ![15360, 0] from rfl) (by omega) inb
  have lo6 := fun inb => ld_lanesW _ _ arg6 X6 (show ![0, 0, 15360] = ![0, 0, 15360] from rfl) (by omega) inb
  have lo7 := fun inb => ld_lanesW _ _ arg7 X7 (show ![0, 0, 15360] = ![0, 0, 15360] from rfl) (by omega) inb
  have lo8 := fun inb => ld_lanesW _ _ arg8 X8 (show ![0, 0, 15360] = ![0, 0, 15360] from rfl) (by omega) inb
  have h2 := (cond2 i).mp hc2
  have no2 := fun inb => ld_rowsN _ _ arg2 X2 (off4 i) (by omega) inb
  have no3 := fun inb => ld_rowsN _ _ arg3 X3 (off4 i) (by omega) inb
  have no6 := fun inb => ld_lanesN _ _ arg6 X6 (off5 i) (by omega) inb
  have no7 := fun inb => ld_lanesN _ _ arg7 X7 (off5 i) (by omega) inb
  have no8 := fun inb => ld_lanesN _ _ arg8 X8 (off5 i) (by omega) inb
  sl_exec
  iapply (loop_t1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ _ _ _ _ _ _ _ _ _ _ X2 X3 X6 X7 X8 _ _ _ _ ?r0 ?r1) $$ [H2 H3 H6 H7 H8 H15 H16 H17]
  rotate_left 2
  on_goal 1 =>
    isplitl [H2]; · iexact H2
    isplitl [H3]; · iexact H3
    isplitl [H6]; · iexact H6
    isplitl [H7]; · iexact H7
    isplitl [H8]; · iexact H8
    isplitl [H15]; · iexact H15
    isplitl [H16]; · iexact H16
    iexact H17
  on_goal 1 =>
    iintro %acc ⟨H2, H3, H6, H7, H8, ⟨%g15, H15⟩, ⟨%g16, H16⟩, ⟨%g17, %hg, H17⟩⟩
    obtain ⟨a0, a1, a2, a3⟩ := acc
    have hs : Sofar (hd0 (arg4.view.read (Elt Ideal) X4) (arg5.view.read (Elt Ideal) X5) (arg9.view.read (Elt Ideal) X9)) (hd1 (arg4.view.read (Elt Ideal) X4) (arg5.view.read (Elt Ideal) X5) (arg9.view.read (Elt Ideal) X9)) (⟨arg2.view.read (Elt Ideal) X2, arg3.view.read (Elt Ideal) X3, arg6.view.read (Elt Ideal) X6, arg7.view.read (Elt Ideal) X7, arg8.view.read (Elt Ideal) X8⟩ : Op) (256 * (i 1).val) (((i 1).val / 4 + 1) * 1024 + 2048 * ((15 - (i 1).val / 4) / 2)) (a0, a1, a2, a3) := by
      have hg' := hg.1
      revert hg'
      clear hg
      sl_unfold_run_names
      simp only [fo4, fo5, fo9, ho2, ho3, ho6, ho7, ho8, no2, no3, no6, no7, no8]
      intro hg'
      refine Sofar.good _ _ _ ?_ (by omega) hg'
      rw [show ((i 1).val / 4 + 1) * 1024 = (i 1).val / 2 * 512 + 512 + 512 by omega]
      refine Sofar.next (hd0 (arg4.view.read (Elt Ideal) X4) (arg5.view.read (Elt Ideal) X5) (arg9.view.read (Elt Ideal) X9)) (hd1 (arg4.view.read (Elt Ideal) X4) (arg5.view.read (Elt Ideal) X5) (arg9.view.read (Elt Ideal) X9)) (⟨arg2.view.read (Elt Ideal) X2, arg3.view.read (Elt Ideal) X3, arg6.view.read (Elt Ideal) X6, arg7.view.read (Elt Ideal) X7, arg8.view.read (Elt Ideal) X8⟩ : Op) ?_ (by omega) rfl rfl
      rw [show 256 * (i 1).val = (i 1).val / 2 * 512 + 256 * ((i 1).val % 2) by omega]
      exact Sofar.diag (hd0 (arg4.view.read (Elt Ideal) X4) (arg5.view.read (Elt Ideal) X5) (arg9.view.read (Elt Ideal) X9)) (hd1 (arg4.view.read (Elt Ideal) X4) (arg5.view.read (Elt Ideal) X5) (arg9.view.read (Elt Ideal) X9)) (⟨arg2.view.read (Elt Ideal) X2, arg3.view.read (Elt Ideal) X3, arg6.view.read (Elt Ideal) X6, arg7.view.read (Elt Ideal) X7, arg8.view.read (Elt Ideal) X8⟩ : Op) rfl rfl _ _ (by omega) _ (behind_eq (i 1))
    obtain ⟨-, hs0, hs1⟩ := hg
    by_cases hc3 : k0_cond3 i = 1#1 <;> by_cases hc4 : k0_cond4 i = 1#1
    · exact absurd ((cond3 i).mp hc3) (by have := (cond4 i).mp hc4; omega)
    · have h3 := (cond3 i).mp hc3
      sl_exec
      sl_step
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]
      · iexists _
        isplitr [H11]
        rotate_left
        · iexact H11
        ipureintro
        rw [show ((i 1).val / 4 + 1) * 1024 + 2048 * ((15 - (i 1).val / 4) / 2) = 15360 by omega] at hs
        have hmin : min ((i 1).val / 4 + 1 + 2 * ((15 - (i 1).val / 4) / 2)) 15 * 1024 = 15360 := by omega
        have ho := hs.good _ _ _ (by omega) (Good.odd _ _ _ _ _ _ (Good.zero _ _ _ _ (a0, a1, a2, a3)) rfl rfl 15360 rfl)
        clear hs
        sl_unfold_run_names
        simp only [fo4, fo5, fo9, lo2, lo3, lo6, lo7, lo8]
        rw [hmin]
        exact (View.read_writes_full _ _ _ _ _).trans ho.outK
      isplitl [H12]
      · iexists _
        isplitr [H12]
        rotate_left
        · iexact H12
        ipureintro
        rw [show ((i 1).val / 4 + 1) * 1024 + 2048 * ((15 - (i 1).val / 4) / 2) = 15360 by omega] at hs
        have hmin : min ((i 1).val / 4 + 1 + 2 * ((15 - (i 1).val / 4) / 2)) 15 * 1024 = 15360 := by omega
        have ho := hs.good _ _ _ (by omega) (Good.odd _ _ _ _ _ _ (Good.zero _ _ _ _ (a0, a1, a2, a3)) rfl rfl 15360 rfl)
        clear hs
        sl_unfold_run_names
        simp only [fo4, fo5, fo9, lo2, lo3, lo6, lo7, lo8]
        rw [hmin]
        exact (View.read_writes_full _ _ _ _ _).trans ho.outV
      isplitl [H13]; · iexists _; iexact H13
      isplitl [H14]; · iexists _; iexact H14
      isplitl [H15]; · iexists _; iexact H15
      isplitl [H16]; · iexists _; iexact H16
      iexists _; iexact H17
    · have h3 := mt (cond3 i).mpr hc3
      sl_exec
      sl_step
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]
      · iexists _
        isplitr [H11]
        rotate_left
        · iexact H11
        ipureintro
        rw [show ((i 1).val / 4 + 1) * 1024 + 2048 * ((15 - (i 1).val / 4) / 2) = 16384 by omega] at hs
        exact (View.read_writes_full _ _ _ _ _).trans hs.outK
      isplitl [H12]
      · iexists _
        isplitr [H12]
        rotate_left
        · iexact H12
        ipureintro
        rw [show ((i 1).val / 4 + 1) * 1024 + 2048 * ((15 - (i 1).val / 4) / 2) = 16384 by omega] at hs
        exact (View.read_writes_full _ _ _ _ _).trans hs.outV
      isplitl [H13]; · iexists _; iexact H13
      isplitl [H14]; · iexists _; iexact H14
      isplitl [H15]; · iexists _; iexact H15
      isplitl [H16]; · iexists _; iexact H16
      iexists _; iexact H17
    · have h3 := mt (cond3 i).mpr hc3
      sl_exec
      sl_step
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]
      · iexists _
        isplitr [H11]
        rotate_left
        · iexact H11
        ipureintro
        rw [show ((i 1).val / 4 + 1) * 1024 + 2048 * ((15 - (i 1).val / 4) / 2) = 16384 by omega] at hs
        exact (View.read_writes_full _ _ _ _ _).trans hs.outK
      isplitl [H12]
      · iexists _
        isplitr [H12]
        rotate_left
        · iexact H12
        ipureintro
        rw [show ((i 1).val / 4 + 1) * 1024 + 2048 * ((15 - (i 1).val / 4) / 2) = 16384 by omega] at hs
        exact (View.read_writes_full _ _ _ _ _).trans hs.outV
      isplitl [H13]; · iexists _; iexact H13
      isplitl [H14]; · iexists _; iexact H14
      isplitl [H15]; · iexists _; iexact H15
      isplitl [H16]; · iexists _; iexact H16
      iexists _; iexact H17
  on_goal -1 =>
    refine (readAt_head _ _ _ _ _).trans ?_
    sl_unfold_run_names
    simp only [fo4, fo5, fo9, po2]
    exact pay145_eq (hd1 (arg4.view.read (Elt Ideal) X4) (arg5.view.read (Elt Ideal) X5) (arg9.view.read (Elt Ideal) X9)) (⟨arg2.view.read (Elt Ideal) X2, arg3.view.read (Elt Ideal) X3, arg6.view.read (Elt Ideal) X6, arg7.view.read (Elt Ideal) X7, arg8.view.read (Elt Ideal) X8⟩ : Op) _
  on_goal -1 =>
    refine (readAt_skip _ _ _ _ _ _ (by rfl)).trans ((readAt_head _ _ _ _ _).trans ?_)
    sl_unfold_run_names
    simp only [fo4, fo5, fo9, po2]
    exact pay144_eq (hd0 (arg4.view.read (Elt Ideal) X4) (arg5.view.read (Elt Ideal) X5) (arg9.view.read (Elt Ideal) X9)) (⟨arg2.view.read (Elt Ideal) X2, arg3.view.read (Elt Ideal) X3, arg6.view.read (Elt Ideal) X6, arg7.view.read (Elt Ideal) X7, arg8.view.read (Elt Ideal) X8⟩ : Op) _

end Cert.AtbIdeal.Hand

end
-- ==== Proof.AtbIdealStrongB.lean ====
module

public import proofs.«01_k».proof.Proof.AtbIdealLoop
public import proofs.«01_k».proof.Proof.AtbSum
public import Idealize.ShloMosaic.Lib.LoopRemainder
public import Idealize.ShloMosaic.Lib.VecWindow

@[expose] public section

set_option maxRecDepth 16384

noncomputable section

namespace Cert.AtbIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AtbIdeal Cert.AtbIdeal.Gen

local notation "𝕄" => MT nD τ sig Unit (Elt Ideal) ℕ (UR sig nD τ) ℕ

set_option maxHeartbeats 4000000 in
/-- The body at any grid point: the inputs stay in place, the blocks of key and value gradients are the sums over all the queries, and every other written buffer ends at some contents. Here the narrow block behind the diagonal one is left out. -/
theorem body_strongB (c : Dev nD) (i : grid0.Coords) (arg2 : Memref sig .tc .vmem S16384x128 .bf16) (harg2 : arg2.IsWhole) (arg3 : Memref sig .tc .vmem S16384x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S1x8x16384 .f32) (harg6 : arg6.IsWhole) (arg7 : Memref sig .tc .vmem S1x8x16384 .f32) (harg7 : arg7.IsWhole) (arg8 : Memref sig .tc .vmem S1x8x16384 .f32) (harg8 : arg8.IsWhole) (arg9 : Memref sig .tc .vmem S1x256x128 .f32) (harg9 : arg9.IsWhole) (arg10 : Memref sig .tc .vmem S16384x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S1x256x128 .f32) (harg13 : arg13.IsWhole) (arg14 : Memref sig .tc .vmem S1x8x16384 .f32) (harg14 : arg14.IsWhole) (arg15 : Memref sig .tc .vmem S16384x128 .f32) (harg15 : arg15.IsWhole) (arg16 : Memref sig .tc .vmem S16384x128 .f32) (harg16 : arg16.IsWhole) (arg17 : Memref sig .tc .vmem S4x256x1024 .f32) (harg17 : arg17.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (hc2 : ¬k0_cond2 i = 1#1) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f))) : sProp 𝕄)
      ⊢ wp frame (wpE (defs₀ (F := Ideal)) Variants.none (c : Thread nD τ) none) Set.univ (cc0_attn_bwd_2 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (∃ f, (arg10.view.loc (c : Thread nD τ) ↦[arg10.view.set]{fullShare} f)) ∗ (∃ f, ⌜arg11.view.read (Elt Ideal) f = outK (hd0 (arg4.view.read (Elt Ideal) X4) (arg5.view.read (Elt Ideal) X5) (arg9.view.read (Elt Ideal) X9)) (hd1 (arg4.view.read (Elt Ideal) X4) (arg5.view.read (Elt Ideal) X5) (arg9.view.read (Elt Ideal) X9)) ⟨arg2.view.read (Elt Ideal) X2, arg3.view.read (Elt Ideal) X3, arg6.view.read (Elt Ideal) X6, arg7.view.read (Elt Ideal) X7, arg8.view.read (Elt Ideal) X8⟩ (256 * (i 1).val)⌝ ∗ (arg11.view.loc (c : Thread nD τ) ↦[arg11.view.set]{fullShare} f)) ∗ (∃ f, ⌜arg12.view.read (Elt Ideal) f = outV (hd0 (arg4.view.read (Elt Ideal) X4) (arg5.view.read (Elt Ideal) X5) (arg9.view.read (Elt Ideal) X9)) (hd1 (arg4.view.read (Elt Ideal) X4) (arg5.view.read (Elt Ideal) X5) (arg9.view.read (Elt Ideal) X9)) ⟨arg2.view.read (Elt Ideal) X2, arg3.view.read (Elt Ideal) X3, arg6.view.read (Elt Ideal) X6, arg7.view.read (Elt Ideal) X7, arg8.view.read (Elt Ideal) X8⟩ (256 * (i 1).val)⌝ ∗ (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)))) := by
  have hi : (i 1).val < 64 := (i 1).isLt
  have htr2 := trips2 i
  rw [cc0_attn_bwd_2_eq_skeleton]
  unfold cc0_attn_bwd_2_skel
  iintro ⟨H2, H3, H4, H5, H6, H7, H8, H9, ⟨%f10, H10⟩, ⟨%f11, H11⟩, ⟨%f12, H12⟩, ⟨%f13, H13⟩, ⟨%f14, H14⟩, ⟨%f15, H15⟩, ⟨%f16, H16⟩, ⟨%f17, H17⟩⟩
  have fo4 := fun inb => ld_full2 arg4 X4 inb
  have fo5 := fun inb => ld_full2 arg5 X5 inb
  have fo9 := fun inb => ld_full3 arg9 X9 inb
  have po2 := fun inb => ld_rowsW _ _ arg2 X2 (off1 i) (by omega) inb
  have ho2 := fun inb => ld_rowsN _ _ arg2 X2 (off2 i) (by omega) inb
  have ho3 := fun inb => ld_rowsN _ _ arg3 X3 (off2 i) (by omega) inb
  have ho6 := fun inb => ld_lanesN _ _ arg6 X6 (off3 i) (by omega) inb
  have ho7 := fun inb => ld_lanesN _ _ arg7 X7 (off3 i) (by omega) inb
  have ho8 := fun inb => ld_lanesN _ _ arg8 X8 (off3 i) (by omega) inb
  have lo2 := fun inb => ld_rowsW _ _ arg2 X2 (show ![15360, 0] = ![15360, 0] from rfl) (by omega) inb
  have lo3 := fun inb => ld_rowsW _ _ arg3 X3 (show ![15360, 0] = ![15360, 0] from rfl) (by omega) inb
  have lo6 := fun inb => ld_lanesW _ _ arg6 X6 (show ![0, 0, 15360] = ![0, 0, 15360] from rfl) (by omega) inb
  have lo7 := fun inb => ld_lanesW _ _ arg7 X7 (show ![0, 0, 15360] = ![0, 0, 15360] from rfl) (by omega) inb
  have lo8 := fun inb => ld_lanesW _ _ arg8 X8 (show ![0, 0, 15360] = ![0, 0, 15360] from rfl) (by omega) inb
  have h2 := mt (cond2 i).mpr hc2
  sl_exec
  iapply (loop_t1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ _ _ _ _ _ _ _ _ _ _ X2 X3 X6 X7 X8 _ _ _ _ ?r0 ?r1) $$ [H2 H3 H6 H7 H8 H15 H16 H17]
  rotate_left 2
  on_goal 1 =>
    isplitl [H2]; · iexact H2
    isplitl [H3]; · iexact H3
    isplitl [H6]; · iexact H6
    isplitl [H7]; · iexact H7
    isplitl [H8]; · iexact H8
    isplitl [H15]; · iexact H15
    isplitl [H16]; · iexact H16
    iexact H17
  on_goal 1 =>
    iintro %acc ⟨H2, H3, H6, H7, H8, ⟨%g15, H15⟩, ⟨%g16, H16⟩, ⟨%g17, %hg, H17⟩⟩
    obtain ⟨a0, a1, a2, a3⟩ := acc
    have hs : Sofar (hd0 (arg4.view.read (Elt Ideal) X4) (arg5.view.read (Elt Ideal) X5) (arg9.view.read (Elt Ideal) X9)) (hd1 (arg4.view.read (Elt Ideal) X4) (arg5.view.read (Elt Ideal) X5) (arg9.view.read (Elt Ideal) X9)) (⟨arg2.view.read (Elt Ideal) X2, arg3.view.read (Elt Ideal) X3, arg6.view.read (Elt Ideal) X6, arg7.view.read (Elt Ideal) X7, arg8.view.read (Elt Ideal) X8⟩ : Op) (256 * (i 1).val) (((i 1).val / 4 + 1) * 1024 + 2048 * ((15 - (i 1).val / 4) / 2)) (a0, a1, a2, a3) := by
      have hg' := hg.1
      revert hg'
      clear hg
      sl_unfold_run_names
      simp only [fo4, fo5, fo9, ho2, ho3, ho6, ho7, ho8]
      intro hg'
      refine Sofar.good _ _ _ ?_ (by omega) hg'
      rw [show ((i 1).val / 4 + 1) * 1024 = (i 1).val / 2 * 512 + 512 by omega]
      rw [show 256 * (i 1).val = (i 1).val / 2 * 512 + 256 * ((i 1).val % 2) by omega]
      exact Sofar.diag (hd0 (arg4.view.read (Elt Ideal) X4) (arg5.view.read (Elt Ideal) X5) (arg9.view.read (Elt Ideal) X9)) (hd1 (arg4.view.read (Elt Ideal) X4) (arg5.view.read (Elt Ideal) X5) (arg9.view.read (Elt Ideal) X9)) (⟨arg2.view.read (Elt Ideal) X2, arg3.view.read (Elt Ideal) X3, arg6.view.read (Elt Ideal) X6, arg7.view.read (Elt Ideal) X7, arg8.view.read (Elt Ideal) X8⟩ : Op) rfl rfl _ _ (by omega) _ (behind_eq (i 1))
    obtain ⟨-, hs0, hs1⟩ := hg
    by_cases hc3 : k0_cond3 i = 1#1 <;> by_cases hc4 : k0_cond4 i = 1#1
    · exact absurd ((cond3 i).mp hc3) (by have := (cond4 i).mp hc4; omega)
    · have h3 := (cond3 i).mp hc3
      sl_exec
      sl_step
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]
      · iexists _
        isplitr [H11]
        rotate_left
        · iexact H11
        ipureintro
        rw [show ((i 1).val / 4 + 1) * 1024 + 2048 * ((15 - (i 1).val / 4) / 2) = 15360 by omega] at hs
        have hmin : min ((i 1).val / 4 + 1 + 2 * ((15 - (i 1).val / 4) / 2)) 15 * 1024 = 15360 := by omega
        have ho := hs.good _ _ _ (by omega) (Good.odd _ _ _ _ _ _ (Good.zero _ _ _ _ (a0, a1, a2, a3)) rfl rfl 15360 rfl)
        clear hs
        sl_unfold_run_names
        simp only [fo4, fo5, fo9, lo2, lo3, lo6, lo7, lo8]
        rw [hmin]
        exact (View.read_writes_full _ _ _ _ _).trans ho.outK
      isplitl [H12]
      · iexists _
        isplitr [H12]
        rotate_left
        · iexact H12
        ipureintro
        rw [show ((i 1).val / 4 + 1) * 1024 + 2048 * ((15 - (i 1).val / 4) / 2) = 15360 by omega] at hs
        have hmin : min ((i 1).val / 4 + 1 + 2 * ((15 - (i 1).val / 4) / 2)) 15 * 1024 = 15360 := by omega
        have ho := hs.good _ _ _ (by omega) (Good.odd _ _ _ _ _ _ (Good.zero _ _ _ _ (a0, a1, a2, a3)) rfl rfl 15360 rfl)
        clear hs
        sl_unfold_run_names
        simp only [fo4, fo5, fo9, lo2, lo3, lo6, lo7, lo8]
        rw [hmin]
        exact (View.read_writes_full _ _ _ _ _).trans ho.outV
      isplitl [H13]; · iexists _; iexact H13
      isplitl [H14]; · iexists _; iexact H14
      isplitl [H15]; · iexists _; iexact H15
      isplitl [H16]; · iexists _; iexact H16
      iexists _; iexact H17
    · have h3 := mt (cond3 i).mpr hc3
      sl_exec
      sl_step
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]
      · iexists _
        isplitr [H11]
        rotate_left
        · iexact H11
        ipureintro
        rw [show ((i 1).val / 4 + 1) * 1024 + 2048 * ((15 - (i 1).val / 4) / 2) = 16384 by omega] at hs
        exact (View.read_writes_full _ _ _ _ _).trans hs.outK
      isplitl [H12]
      · iexists _
        isplitr [H12]
        rotate_left
        · iexact H12
        ipureintro
        rw [show ((i 1).val / 4 + 1) * 1024 + 2048 * ((15 - (i 1).val / 4) / 2) = 16384 by omega] at hs
        exact (View.read_writes_full _ _ _ _ _).trans hs.outV
      isplitl [H13]; · iexists _; iexact H13
      isplitl [H14]; · iexists _; iexact H14
      isplitl [H15]; · iexists _; iexact H15
      isplitl [H16]; · iexists _; iexact H16
      iexists _; iexact H17
    · have h3 := mt (cond3 i).mpr hc3
      sl_exec
      sl_step
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]
      · iexists _
        isplitr [H11]
        rotate_left
        · iexact H11
        ipureintro
        rw [show ((i 1).val / 4 + 1) * 1024 + 2048 * ((15 - (i 1).val / 4) / 2) = 16384 by omega] at hs
        exact (View.read_writes_full _ _ _ _ _).trans hs.outK
      isplitl [H12]
      · iexists _
        isplitr [H12]
        rotate_left
        · iexact H12
        ipureintro
        rw [show ((i 1).val / 4 + 1) * 1024 + 2048 * ((15 - (i 1).val / 4) / 2) = 16384 by omega] at hs
        exact (View.read_writes_full _ _ _ _ _).trans hs.outV
      isplitl [H13]; · iexists _; iexact H13
      isplitl [H14]; · iexists _; iexact H14
      isplitl [H15]; · iexists _; iexact H15
      isplitl [H16]; · iexists _; iexact H16
      iexists _; iexact H17
  on_goal -1 =>
    refine (readAt_head _ _ _ _ _).trans ?_
    sl_unfold_run_names
    simp only [fo4, fo5, fo9, po2]
    exact pay145_eq (hd1 (arg4.view.read (Elt Ideal) X4) (arg5.view.read (Elt Ideal) X5) (arg9.view.read (Elt Ideal) X9)) (⟨arg2.view.read (Elt Ideal) X2, arg3.view.read (Elt Ideal) X3, arg6.view.read (Elt Ideal) X6, arg7.view.read (Elt Ideal) X7, arg8.view.read (Elt Ideal) X8⟩ : Op) _
  on_goal -1 =>
    refine (readAt_skip _ _ _ _ _ _ (by rfl)).trans ((readAt_head _ _ _ _ _).trans ?_)
    sl_unfold_run_names
    simp only [fo4, fo5, fo9, po2]
    exact pay144_eq (hd0 (arg4.view.read (Elt Ideal) X4) (arg5.view.read (Elt Ideal) X5) (arg9.view.read (Elt Ideal) X9)) (⟨arg2.view.read (Elt Ideal) X2, arg3.view.read (Elt Ideal) X3, arg6.view.read (Elt Ideal) X6, arg7.view.read (Elt Ideal) X7, arg8.view.read (Elt Ideal) X8⟩ : Op) _

end Cert.AtbIdeal.Hand

end
-- ==== Proof.AtbIdealFrame.lean ====
module

public import proofs.«01_k».proof.Proof.Gen.AtbIdeal.Frame
public import proofs.«01_k».proof.Proof.Gen.AtbIdeal.Loops
public import proofs.«01_k».proof.Proof.AtbIdealStrongA
public import proofs.«01_k».proof.Proof.AtbIdealStrongB
public import Idealize.ShloMosaic.Lib.Claim

@[expose] public section

set_option maxRecDepth 16384

noncomputable section

namespace Cert.AtbIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.AtbIdeal Cert.AtbIdeal.Gen

local notation "𝕄" => MT nD τ sig Unit (Elt Ideal) ℕ (UR sig nD τ) ℕ

/-- The body over buffers owned at their values: the inputs stay, the key and value gradients' blocks are the sums over all the queries, and every other written buffer ends at some
    contents. -/
theorem body_owns (c : Dev nD) (i : grid0.Coords) (arg2 : Memref sig .tc .vmem S16384x128 .bf16) (harg2 : arg2.IsWhole) (arg3 : Memref sig .tc .vmem S16384x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S1x8x16384 .f32) (harg6 : arg6.IsWhole) (arg7 : Memref sig .tc .vmem S1x8x16384 .f32) (harg7 : arg7.IsWhole) (arg8 : Memref sig .tc .vmem S1x8x16384 .f32) (harg8 : arg8.IsWhole) (arg9 : Memref sig .tc .vmem S1x256x128 .f32) (harg9 : arg9.IsWhole) (arg10 : Memref sig .tc .vmem S16384x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S1x256x128 .f32) (harg13 : arg13.IsWhole) (arg14 : Memref sig .tc .vmem S1x8x16384 .f32) (harg14 : arg14.IsWhole) (arg15 : Memref sig .tc .vmem S16384x128 .f32) (harg15 : arg15.IsWhole) (arg16 : Memref sig .tc .vmem S16384x128 .f32) (harg16 : arg16.IsWhole) (arg17 : Memref sig .tc .vmem S4x256x1024 .f32) (harg17 : arg17.IsWhole) (Y2 : S16384x128.Idx → Elt Ideal .bf16) (Y3 : S16384x128.Idx → Elt Ideal .bf16) (Y4 : S256x128.Idx → Elt Ideal .bf16) (Y5 : S256x128.Idx → Elt Ideal .bf16) (Y6 : S1x8x16384.Idx → Elt Ideal .f32) (Y7 : S1x8x16384.Idx → Elt Ideal .f32) (Y8 : S1x8x16384.Idx → Elt Ideal .f32) (Y9 : S1x256x128.Idx → Elt Ideal .f32) :
    (iprop(owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X)) : sProp 𝕄)
      ⊢ wp frame (wpE (defs₀ (F := Ideal)) Variants.none (c : Thread nD τ) none) Set.univ (cc0_attn_bwd_2 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) (fun _ => iprop(owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ (∃ X, owns (c : Thread nD τ) arg10 fullShare X) ∗ owns (c : Thread nD τ) arg11 fullShare (outK (hd0 Y4 Y5 Y9) (hd1 Y4 Y5 Y9) ⟨Y2, Y3, Y6, Y7, Y8⟩ (256 * (i 1).val)) ∗ owns (c : Thread nD τ) arg12 fullShare (outV (hd0 Y4 Y5 Y9) (hd1 Y4 Y5 Y9) ⟨Y2, Y3, Y6, Y7, Y8⟩ (256 * (i 1).val)) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X))) := by
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%X10, %f10, %h10, H10⟩, ⟨%X11, %f11, %h11, H11⟩, ⟨%X12, %f12, %h12, H12⟩, ⟨%X13, %f13, %h13, H13⟩, ⟨%X14, %f14, %h14, H14⟩, ⟨%X15, %f15, %h15, H15⟩, ⟨%X16, %f16, %h16, H16⟩, ⟨%X17, %f17, %h17, H17⟩⟩
  subst h2 h3 h4 h5 h6 h7 h8 h9
  have run := (Decidable.em (k0_cond2 i = 1#1)).elim (body_strongA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9) (body_strongB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9)
  iapply (wp_wand_r Idealize.ShloMosaic.frame (wpE (defs₀ (F := Ideal)) Variants.none (c : Thread nD τ) none) Set.univ)
  isplitl [H2 H3 H4 H5 H6 H7 H8 H9 H10 H11 H12 H13 H14 H15 H16 H17]
  · iapply run
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17
  · iintro %_ ⟨H2, H3, H4, H5, H6, H7, H8, H9, ⟨%g10, H10⟩, ⟨%g11, %hg11, H11⟩, ⟨%g12, %hg12, H12⟩, ⟨%g13, H13⟩, ⟨%g14, H14⟩, ⟨%g15, H15⟩, ⟨%g16, H16⟩, ⟨%g17, H17⟩⟩
    isplitl [H2]
    · iexists _; isplitr
      swap; · iexact H2
      ipureintro; rfl
    isplitl [H3]
    · iexists _; isplitr
      swap; · iexact H3
      ipureintro; rfl
    isplitl [H4]
    · iexists _; isplitr
      swap; · iexact H4
      ipureintro; rfl
    isplitl [H5]
    · iexists _; isplitr
      swap; · iexact H5
      ipureintro; rfl
    isplitl [H6]
    · iexists _; isplitr
      swap; · iexact H6
      ipureintro; rfl
    isplitl [H7]
    · iexists _; isplitr
      swap; · iexact H7
      ipureintro; rfl
    isplitl [H8]
    · iexists _; isplitr
      swap; · iexact H8
      ipureintro; rfl
    isplitl [H9]
    · iexists _; isplitr
      swap; · iexact H9
      ipureintro; rfl
    isplitl [H10]
    · iexists _; iexists _; isplitr
      swap; · iexact H10
      ipureintro; rfl
    isplitl [H11]
    · iexists _; isplitr
      swap; · iexact H11
      ipureintro; exact hg11
    isplitl [H12]
    · iexists _; isplitr
      swap; · iexact H12
      ipureintro; exact hg12
    isplitl [H13]
    · iexists _; iexists _; isplitr
      swap; · iexact H13
      ipureintro; rfl
    isplitl [H14]
    · iexists _; iexists _; isplitr
      swap; · iexact H14
      ipureintro; rfl
    isplitl [H15]
    · iexists _; iexists _; isplitr
      swap; · iexact H15
      ipureintro; rfl
    isplitl [H16]
    · iexists _; iexists _; isplitr
      swap; · iexact H16
      ipureintro; rfl
    iexists _; iexists _; isplitr
    swap; · iexact H17
    ipureintro; rfl

variable (m : (ℓ : Loc nD τ sig) → Buf (Elt Ideal) ℓ) (ρ : Dev nD → PrngReg)

/-- The output windows of whose contents the frame says nothing: every one but the key and value gradients. -/
def fgt : Fin 13 → Bool
  | 0 => false
  | 1 => false
  | 2 => false
  | 3 => false
  | 4 => false
  | 5 => false
  | 6 => false
  | 7 => false
  | 8 => true
  | 9 => false
  | 10 => false
  | 11 => true
  | 12 => true

/-- The pipeline's data: each input's buffer stays at its block, the key and value gradients' are written, the
    other outputs and the scratch are at some contents, the
    windows that read one array share it. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Pipeline.Dat.unnamed (cfg := cfg0) 8 t
    | ⟨9, _⟩ => outK (hd0 (iblk m c 2 t) (iblk m c 3 t) (iblk m c 7 t)) (hd1 (iblk m c 2 t) (iblk m c 3 t) (iblk m c 7 t)) ⟨iblk m c 0 t, iblk m c 1 t, iblk m c 4 t, iblk m c 5 t, iblk m c 6 t⟩ (256 * (grid0.coords t 1).val)
    | ⟨10, _⟩ => outV (hd0 (iblk m c 2 t) (iblk m c 3 t) (iblk m c 7 t)) (hd1 (iblk m c 2 t) (iblk m c 3 t) (iblk m c 7 t)) ⟨iblk m c 0 t, iblk m c 1 t, iblk m c 4 t, iblk m c 5 t, iblk m c 6 t⟩ (256 * (grid0.coords t 1).val)
    | ⟨11, _⟩ => Pipeline.Dat.unnamed (cfg := cfg0) 11 t
    | ⟨12, _⟩ => Pipeline.Dat.unnamed (cfg := cfg0) 12 t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d

theorem after0_9 (c : Dev nD) (t : Fin cfg0.N) : (dats m 0 c).after 9 t = outK (hd0 (iblk m c 2 t) (iblk m c 3 t) (iblk m c 7 t)) (hd1 (iblk m c 2 t) (iblk m c 3 t) (iblk m c 7 t)) ⟨iblk m c 0 t, iblk m c 1 t, iblk m c 4 t, iblk m c 5 t, iblk m c 6 t⟩ (256 * (grid0.coords t 1).val) := by dsimp only [dats]

theorem after0_10 (c : Dev nD) (t : Fin cfg0.N) : (dats m 0 c).after 10 t = outV (hd0 (iblk m c 2 t) (iblk m c 3 t) (iblk m c 7 t)) (hd1 (iblk m c 2 t) (iblk m c 3 t) (iblk m c 7 t)) ⟨iblk m c 0 t, iblk m c 1 t, iblk m c 4 t, iblk m c 5 t, iblk m c 6 t⟩ (256 * (grid0.coords t 1).val) := by dsimp only [dats]

/-- The region's invariant: the three scratch buffers at some contents, and the generator register. -/
theorem PhiA0_eq (c : Dev nD) :
    (Pipeline.ΦA spec0 c : sProp 𝕄)
      = iprop(iprop((∃ d, owns (c : Thread nD τ) (Memref.whole cc0_scratch0 : Memref sig .tc .vmem S16384x128 .f32) fullShare d) ∗ (∃ d, owns (c : Thread nD τ) (Memref.whole cc0_scratch1 : Memref sig .tc .vmem S16384x128 .f32) fullShare d) ∗ (∃ d, owns (c : Thread nD τ) (Memref.whole cc0_scratch2 : Memref sig .tc .vmem S4x256x1024 .f32) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ X, owns (c : Thread nD τ) (win0_8.stage (cfg0.slots t 8)) fullShare X)
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ X, owns (c : Thread nD τ) (win0_11.stage (cfg0.slots t 11)) fullShare X)
    ∗ (∃ X, owns (c : Thread nD τ) (win0_12.stage (cfg0.slots t 12)) fullShare X))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ (∃ X, owns (c : Thread nD τ) (win0_8.stage (cfg0.slots t 8)) fullShare X)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ (∃ X, owns (c : Thread nD τ) (win0_11.stage (cfg0.slots t 11)) fullShare X)
    ∗ (∃ X, owns (c : Thread nD τ) (win0_12.stage (cfg0.slots t 12)) fullShare X))

theorem sound_body (c : Dev nD) (t : Fin cfg0.N) :
    bodyPre m c t ⊢ wp frame (wpE (defs₀ (F := Ideal)) Variants.none (c : Thread nD τ) none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_9, after0_10]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, ⟨%d9, H9⟩, ⟨%d10, H10⟩, H11, H12⟩
  iapply (wp_wand_r Idealize.ShloMosaic.frame (wpE (defs₀ (F := Ideal)) Variants.none (c : Thread nD τ) none) Set.univ)
  isplitl [HS0 HS1 HS2 H0 H1 H2 H3 H4 H5 H6 H7 H8 H9 H10 H11 H12]
  · iapply (body_owns c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexact H11
    isplitl [H12]; · iexact H12
    isplitl [HS0]; · iexact HS0
    isplitl [HS1]; · iexact HS1
    iexact HS2
  · iintro %_ ⟨H0, H1, H2, H3, H4, H5, H6, H7, H8, H9, H10, H11, H12, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligationLoose (dats m 0 c) (defs₀ (F := Ideal)) Variants.none () Set.univ fgt := fun t => by
  rw [bigSep_W0, bigSep_W0, defs₀_row]
  exact triple_restated (sound_body m c t) rfl .rfl fun _ => .rfl

set_option backward.isDefEq.respectTransparency.types false in
/-- The run to the arrays: nothing said of the other outputs, every counter at zero. -/
theorem run_main : θ_run defs (onTc (τ := τ) (main (F := Ideal))) (s₀ m ρ) (fun r => Pipeline.RDat.FramePost cfg0 (fun c => (dats m 0 c).toRForget fgt) (V m) r ∧ r.2.sem = fun _ => 0) :=
  Pipeline.θ_run_frame_forget_shared (Q' := _) cfgs (dats m) (0 : Fin 1) launch₀0 defs₀ Variants.none fgt m ρ main
    (hbody := body_obligation m) (hq := fun _ _ _ => rfl)
    (howed := fun _ _ => rfl) (V := V m) (hmain := hmain m Variants.none) (hA := A_eq m) (hΦ := fun _ _ => rfl)

/-- The arguments end unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

/-- The key and value gradients end as the pipeline's data says, the arguments unchanged. -/
theorem run_vals : θ_run defs (onTc (τ := τ) (main (F := Ideal))) ⟨m, fun _ => 0, ρ⟩ (fun r => ∀ c : Dev nD,
      r.2.mem ((c.tc : Thread nD τ).loc main_v62_1) = (dats m 0 c).arrAt 9 cfg0.N
      ∧ r.2.mem ((c.tc : Thread nD τ).loc main_v62_2) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((dats m 0 c).toRForget_arrAt_iff (fgt := fgt) (w := 9) rfl _ _).mp ((h.1 c).1 9),
      ((dats m 0 c).toRForget_arrAt_iff (fgt := fgt) (w := 10) rfl _ _).mp ((h.1 c).1 10),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩) (run_main m ρ)

end Cert.AtbIdeal.Hand

end
-- ==== Proof.AtbReal.lean ====
/-
  Attention's backward pass over the real numbers: what one head's weights and score gradients are, and that the
  kernel's weights, powers of two of scores relative to a block's first gate, are the softmax's.
-/
module

public import proofs.«01_k».proof.Proof.Reals

@[expose] public section

noncomputable section

open Idealize.ShloMosaic Cert.Reals

namespace Cert.AtbReal

/-- A sum over a pair's lanes of what is zero off one head is the sum over that head's lanes. -/
theorem half_sum (s : ℕ) (hs : s < 2) (f : Fin 128 → ℝ) :
    ∑ l : Fin 128, (if l.val / 64 = s then f l else 0) = ∑ e : Fin 64, f ⟨64 * s + e.val, by omega⟩ := by
  have h := Fin.sum_univ_add (a := 64) (b := 64) fun l : Fin (64 + 64) => if l.val / 64 = s then f l else 0
  rw [show (∑ l : Fin 128, (if l.val / 64 = s then f l else 0)) = _ from h]
  obtain rfl | rfl : s = 0 ∨ s = 1 := by omega
  · rw [Finset.sum_eq_zero (s := Finset.univ) (f := fun e : Fin 64 => if (Fin.natAdd 64 e).val / 64 = 0 then f (Fin.natAdd 64 e) else 0)
      (fun e _ => if_neg (by simp only [Fin.val_natAdd]; omega)), add_zero]
    exact Finset.sum_congr rfl fun e _ => (if_pos (by simp only [Fin.val_castAdd]; omega)).trans (congrArg f (Fin.ext (by simp)))
  · rw [Finset.sum_eq_zero (s := Finset.univ) (f := fun e : Fin 64 => if (Fin.castAdd 64 e).val / 64 = 1 then f (Fin.castAdd 64 e) else 0)
      (fun e _ => if_neg (by simp only [Fin.val_castAdd]; omega)), zero_add]
    exact Finset.sum_congr rfl fun e _ => (if_pos (by simp only [Fin.val_natAdd]; omega)).trans (congrArg f (Fin.ext (by simp [Nat.add_comm])))

/-- The pattern of an eighth. -/
theorem ofBits_eighth : Ideal.ofBits .f32 0x3E000000#32 = ((1 / 8 : ℝ) : EReal) := by
  simp [Ideal.ofBits, Ideal.ieee, -EReal.coe_mul]; norm_num

/-- The pattern of two. -/
theorem ofBits_two : Ideal.ofBits .f32 0x40000000#32 = ((2 : ℝ) : EReal) := by
  simp [Ideal.ofBits, Ideal.ieee, -EReal.coe_mul]; norm_num

/-- The pattern of minus infinity. -/
theorem ofBits_bot : Ideal.ofBits .f32 0xFF800000#32 = ⊥ := by
  simp [Ideal.ofBits, Ideal.ieee]

section Row

variable {N : ℕ} (x : Fin N → Fin N → ℝ) (q k : Fin N)

/-- The masked score. -/
def ms : EReal := if k.val ≤ q.val then ((x q k : ℝ) : EReal) else ⊥

/-- A row's greatest masked score is a real number: the diagonal is not masked. -/
theorem max_real : ∃ μ : ℝ, Finset.univ.fold max ⊥ (ms x q) = (μ : EReal) := by
  have h1 : Finset.univ.fold max ⊥ (ms x q) < ⊤ := by
    rw [Finset.fold_max_lt]
    refine ⟨bot_lt_top, fun k _ => ?_⟩
    unfold ms; split_ifs
    · exact EReal.coe_lt_top _
    · exact bot_lt_top
  have h2 : ⊥ < Finset.univ.fold max ⊥ (ms x q) := by
    rw [Finset.lt_fold_max]
    refine .inr ⟨q, Finset.mem_univ _, ?_⟩
    unfold ms; rw [if_pos le_rfl]; exact EReal.bot_lt_coe _
  exact ⟨_, (EReal.coe_toReal h1.ne h2.ne').symm⟩

/-- The row's greatest masked score. -/
def mu : ℝ := (Finset.univ.fold max ⊥ (ms x q)).toReal
theorem mu_eq : Finset.univ.fold max ⊥ (ms x q) = ((mu x q : ℝ) : EReal) := by
  obtain ⟨μ, h⟩ := max_real x q
  rw [mu, h, EReal.toReal_coe]

/-- The exponential of a masked score less the row's greatest. -/
def ex : ℝ := if k.val ≤ q.val then Real.exp (x q k - mu x q) else 0
theorem ex_eq : Ideal.exp (ms x q k - ((mu x q : ℝ) : EReal)) = ((ex x q k : ℝ) : EReal) := by
  unfold ms ex; split_ifs
  · rw [← EReal.coe_sub, Ideal.exp_coe]
  · rw [EReal.bot_sub, Ideal.exp_bot]; rfl

/-- The row's sum of exponentials. -/
def tot : ℝ := ∑ k, ex x q k
theorem tot_pos : 0 < tot x q := by
  refine Finset.sum_pos' (fun k _ => ?_) ⟨q, Finset.mem_univ _, ?_⟩
  · unfold ex; split_ifs; exacts [(Real.exp_pos _).le, le_rfl]
  · unfold ex; rw [if_pos le_rfl]; exact Real.exp_pos _

/-- The softmax's weight. -/
def wt : ℝ := ex x q k / tot x q

/-- The kernel's weight: a power of two of the score less the row's log-sum, both relative to a gate. -/
theorem wt_pow (h : k.val ≤ q.val) (y : ℝ) (hy : y = (Real.log 2)⁻¹ * (x q k - mu x q - Real.log (tot x q))) :
    Real.rpow 2 y = wt x q k := by
  have h2 : Real.log 2 ≠ 0 := (Real.log_pos one_lt_two).ne'
  rw [hy, wt, ex, if_pos h]
  refine (Real.rpow_def_of_pos two_pos _).trans ?_
  rw [← mul_assoc, mul_inv_cancel₀ h2, one_mul, Real.exp_sub, Real.exp_log (tot_pos x q)]

theorem wt_masked (h : ¬ k.val ≤ q.val) : wt x q k = 0 := by rw [wt, ex, if_neg h, zero_div]

/-- The score's gradient, as the derivative of a quotient of exponentials. -/
theorem grad_eq (dp : Fin N → Fin N → ℝ) :
    (if k.val ≤ q.val then (dp q k * (1 / tot x q) + -∑ k', dp q k' * (1 * (1 / (tot x q * tot x q))) * ex x q k') * ex x q k else 0)
      = wt x q k * (dp q k - ∑ k', wt x q k' * dp q k') := by
  have hl : tot x q ≠ 0 := (tot_pos x q).ne'
  have hs : ∑ k', dp q k' * (1 * (1 / (tot x q * tot x q))) * ex x q k' = (∑ k', wt x q k' * dp q k') / tot x q := by
    rw [Finset.sum_div]
    refine Finset.sum_congr rfl fun k' _ => ?_
    unfold wt; field_simp
  rw [hs]
  split_ifs with h
  · simp only [wt]; field_simp; ring
  · rw [wt_masked x q k h, zero_mul]

end Row

end Cert.AtbReal

end
-- ==== Proof.AtbRef.lean ====
module
public import proofs.«01_k».proof.Proof.Gen.AtbRefIdeal.Run
public import proofs.«01_k».proof.Proof.Reals
public import proofs.«01_k».proof.Proof.AtbReal
import proofs.«01_k».proof.Proof.AtbPay
import Idealize.ShloMosaic.Lib.Pointwise

/-! The reference for the gradient of attention, taken in stages: each stage as an array, and
    its entries. -/

@[expose] public section

set_option maxRecDepth 16384

noncomputable section

open Idealize.ShloMosaic Idealize.ShloMosaic.TcCoe
open Cert.AtbReal Cert.Reals

namespace Cert.AtbRefIdeal.Stage

open Cert.AtbRefIdeal Cert.AtbRefIdeal.Gen

/-- The queries by heads. -/
def qh (A : FVec Ideal S16384x3072 .f32) : FVec Ideal S16x16384x64 .f32 :=
  transpose S16x16384x64 [1, 0, 2] (shapeCast _ (extractStridedSlice S16384x1024 ![0, 0] A slices_S16384x3072_S16384x1024_0_0) shapeCasts_S16384x1024_S16384x16x64) transposes_S16384x16x64_S16x16384x64_1_0_2

/-- The keys by heads. -/
def kh (A : FVec Ideal S16384x3072 .f32) : FVec Ideal S16x16384x64 .f32 :=
  transpose S16x16384x64 [1, 0, 2] (shapeCast _ (extractStridedSlice S16384x1024 ![0, 1024] A slices_S16384x3072_S16384x1024_0_1024) shapeCasts_S16384x1024_S16384x16x64) transposes_S16384x16x64_S16x16384x64_1_0_2

/-- The values by heads. -/
def vh (A : FVec Ideal S16384x3072 .f32) : FVec Ideal S16x16384x64 .f32 :=
  transpose S16x16384x64 [1, 0, 2] (shapeCast _ (extractStridedSlice S16384x1024 ![0, 2048] A slices_S16384x3072_S16384x1024_0_2048) shapeCasts_S16384x1024_S16384x16x64) transposes_S16384x16x64_S16x16384x64_1_0_2

/-- The output's gradient by heads. -/
def gh (G : FVec Ideal S16384x1024 .f32) : FVec Ideal S16x16384x64 .f32 :=
  transpose S16x16384x64 [1, 0, 2] (shapeCast _ G shapeCasts_S16384x1024_S16384x16x64) transposes_S16384x16x64_S16x16384x64_1_0_2

/-- Where a key may be attended to. -/
def mask  : IVec S16x16384x16384 1 :=
  broadcastInDim S16x16384x16384 ![0, 1, 2] bcast_S1x16384x16384_S16x16384x16384_0_1_2 (cmpi .sle (broadcastInDim S1x16384x16384 ![0, 1, 2] bcast_S1x1x16384_S1x16384x16384_0_1_2 (broadcastInDim S1x1x16384 ![2] bcast_S16384_S1x1x16384_2 (iotaInDim S16384 32 0))) (broadcastInDim S1x16384x16384 ![0, 1, 2] bcast_S1x16384x1_S1x16384x16384_0_1_2 (broadcastInDim S1x16384x1 ![1] bcast_S16384_S1x16384x1_1 (iotaInDim S16384 32 0))))

/-- The masked scores. -/
def score (A : FVec Ideal S16384x3072 .f32) (C : FVec Ideal S16x16384 .f32) : FVec Ideal S16x16384x16384 .f32 :=
  select mask (subf (addf (mulf (Host.dotGeneral dot_S16x16384x64_S16x16384x64_S16x16384x16384_2_2_1_1_0_0 none (qh A) (kh A)) (broadcastInDim S16x16384x16384 ![] bcast_S_S16x16384x16384 (constant S_ .f32 0x3E000000#32))) (broadcastInDim S16x16384x16384 ![0, 1, 2] bcast_S16x16384x1_S16x16384x16384_0_1_2 (broadcastInDim S16x16384x1 ![0, 1] bcast_S16x16384_S16x16384x1_0_1 C))) (broadcastInDim S16x16384x16384 ![0, 1, 2] bcast_S16x1x16384_S16x16384x16384_0_1_2 (broadcastInDim S16x1x16384 ![0, 2] bcast_S16x16384_S16x1x16384_0_2 C))) (broadcastInDim S16x16384x16384 ![] bcast_S_S16x16384x16384 (id (constant S_ .f32 0xFF800000#32)))

/-- The greatest score of a row. -/
def top (A : FVec Ideal S16384x3072 .f32) (C : FVec Ideal S16x16384 .f32) : FVec Ideal S16x16384 .f32 :=
  Host.reduce FloatOps.maximumf (score A C) (constant S_ .f32 0xFF800000#32) reducesTo_S16x16384x16384_S16x16384_d2 h_S_

/-- The exponentials of the scores below the greatest. -/
def expo (A : FVec Ideal S16384x3072 .f32) (C : FVec Ideal S16x16384 .f32) : FVec Ideal S16x16384x16384 .f32 :=
  Host.exp (subf (score A C) (broadcastInDim S16x16384x16384 ![0, 1, 2] bcast_S16x16384x1_S16x16384x16384_0_1_2 (broadcastInDim S16x16384x1 ![0, 1] bcast_S16x16384_S16x16384x1_0_1 (maximumf (broadcastInDim S16x16384 ![] bcast_S_S16x16384 (constant S_ .f32 0xFF800000#32)) (top A C)))))

/-- The sum of the exponentials of a row. -/
def total (A : FVec Ideal S16384x3072 .f32) (C : FVec Ideal S16x16384 .f32) : FVec Ideal S16x16384 .f32 :=
  Host.reduceAdd (expo A C) (constant S_ .f32 0x00000000#32) reducesTo_S16x16384x16384_S16x16384_d2 h_S_

/-- The gradient of the weights. -/
def dprob (A : FVec Ideal S16384x3072 .f32) (G : FVec Ideal S16384x1024 .f32) : FVec Ideal S16x16384x16384 .f32 :=
  Host.dotGeneral dot_S16x16384x64_S16x16384x64_S16x16384x16384_2_2_1_1_0_0 none (gh G) (vh A)

/-- What the sum of a row owes to its entries. -/
def row (A : FVec Ideal S16384x3072 .f32) (C : FVec Ideal S16x16384 .f32) (G : FVec Ideal S16384x1024 .f32) : FVec Ideal S16x16384 .f32 :=
  Host.reduceAdd (mulf (mulf (dprob A G) (broadcastInDim S16x16384x16384 ![0, 1, 2] bcast_S16x16384x1_S16x16384x16384_0_1_2 (Host.divf (broadcastInDim S16x16384x1 ![] bcast_S_S16x16384x1 (constant S_ .f32 0x3F800000#32)) (mulf (broadcastInDim S16x16384x1 ![0, 1] bcast_S16x16384_S16x16384x1_0_1 (total A C)) (broadcastInDim S16x16384x1 ![0, 1] bcast_S16x16384_S16x16384x1_0_1 (total A C)))))) (expo A C)) (constant S_ .f32 0x00000000#32) reducesTo_S16x16384x16384_S16x16384_d2 h_S_

/-- The gradient of the scores. -/
def dscore (A : FVec Ideal S16384x3072 .f32) (C : FVec Ideal S16x16384 .f32) (G : FVec Ideal S16384x1024 .f32) : FVec Ideal S16x16384x16384 .f32 :=
  select mask (mulf (addf (Host.divf (dprob A G) (broadcastInDim S16x16384x16384 ![0, 1, 2] bcast_S16x16384x1_S16x16384x16384_0_1_2 (broadcastInDim S16x16384x1 ![0, 1] bcast_S16x16384_S16x16384x1_0_1 (total A C)))) (broadcastInDim S16x16384x16384 ![0, 1] bcast_S16x16384_S16x16384x16384_0_1 (Host.reduceAdd (Host.negf (shapeCast _ (row A C G) shapeCasts_S16x16384_S16x16384x1)) (constant S_ .f32 0x00000000#32) reducesTo_S16x16384x1_S16x16384_d2 h_S_))) (expo A C)) (broadcastInDim S16x16384x16384 ![] bcast_S_S16x16384x16384 (constant S_ .f32 0x00000000#32))

/-- The gradient of the keys. -/
def dK (A : FVec Ideal S16384x3072 .f32) (C : FVec Ideal S16x16384 .f32) (G : FVec Ideal S16384x1024 .f32) : FVec Ideal S16384x1024 .bf16 :=
  truncf .bf16 (shapeCast _ (transpose S16384x16x64 [1, 0, 2] (Host.dotGeneral dot_S16x16384x16384_S16x16384x64_S16x16384x64_1_1_2_2_0_0 none (mulf (dscore A C G) (broadcastInDim S16x16384x16384 ![] bcast_S_S16x16384x16384 (constant S_ .f32 0x3E000000#32))) (qh A)) transposes_S16x16384x64_S16384x16x64_1_0_2) shapeCasts_S16384x16x64_S16384x1024) bitsLt_bf16_f32

/-- The gradient of the values. -/
def dV (A : FVec Ideal S16384x3072 .f32) (C : FVec Ideal S16x16384 .f32) (G : FVec Ideal S16384x1024 .f32) : FVec Ideal S16384x1024 .bf16 :=
  truncf .bf16 (shapeCast _ (transpose S16384x16x64 [1, 0, 2] (transpose S16x16384x64 [0, 2, 1] (Host.dotGeneral dot_S16x16384x64_S16x16384x16384_S16x64x16384_1_1_2_2_0_0 none (gh G) (Host.divf (expo A C) (broadcastInDim S16x16384x16384 ![0, 1, 2] bcast_S16x16384x1_S16x16384x16384_0_1_2 (broadcastInDim S16x16384x1 ![0, 1] bcast_S16x16384_S16x16384x1_0_1 (total A C))))) transposes_S16x64x16384_S16x16384x64_0_2_1) transposes_S16x16384x64_S16384x16x64_1_0_2) shapeCasts_S16384x16x64_S16384x1024) bitsLt_bf16_f32

theorem res_v92 (m : (ℓ : Loc nD τ sig) → Buf (Elt Ideal) ℓ) (c : Dev nD) : Value.res_main_v92 m c
    = dK (m ((c.tc : Thread nD τ).loc main_arg0)) (m ((c.tc : Thread nD τ).loc main_arg1)) (m ((c.tc : Thread nD τ).loc main_arg2)) := rfl
theorem res_v93 (m : (ℓ : Loc nD τ sig) → Buf (Elt Ideal) ℓ) (c : Dev nD) : Value.res_main_v93 m c
    = dV (m ((c.tc : Thread nD τ).loc main_arg0)) (m ((c.tc : Thread nD τ).loc main_arg1)) (m ((c.tc : Thread nD τ).loc main_arg2)) := rfl

section Entries

variable (A : FVec Ideal S16384x3072 .f32) (C : FVec Ideal S16x16384 .f32) (G : FVec Ideal S16384x1024 .f32)

theorem qh_at (h : Fin 16) (q : Fin 16384) (e : Fin 64) : qh A (ix3 h q e) = A (ix2 q ⟨h.val * 64 + e.val, by omega⟩) := by
  pointwise [qh]
theorem kh_at (h : Fin 16) (q : Fin 16384) (e : Fin 64) : kh A (ix3 h q e) = A (ix2 q ⟨1024 + (h.val * 64 + e.val), by omega⟩) := by
  pointwise [kh]
theorem vh_at (h : Fin 16) (q : Fin 16384) (e : Fin 64) : vh A (ix3 h q e) = A (ix2 q ⟨2048 + (h.val * 64 + e.val), by omega⟩) := by
  pointwise [vh]
theorem gh_at (h : Fin 16) (q : Fin 16384) (e : Fin 64) : gh G (ix3 h q e) = G (ix2 q ⟨h.val * 64 + e.val, by omega⟩) := by
  pointwise [gh]

theorem toInt_pos (n : Fin 16384) : (BitVec.ofNat 32 n.val).toInt = (n.val : ℤ) := by
  have := n.isLt
  rw [BitVec.toInt_eq_toNat_cond, BitVec.toNat_ofNat, Nat.mod_eq_of_lt (by omega), if_pos (by omega)]

theorem mask_at (h : Fin 16) (q k : Fin 16384) : mask (ix3 h q k) = if k.val ≤ q.val then 1#1 else 0#1 := by
  pointwise [mask]
  simp only [IntOp.cmpi, BitVec.sle, toInt_pos, Nat.cast_le]
  split_ifs with hh <;> simp [hh]

/-- A row's sum. -/
theorem rowsum_at (X : FVec Ideal S16x16384x16384 .f32) (h : Fin 16) (q : Fin 16384) :
    Host.reduceAdd X (constant S_ .f32 0x00000000#32) reducesTo_S16x16384x16384_S16x16384_d2 h_S_ (ix2 h q) = ∑ x, X (ix3 h q x) := by
  pointwise

/-- An exponential below a row's greatest. -/
theorem shifted_at (X : FVec Ideal S16x16384x16384 .f32) (M : FVec Ideal S16x16384 .f32) (h : Fin 16) (q k : Fin 16384) :
    Host.exp (subf X (broadcastInDim S16x16384x16384 ![0, 1, 2] bcast_S16x16384x1_S16x16384x16384_0_1_2 (broadcastInDim S16x16384x1 ![0, 1] bcast_S16x16384_S16x16384x1_0_1 M))) (ix3 h q k)
    = Ideal.exp (X (ix3 h q k) - M (ix2 h q)) := by
  pointwise

/-- A number above minus infinity. -/
theorem above_at (M : FVec Ideal S16x16384 .f32) (h : Fin 16) (q : Fin 16384) :
    maximumf (broadcastInDim S16x16384 ![] bcast_S_S16x16384 (constant S_ .f32 0xFF800000#32)) M (ix2 h q) = M (ix2 h q) := by
  pointwise
  rw [show (4286578688#32 : BitVec 32) = 0xFF800000#32 from rfl, ofBits_bot, max_eq_right bot_le]

end Entries

section Reals

variable (a : S16384x3072.Idx → ℝ) (c : S16x16384.Idx → ℝ) (g : S16384x1024.Idx → ℝ)

/-- Real numbers among the extended reals. -/
def up {α : Type} (r : α → ℝ) : α → EReal := fun i => ((r i : ℝ) : EReal)

/-- The scores of a head. -/
def xr (h : Fin 16) (q k : Fin 16384) : ℝ :=
  (∑ e : Fin 64, a (ix2 q ⟨h.val * 64 + e.val, by omega⟩) * a (ix2 k ⟨1024 + (h.val * 64 + e.val), by omega⟩)) * (1 / 8) + c (ix2 h q) - c (ix2 h k)

/-- The gradient of a head's weights. -/
def dpr (h : Fin 16) (q k : Fin 16384) : ℝ :=
  ∑ e : Fin 64, g (ix2 q ⟨h.val * 64 + e.val, by omega⟩) * a (ix2 k ⟨2048 + (h.val * 64 + e.val), by omega⟩)

variable (h : Fin 16) (q k : Fin 16384)

theorem score_at : score (up a) (up c) (ix3 h q k) = ms (xr a c h) q k := by
  pointwise [score]
  rw [mask_at, ms]
  split_ifs
  · simp only [qh_at, kh_at, up, coe_sum_mul]
    rw [show (1040187392#32 : BitVec 32) = 0x3E000000#32 from rfl, ofBits_eighth, ← EReal.coe_mul, ← EReal.coe_add, ← EReal.coe_sub]
    rfl
  · exact ofBits_bot

theorem top_at : top (up a) (up c) (ix2 h q) = ((mu (xr a c h) q : ℝ) : EReal) := by
  pointwise [top]
  rw [show (4286578688#32 : BitVec 32) = 0xFF800000#32 from rfl, ofBits_bot, ← mu_eq]
  exact congrArg (fun f => Finset.fold max ⊥ f Finset.univ) (funext fun k => score_at a c h q k)

theorem expo_at : expo (up a) (up c) (ix3 h q k) = ((ex (xr a c h) q k : ℝ) : EReal) := by
  refine (shifted_at _ _ h q k).trans ?_
  rw [above_at, top_at, score_at, ex_eq]

theorem total_at : total (up a) (up c) (ix2 h q) = ((tot (xr a c h) q : ℝ) : EReal) := by
  refine (rowsum_at (expo (up a) (up c)) h q).trans ?_
  rw [tot, ← coe_sum]
  exact Finset.sum_congr rfl fun k _ => expo_at a c h q k

theorem dprob_at : dprob (up a) (up g) (ix3 h q k) = ((dpr a g h q k : ℝ) : EReal) := by
  pointwise [dprob]
  simp only [gh_at, vh_at, up, coe_sum_mul]
  rfl

theorem row_at : row (up a) (up c) (up g) (ix2 h q)
    = ((∑ k, dpr a g h q k * (1 * (1 / (tot (xr a c h) q * tot (xr a c h) q))) * ex (xr a c h) q k : ℝ) : EReal) := by
  have hl : tot (xr a c h) q ≠ 0 := (tot_pos (xr a c h) q).ne'
  pointwise [row]
  rw [← coe_sum]
  refine Finset.sum_congr rfl fun k _ => ?_
  rw [dprob_at, total_at, expo_at, ← EReal.coe_mul, Ideal.div_coe (mul_ne_zero hl hl)]
  simp only [one_mul, EReal.coe_mul]

theorem dscore_at : dscore (up a) (up c) (up g) (ix3 h q k)
    = ((wt (xr a c h) q k * (dpr a g h q k - ∑ k', wt (xr a c h) q k' * dpr a g h q k') : ℝ) : EReal) := by
  have hl : tot (xr a c h) q ≠ 0 := (tot_pos (xr a c h) q).ne'
  pointwise [dscore]
  rw [mask_at, dprob_at, total_at, expo_at, row_at, Fin.sum_univ_one, ← EReal.coe_neg, Ideal.div_coe hl, ← EReal.coe_mul, ← EReal.coe_add, ← EReal.coe_mul, ← grad_eq]
  split_ifs <;> rfl

/-- The reference's key gradient at one entry. -/
theorem dK_at (l : Fin 1024) : dK (up a) (up c) (up g) (ix2 k l)
    = ((∑ q, wt (xr a c ⟨l.val / 64, by omega⟩) q k * (dpr a g ⟨l.val / 64, by omega⟩ q k - ∑ k', wt (xr a c ⟨l.val / 64, by omega⟩) q k' * dpr a g ⟨l.val / 64, by omega⟩ q k')
        * (a (ix2 q ⟨l.val, by omega⟩) * (1 / 8)) : ℝ) : EReal) := by
  pointwise [dK]
  rw [← coe_sum]
  refine Finset.sum_congr rfl fun q _ => ?_
  rw [dscore_at, qh_at, show (1040187392#32 : BitVec 32) = 0x3E000000#32 from rfl, ofBits_eighth, up, ← EReal.coe_mul, ← EReal.coe_mul, mul_assoc, mul_comm (1 / 8 : ℝ)]
  refine congrArg (fun i => ((_ * (a (ix2 q i) * (1 / 8)) : ℝ) : EReal)) (Fin.ext ?_)
  show l.val / 64 * 64 + l.val % 64 = l.val
  omega

/-- One query's part of the value gradient. -/
theorem dV_term (l : Fin 1024) (q : Fin 16384) :
    gh (up g) (ix3 ⟨l.val / 64, by omega⟩ q ⟨l.val % 64, by omega⟩) * Ideal.div (expo (up a) (up c) (ix3 h q k)) (total (up a) (up c) (ix2 h q))
    = ((wt (xr a c h) q k * g (ix2 q l) : ℝ) : EReal) := by
  have hi : (⟨l.val / 64 * 64 + l.val % 64, by omega⟩ : Fin 1024) = l := Fin.ext (by show l.val / 64 * 64 + l.val % 64 = l.val; omega)
  rw [expo_at, total_at, Ideal.div_coe (tot_pos _ q).ne', ← EReal.coe_mul, mul_one_div, gh_at, mul_comm, EReal.coe_mul _ (g _)]
  exact congrArg (fun i => ((wt (xr a c h) q k : ℝ) : EReal) * up g (ix2 q i)) hi

/-- The reference's value gradient at one entry. -/
theorem dV_at (l : Fin 1024) : dV (up a) (up c) (up g) (ix2 k l)
    = ((∑ q, wt (xr a c ⟨l.val / 64, by omega⟩) q k * g (ix2 q l) : ℝ) : EReal) := by
  pointwise [dV]
  rw [← coe_sum]
  exact Finset.sum_congr rfl fun q _ => dV_term a c g _ k l q

end Reals

end Cert.AtbRefIdeal.Stage

end
-- ==== Proof.AtbHost.lean ====
/-
  What the host line hands the attention backward kernel, taken in stages, and its entries.
-/
module

public import proofs.«01_k».proof.Proof.Gen.AtbIdeal.Frame
public import proofs.«01_k».proof.Proof.AtbRef
public import Idealize.ShloMosaic.Lib.Claim

@[expose] public section

set_option maxRecDepth 16384

noncomputable section

open Idealize.ShloMosaic Idealize.ShloMosaic.TcCoe Idealize.SL.Sem
open Cert.AtbReal Cert.Reals

namespace Cert.AtbIdeal.Host
open Cert.AtbIdeal Cert.AtbIdeal.Gen
open Cert.AtbRefIdeal.Stage (score top vh gh up xr dpr)

/-- The exponentials of the scores below a row's greatest. -/
def expo (A : FVec Ideal S16384x3072 .f32) (C : FVec Ideal S16x16384 .f32) : FVec Ideal S16x16384x16384 .f32 :=
  Host.exp (subf (score A C) (broadcastInDim S16x16384x16384 ![0, 1, 2] bcast_S16x16384x1_S16x16384x16384_0_1_2 (broadcastInDim S16x16384x1 ![0, 1] bcast_S16x16384_S16x16384x1_0_1 (top A C))))

/-- The sum of the exponentials of a row. -/
def total (A : FVec Ideal S16384x3072 .f32) (C : FVec Ideal S16x16384 .f32) : FVec Ideal S16x16384 .f32 :=
  Host.reduceAdd (expo A C) (constant S_ .f32 0x00000000#32) reducesTo_S16x16384x16384_S16x16384_d2 h_S_

/-- The output by heads. -/
def out (A : FVec Ideal S16384x3072 .f32) (C : FVec Ideal S16x16384 .f32) : FVec Ideal S16x16384x64 .f32 :=
  Host.dotGeneral dot_S16x16384x16384_S16x16384x64_S16x16384x64_2_1_1_2_0_0 none (Host.divf (expo A C) (broadcastInDim S16x16384x16384 ![0, 1, 2] bcast_S16x16384x1_S16x16384x16384_0_1_2 (broadcastInDim S16x16384x1 ![0, 1] bcast_S16x16384_S16x16384x1_0_1 (total A C)))) (vh A)

/-- The gate at the first row of each row's block of 256. -/
def gate (C : FVec Ideal S16x16384 .f32) : FVec Ideal S16x16384 .f32 :=
  shapeCast S16x16384 (broadcastInDim S16x64x256 ![0, 1] bcast_S16x64_S16x64x256_0_1 (shapeCast S16x64 (extractStridedSlice S16x64x1 ![0, 0, 0] (shapeCast S16x64x256 C shapeCasts_S16x16384_S16x64x256) slices_S16x64x256_S16x64x1_0_0_0) shapeCasts_S16x64x1_S16x64)) shapeCasts_S16x64x256_S16x16384

/-- Each row's log-sum, to the base 2 and relative to the gate at its block. -/
def lse (A : FVec Ideal S16384x3072 .f32) (C : FVec Ideal S16x16384 .f32) : FVec Ideal S16x16384 .f32 :=
  Host.divf (addf (subf (addf (top A C) (Host.log (total A C))) C) (gate C)) (broadcastInDim S16x16384 ![] bcast_S_S16x16384 (Host.log (constant S_ .f32 0x40000000#32)))

/-- The output's product with its gradient. -/
def delta (A : FVec Ideal S16384x3072 .f32) (C : FVec Ideal S16x16384 .f32) (G : FVec Ideal S16384x1024 .f32) : FVec Ideal S16x16384 .f32 :=
  Host.reduceAdd (mulf (gh G) (out A C)) (constant S_ .f32 0x00000000#32) reducesTo_S16x16384x64_S16x16384_d2 h_S_

/-- A row per head, the heads in pairs. -/
def rows (x : FVec Ideal S16x16384 .f32) : FVec Ideal S8x8x16384 .f32 :=
  pad S8x8x16384 ![0, 0, 0] ![0, 6, 0] ![0, 0, 0] (shapeCast S8x2x16384 x shapeCasts_S16x16384_S8x2x16384) (sitofp .f32 (constantI S_ 32 0#32)) pads_S8x2x16384_S8x8x16384_000_060_000 h_S_

/-- A column per head, the heads in pairs. -/
def cols (x : FVec Ideal S16x16384 .f32) : FVec Ideal S8x16384x128 .f32 :=
  pad S8x16384x128 ![0, 0, 0] ![0, 0, 126] ![0, 0, 0] (transpose S8x16384x2 [0, 2, 1] (shapeCast S8x2x16384 x shapeCasts_S16x16384_S8x2x16384) transposes_S8x2x16384_S8x16384x2_0_2_1) (sitofp .f32 (constantI S_ 32 0#32)) pads_S8x16384x2_S8x16384x128_000_000_01260 h_S_

theorem rows_at (x : FVec Ideal S16x16384 .f32) (p a : Fin 8) (n : Fin 16384) (ha : a.val < 2) : rows x (ix3 p a n) = x (ix2 ⟨p.val * 2 + a.val, by omega⟩ n) := by
  pointwise [rows]
  exact dif_pos ha
theorem cols_at (x : FVec Ideal S16x16384 .f32) (p : Fin 8) (n : Fin 16384) (a : Fin 128) (ha : a.val < 2) : cols x (ix3 p n a) = x (ix2 ⟨p.val * 2 + a.val, by omega⟩ n) := by
  pointwise [cols]
  exact dif_pos ha
theorem gate_at (x : FVec Ideal S16x16384 .f32) (h : Fin 16) (n : Fin 16384) : gate x (ix2 h n) = x (ix2 h ⟨n.val / 256 * 256, by omega⟩) := by
  pointwise [gate]

/-- A log-sum, from a row's greatest score, its sum, its gate and its block's gate. -/
theorem logsum_at (M S C D : FVec Ideal S16x16384 .f32) (h : Fin 16) (q : Fin 16384) :
    Host.divf (addf (subf (addf M (Host.log S)) C) D) (broadcastInDim S16x16384 ![] bcast_S_S16x16384 (Host.log (constant S_ .f32 0x40000000#32))) (ix2 h q)
    = Ideal.div (M (ix2 h q) + Ideal.log (S (ix2 h q)) - C (ix2 h q) + D (ix2 h q)) (Ideal.log (Ideal.ofBits .f32 0x40000000#32)) := by
  pointwise

theorem log_pos {r : ℝ} (h : 0 < r) : Ideal.log ((r : ℝ) : EReal) = ((Real.log r : ℝ) : EReal) := by
  rw [Ideal.log_coe, if_neg (not_le.mpr h)]

section Reals

variable (a : S16384x3072.Idx → ℝ) (c : S16x16384.Idx → ℝ) (g : S16384x1024.Idx → ℝ) (h : Fin 16) (q k : Fin 16384)

theorem expo_at : expo (up a) (up c) (ix3 h q k) = ((ex (xr a c h) q k : ℝ) : EReal) := by
  refine (Cert.AtbRefIdeal.Stage.shifted_at _ _ h q k).trans ?_
  rw [Cert.AtbRefIdeal.Stage.top_at, Cert.AtbRefIdeal.Stage.score_at, ex_eq]

theorem total_at : total (up a) (up c) (ix2 h q) = ((tot (xr a c h) q : ℝ) : EReal) := by
  refine (Cert.AtbRefIdeal.Stage.rowsum_at (expo (up a) (up c)) h q).trans ?_
  rw [tot, ← coe_sum]
  exact Finset.sum_congr rfl fun k _ => expo_at a c h q k

theorem out_at (e : Fin 64) : out (up a) (up c) (ix3 h q e)
    = ((∑ k, wt (xr a c h) q k * a (ix2 k ⟨2048 + (h.val * 64 + e.val), by omega⟩) : ℝ) : EReal) := by
  pointwise [out]
  rw [← coe_sum]
  refine Finset.sum_congr rfl fun k _ => ?_
  rw [expo_at, total_at, Ideal.div_coe (tot_pos _ q).ne', ← EReal.coe_mul, mul_one_div, Cert.AtbRefIdeal.Stage.vh_at, EReal.coe_mul _ (a _)]
  rfl

/-- A row's log-sum at one entry. -/
theorem lse_at : lse (up a) (up c) (ix2 h q)
    = (((mu (xr a c h) q + Real.log (tot (xr a c h) q) - c (ix2 h q) + c (ix2 h ⟨q.val / 256 * 256, by omega⟩)) * (1 / Real.log 2) : ℝ) : EReal) := by
  refine (logsum_at _ _ _ _ h q).trans ?_
  rw [Cert.AtbRefIdeal.Stage.top_at, total_at, gate_at, ofBits_two, log_pos two_pos, log_pos (tot_pos _ q), up, up, Ideal.div_coe (Real.log_pos one_lt_two).ne',
    ← EReal.coe_add, ← EReal.coe_sub, ← EReal.coe_add, ← EReal.coe_mul]

/-- The output's product with its gradient at one entry: the weights' against their gradients. -/
theorem delta_at : delta (up a) (up c) (up g) (ix2 h q) = ((∑ k, wt (xr a c h) q k * dpr a g h q k : ℝ) : EReal) := by
  pointwise [delta]
  rw [show (∑ k, wt (xr a c h) q k * dpr a g h q k)
      = ∑ e : Fin 64, g (ix2 q ⟨h.val * 64 + e.val, by omega⟩) * ∑ k, wt (xr a c h) q k * a (ix2 k ⟨2048 + (h.val * 64 + e.val), by omega⟩) by
    simp only [dpr, Finset.mul_sum]
    rw [Finset.sum_comm]
    exact Finset.sum_congr rfl fun e _ => Finset.sum_congr rfl fun k _ => by ring, ← coe_sum]
  refine Finset.sum_congr rfl fun e _ => ?_
  rw [out_at, Cert.AtbRefIdeal.Stage.gh_at, EReal.coe_mul]
  rfl

end Reals

end Cert.AtbIdeal.Host

end
-- ==== Proof.AtbEntry.lean ====
/-
  The buffers the attention backward kernel finds when it starts, as the host line's stages.
-/
module

public import proofs.«01_k».proof.Proof.Gen.AtbIdeal.Frame
public import proofs.«01_k».proof.Proof.AtbHost
public import Idealize.ShloMosaic.Lib.Claim

@[expose] public section

set_option maxRecDepth 16384

noncomputable section

open Idealize.ShloMosaic Idealize.ShloMosaic.TcCoe Idealize.SL.Sem
open Cert.AtbReal Cert.Reals

namespace Cert.AtbIdeal.Host
open Cert.AtbIdeal Cert.AtbIdeal.Gen
open Cert.AtbRefIdeal.Stage (score top vh gh mask qh kh)

section Entry
variable (m : (ℓ : Loc nD τ sig) → Buf (Elt Ideal) ℓ) (c : Dev nD)

theorem V_v54 : V m c main_v54 = (truncf .bf16 (m ((c : Thread nD τ).loc main_arg0) : FVec Ideal S16384x3072 .f32) bitsLt_bf16_f32 : FVec Ideal S16384x3072 .bf16) := by
  entry_read; rfl
theorem V_v55 : V m c main_v55 = (truncf .bf16 (m ((c : Thread nD τ).loc main_arg2) : FVec Ideal S16384x1024 .f32) bitsLt_bf16_f32 : FVec Ideal S16384x1024 .bf16) := by
  entry_read; rfl
theorem V_v57 : V m c main_v57 = rows (lse (m ((c : Thread nD τ).loc main_arg0)) (m ((c : Thread nD τ).loc main_arg1))) := by
  unfold V
  simp only [hostOps0, hostOps0_1, hostOps0_2, hostOps0_3, hostOps0_4, hostOps0_5, hostOps0_6, hostOps0_7, hostOps0_8, hostOps0_9, List.flatten_cons, List.flatten_nil, List.append_nil, List.cons_append,
    List.nil_append, StableHlo.TRef.nullary, StableHlo.TRef.binary, StableHlo.TRef.ternary, StableHlo.TRef.unary, StableHlo.TRef.toBuf, StableHlo.TRef.ofBuf, cast_eq]
  after_results_simp
  rfl
theorem V_v59 : V m c main_v59 = rows (delta (m ((c : Thread nD τ).loc main_arg0)) (m ((c : Thread nD τ).loc main_arg1)) (m ((c : Thread nD τ).loc main_arg2))) := by
  unfold V
  simp only [hostOps0, hostOps0_1, hostOps0_2, hostOps0_3, hostOps0_4, hostOps0_5, hostOps0_6, hostOps0_7, hostOps0_8, hostOps0_9, List.flatten_cons, List.flatten_nil, List.append_nil, List.cons_append,
    List.nil_append, StableHlo.TRef.nullary, StableHlo.TRef.binary, StableHlo.TRef.ternary, StableHlo.TRef.unary, StableHlo.TRef.toBuf, StableHlo.TRef.ofBuf, cast_eq]
  after_results_simp
  rfl
theorem V_v61 : V m c main_v61 = rows (gate (m ((c : Thread nD τ).loc main_arg1))) := by
  entry_read; rfl
theorem V_v53 : V m c main_v53 = cols (m ((c : Thread nD τ).loc main_arg1)) := by
  entry_read; rfl
end Entry

end Cert.AtbIdeal.Host

end
-- ==== Proof.AtbBlocks.lean ====
/-
  The blocks the attention backward kernel works on at a point, read off the arrays it finds.
-/
module

public import proofs.«01_k».proof.Proof.AtbIdealFrame
public import proofs.«01_k».proof.Proof.AtbEntry
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.AtbReal Cert.Reals

namespace Cert.AtbIdeal.Value
open Cert.AtbIdeal Cert.AtbIdeal.Gen Cert.AtbIdeal.Hand
open Cert.AtbRefIdeal.Stage (up xr dpr dK dV)

variable (m : (ℓ : Loc nD τ sig) → Buf (Elt Ideal) ℓ)

/-- The block each window is on at a point, and the point's block of keys. -/
theorem idx : ∀ t : Fin cfg0.N, win0_0.index t = ![0, t.val / 64] ∧ win0_1.index t = ![0, t.val / 64]
    ∧ win0_2.index t = ![t.val % 64, 8 + t.val / 64] ∧ win0_3.index t = ![t.val % 64, 16 + t.val / 64]
    ∧ win0_4.index t = ![t.val / 64, 0, 0] ∧ win0_5.index t = ![t.val / 64, 0, 0] ∧ win0_6.index t = ![t.val / 64, 0, 0]
    ∧ win0_7.index t = ![t.val / 64, t.val % 64, 0] ∧ win0_9.index t = ![t.val % 64, t.val / 64] ∧ win0_10.index t = ![t.val % 64, t.val / 64]
    ∧ (grid0.coords t 1).val = t.val % 64 :=
  (by decide +kernel : ∀ t : Fin grid0.N, _)

theorem lt_N (t : Fin cfg0.N) : t.val < 512 := t.isLt

section Blocks
variable (c : Dev nD) (t : Fin cfg0.N)

theorem q_at (n : Fin 16384) (l : Fin 128) : iblk m c 0 t (ix2 n l)
    = m ((c : Thread nD τ).loc main_arg0) (ix2 n ⟨128 * (t.val / 64) + l.val, by have := lt_N t; omega⟩) := by
  blk_ext! [iblk, V, idx t]
theorem g_at (n : Fin 16384) (l : Fin 128) : iblk m c 1 t (ix2 n l)
    = m ((c : Thread nD τ).loc main_arg2) (ix2 n ⟨128 * (t.val / 64) + l.val, by have := lt_N t; omega⟩) := by
  blk_ext! [iblk, V, idx t]
theorem k_at (r : Fin 256) (l : Fin 128) : iblk m c 2 t (ix2 r l)
    = m ((c : Thread nD τ).loc main_arg0) (ix2 ⟨256 * (t.val % 64) + r.val, by omega⟩ ⟨1024 + (128 * (t.val / 64) + l.val), by have := lt_N t; omega⟩) := by
  blk_ext! [iblk, V, idx t]
theorem v_at (r : Fin 256) (l : Fin 128) : iblk m c 3 t (ix2 r l)
    = m ((c : Thread nD τ).loc main_arg0) (ix2 ⟨256 * (t.val % 64) + r.val, by omega⟩ ⟨2048 + (128 * (t.val / 64) + l.val), by have := lt_N t; omega⟩) := by
  blk_ext! [iblk, V, idx t]
theorem l_at (s : Fin 8) (n : Fin 16384) : iblk m c 4 t (ix3 0 s n) = V m c main_v57 (ix3 ⟨t.val / 64, by have := lt_N t; omega⟩ s n) := by
  blk_ext [iblk, idx t]
theorem e_at (s : Fin 8) (n : Fin 16384) : iblk m c 5 t (ix3 0 s n) = V m c main_v59 (ix3 ⟨t.val / 64, by have := lt_N t; omega⟩ s n) := by
  blk_ext [iblk, idx t]
theorem c_at (s : Fin 8) (n : Fin 16384) : iblk m c 6 t (ix3 0 s n) = V m c main_v61 (ix3 ⟨t.val / 64, by have := lt_N t; omega⟩ s n) := by
  blk_ext [iblk, idx t]
theorem d_at (r : Fin 256) (s : Fin 128) : iblk m c 7 t (ix3 0 r s)
    = V m c main_v53 (ix3 ⟨t.val / 64, by have := lt_N t; omega⟩ ⟨256 * (t.val % 64) + r.val, by omega⟩ s) := by
  blk_ext [iblk, idx t]

end Blocks

end Cert.AtbIdeal.Value

end
-- ==== Proof.AtbHead.lean ====
/-
  One head of a block of keys over the real numbers: where its operands hold real numbers, the sums the body writes
  are the softmax's weights and score gradients against the output's gradient and the queries.
-/
module

public import proofs.«01_k».proof.Proof.AtbSum
public import proofs.«01_k».proof.Proof.AtbReal

@[expose] public section

set_option maxRecDepth 16384

noncomputable section

open Idealize.ShloMosaic Idealize.ShloMosaic.TcCoe Idealize.SL.Sem
open Cert.AtbReal Cert.Reals

namespace Cert.AtbIdeal.Hand
open Cert.AtbIdeal Cert.AtbIdeal.Gen

theorem named_log2e : Named.named (F := Ideal) (φ := .f32) κ "log2e" 0x3FB8AA3B#32 = (((Real.log 2)⁻¹ : ℝ) : EReal) :=
  IdealRules.named_const.ideal_named_scalar _ _ _ _ rfl
theorem named_scaled : Named.named (F := Ideal) (φ := .f32) κ "scaled_log2e" 0x3E38AA3B#32 = (((8 * Real.log 2)⁻¹ : ℝ) : EReal) :=
  IdealRules.named_const.ideal_named_scalar _ _ _ _ rfl

/-- The operands of head `s` of a pair hold real numbers: `x` are the scores and `dp` the weights' gradients of all the
    queries and keys, the block's keys start at `d`. -/
structure Reads (h : Hd) (o : Op) (s d : ℕ) (hd : d + 256 ≤ 16384) (x dp : Fin 16384 → Fin 16384 → ℝ) (Q D : Fin 16384 → Fin 128 → ℝ)
    (K V : Fin 256 → Fin 128 → ℝ) (cq c0 : Fin 16384 → ℝ) (ck : Fin 256 → ℝ) (f : ℝ) : Prop where
  hs : s < 2
  hw : ∀ r l, h.w (ix2 r l) = if l.val / 64 = s then ((K r l : ℝ) : EReal) else 0
  hu : ∀ r l, h.u (ix2 r l) = if l.val / 64 = s then ((V r l : ℝ) : EReal) else 0
  hm : ∀ l, h.m (ix2 0 l) = if l.val / 64 = s then 1#1 else 0#1
  hf : h.f (ix2 0 0) = ((f : ℝ) : EReal)
  hg : ∀ r, h.g (ix2 r 0) = (((ck r - f) * (Real.log 2)⁻¹ : ℝ) : EReal)
  hq : ∀ n l, o.Q (ix2 n l) = ((Q n l : ℝ) : EReal)
  ho : ∀ n l, o.D (ix2 n l) = ((D n l : ℝ) : EReal)
  hc : ∀ n, o.C (ix3 0 h.a n) = ((c0 n : ℝ) : EReal)
  hl : ∀ n, o.L (ix3 0 h.a n) = (((mu x n + Real.log (tot x n) - cq n + c0 n) * (1 / Real.log 2) : ℝ) : EReal)
  he : ∀ n, o.E (ix3 0 h.a n) = ((∑ k, wt x n k * dp n k : ℝ) : EReal)
  hx : ∀ r n, x n ⟨d + r.val, by omega⟩ = (∑ e : Fin 64, K r ⟨64 * s + e.val, by omega⟩ * Q n ⟨64 * s + e.val, by omega⟩) * (1 / 8) + cq n - ck r
  hp : ∀ r n, dp n ⟨d + r.val, by omega⟩ = ∑ e : Fin 64, V r ⟨64 * s + e.val, by omega⟩ * D n ⟨64 * s + e.val, by omega⟩

theorem pos_val (n : Fin 16384) : pos n.val = n := Fin.ext (Nat.mod_eq_of_lt n.isLt)

/-- A sum over a pair's lanes, one operand of which is zero off the head. -/
theorem lanes_sum (s : ℕ) (hs : s < 2) (K Q : Fin 128 → ℝ) (F : Fin 128 → EReal)
    (hF : ∀ l, F l = if l.val / 64 = s then ((K l : ℝ) : EReal) else 0) :
    ∑ l : Fin 128, F l * ((Q l : ℝ) : EReal) = ((∑ e : Fin 64, K ⟨64 * s + e.val, by omega⟩ * Q ⟨64 * s + e.val, by omega⟩ : ℝ) : EReal) := by
  rw [← half_sum s hs fun l => K l * Q l, ← coe_sum]
  refine Finset.sum_congr rfl fun l _ => ?_
  rw [hF]
  split_ifs
  · rw [EReal.coe_mul]
  · rw [zero_mul]; rfl

section
variable {h : Hd} {o : Op} {s d : ℕ} {hd : d + 256 ≤ 16384} {x dp : Fin 16384 → Fin 16384 → ℝ} {Q D : Fin 16384 → Fin 128 → ℝ}
    {K V : Fin 256 → Fin 128 → ℝ} {cq c0 : Fin 16384 → ℝ} {ck : Fin 256 → ℝ} {f : ℝ} (R : Reads h o s d hd x dp Q D K V cq c0 ck f)
include R

/-- The masked weight of a key is the softmax's. -/
theorem Reads.pm_eq (r : Fin 256) (n : Fin 16384) : pm h o d r n.val = ((wt x n ⟨d + r.val, by omega⟩ : ℝ) : EReal) := by
  rw [pm]
  split_ifs with hm
  · rw [pr, sc, pos_val, R.hg, R.hl, R.hf, R.hc, named_log2e, named_scaled]
    rw [show (∑ l : Fin 128, h.w (ix2 r l) * (o.Q (ix2 n l) * (((8 * Real.log 2)⁻¹ : ℝ) : EReal)))
        = ∑ l : Fin 128, h.w (ix2 r l) * ((Q n l * (8 * Real.log 2)⁻¹ : ℝ) : EReal) from
      Finset.sum_congr rfl fun l _ => by rw [R.hq, EReal.coe_mul], lanes_sum s R.hs (K r) (fun l => Q n l * (8 * Real.log 2)⁻¹) _ (R.hw r),
      ← EReal.coe_sub, ← EReal.coe_sub, ← EReal.coe_mul, ← EReal.coe_add, ← EReal.coe_sub]
    refine (Ideal.exp2_coe _).trans (congrArg _ (wt_pow x n _ hm _ ?_))
    rw [R.hx, show (∑ e : Fin 64, K r ⟨64 * s + e.val, by have := R.hs; omega⟩ * (Q n ⟨64 * s + e.val, by have := R.hs; omega⟩ * (8 * Real.log 2)⁻¹))
        = (∑ e : Fin 64, K r ⟨64 * s + e.val, by have := R.hs; omega⟩ * Q n ⟨64 * s + e.val, by have := R.hs; omega⟩) * (8 * Real.log 2)⁻¹ by
      rw [Finset.sum_mul]; exact Finset.sum_congr rfl fun e _ => (mul_assoc _ _ _).symm]
    rw [mul_inv]
    ring
  · rw [wt_masked x n _ hm]; rfl

/-- The value gradient of a key. -/
theorem Reads.fullV_eq (r : Fin 256) (l : Fin 128) :
    fullV h o d r l 16384 = ((∑ n, wt x n ⟨d + r.val, by omega⟩ * D n l : ℝ) : EReal) := by
  rw [fullV, Finset.sum_range, ← coe_sum]
  refine Finset.sum_congr rfl fun n _ => ?_
  rw [gv, R.pm_eq, pos_val, R.ho, EReal.coe_mul]

/-- The key gradient of a key. -/
theorem Reads.fullK_eq (r : Fin 256) (l : Fin 128) (hl : l.val / 64 = s) :
    fullK h o d r l 16384 = ((∑ n, wt x n ⟨d + r.val, by omega⟩ * (dp n ⟨d + r.val, by omega⟩ - ∑ k, wt x n k * dp n k) * (Q n l * (1 / 8)) : ℝ) : EReal) := by
  rw [fullK, Finset.sum_range, ← coe_sum]
  refine Finset.sum_congr rfl fun n _ => ?_
  rw [gk, ds, R.pm_eq, pos_val, R.he, R.hm, if_pos hl, R.hq,
    show (∑ l : Fin 128, h.u (ix2 r l) * o.D (ix2 n l)) = ∑ l : Fin 128, h.u (ix2 r l) * ((D n l : ℝ) : EReal) from
      Finset.sum_congr rfl fun l _ => by rw [R.ho], lanes_sum s R.hs (V r) (D n) _ (R.hu r), ← R.hp r n,
    show (1040187392#32 : BitVec 32) = 0x3E000000#32 from rfl, ofBits_eighth]
  rw [show ∀ a b : EReal, Scalar.select 1#1 a b = a from fun _ _ => rfl]
  rw [← EReal.coe_sub, ← EReal.coe_mul, ← EReal.coe_mul, ← EReal.coe_mul]

end

end Cert.AtbIdeal.Hand

end
-- ==== Proof.AtbValue.lean ====
/-
  The key and value gradients of attention: the kernel's blocks, pair of heads by pair of heads and 256 keys by 256
  keys, are the reference's.
-/
module

public import proofs.«01_k».proof.Proof.AtbBlocks
public import proofs.«01_k».proof.Proof.AtbHead
public import proofs.«01_k».proof.Defs
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.AtbReal Cert.Reals

namespace Cert.AtbIdeal.Value
open Cert.AtbIdeal Cert.AtbIdeal.Gen Cert.AtbIdeal.Hand
open Cert.AtbRefIdeal.Stage (up xr dpr dK dV)

variable (m : (ℓ : Loc nD τ sig) → Buf (Elt Ideal) ℓ)

/-- A pair's query side, at a point. -/
abbrev O (c : Dev nD) (t : Fin cfg0.N) : Op := ⟨iblk m c 0 t, iblk m c 1 t, iblk m c 4 t, iblk m c 5 t, iblk m c 6 t⟩

section Real

variable (c : Dev nD) (t : Fin cfg0.N) (a : S16384x3072.Idx → ℝ) (b : S16x16384.Idx → ℝ) (g : S16384x1024.Idx → ℝ)

/-- Head `s` of the point's pair. -/
def head (s : ℕ) (hs : s < 2) : Fin 16 := ⟨t.val / 64 * 2 + s, by have := lt_N t; omega⟩

/-- The point's keys start at a row of the whole array. -/
theorem start_le : 256 * (t.val % 64) + 256 ≤ 16384 := by omega

abbrev Qr (n : Fin 16384) (l : Fin 128) : ℝ := a (ix2 n ⟨128 * (t.val / 64) + l.val, by have := lt_N t; omega⟩)
abbrev Gr (n : Fin 16384) (l : Fin 128) : ℝ := g (ix2 n ⟨128 * (t.val / 64) + l.val, by have := lt_N t; omega⟩)
abbrev Kr (r : Fin 256) (l : Fin 128) : ℝ := a (ix2 ⟨256 * (t.val % 64) + r.val, by omega⟩ ⟨1024 + (128 * (t.val / 64) + l.val), by have := lt_N t; omega⟩)
abbrev Vr (r : Fin 256) (l : Fin 128) : ℝ := a (ix2 ⟨256 * (t.val % 64) + r.val, by omega⟩ ⟨2048 + (128 * (t.val / 64) + l.val), by have := lt_N t; omega⟩)
abbrev Cr (h : Fin 16) (r : Fin 256) : ℝ := b (ix2 h ⟨256 * (t.val % 64) + r.val, by omega⟩)

/-- What a head's operands are, in real numbers. -/
abbrev Reading (h : Hd) (o : Op) (s : ℕ) (hs : s < 2) : Prop :=
  Reads h o s (256 * (t.val % 64)) (start_le t) (xr a b (head t s hs)) (dpr a g (head t s hs)) (Qr t a) (Gr t g) (Kr t a) (Vr t a)
    (fun n => b (ix2 (head t s hs) n)) (fun n => b (ix2 (head t s hs) ⟨n.val / 256 * 256, by omega⟩)) (Cr t b (head t s hs)) (Cr t b (head t s hs) 0)

/-- What the query side's operands are, in real numbers. -/
structure Query (o : Op) : Prop where
  q : ∀ n l, o.Q (ix2 n l) = ((Qr t a n l : ℝ) : EReal)
  d : ∀ n l, o.D (ix2 n l) = ((Gr t g n l : ℝ) : EReal)
  c : ∀ (s : Fin 8) (hs : s.val < 2) (n : Fin 16384), o.C (ix3 0 s n) = ((b (ix2 (head t s hs) ⟨n.val / 256 * 256, by omega⟩) : ℝ) : EReal)
  l : ∀ (s : Fin 8) (hs : s.val < 2) (n : Fin 16384), o.L (ix3 0 s n)
    = (((mu (xr a b (head t s hs)) n + Real.log (tot (xr a b (head t s hs)) n) - b (ix2 (head t s hs) n) + b (ix2 (head t s hs) ⟨n.val / 256 * 256, by omega⟩)) * (1 / Real.log 2) : ℝ) : EReal)
  e : ∀ (s : Fin 8) (hs : s.val < 2) (n : Fin 16384), o.E (ix3 0 s n) = ((∑ k, wt (xr a b (head t s hs)) n k * dpr a g (head t s hs) n k : ℝ) : EReal)

theorem score_eq (s : ℕ) (hs : s < 2) (r : Fin 256) (n : Fin 16384) : xr a b (head t s hs) n ⟨256 * (t.val % 64) + r.val, by omega⟩
    = (∑ e : Fin 64, Kr t a r ⟨64 * s + e.val, by omega⟩ * Qr t a n ⟨64 * s + e.val, by omega⟩) * (1 / 8) + b (ix2 (head t s hs) n) - Cr t b (head t s hs) r := by
  rw [xr]
  congr 3
  refine Finset.sum_congr rfl fun e _ => ?_
  rw [mul_comm]
  have hl : (t.val / 64 * 2 + s) * 64 + e.val = 128 * (t.val / 64) + (64 * s + e.val) := by omega
  simp only [head, hl]

theorem dprob_eq (s : ℕ) (hs : s < 2) (r : Fin 256) (n : Fin 16384) : dpr a g (head t s hs) n ⟨256 * (t.val % 64) + r.val, by omega⟩
    = ∑ e : Fin 64, Vr t a r ⟨64 * s + e.val, by omega⟩ * Gr t g n ⟨64 * s + e.val, by omega⟩ := by
  rw [dpr]
  refine Finset.sum_congr rfl fun e _ => ?_
  rw [mul_comm]
  have hl : (t.val / 64 * 2 + s) * 64 + e.val = 128 * (t.val / 64) + (64 * s + e.val) := by omega
  simp only [head, hl]

variable {a b g} (hA : m ((c : Thread nD τ).loc main_arg0) = up a) (hB : m ((c : Thread nD τ).loc main_arg1) = up b) (hG : m ((c : Thread nD τ).loc main_arg2) = up g)
include hA hB hG

theorem query_eq (n : Fin 16384) (l : Fin 128) : iblk m c 0 t (ix2 n l) = ((Qr t a n l : ℝ) : EReal) := (q_at m c t n l).trans (by rw [hA]; rfl)
theorem cot_eq (n : Fin 16384) (l : Fin 128) : iblk m c 1 t (ix2 n l) = ((Gr t g n l : ℝ) : EReal) := (g_at m c t n l).trans (by rw [hG]; rfl)
theorem key_eq (r : Fin 256) (l : Fin 128) : iblk m c 2 t (ix2 r l) = ((Kr t a r l : ℝ) : EReal) := (k_at m c t r l).trans (by rw [hA]; rfl)
theorem value_eq (r : Fin 256) (l : Fin 128) : iblk m c 3 t (ix2 r l) = ((Vr t a r l : ℝ) : EReal) := (v_at m c t r l).trans (by rw [hA]; rfl)
/-- The query side of head `s`. -/
theorem lse_eq (s : Fin 8) (hs : s.val < 2) (n : Fin 16384) : iblk m c 4 t (ix3 0 s n)
    = (((mu (xr a b (head t s hs)) n + Real.log (tot (xr a b (head t s hs)) n) - b (ix2 (head t s hs) n) + b (ix2 (head t s hs) ⟨n.val / 256 * 256, by omega⟩)) * (1 / Real.log 2) : ℝ) : EReal) := by
  rw [l_at, Host.V_v57, hA, hB, Host.rows_at _ _ _ _ hs]
  exact Host.lse_at a b (head t s hs) n
theorem delta_eq (s : Fin 8) (hs : s.val < 2) (n : Fin 16384) : iblk m c 5 t (ix3 0 s n)
    = ((∑ k, wt (xr a b (head t s hs)) n k * dpr a g (head t s hs) n k : ℝ) : EReal) := by
  rw [e_at, Host.V_v59, hA, hB, hG, Host.rows_at _ _ _ _ hs]
  exact Host.delta_at a b g (head t s hs) n
theorem gate_eq (s : Fin 8) (hs : s.val < 2) (n : Fin 16384) : iblk m c 6 t (ix3 0 s n)
    = ((b (ix2 (head t s hs) ⟨n.val / 256 * 256, by omega⟩) : ℝ) : EReal) := by
  rw [c_at, Host.V_v61, hB, Host.rows_at _ _ _ _ hs]
  exact Host.gate_at (up b) (head t s hs) n
theorem col_eq (s : Fin 128) (hs : s.val < 2) (r : Fin 256) : iblk m c 7 t (ix3 0 r s) = ((Cr t b (head t s hs) r : ℝ) : EReal) := by
  rw [d_at, Host.V_v53, hB, Host.cols_at _ _ _ _ hs]
  rfl

omit hA hB hG in
/-- A head's reading, from its half of the pair's keys and values. -/
theorem real_of (h : Hd) (o : Op) (K V : Vec Ideal S256x128 .bf16) (C : Vec Ideal S1x256x128 .f32) (s : ℕ) (hs : s < 2) (ha : h.a = ⟨s, by omega⟩)
    (hw : ∀ r l, h.w (ix2 r l) = if l.val / 64 = s then K (ix2 r l) else 0)
    (hu : ∀ r l, h.u (ix2 r l) = if l.val / 64 = s then V (ix2 r l) else 0)
    (hm : ∀ l, h.m (ix2 0 l) = if l.val / 64 = s then 1#1 else 0#1)
    (hf : h.f (ix2 0 0) = C (ix3 0 0 ⟨s, by omega⟩))
    (hg : ∀ r, h.g (ix2 r 0) = (C (ix3 0 r ⟨s, by omega⟩) - C (ix3 0 0 ⟨s, by omega⟩)) * Named.named (F := Ideal) (φ := .f32) κ "log2e" 0x3FB8AA3B#32)
    (kK : ∀ r l, K (ix2 r l) = ((Kr t a r l : ℝ) : EReal)) (kV : ∀ r l, V (ix2 r l) = ((Vr t a r l : ℝ) : EReal))
    (kC : ∀ r, C (ix3 0 r ⟨s, by omega⟩) = ((Cr t b (head t s hs) r : ℝ) : EReal))
    (R : Query t a b g o) :
    Reading t a b g h o s hs where
  hs := hs
  hw r l := by rw [hw, kK]
  hu r l := by rw [hu, kV]
  hm := hm
  hf := hf.trans (kC 0)
  hg r := by rw [hg, named_log2e, kC r, kC 0, ← EReal.coe_sub, ← EReal.coe_mul]
  hq := R.q
  ho := R.d
  hc n := by rw [ha]; exact R.c ⟨s, by omega⟩ hs n
  hl n := by rw [ha]; exact R.l ⟨s, by omega⟩ hs n
  he n := by rw [ha]; exact R.e ⟨s, by omega⟩ hs n
  hx := score_eq t a b s hs
  hp := dprob_eq t a g s hs

omit hA hB hG in
theorem lane_zero (l : Fin 128) {α : Type} (x y : α) : (if l.val < 64 then x else y) = if l.val / 64 = 0 then x else y := by
  have := l.isLt
  by_cases h : l.val < 64
  · rw [if_pos h, if_pos (by omega)]
  · rw [if_neg h, if_neg (by omega)]
omit hA hB hG in
theorem lane_one (l : Fin 128) {α : Type} (x y : α) : (if l.val < 64 then y else x) = if l.val / 64 = 1 then x else y := by
  have := l.isLt
  by_cases h : l.val < 64
  · rw [if_pos h, if_neg (by omega)]
  · rw [if_neg h, if_pos (by omega)]

omit hA hB hG in
theorem side0 (K V : Vec Ideal S256x128 .bf16) (C : Vec Ideal S1x256x128 .f32) (o : Op)
    (kK : ∀ r l, K (ix2 r l) = ((Kr t a r l : ℝ) : EReal)) (kV : ∀ r l, V (ix2 r l) = ((Vr t a r l : ℝ) : EReal))
    (kC : ∀ (s : Fin 128) (hs : s.val < 2) r, C (ix3 0 r s) = ((Cr t b (head t s hs) r : ℝ) : EReal)) (R : Query t a b g o) :
    Reading t a b g (hd0 K V C) o 0 (by omega) :=
  real_of t _ o K V C 0 (by omega) rfl (fun r l => (hd0_w K V C r l).trans (lane_zero l _ _)) (fun r l => (hd0_u K V C r l).trans (lane_zero l _ _))
    (fun l => (hd0_m K V C l).trans (lane_zero l _ _)) (hd0_f K V C) (fun r => hd0_g K V C r) kK kV (kC ⟨0, by omega⟩ (by decide)) R
omit hA hB hG in
theorem side1 (K V : Vec Ideal S256x128 .bf16) (C : Vec Ideal S1x256x128 .f32) (o : Op)
    (kK : ∀ r l, K (ix2 r l) = ((Kr t a r l : ℝ) : EReal)) (kV : ∀ r l, V (ix2 r l) = ((Vr t a r l : ℝ) : EReal))
    (kC : ∀ (s : Fin 128) (hs : s.val < 2) r, C (ix3 0 r s) = ((Cr t b (head t s hs) r : ℝ) : EReal)) (R : Query t a b g o) :
    Reading t a b g (hd1 K V C) o 1 (by omega) :=
  real_of t _ o K V C 1 (by omega) rfl (fun r l => (hd1_w K V C r l).trans (lane_one l _ _)) (fun r l => (hd1_u K V C r l).trans (lane_one l _ _))
    (fun l => (hd1_m K V C l).trans (lane_one l _ _)) (hd1_f K V C) (fun r => hd1_g K V C r) kK kV (kC ⟨1, by omega⟩ (by decide)) R

omit hA hB hG in
/-- The reference's gradients at one entry, the entry's head given. -/
theorem dK_head (k : Fin 16384) (l : Fin 1024) (h : Fin 16) (hh : h.val = l.val / 64) : dK (up a) (up b) (up g) (ix2 k l)
    = ((∑ q, wt (xr a b h) q k * (dpr a g h q k - ∑ k', wt (xr a b h) q k' * dpr a g h q k') * (a (ix2 q ⟨l.val, by omega⟩) * (1 / 8)) : ℝ) : EReal) := by
  rw [show h = ⟨l.val / 64, by omega⟩ from Fin.ext hh]
  exact Cert.AtbRefIdeal.Stage.dK_at a b g k l
omit hA hB hG in
@[inherit_doc dK_head]
theorem dV_head (k : Fin 16384) (l : Fin 1024) (h : Fin 16) (hh : h.val = l.val / 64) : dV (up a) (up b) (up g) (ix2 k l)
    = ((∑ q, wt (xr a b h) q k * g (ix2 q l) : ℝ) : EReal) := by
  rw [show h = ⟨l.val / 64, by omega⟩ from Fin.ext hh]
  exact Cert.AtbRefIdeal.Stage.dV_at a b g k l

omit hA hB hG in
theorem query_of (o : Op) (q : ∀ n l, o.Q (ix2 n l) = ((Qr t a n l : ℝ) : EReal)) (d : ∀ n l, o.D (ix2 n l) = ((Gr t g n l : ℝ) : EReal))
    (c0 : ∀ (s : Fin 8) (hs : s.val < 2) (n : Fin 16384), o.C (ix3 0 s n) = ((b (ix2 (head t s hs) ⟨n.val / 256 * 256, by omega⟩) : ℝ) : EReal))
    (l : ∀ (s : Fin 8) (hs : s.val < 2) (n : Fin 16384), o.L (ix3 0 s n)
      = (((mu (xr a b (head t s hs)) n + Real.log (tot (xr a b (head t s hs)) n) - b (ix2 (head t s hs) n) + b (ix2 (head t s hs) ⟨n.val / 256 * 256, by omega⟩)) * (1 / Real.log 2) : ℝ) : EReal))
    (e : ∀ (s : Fin 8) (hs : s.val < 2) (n : Fin 16384), o.E (ix3 0 s n) = ((∑ k, wt (xr a b (head t s hs)) n k * dpr a g (head t s hs) n k : ℝ) : EReal)) :
    Query t a b g o := ⟨q, d, c0, l, e⟩
set_option maxHeartbeats 2000000 in
theorem query : Query t a b g (O m c t) :=
  query_of t (O m c t) (query_eq m c t hA hB hG) (cot_eq m c t hA hB hG) (gate_eq m c t hA hB hG) (lse_eq m c t hA hB hG) (delta_eq m c t hA hB hG)

omit hA hB hG in
/-- A block of key gradients is the reference's. -/
theorem blockK (K V : Vec Ideal S256x128 .bf16) (C : Vec Ideal S1x256x128 .f32) (o : Op)
    (kK : ∀ r l, K (ix2 r l) = ((Kr t a r l : ℝ) : EReal)) (kV : ∀ r l, V (ix2 r l) = ((Vr t a r l : ℝ) : EReal))
    (kC : ∀ (s : Fin 128) (hs : s.val < 2) r, C (ix3 0 r s) = ((Cr t b (head t s hs) r : ℝ) : EReal)) (R : Query t a b g o)
    (r : Fin 256) (l : Fin 128) : outK (hd0 K V C) (hd1 K V C) o (256 * (t.val % 64)) (ix2 r l)
    = dK (up a) (up b) (up g) (ix2 ⟨256 * (t.val % 64) + r.val, by omega⟩ ⟨128 * (t.val / 64) + l.val, by have := lt_N t; omega⟩) := by
  have hl := l.isLt
  by_cases h : l.val < 64
  · rw [dK_head _ _ (head t 0 (by omega)) (by show t.val / 64 * 2 + 0 = (128 * (t.val / 64) + l.val) / 64; omega)]
    exact (if_pos h).trans ((side0 t K V C o kK kV kC R).fullK_eq r l (by omega))
  · rw [dK_head _ _ (head t 1 (by omega)) (by show t.val / 64 * 2 + 1 = (128 * (t.val / 64) + l.val) / 64; omega)]
    exact (if_neg h).trans ((side1 t K V C o kK kV kC R).fullK_eq r l (by omega))

omit hA hB hG in
/-- A block of value gradients is the reference's. -/
theorem blockV (K V : Vec Ideal S256x128 .bf16) (C : Vec Ideal S1x256x128 .f32) (o : Op)
    (kK : ∀ r l, K (ix2 r l) = ((Kr t a r l : ℝ) : EReal)) (kV : ∀ r l, V (ix2 r l) = ((Vr t a r l : ℝ) : EReal))
    (kC : ∀ (s : Fin 128) (hs : s.val < 2) r, C (ix3 0 r s) = ((Cr t b (head t s hs) r : ℝ) : EReal)) (R : Query t a b g o)
    (r : Fin 256) (l : Fin 128) : outV (hd0 K V C) (hd1 K V C) o (256 * (t.val % 64)) (ix2 r l)
    = dV (up a) (up b) (up g) (ix2 ⟨256 * (t.val % 64) + r.val, by omega⟩ ⟨128 * (t.val / 64) + l.val, by have := lt_N t; omega⟩) := by
  have hl := l.isLt
  by_cases h : l.val < 64
  · rw [dV_head _ _ (head t 0 (by omega)) (by show t.val / 64 * 2 + 0 = (128 * (t.val / 64) + l.val) / 64; omega)]
    exact (if_pos h).trans ((side0 t K V C o kK kV kC R).fullV_eq r l)
  · rw [dV_head _ _ (head t 1 (by omega)) (by show t.val / 64 * 2 + 1 = (128 * (t.val / 64) + l.val) / 64; omega)]
    exact (if_neg h).trans ((side1 t K V C o kK kV kC R).fullV_eq r l)

/-- The key gradients after the run. -/
theorem finalK : (dats m 0 c).arrAt 9 cfg0.N = dK (up a) (up b) (up g) := by
  refine (dats m 0 c).arrAt_eq_of_covers 9 _ (by decide +kernel) fun t hf y => ?_
  rw [after0_9, (idx t).2.2.2.2.2.2.2.2.2.2]
  blk_simp
  refine ((congrArg _ (eq_ix2 y)).trans (blockK t _ _ _ _ (key_eq m c t hA hB hG) (value_eq m c t hA hB hG) (col_eq m c t hA hB hG) (query m c t hA hB hG) (y 0) (y 1))).trans (congrArg _ ((eq_ix2 _).trans ?_).symm)
  exact congrArg₂ ix2 (Fin.ext (by blk_simp [idx t]; ring)) (Fin.ext (by blk_simp [idx t]; ring))

/-- The value gradients after the run. -/
theorem finalV : (dats m 0 c).arrAt 10 cfg0.N = dV (up a) (up b) (up g) := by
  refine (dats m 0 c).arrAt_eq_of_covers 10 _ (by decide +kernel) fun t hf y => ?_
  rw [after0_10, (idx t).2.2.2.2.2.2.2.2.2.2]
  blk_simp
  refine ((congrArg _ (eq_ix2 y)).trans (blockV t _ _ _ _ (key_eq m c t hA hB hG) (value_eq m c t hA hB hG) (col_eq m c t hA hB hG) (query m c t hA hB hG) (y 0) (y 1))).trans (congrArg _ ((eq_ix2 _).trans ?_).symm)
  exact congrArg₂ ix2 (Fin.ext (by blk_simp [idx t]; ring)) (Fin.ext (by blk_simp [idx t]; ring))

end Real

/-- Kernel and reference return the same two arrays. -/
theorem value [Cert.Pre_atb_finite.Facts] : Cert.algebraic_AtbIdeal_AtbRefIdeal := by
  intro m ρ m' ρ' hpre hargs
  have hreal : ∀ c : Dev nD, ∃ (a : S16384x3072.Idx → ℝ) (b : S16x16384.Idx → ℝ) (g : S16384x1024.Idx → ℝ),
      m ((c : Thread nD τ).loc main_arg0) = up a ∧ m ((c : Thread nD τ).loc main_arg1) = up b ∧ m ((c : Thread nD τ).loc main_arg2) = up g := by
    intro c
    obtain ⟨a, ha⟩ := (finite_of _ (hpre c).1).lift
    obtain ⟨b, hb⟩ := (finite_of _ (hpre c).2.1).lift
    obtain ⟨g, hg⟩ := (finite_of _ (hpre c).2.2).lift
    exact ⟨a, b, g, ha, hb, hg⟩
  refine ⟨fun c => dK (m ((c : Thread nD τ).loc main_arg0)) (m ((c : Thread nD τ).loc main_arg1)) (m ((c : Thread nD τ).loc main_arg2)),
    fun c => dV (m ((c : Thread nD τ).loc main_arg0)) (m ((c : Thread nD τ).loc main_arg1)) (m ((c : Thread nD τ).loc main_arg2)), ?_, ?_⟩
  · refine (θ_run defs _ _).mono (fun r h c => ?_) (run_vals m ρ)
    obtain ⟨a, b, g, hA, hB, hG⟩ := hreal c
    refine ⟨(h c).1.trans ?_, (h c).2.1.trans ?_, (h c).2.2⟩
    · exact (finalK m c hA hB hG).trans (by simp only [hA, hB, hG])
    · exact (finalV m c hA hB hG).trans (by simp only [hA, hB, hG])
  · refine (θ_run Cert.AtbRefIdeal.defs _ _).mono (fun r h c => ⟨?_, ?_, (h c).2.2⟩) (Cert.AtbRefIdeal.Value.run m' ρ')
    · rw [(h c).1, Cert.AtbRefIdeal.Stage.res_v92, (hargs c).1, (hargs c).2.1, (hargs c).2.2]
    · rw [(h c).2.1, Cert.AtbRefIdeal.Stage.res_v93, (hargs c).1, (hargs c).2.1, (hargs c).2.2]

end Cert.AtbIdeal.Value

end
-- ==== Proof.lean ====
/-
  The proof of `Cert.Claim`: the frames are the generated ones, but for the attention's, which are run in modules of their own (a reference
  is a straight-line host program and declares no semaphore), and each value claim is proved in a module of its own.
-/
module

public import proofs.«01_k».proof.Defs
public import proofs.«01_k».proof.Proof.Gen.Act.Frame
public import proofs.«01_k».proof.Proof.Gen.Norm.Frame
public import proofs.«01_k».proof.Proof.Gen.Win.Frame
public import proofs.«01_k».proof.Proof.Gen.Wout.Frame
public import proofs.«01_k».proof.Proof.Gen.Fin.Frame
public import proofs.«01_k».proof.Proof.Gen.Fout.Frame
public import proofs.«01_k».proof.Proof.Gen.Sgin.Frame
public import proofs.«01_k».proof.Proof.Gen.Sgout.Frame
public import proofs.«01_k».proof.Proof.Gen.Atin.Frame
public import proofs.«01_k».proof.Proof.Gen.Atout.Frame
public import proofs.«01_k».proof.Proof.Gen.Sgd.Frame
public import proofs.«01_k».proof.Proof.AtbFrame
public import proofs.«01_k».proof.Proof.ActValue
public import proofs.«01_k».proof.Proof.NormValue
public import proofs.«01_k».proof.Proof.WinValue
public import proofs.«01_k».proof.Proof.WoutValue
public import proofs.«01_k».proof.Proof.FinValue
public import proofs.«01_k».proof.Proof.FoutValue
public import proofs.«01_k».proof.Proof.SginValue
public import proofs.«01_k».proof.Proof.SgoutValue
public import proofs.«01_k».proof.Proof.AtinValue
public import proofs.«01_k».proof.Proof.AtoutValue
public import proofs.«01_k».proof.Proof.SgdValue
public import proofs.«01_k».proof.Proof.AtbValue
public import proofs.«01_k».proof.Proof.Gen.Pre_act_finite
public import proofs.«01_k».proof.Proof.Gen.Pre_norm_finite
public import proofs.«01_k».proof.Proof.Gen.Pre_atb_finite
public import Idealize.ShloMosaic.Adequacy
public import Idealize.ShloMosaic.Init

@[expose] public section

noncomputable section

namespace Cert.Proof

open Idealize.ShloMosaic Idealize.SL.Sem

/-- The reference `ActRefIdeal` runs, keeps its arguments and ends with every counter at zero. -/
theorem frame_ActRefIdeal : Cert.quiescent_ActRefIdeal := fun m ρ _ =>
  (θ_run Cert.ActRefIdeal.defs _ _).mono (fun r h => ⟨fun c => (h c).2, sem_eq_zero_of_no_sems (by decide) r.2⟩)
    (Cert.ActRefIdeal.Value.run m ρ)

/-- The reference `ActRefIdeal` runs, keeps its arguments and ends with every counter at zero. -/
theorem frame_ActRefIdeal_pre_act_finite : Cert.quiescent_ActRefIdeal_pre_act_finite := fun m ρ _ =>
  (θ_run Cert.ActRefIdeal.defs _ _).mono (fun r h => ⟨fun c => (h c).2, sem_eq_zero_of_no_sems (by decide) r.2⟩)
    (Cert.ActRefIdeal.Value.run m ρ)

/-- The reference `NormRefIdeal` runs, keeps its arguments and ends with every counter at zero. -/
theorem frame_NormRefIdeal : Cert.quiescent_NormRefIdeal := fun m ρ _ =>
  (θ_run Cert.NormRefIdeal.defs _ _).mono (fun r h => ⟨fun c => (h c).2.2, sem_eq_zero_of_no_sems (by decide) r.2⟩)
    (Cert.NormRefIdeal.Value.run m ρ)

/-- The reference `NormRefIdeal` runs, keeps its arguments and ends with every counter at zero. -/
theorem frame_NormRefIdeal_pre_norm_finite : Cert.quiescent_NormRefIdeal_pre_norm_finite := fun m ρ _ =>
  (θ_run Cert.NormRefIdeal.defs _ _).mono (fun r h => ⟨fun c => (h c).2.2, sem_eq_zero_of_no_sems (by decide) r.2⟩)
    (Cert.NormRefIdeal.Value.run m ρ)

/-- The reference `WinRefIdeal` runs, keeps its arguments and ends with every counter at zero. -/
theorem frame_WinRefIdeal : Cert.quiescent_WinRefIdeal := fun m ρ _ =>
  (θ_run Cert.WinRefIdeal.defs _ _).mono (fun r h => ⟨fun c => (h c).2, sem_eq_zero_of_no_sems (by decide) r.2⟩)
    (Cert.WinRefIdeal.Value.run m ρ)

/-- The reference `WoutRefIdeal` runs, keeps its arguments and ends with every counter at zero. -/
theorem frame_WoutRefIdeal : Cert.quiescent_WoutRefIdeal := fun m ρ _ =>
  (θ_run Cert.WoutRefIdeal.defs _ _).mono (fun r h => ⟨fun c => (h c).2, sem_eq_zero_of_no_sems (by decide) r.2⟩)
    (Cert.WoutRefIdeal.Value.run m ρ)

/-- The reference `FinRefIdeal` runs, keeps its arguments and ends with every counter at zero. -/
theorem frame_FinRefIdeal : Cert.quiescent_FinRefIdeal := fun m ρ _ =>
  (θ_run Cert.FinRefIdeal.defs _ _).mono (fun r h => ⟨fun c => (h c).2.2.2, sem_eq_zero_of_no_sems (by decide) r.2⟩)
    (Cert.FinRefIdeal.Value.run m ρ)

/-- The reference `FoutRefIdeal` runs, keeps its arguments and ends with every counter at zero. -/
theorem frame_FoutRefIdeal : Cert.quiescent_FoutRefIdeal := fun m ρ _ =>
  (θ_run Cert.FoutRefIdeal.defs _ _).mono (fun r h => ⟨fun c => (h c).2, sem_eq_zero_of_no_sems (by decide) r.2⟩)
    (Cert.FoutRefIdeal.Value.run m ρ)

/-- The reference `SginRefIdeal` runs, keeps its arguments and ends with every counter at zero. -/
theorem frame_SginRefIdeal : Cert.quiescent_SginRefIdeal := fun m ρ _ =>
  (θ_run Cert.SginRefIdeal.defs _ _).mono (fun r h => ⟨fun c => (h c).2, sem_eq_zero_of_no_sems (by decide) r.2⟩)
    (Cert.SginRefIdeal.Value.run m ρ)

/-- The reference `SgoutRefIdeal` runs, keeps its arguments and ends with every counter at zero. -/
theorem frame_SgoutRefIdeal : Cert.quiescent_SgoutRefIdeal := fun m ρ _ =>
  (θ_run Cert.SgoutRefIdeal.defs _ _).mono (fun r h => ⟨fun c => (h c).2, sem_eq_zero_of_no_sems (by decide) r.2⟩)
    (Cert.SgoutRefIdeal.Value.run m ρ)

/-- The reference `AtinRefIdeal` runs, keeps its arguments and ends with every counter at zero. -/
theorem frame_AtinRefIdeal : Cert.quiescent_AtinRefIdeal := fun m ρ _ =>
  (θ_run Cert.AtinRefIdeal.defs _ _).mono (fun r h => ⟨fun c => (h c).2, sem_eq_zero_of_no_sems (by decide) r.2⟩)
    (Cert.AtinRefIdeal.Value.run m ρ)

/-- The reference `AtoutRefIdeal` runs, keeps its arguments and ends with every counter at zero. -/
theorem frame_AtoutRefIdeal : Cert.quiescent_AtoutRefIdeal := fun m ρ _ =>
  (θ_run Cert.AtoutRefIdeal.defs _ _).mono (fun r h => ⟨fun c => (h c).2, sem_eq_zero_of_no_sems (by decide) r.2⟩)
    (Cert.AtoutRefIdeal.Value.run m ρ)

/-- The reference `SgdRefIdeal` runs, keeps its arguments and ends with every counter at zero. -/
theorem frame_SgdRefIdeal : Cert.quiescent_SgdRefIdeal := fun m ρ _ =>
  (θ_run Cert.SgdRefIdeal.defs _ _).mono (fun r h => ⟨fun c => (h c).2, sem_eq_zero_of_no_sems (by decide) r.2⟩)
    (Cert.SgdRefIdeal.Value.run m ρ)

/-- The reference `AtbRefIdeal` runs, keeps its arguments and ends with every counter at zero. -/
theorem frame_AtbRefIdeal : Cert.quiescent_AtbRefIdeal := fun m ρ _ =>
  (θ_run Cert.AtbRefIdeal.defs _ _).mono (fun r h => ⟨fun c => (h c).2.2, sem_eq_zero_of_no_sems (by decide) r.2⟩)
    (Cert.AtbRefIdeal.Value.run m ρ)

/-- The reference `AtbRefIdeal` runs, keeps its arguments and ends with every counter at zero. -/
theorem frame_AtbRefIdeal_pre_atb_finite : Cert.quiescent_AtbRefIdeal_pre_atb_finite := fun m ρ _ =>
  (θ_run Cert.AtbRefIdeal.defs _ _).mono (fun r h => ⟨fun c => (h c).2.2, sem_eq_zero_of_no_sems (by decide) r.2⟩)
    (Cert.AtbRefIdeal.Value.run m ρ)

/-- Everything that is claimed. -/
theorem claim : Cert.Claim :=
  ⟨Cert.Act.Gen.facts, Cert.ActIdeal.Gen.facts, Cert.ActRefIdeal.Gen.facts, Cert.Norm.Gen.facts, Cert.NormIdeal.Gen.facts, Cert.NormRefIdeal.Gen.facts, Cert.Win.Gen.facts, Cert.WinIdeal.Gen.facts, Cert.WinRefIdeal.Gen.facts, Cert.Wout.Gen.facts, Cert.WoutIdeal.Gen.facts, Cert.WoutRefIdeal.Gen.facts, Cert.Fin.Gen.facts, Cert.FinIdeal.Gen.facts, Cert.FinRefIdeal.Gen.facts, Cert.Fout.Gen.facts, Cert.FoutIdeal.Gen.facts, Cert.FoutRefIdeal.Gen.facts, Cert.Sgin.Gen.facts, Cert.SginIdeal.Gen.facts, Cert.SginRefIdeal.Gen.facts, Cert.Sgout.Gen.facts, Cert.SgoutIdeal.Gen.facts, Cert.SgoutRefIdeal.Gen.facts, Cert.Atin.Gen.facts, Cert.AtinIdeal.Gen.facts, Cert.AtinRefIdeal.Gen.facts, Cert.Atout.Gen.facts, Cert.AtoutIdeal.Gen.facts, Cert.AtoutRefIdeal.Gen.facts, Cert.Sgd.Gen.facts, Cert.SgdIdeal.Gen.facts, Cert.SgdRefIdeal.Gen.facts, Cert.Atb.Gen.facts, Cert.AtbIdeal.Gen.facts, Cert.AtbRefIdeal.Gen.facts, Cert.Pre_act_finite.Gen.facts, Cert.Pre_norm_finite.Gen.facts, Cert.Pre_atb_finite.Gen.facts,
    fun m ρ _ => Cert.Act.Gen.frame m ρ,
    fun m ρ _ => Cert.ActIdeal.Gen.frame m ρ,
    fun m ρ _ => Cert.ActIdeal.Gen.frame m ρ,
    frame_ActRefIdeal,
    frame_ActRefIdeal_pre_act_finite,
    fun m ρ _ => Cert.Norm.Gen.frame m ρ,
    fun m ρ _ => Cert.NormIdeal.Gen.frame m ρ,
    fun m ρ _ => Cert.NormIdeal.Gen.frame m ρ,
    frame_NormRefIdeal,
    frame_NormRefIdeal_pre_norm_finite,
    fun m ρ _ => Cert.Win.Gen.frame m ρ,
    fun m ρ _ => Cert.WinIdeal.Gen.frame m ρ,
    frame_WinRefIdeal,
    fun m ρ _ => Cert.Wout.Gen.frame m ρ,
    fun m ρ _ => Cert.WoutIdeal.Gen.frame m ρ,
    frame_WoutRefIdeal,
    fun m ρ _ => Cert.Fin.Gen.frame m ρ,
    fun m ρ _ => Cert.FinIdeal.Gen.frame m ρ,
    frame_FinRefIdeal,
    fun m ρ _ => Cert.Fout.Gen.frame m ρ,
    fun m ρ _ => Cert.FoutIdeal.Gen.frame m ρ,
    frame_FoutRefIdeal,
    fun m ρ _ => Cert.Sgin.Gen.frame m ρ,
    fun m ρ _ => Cert.SginIdeal.Gen.frame m ρ,
    frame_SginRefIdeal,
    fun m ρ _ => Cert.Sgout.Gen.frame m ρ,
    fun m ρ _ => Cert.SgoutIdeal.Gen.frame m ρ,
    frame_SgoutRefIdeal,
    fun m ρ _ => Cert.Atin.Gen.frame m ρ,
    fun m ρ _ => Cert.AtinIdeal.Gen.frame m ρ,
    frame_AtinRefIdeal,
    fun m ρ _ => Cert.Atout.Gen.frame m ρ,
    fun m ρ _ => Cert.AtoutIdeal.Gen.frame m ρ,
    frame_AtoutRefIdeal,
    fun m ρ _ => Cert.Sgd.Gen.frame m ρ,
    fun m ρ _ => Cert.SgdIdeal.Gen.frame m ρ,
    frame_SgdRefIdeal,
    fun m ρ _ => Cert.Atb.Hand.frame m ρ,
    fun m ρ _ => Cert.AtbIdeal.Hand.frame m ρ,
    fun m ρ _ => Cert.AtbIdeal.Hand.frame m ρ,
    frame_AtbRefIdeal,
    frame_AtbRefIdeal_pre_atb_finite,
    trivial,
    Cert.ActIdeal.Value.value,
    trivial,
    Cert.NormIdeal.Value.value,
    trivial,
    Cert.WinIdeal.Value.value,
    trivial,
    Cert.WoutIdeal.Value.value,
    trivial,
    Cert.FinIdeal.Value.value,
    trivial,
    Cert.FoutIdeal.Value.value,
    trivial,
    Cert.SginIdeal.Value.value,
    trivial,
    Cert.SgoutIdeal.Value.value,
    trivial,
    Cert.AtinIdeal.Value.value,
    trivial,
    Cert.AtoutIdeal.Value.value,
    trivial,
    Cert.SgdIdeal.Value.value,
    ⟨IdealRules.named_const.statement Cert.AtbIdeal.κ "log2e" .f32 0x3FB8AA3B#32 (((Real.log 2)⁻¹ : ℝ) : EReal) rfl, IdealRules.named_const.statement Cert.AtbIdeal.κ "scaled_log2e" .f32 0x3E38AA3B#32 (((8 * (Real.log 2))⁻¹ : ℝ) : EReal) rfl⟩,
    Cert.AtbIdeal.Value.value⟩

end Cert.Proof

end
